-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x12288 : Shape := ⟨3, ![2, 1024, 12288]⟩
abbrev S2x1024x3072 : Shape := ⟨3, ![2, 1024, 3072]⟩
abbrev S_ : Shape := ⟨0, ![]⟩

class Facts : Prop where
  bitsLt_bf16_f32 : FTy.bits .bf16 < FTy.bits .f32
  bcast_S_S2x1024x12288 : S_.BroadcastsInDim S2x1024x12288 (![] : Fin 0 → Fin S2x1024x12288.rank)

variable [Facts]

def fn {F : FTy → Type} [FloatOps F] (main_arg0 : FVec F S2x1024x12288 .bf16) (main_arg1 : IVec S2x1024x3072 32) : IVec S2x1024x12288 1 :=
  let main_v0 : FVec F S2x1024x12288 .f32 := (extf .f32 · bitsLt_bf16_f32) main_arg0
  let main_v1 : FVec F S2x1024x12288 .f32 := Host.absf main_v0
  let main_cst : FVec F S_ .f32 := constant S_ .f32 0x7F7F0000#32
  let main_v2 : FVec F S2x1024x12288 .f32 := broadcastInDim S2x1024x12288 ![] bcast_S_S2x1024x12288 main_cst
  let main_v3 : IVec S2x1024x12288 1 := cmpf .ole main_v1 main_v2
  main_v3
-- ==== Kernel.lean ====
abbrev S2x1024x12288 : Shape := ⟨3, ![2, 1024, 12288]⟩
abbrev S2x1024x3072 : Shape := ⟨3, ![2, 1024, 3072]⟩
abbrev S2048x12288 : Shape := ⟨2, ![2048, 12288]⟩
abbrev S2048x3072 : Shape := ⟨2, ![2048, 3072]⟩
abbrev S2048x6144 : Shape := ⟨2, ![2048, 6144]⟩
abbrev S2048x96 : Shape := ⟨2, ![2048, 96]⟩
abbrev S2048x1536 : Shape := ⟨2, ![2048, 1536]⟩
abbrev S128x12288 : Shape := ⟨2, ![128, 12288]⟩
abbrev S128x3072 : Shape := ⟨2, ![128, 3072]⟩
abbrev S128x6144 : Shape := ⟨2, ![128, 6144]⟩
abbrev S128x96 : Shape := ⟨2, ![128, 96]⟩
abbrev S128x1536 : Shape := ⟨2, ![128, 1536]⟩
abbrev S512x512 : Shape := ⟨2, ![512, 512]⟩
abbrev S2x128x128 : Shape := ⟨3, ![2, 128, 128]⟩
abbrev S2x32x128 : Shape := ⟨3, ![2, 32, 128]⟩
abbrev S128x128 : Shape := ⟨2, ![128, 128]⟩
abbrev S8x128 : Shape := ⟨2, ![8, 128]⟩
abbrev S32x128 : Shape := ⟨2, ![32, 128]⟩
abbrev S128x512 : Shape := ⟨2, ![128, 512]⟩
abbrev S1x32x128 : Shape := ⟨3, ![1, 32, 128]⟩
abbrev S1x8x128 : Shape := ⟨3, ![1, 8, 128]⟩
abbrev S1x128x128 : Shape := ⟨3, ![1, 128, 128]⟩
abbrev S4x32x128 : Shape := ⟨3, ![4, 32, 128]⟩
abbrev S4x128 : Shape := ⟨2, ![4, 128]⟩
abbrev S4x1x128 : Shape := ⟨3, ![4, 1, 128]⟩
abbrev S32x128x1 : Shape := ⟨3, ![32, 128, 1]⟩
abbrev S8x128x1 : Shape := ⟨3, ![8, 128, 1]⟩

abbrev nBuf : Space → Nat
  | .hbm => 7
  | .vmem => 18
  | .smem => 0
  | _ => 0

abbrev bufTy : (tb : Table) → Fin (tcTables nBuf tb) → BufTy
  | .hbm, ⟨0, _⟩ => ⟨S2x1024x12288, .bf16⟩
  | .hbm, ⟨1, _⟩ => ⟨S2x1024x3072, .i32⟩
  | .hbm, ⟨2, _⟩ => ⟨S2048x12288, .bf16⟩
  | .hbm, ⟨3, _⟩ => ⟨S2048x3072, .i32⟩
  | .hbm, ⟨4, _⟩ => ⟨S2048x6144, .fp8e5m2⟩
  | .hbm, ⟨5, _⟩ => ⟨S2048x96, .f32⟩
  | .hbm, ⟨6, _⟩ => ⟨S2048x1536, .i8⟩
  | .local _ .vmem, ⟨0, _⟩ => ⟨S128x12288, .bf16⟩
  | .local _ .vmem, ⟨1, _⟩ => ⟨S128x12288, .bf16⟩
  | .local _ .vmem, ⟨2, _⟩ => ⟨S128x3072, .i32⟩
  | .local _ .vmem, ⟨3, _⟩ => ⟨S128x3072, .i32⟩
  | .local _ .vmem, ⟨4, _⟩ => ⟨S128x6144, .fp8e5m2⟩
  | .local _ .vmem, ⟨5, _⟩ => ⟨S128x6144, .fp8e5m2⟩
  | .local _ .vmem, ⟨6, _⟩ => ⟨S128x96, .f32⟩
  | .local _ .vmem, ⟨7, _⟩ => ⟨S128x96, .f32⟩
  | .local _ .vmem, ⟨8, _⟩ => ⟨S128x1536, .i8⟩
  | .local _ .vmem, ⟨9, _⟩ => ⟨S128x1536, .i8⟩
  | .local _ .vmem, ⟨10, _⟩ => ⟨S512x512, .bf16⟩
  | .local _ .vmem, ⟨11, _⟩ => ⟨S2x128x128, .f32⟩
  | .local _ .vmem, ⟨12, _⟩ => ⟨S2x128x128, .f32⟩
  | .local _ .vmem, ⟨13, _⟩ => ⟨S2x128x128, .f32⟩
  | .local _ .vmem, ⟨14, _⟩ => ⟨S2x128x128, .f32⟩
  | .local _ .vmem, ⟨15, _⟩ => ⟨S2x128x128, .f32⟩
  | .local _ .vmem, ⟨16, _⟩ => ⟨S2x32x128, .i32⟩
  | .local _ .vmem, ⟨17, _⟩ => ⟨S128x128, .f32⟩
  | _, _ => ⟨S2x1024x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_7 : BitVec 32 := 0#32
  let c12_i32 : BitVec 32 := 12#32
  let v26 : BitVec 32 := Scalar.addi c0_i32_7 c12_i32
  let c1_i32_8 : BitVec 32 := 1#32
  ⟨c0_i32_7, v26, c1_i32_8⟩
def k0_mult1 (k0_t1 : Fin k0_t1_loop.trips) : BitVec 32 :=
  let c2_i32_13 : BitVec 32 := 2#32
  let c0_i32_7 : BitVec 32 := 0#32
  let c1_i32_8 : BitVec 32 := 1#32
  let arg14 : BitVec 32 := Scf.iv c0_i32_7 c1_i32_8 k0_t1
  let v31 : BitVec 32 := Scalar.muli c2_i32_13 arg14
  let c0_i32_14 : BitVec 32 := 0#32
  let v32 : BitVec 32 := Scalar.addi v31 c0_i32_14
  let c512_i32 : BitVec 32 := 512#32
  let v33 : BitVec 32 := Scalar.muli v32 c512_i32
  v33
def k0_mult2 (k0_t1 : Fin k0_t1_loop.trips) : BitVec 32 :=
  let c2_i32_15 : BitVec 32 := 2#32
  let c0_i32_7 : BitVec 32 := 0#32
  let c1_i32_8 : BitVec 32 := 1#32
  let arg14 : BitVec 32 := Scf.iv c0_i32_7 c1_i32_8 k0_t1
  let v35 : BitVec 32 := Scalar.muli c2_i32_15 arg14
  let c0_i32_16 : BitVec 32 := 0#32
  let v36 : BitVec 32 := Scalar.addi v35 c0_i32_16
  let c128_i32 : BitVec 32 := 128#32
  let v37 : BitVec 32 := Scalar.muli v36 c128_i32
  v37
def k0_off1 (k0_t1 : Fin k0_t1_loop.trips) (c0_i32_14 : BitVec 32) : Fin 2 → Nat :=
  let c0_17 : Index := 0#32
  let c2_i32_13 : BitVec 32 := 2#32
  let c0_i32_7 : BitVec 32 := 0#32
  let c1_i32_8 : BitVec 32 := 1#32
  let arg14 : BitVec 32 := Scf.iv c0_i32_7 c1_i32_8 k0_t1
  let v31 : BitVec 32 := Scalar.muli c2_i32_13 arg14
  let v32 : BitVec 32 := Scalar.addi v31 c0_i32_14
  let c512_i32 : BitVec 32 := 512#32
  let v33 : BitVec 32 := Scalar.muli v32 c512_i32
  let v34 : BitVec 32 := v33
  let v39 : Index := Scalar.indexCast v34
  ![0, v39.toNat]
def k0_off2 (k0_t1 : Fin k0_t1_loop.trips) (c0_i32_16 : BitVec 32) : Fin 2 → Nat :=
  let c0_20 : Index := 0#32
  let c2_i32_15 : BitVec 32 := 2#32
  let c0_i32_7 : BitVec 32 := 0#32
  let c1_i32_8 : BitVec 32 := 1#32
  let arg14 : BitVec 32 := Scf.iv c0_i32_7 c1_i32_8 k0_t1
  let v35 : BitVec 32 := Scalar.muli c2_i32_15 arg14
  let v36 : BitVec 32 := Scalar.addi v35 c0_i32_16
  let c128_i32 : BitVec 32 := 128#32
  let v37 : BitVec 32 := Scalar.muli v36 c128_i32
  let v38 : BitVec 32 := v37
  let v48 : Index := Scalar.indexCast v38
  ![0, v48.toNat]
def k0_off3 (k0_t1 : Fin k0_t1_loop.trips) (c0_i32_16 : BitVec 32) : Fin 2 → Nat :=
  let c32 : Index := 32#32
  let c2_i32_15 : BitVec 32 := 2#32
  let c0_i32_7 : BitVec 32 := 0#32
  let c1_i32_8 : BitVec 32 := 1#32
  let arg14 : BitVec 32 := Scf.iv c0_i32_7 c1_i32_8 k0_t1
  let v35 : BitVec 32 := Scalar.muli c2_i32_15 arg14
  let v36 : BitVec 32 := Scalar.addi v35 c0_i32_16
  let c128_i32 : BitVec 32 := 128#32
  let v37 : BitVec 32 := Scalar.muli v36 c128_i32
  let v38 : BitVec 32 := v37
  let v165 : Index := Scalar.indexCast v38
  ![32, v165.toNat]
def k0_off4 (k0_t1 : Fin k0_t1_loop.trips) (c0_i32_16 : BitVec 32) : Fin 2 → Nat :=
  let c64 : Index := 64#32
  let c2_i32_15 : BitVec 32 := 2#32
  let c0_i32_7 : BitVec 32 := 0#32
  let c1_i32_8 : BitVec 32 := 1#32
  let arg14 : BitVec 32 := Scf.iv c0_i32_7 c1_i32_8 k0_t1
  let v35 : BitVec 32 := Scalar.muli c2_i32_15 arg14
  let v36 : BitVec 32 := Scalar.addi v35 c0_i32_16
  let c128_i32 : BitVec 32 := 128#32
  let v37 : BitVec 32 := Scalar.muli v36 c128_i32
  let v38 : BitVec 32 := v37
  let v282 : Index := Scalar.indexCast v38
  ![64, v282.toNat]
def k0_off5 (k0_t1 : Fin k0_t1_loop.trips) (c0_i32_16 : BitVec 32) : Fin 2 → Nat :=
  let c96 : Index := 96#32
  let c2_i32_15 : BitVec 32 := 2#32
  let c0_i32_7 : BitVec 32 := 0#32
  let c1_i32_8 : BitVec 32 := 1#32
  let arg14 : BitVec 32 := Scf.iv c0_i32_7 c1_i32_8 k0_t1
  let v35 : BitVec 32 := Scalar.muli c2_i32_15 arg14
  let v36 : BitVec 32 := Scalar.addi v35 c0_i32_16
  let c128_i32 : BitVec 32 := 128#32
  let v37 : BitVec 32 := Scalar.muli v36 c128_i32
  let v38 : BitVec 32 := v37
  let v399 : Index := Scalar.indexCast v38
  ![96, v399.toNat]
def k0_mult3 (k0_t1 : Fin k0_t1_loop.trips) : BitVec 32 :=
  let c2_i32_176 : BitVec 32 := 2#32
  let c0_i32_7 : BitVec 32 := 0#32
  let c1_i32_8 : BitVec 32 := 1#32
  let arg14 : BitVec 32 := Scf.iv c0_i32_7 c1_i32_8 k0_t1
  let v512 : BitVec 32 := Scalar.muli c2_i32_176 arg14
  let c1_i32_177 : BitVec 32 := 1#32
  let v513 : BitVec 32 := Scalar.addi v512 c1_i32_177
  let c512_i32_178 : BitVec 32 := 512#32
  let v514 : BitVec 32 := Scalar.muli v513 c512_i32_178
  v514
def k0_mult4 (k0_t1 : Fin k0_t1_loop.trips) : BitVec 32 :=
  let c2_i32_179 : BitVec 32 := 2#32
  let c0_i32_7 : BitVec 32 := 0#32
  let c1_i32_8 : BitVec 32 := 1#32
  let arg14 : BitVec 32 := Scf.iv c0_i32_7 c1_i32_8 k0_t1
  let v516 : BitVec 32 := Scalar.muli c2_i32_179 arg14
  let c1_i32_180 : BitVec 32 := 1#32
  let v517 : BitVec 32 := Scalar.addi v516 c1_i32_180
  let c128_i32_181 : BitVec 32 := 128#32
  let v518 : BitVec 32 := Scalar.muli v517 c128_i32_181
  v518
def k0_off6 (k0_t1 : Fin k0_t1_loop.trips) (c0_i32_376 : BitVec 32) : Fin 2 → Nat :=
  let c2_i32_375 : BitVec 32 := 2#32
  let c0_i32_7 : BitVec 32 := 0#32
  let c1_i32_8 : BitVec 32 := 1#32
  let arg14 : BitVec 32 := Scf.iv c0_i32_7 c1_i32_8 k0_t1
  let v1075 : BitVec 32 := Scalar.muli c2_i32_375 arg14
  let v1076 : BitVec 32 := Scalar.addi v1075 c0_i32_376
  let c4_i32_377 : BitVec 32 := 4#32
  let v1077 : BitVec 32 := Scalar.muli v1076 c4_i32_377
  let v1078 : Index := Scalar.indexCast v1077
  let c0_378 : Index := 0#32
  ![v1078.toNat, 0]
def k0_mult5 (k0_t1 : Fin k0_t1_loop.trips) : BitVec 32 :=
  let c2_i32_401 : BitVec 32 := 2#32
  let c0_i32_7 : BitVec 32 := 0#32
  let c1_i32_8 : BitVec 32 := 1#32
  let arg14 : BitVec 32 := Scf.iv c0_i32_7 c1_i32_8 k0_t1
  let v1129 : BitVec 32 := Scalar.muli c2_i32_401 arg14
  let c0_i32_402 : BitVec 32 := 0#32
  let v1130 : BitVec 32 := Scalar.addi v1129 c0_i32_402
  let c2_i32_403 : BitVec 32 := 2#32
  let v1131 : BitVec 32 := Scalar.muli v1130 c2_i32_403
  let c128_i32_404 : BitVec 32 := 128#32
  let v1132 : BitVec 32 := Scalar.muli v1131 c128_i32_404
  v1132
def k0_off7 (k0_t1 : Fin k0_t1_loop.trips) (c0_i32_402 : BitVec 32) (c0_i32_405 : BitVec 32) : Fin 2 → Nat :=
  let c0_406 : Index := 0#32
  let c2_i32_401 : BitVec 32 := 2#32
  let c0_i32_7 : BitVec 32 := 0#32
  let c1_i32_8 : BitVec 32 := 1#32
  let arg14 : BitVec 32 := Scf.iv c0_i32_7 c1_i32_8 k0_t1
  let v1129 : BitVec 32 := Scalar.muli c2_i32_401 arg14
  let v1130 : BitVec 32 := Scalar.addi v1129 c0_i32_402
  let c2_i32_403 : BitVec 32 := 2#32
  let v1131 : BitVec 32 := Scalar.muli v1130 c2_i32_403
  let c128_i32_404 : BitVec 32 := 128#32
  let v1132 : BitVec 32 := Scalar.muli v1131 c128_i32_404
  let v1133 : BitVec 32 := v1132
  let v1134 : BitVec 32 := Scalar.addi v1133 c0_i32_405
  let v1136 : Index := Scalar.indexCast v1134
  ![0, v1136.toNat]
def k0_mult6 (k0_t1 : Fin k0_t1_loop.trips) : BitVec 32 :=
  let c2_i32_411 : BitVec 32 := 2#32
  let c0_i32_7 : BitVec 32 := 0#32
  let c1_i32_8 : BitVec 32 := 1#32
  let arg14 : BitVec 32 := Scf.iv c0_i32_7 c1_i32_8 k0_t1
  let v1155 : BitVec 32 := Scalar.muli c2_i32_411 arg14
  let c0_i32_412 : BitVec 32 := 0#32
  let v1156 : BitVec 32 := Scalar.addi v1155 c0_i32_412
  let c2_i32_413 : BitVec 32 := 2#32
  let v1157 : BitVec 32 := Scalar.muli v1156 c2_i32_413
  let c128_i32_414 : BitVec 32 := 128#32
  let v1158 : BitVec 32 := Scalar.muli v1157 c128_i32_414
  v1158
def k0_mult7 (k0_t1 : Fin k0_t1_loop.trips) : BitVec 32 :=
  let c2_i32_439 : BitVec 32 := 2#32
  let c0_i32_7 : BitVec 32 := 0#32
  let c1_i32_8 : BitVec 32 := 1#32
  let arg14 : BitVec 32 := Scf.iv c0_i32_7 c1_i32_8 k0_t1
  let v1206 : BitVec 32 := Scalar.muli c2_i32_439 arg14
  let c0_i32_440 : BitVec 32 := 0#32
  let v1207 : BitVec 32 := Scalar.addi v1206 c0_i32_440
  let c2_i32_441 : BitVec 32 := 2#32
  let v1208 : BitVec 32 := Scalar.muli v1207 c2_i32_441
  let c128_i32_442 : BitVec 32 := 128#32
  let v1209 : BitVec 32 := Scalar.muli v1208 c128_i32_442
  v1209
def k0_off8 (k0_t1 : Fin k0_t1_loop.trips) (c0_i32_440 : BitVec 32) (c0_i32_443 : BitVec 32) : Fin 2 → Nat :=
  let c32_444 : Index := 32#32
  let c2_i32_439 : BitVec 32 := 2#32
  let c0_i32_7 : BitVec 32 := 0#32
  let c1_i32_8 : BitVec 32 := 1#32
  let arg14 : BitVec 32 := Scf.iv c0_i32_7 c1_i32_8 k0_t1
  let v1206 : BitVec 32 := Scalar.muli c2_i32_439 arg14
  let v1207 : BitVec 32 := Scalar.addi v1206 c0_i32_440
  let c2_i32_441 : BitVec 32 := 2#32
  let v1208 : BitVec 32 := Scalar.muli v1207 c2_i32_441
  let c128_i32_442 : BitVec 32 := 128#32
  let v1209 : BitVec 32 := Scalar.muli v1208 c128_i32_442
  let v1210 : BitVec 32 := v1209
  let v1211 : BitVec 32 := Scalar.addi v1210 c0_i32_443
  let v1213 : Index := Scalar.indexCast v1211
  ![32, v1213.toNat]
def k0_mult8 (k0_t1 : Fin k0_t1_loop.trips) : BitVec 32 :=
  let c2_i32_449 : BitVec 32 := 2#32
  let c0_i32_7 : BitVec 32 := 0#32
  let c1_i32_8 : BitVec 32 := 1#32
  let arg14 : BitVec 32 := Scf.iv c0_i32_7 c1_i32_8 k0_t1
  let v1232 : BitVec 32 := Scalar.muli c2_i32_449 arg14
  let c0_i32_450 : BitVec 32 := 0#32
  let v1233 : BitVec 32 := Scalar.addi v1232 c0_i32_450
  let c2_i32_451 : BitVec 32 := 2#32
  let v1234 : BitVec 32 := Scalar.muli v1233 c2_i32_451
  let c128_i32_452 : BitVec 32 := 128#32
  let v1235 : BitVec 32 := Scalar.muli v1234 c128_i32_452
  v1235
def k0_mult9 (k0_t1 : Fin k0_t1_loop.trips) : BitVec 32 :=
  let c2_i32_477 : BitVec 32 := 2#32
  let c0_i32_7 : BitVec 32 := 0#32
  let c1_i32_8 : BitVec 32 := 1#32
  let arg14 : BitVec 32 := Scf.iv c0_i32_7 c1_i32_8 k0_t1
  let v1283 : BitVec 32 := Scalar.muli c2_i32_477 arg14
  let c0_i32_478 : BitVec 32 := 0#32
  let v1284 : BitVec 32 := Scalar.addi v1283 c0_i32_478
  let c2_i32_479 : BitVec 32 := 2#32
  let v1285 : BitVec 32 := Scalar.muli v1284 c2_i32_479
  let c128_i32_480 : BitVec 32 := 128#32
  let v1286 : BitVec 32 := Scalar.muli v1285 c128_i32_480
  v1286
def k0_off9 (k0_t1 : Fin k0_t1_loop.trips) (c0_i32_478 : BitVec 32) (c0_i32_481 : BitVec 32) : Fin 2 → Nat :=
  let c64_482 : Index := 64#32
  let c2_i32_477 : BitVec 32 := 2#32
  let c0_i32_7 : BitVec 32 := 0#32
  let c1_i32_8 : BitVec 32 := 1#32
  let arg14 : BitVec 32 := Scf.iv c0_i32_7 c1_i32_8 k0_t1
  let v1283 : BitVec 32 := Scalar.muli c2_i32_477 arg14
  let v1284 : BitVec 32 := Scalar.addi v1283 c0_i32_478
  let c2_i32_479 : BitVec 32 := 2#32
  let v1285 : BitVec 32 := Scalar.muli v1284 c2_i32_479
  let c128_i32_480 : BitVec 32 := 128#32
  let v1286 : BitVec 32 := Scalar.muli v1285 c128_i32_480
  let v1287 : BitVec 32 := v1286
  let v1288 : BitVec 32 := Scalar.addi v1287 c0_i32_481
  let v1290 : Index := Scalar.indexCast v1288
  ![64, v1290.toNat]
def k0_mult10 (k0_t1 : Fin k0_t1_loop.trips) : BitVec 32 :=
  let c2_i32_487 : BitVec 32 := 2#32
  let c0_i32_7 : BitVec 32 := 0#32
  let c1_i32_8 : BitVec 32 := 1#32
  let arg14 : BitVec 32 := Scf.iv c0_i32_7 c1_i32_8 k0_t1
  let v1309 : BitVec 32 := Scalar.muli c2_i32_487 arg14
  let c0_i32_488 : BitVec 32 := 0#32
  let v1310 : BitVec 32 := Scalar.addi v1309 c0_i32_488
  let c2_i32_489 : BitVec 32 := 2#32
  let v1311 : BitVec 32 := Scalar.muli v1310 c2_i32_489
  let c128_i32_490 : BitVec 32 := 128#32
  let v1312 : BitVec 32 := Scalar.muli v1311 c128_i32_490
  v1312
def k0_mult11 (k0_t1 : Fin k0_t1_loop.trips) : BitVec 32 :=
  let c2_i32_515 : BitVec 32 := 2#32
  let c0_i32_7 : BitVec 32 := 0#32
  let c1_i32_8 : BitVec 32 := 1#32
  let arg14 : BitVec 32 := Scf.iv c0_i32_7 c1_i32_8 k0_t1
  let v1360 : BitVec 32 := Scalar.muli c2_i32_515 arg14
  let c0_i32_516 : BitVec 32 := 0#32
  let v1361 : BitVec 32 := Scalar.addi v1360 c0_i32_516
  let c2_i32_517 : BitVec 32 := 2#32
  let v1362 : BitVec 32 := Scalar.muli v1361 c2_i32_517
  let c128_i32_518 : BitVec 32 := 128#32
  let v1363 : BitVec 32 := Scalar.muli v1362 c128_i32_518
  v1363
def k0_off10 (k0_t1 : Fin k0_t1_loop.trips) (c0_i32_516 : BitVec 32) (c0_i32_519 : BitVec 32) : Fin 2 → Nat :=
  let c96_520 : Index := 96#32
  let c2_i32_515 : BitVec 32 := 2#32
  let c0_i32_7 : BitVec 32 := 0#32
  let c1_i32_8 : BitVec 32 := 1#32
  let arg14 : BitVec 32 := Scf.iv c0_i32_7 c1_i32_8 k0_t1
  let v1360 : BitVec 32 := Scalar.muli c2_i32_515 arg14
  let v1361 : BitVec 32 := Scalar.addi v1360 c0_i32_516
  let c2_i32_517 : BitVec 32 := 2#32
  let v1362 : BitVec 32 := Scalar.muli v1361 c2_i32_517
  let c128_i32_518 : BitVec 32 := 128#32
  let v1363 : BitVec 32 := Scalar.muli v1362 c128_i32_518
  let v1364 : BitVec 32 := v1363
  let v1365 : BitVec 32 := Scalar.addi v1364 c0_i32_519
  let v1367 : Index := Scalar.indexCast v1365
  ![96, v1367.toNat]
def k0_mult12 (k0_t1 : Fin k0_t1_loop.trips) : BitVec 32 :=
  let c2_i32_525 : BitVec 32 := 2#32
  let c0_i32_7 : BitVec 32 := 0#32
  let c1_i32_8 : BitVec 32 := 1#32
  let arg14 : BitVec 32 := Scf.iv c0_i32_7 c1_i32_8 k0_t1
  let v1386 : BitVec 32 := Scalar.muli c2_i32_525 arg14
  let c0_i32_526 : BitVec 32 := 0#32
  let v1387 : BitVec 32 := Scalar.addi v1386 c0_i32_526
  let c2_i32_527 : BitVec 32 := 2#32
  let v1388 : BitVec 32 := Scalar.muli v1387 c2_i32_527
  let c128_i32_528 : BitVec 32 := 128#32
  let v1389 : BitVec 32 := Scalar.muli v1388 c128_i32_528
  v1389
def k0_mult13 (k0_t1 : Fin k0_t1_loop.trips) : BitVec 32 :=
  let c2_i32_587 : BitVec 32 := 2#32
  let c0_i32_7 : BitVec 32 := 0#32
  let c1_i32_8 : BitVec 32 := 1#32
  let arg14 : BitVec 32 := Scf.iv c0_i32_7 c1_i32_8 k0_t1
  let v1531 : BitVec 32 := Scalar.muli c2_i32_587 arg14
  let c1_i32_588 : BitVec 32 := 1#32
  let v1532 : BitVec 32 := Scalar.addi v1531 c1_i32_588
  let c2_i32_589 : BitVec 32 := 2#32
  let v1533 : BitVec 32 := Scalar.muli v1532 c2_i32_589
  let c128_i32_590 : BitVec 32 := 128#32
  let v1534 : BitVec 32 := Scalar.muli v1533 c128_i32_590
  v1534
def k0_mult14 (k0_t1 : Fin k0_t1_loop.trips) : BitVec 32 :=
  let c2_i32_597 : BitVec 32 := 2#32
  let c0_i32_7 : BitVec 32 := 0#32
  let c1_i32_8 : BitVec 32 := 1#32
  let arg14 : BitVec 32 := Scf.iv c0_i32_7 c1_i32_8 k0_t1
  let v1557 : BitVec 32 := Scalar.muli c2_i32_597 arg14
  let c1_i32_598 : BitVec 32 := 1#32
  let v1558 : BitVec 32 := Scalar.addi v1557 c1_i32_598
  let c2_i32_599 : BitVec 32 := 2#32
  let v1559 : BitVec 32 := Scalar.muli v1558 c2_i32_599
  let c128_i32_600 : BitVec 32 := 128#32
  let v1560 : BitVec 32 := Scalar.muli v1559 c128_i32_600
  v1560
def k0_mult15 (k0_t1 : Fin k0_t1_loop.trips) : BitVec 32 :=
  let c2_i32_625 : BitVec 32 := 2#32
  let c0_i32_7 : BitVec 32 := 0#32
  let c1_i32_8 : BitVec 32 := 1#32
  let arg14 : BitVec 32 := Scf.iv c0_i32_7 c1_i32_8 k0_t1
  let v1608 : BitVec 32 := Scalar.muli c2_i32_625 arg14
  let c1_i32_626 : BitVec 32 := 1#32
  let v1609 : BitVec 32 := Scalar.addi v1608 c1_i32_626
  let c2_i32_627 : BitVec 32 := 2#32
  let v1610 : BitVec 32 := Scalar.muli v1609 c2_i32_627
  let c128_i32_628 : BitVec 32 := 128#32
  let v1611 : BitVec 32 := Scalar.muli v1610 c128_i32_628
  v1611
def k0_mult16 (k0_t1 : Fin k0_t1_loop.trips) : BitVec 32 :=
  let c2_i32_635 : BitVec 32 := 2#32
  let c0_i32_7 : BitVec 32 := 0#32
  let c1_i32_8 : BitVec 32 := 1#32
  let arg14 : BitVec 32 := Scf.iv c0_i32_7 c1_i32_8 k0_t1
  let v1634 : BitVec 32 := Scalar.muli c2_i32_635 arg14
  let c1_i32_636 : BitVec 32 := 1#32
  let v1635 : BitVec 32 := Scalar.addi v1634 c1_i32_636
  let c2_i32_637 : BitVec 32 := 2#32
  let v1636 : BitVec 32 := Scalar.muli v1635 c2_i32_637
  let c128_i32_638 : BitVec 32 := 128#32
  let v1637 : BitVec 32 := Scalar.muli v1636 c128_i32_638
  v1637
def k0_mult17 (k0_t1 : Fin k0_t1_loop.trips) : BitVec 32 :=
  let c2_i32_663 : BitVec 32 := 2#32
  let c0_i32_7 : BitVec 32 := 0#32
  let c1_i32_8 : BitVec 32 := 1#32
  let arg14 : BitVec 32 := Scf.iv c0_i32_7 c1_i32_8 k0_t1
  let v1685 : BitVec 32 := Scalar.muli c2_i32_663 arg14
  let c1_i32_664 : BitVec 32 := 1#32
  let v1686 : BitVec 32 := Scalar.addi v1685 c1_i32_664
  let c2_i32_665 : BitVec 32 := 2#32
  let v1687 : BitVec 32 := Scalar.muli v1686 c2_i32_665
  let c128_i32_666 : BitVec 32 := 128#32
  let v1688 : BitVec 32 := Scalar.muli v1687 c128_i32_666
  v1688
def k0_mult18 (k0_t1 : Fin k0_t1_loop.trips) : BitVec 32 :=
  let c2_i32_673 : BitVec 32 := 2#32
  let c0_i32_7 : BitVec 32 := 0#32
  let c1_i32_8 : BitVec 32 := 1#32
  let arg14 : BitVec 32 := Scf.iv c0_i32_7 c1_i32_8 k0_t1
  let v1711 : BitVec 32 := Scalar.muli c2_i32_673 arg14
  let c1_i32_674 : BitVec 32 := 1#32
  let v1712 : BitVec 32 := Scalar.addi v1711 c1_i32_674
  let c2_i32_675 : BitVec 32 := 2#32
  let v1713 : BitVec 32 := Scalar.muli v1712 c2_i32_675
  let c128_i32_676 : BitVec 32 := 128#32
  let v1714 : BitVec 32 := Scalar.muli v1713 c128_i32_676
  v1714
def k0_mult19 (k0_t1 : Fin k0_t1_loop.trips) : BitVec 32 :=
  let c2_i32_701 : BitVec 32 := 2#32
  let c0_i32_7 : BitVec 32 := 0#32
  let c1_i32_8 : BitVec 32 := 1#32
  let arg14 : BitVec 32 := Scf.iv c0_i32_7 c1_i32_8 k0_t1
  let v1762 : BitVec 32 := Scalar.muli c2_i32_701 arg14
  let c1_i32_702 : BitVec 32 := 1#32
  let v1763 : BitVec 32 := Scalar.addi v1762 c1_i32_702
  let c2_i32_703 : BitVec 32 := 2#32
  let v1764 : BitVec 32 := Scalar.muli v1763 c2_i32_703
  let c128_i32_704 : BitVec 32 := 128#32
  let v1765 : BitVec 32 := Scalar.muli v1764 c128_i32_704
  v1765
def k0_mult20 (k0_t1 : Fin k0_t1_loop.trips) : BitVec 32 :=
  let c2_i32_711 : BitVec 32 := 2#32
  let c0_i32_7 : BitVec 32 := 0#32
  let c1_i32_8 : BitVec 32 := 1#32
  let arg14 : BitVec 32 := Scf.iv c0_i32_7 c1_i32_8 k0_t1
  let v1788 : BitVec 32 := Scalar.muli c2_i32_711 arg14
  let c1_i32_712 : BitVec 32 := 1#32
  let v1789 : BitVec 32 := Scalar.addi v1788 c1_i32_712
  let c2_i32_713 : BitVec 32 := 2#32
  let v1790 : BitVec 32 := Scalar.muli v1789 c2_i32_713
  let c128_i32_714 : BitVec 32 := 128#32
  let v1791 : BitVec 32 := Scalar.muli v1790 c128_i32_714
  v1791
def k0_mult21 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c128_i32_728 : BitVec 32 := 128#32
  let v1817 : BitVec 32 := Scalar.muli arg14 c128_i32_728
  v1817
def k0_off11 (k0_t1 : Fin k0_t1_loop.trips) : Fin 2 → Nat :=
  let c0_729 : Index := 0#32
  let c0_i32_7 : BitVec 32 := 0#32
  let c1_i32_8 : BitVec 32 := 1#32
  let arg14 : BitVec 32 := Scf.iv c0_i32_7 c1_i32_8 k0_t1
  let c128_i32_728 : BitVec 32 := 128#32
  let v1817 : BitVec 32 := Scalar.muli arg14 c128_i32_728
  let v1818 : BitVec 32 := v1817
  let v1819 : Index := Scalar.indexCast v1818
  ![0, v1819.toNat]
def k0_mult22 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c128_i32_741 : BitVec 32 := 128#32
  let v1841 : BitVec 32 := Scalar.muli arg14 c128_i32_741
  v1841
def k0_off12 (k0_t1 : Fin k0_t1_loop.trips) : Fin 2 → Nat :=
  let c32_742 : Index := 32#32
  let c0_i32_7 : BitVec 32 := 0#32
  let c1_i32_8 : BitVec 32 := 1#32
  let arg14 : BitVec 32 := Scf.iv c0_i32_7 c1_i32_8 k0_t1
  let c128_i32_741 : BitVec 32 := 128#32
  let v1841 : BitVec 32 := Scalar.muli arg14 c128_i32_741
  let v1842 : BitVec 32 := v1841
  let v1843 : Index := Scalar.indexCast v1842
  ![32, v1843.toNat]
def k0_mult23 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c128_i32_754 : BitVec 32 := 128#32
  let v1865 : BitVec 32 := Scalar.muli arg14 c128_i32_754
  v1865
def k0_off13 (k0_t1 : Fin k0_t1_loop.trips) : Fin 2 → Nat :=
  let c64_755 : Index := 64#32
  let c0_i32_7 : BitVec 32 := 0#32
  let c1_i32_8 : BitVec 32 := 1#32
  let arg14 : BitVec 32 := Scf.iv c0_i32_7 c1_i32_8 k0_t1
  let c128_i32_754 : BitVec 32 := 128#32
  let v1865 : BitVec 32 := Scalar.muli arg14 c128_i32_754
  let v1866 : BitVec 32 := v1865
  let v1867 : Index := Scalar.indexCast v1866
  ![64, v1867.toNat]
def k0_mult24 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c128_i32_767 : BitVec 32 := 128#32
  let v1889 : BitVec 32 := Scalar.muli arg14 c128_i32_767
  v1889
def k0_off14 (k0_t1 : Fin k0_t1_loop.trips) : Fin 2 → Nat :=
  let c96_768 : Index := 96#32
  let c0_i32_7 : BitVec 32 := 0#32
  let c1_i32_8 : BitVec 32 := 1#32
  let arg14 : BitVec 32 := Scf.iv c0_i32_7 c1_i32_8 k0_t1
  let c128_i32_767 : BitVec 32 := 128#32
  let v1889 : BitVec 32 := Scalar.muli arg14 c128_i32_767
  let v1890 : BitVec 32 := v1889
  let v1891 : Index := Scalar.indexCast v1890
  ![96, v1891.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x6144 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x1024x12288 : Shape := ⟨3, ![2, 1024, 12288]⟩
abbrev S2x1024x3072 : Shape := ⟨3, ![2, 1024, 3072]⟩
abbrev S2x1024x3072x4 : Shape := ⟨4, ![2, 1024, 3072, 4]⟩
abbrev S2x1024x3072x1 : Shape := ⟨4, ![2, 1024, 3072, 1]⟩
abbrev S_ : Shape := ⟨0, ![]⟩
abbrev S2x1024x96x32 : Shape := ⟨4, ![2, 1024, 96, 32]⟩
abbrev S2x1024x96 : Shape := ⟨3, ![2, 1024, 96]⟩
abbrev S2x1024x3072x2 : Shape := ⟨4, ![2, 1024, 3072, 2]⟩
abbrev S2048x6144 : Shape := ⟨2, ![2048, 6144]⟩
abbrev S2x1024x1536 : Shape := ⟨3, ![2, 1024, 1536]⟩
abbrev S2048x1536 : Shape := ⟨2, ![2048, 1536]⟩
abbrev S2048x96 : Shape := ⟨2, ![2048, 96]⟩

abbrev nBuf : Space → Nat
  | .hbm => 248
  | .vmem => 2
  | .smem => 0
  | _ => 0

abbrev hbmTy0_0 (i : Nat) : BufTy := match i % 128 with
  | 0 => ⟨S2x1024x12288, .bf16⟩
  | 1 => ⟨S2x1024x3072, .i32⟩
  | 2 => ⟨S2x1024x12288, .f32⟩
  | 3 => ⟨S2x1024x3072x4, .f32⟩
  | 4 => ⟨S2x1024x3072x1, .f32⟩
  | 5 => ⟨S2x1024x3072, .f32⟩
  | 6 => ⟨S2x1024x3072x1, .f32⟩
  | 7 => ⟨S2x1024x3072, .f32⟩
  | 8 => ⟨S2x1024x3072x1, .f32⟩
  | 9 => ⟨S2x1024x3072, .f32⟩
  | 10 => ⟨S2x1024x3072x1, .f32⟩
  | 11 => ⟨S2x1024x3072, .f32⟩
  | 12 => ⟨S2x1024x3072, .f32⟩
  | 13 => ⟨S2x1024x3072, .f32⟩
  | 14 => ⟨S2x1024x3072, .f32⟩
  | 15 => ⟨S2x1024x3072, .f32⟩
  | 16 => ⟨S2x1024x3072, .f32⟩
  | 17 => ⟨S2x1024x3072, .f32⟩
  | 18 => ⟨S2x1024x3072, .f32⟩
  | 19 => ⟨S2x1024x3072, .f32⟩
  | 20 => ⟨S2x1024x3072, .f32⟩
  | 21 => ⟨S2x1024x3072, .f32⟩
  | 22 => ⟨S2x1024x3072, .i1⟩
  | 23 => ⟨S2x1024x3072, .i1⟩
  | 24 => ⟨S2x1024x3072, .i1⟩
  | 25 => ⟨S_, .i32⟩
  | 26 => ⟨S_, .i32⟩
  | 27 => ⟨S2x1024x3072, .i32⟩
  | 28 => ⟨S2x1024x3072, .i32⟩
  | 29 => ⟨S2x1024x3072, .i32⟩
  | 30 => ⟨S_, .i32⟩
  | 31 => ⟨S2x1024x3072, .i32⟩
  | 32 => ⟨S2x1024x3072, .i32⟩
  | 33 => ⟨S_, .i32⟩
  | 34 => ⟨S2x1024x3072, .i32⟩
  | 35 => ⟨S2x1024x3072, .i32⟩
  | 36 => ⟨S2x1024x3072, .i32⟩
  | 37 => ⟨S_, .i32⟩
  | 38 => ⟨S2x1024x3072, .i32⟩
  | 39 => ⟨S2x1024x3072, .i32⟩
  | 40 => ⟨S2x1024x3072, .f32⟩
  | 41 => ⟨S_, .f32⟩
  | 42 => ⟨S2x1024x3072, .f32⟩
  | 43 => ⟨S2x1024x3072, .f32⟩
  | 44 => ⟨S_, .f32⟩
  | 45 => ⟨S2x1024x3072, .f32⟩
  | 46 => ⟨S2x1024x3072, .f32⟩
  | 47 => ⟨S2x1024x3072, .i1⟩
  | 48 => ⟨S2x1024x3072, .f32⟩
  | 49 => ⟨S_, .i32⟩
  | 50 => ⟨S2x1024x3072, .i32⟩
  | 51 => ⟨S2x1024x3072, .i1⟩
  | 52 => ⟨S_, .i32⟩
  | 53 => ⟨S_, .i32⟩
  | 54 => ⟨S2x1024x3072, .i32⟩
  | 55 => ⟨S2x1024x3072, .i32⟩
  | 56 => ⟨S2x1024x3072, .i32⟩
  | 57 => ⟨S_, .i32⟩
  | 58 => ⟨S2x1024x3072, .i32⟩
  | 59 => ⟨S2x1024x3072, .i1⟩
  | 60 => ⟨S_, .i32⟩
  | 61 => ⟨S_, .i32⟩
  | 62 => ⟨S2x1024x3072, .i32⟩
  | 63 => ⟨S2x1024x3072, .i32⟩
  | 64 => ⟨S2x1024x3072, .i32⟩
  | 65 => ⟨S_, .i32⟩
  | 66 => ⟨S2x1024x3072, .i32⟩
  | 67 => ⟨S2x1024x3072, .i1⟩
  | 68 => ⟨S_, .i32⟩
  | 69 => ⟨S_, .i32⟩
  | 70 => ⟨S2x1024x3072, .i32⟩
  | 71 => ⟨S2x1024x3072, .i32⟩
  | 72 => ⟨S2x1024x3072, .i32⟩
  | 73 => ⟨S_, .i32⟩
  | 74 => ⟨S2x1024x3072, .i32⟩
  | 75 => ⟨S2x1024x3072, .i1⟩
  | 76 => ⟨S2x1024x3072, .f32⟩
  | 77 => ⟨S_, .i32⟩
  | 78 => ⟨S2x1024x3072, .i32⟩
  | 79 => ⟨S2x1024x3072, .i1⟩
  | 80 => ⟨S2x1024x3072, .f32⟩
  | 81 => ⟨S2x1024x3072, .f32⟩
  | 82 => ⟨S2x1024x3072, .f32⟩
  | 83 => ⟨S_, .f32⟩
  | 84 => ⟨S2x1024x3072, .f32⟩
  | 85 => ⟨S2x1024x3072, .i1⟩
  | 86 => ⟨S2x1024x3072, .i1⟩
  | 87 => ⟨S2x1024x3072, .i1⟩
  | 88 => ⟨S2x1024x3072, .i1⟩
  | 89 => ⟨S2x1024x3072, .i32⟩
  | 90 => ⟨S2x1024x3072, .i32⟩
  | 91 => ⟨S2x1024x3072, .i32⟩
  | 92 => ⟨S2x1024x3072, .i32⟩
  | 93 => ⟨S2x1024x3072, .i32⟩
  | 94 => ⟨S2x1024x3072, .i32⟩
  | 95 => ⟨S_, .f32⟩
  | 96 => ⟨S2x1024x3072, .f32⟩
  | 97 => ⟨S2x1024x3072, .f32⟩
  | 98 => ⟨S2x1024x3072, .f32⟩
  | 99 => ⟨S2x1024x3072, .f32⟩
  | 100 => ⟨S2x1024x3072, .i1⟩
  | 101 => ⟨S2x1024x3072, .i32⟩
  | 102 => ⟨S2x1024x3072, .i1⟩
  | 103 => ⟨S2x1024x3072, .i32⟩
  | 104 => ⟨S2x1024x3072, .i32⟩
  | 105 => ⟨S2x1024x3072, .i1⟩
  | 106 => ⟨S2x1024x3072, .i32⟩
  | 107 => ⟨S2x1024x3072, .i32⟩
  | 108 => ⟨S_, .i32⟩
  | 109 => ⟨S2x1024x3072, .i32⟩
  | 110 => ⟨S2x1024x3072, .i32⟩
  | 111 => ⟨S2x1024x3072, .i1⟩
  | 112 => ⟨S2x1024x3072, .i32⟩
  | 113 => ⟨S2x1024x3072, .i1⟩
  | 114 => ⟨S2x1024x3072, .i32⟩
  | 115 => ⟨S2x1024x3072, .i32⟩
  | 116 => ⟨S2x1024x3072, .i1⟩
  | 117 => ⟨S2x1024x3072, .i32⟩
  | 118 => ⟨S2x1024x3072, .i32⟩
  | 119 => ⟨S_, .i32⟩
  | 120 => ⟨S2x1024x3072, .i32⟩
  | 121 => ⟨S2x1024x3072, .i32⟩
  | 122 => ⟨S2x1024x3072, .i32⟩
  | 123 => ⟨S_, .i32⟩
  | 124 => ⟨S2x1024x3072, .i32⟩
  | 125 => ⟨S2x1024x3072, .i32⟩
  | 126 => ⟨S2x1024x3072, .i32⟩
  | 127 => ⟨S2x1024x3072, .i32⟩
  | _ => ⟨S2x1024x12288, .bf16⟩

abbrev hbmTy0_1 (i : Nat) : BufTy := match i % 128 with
  | 0 => ⟨S_, .i32⟩
  | 1 => ⟨S2x1024x3072, .i32⟩
  | 2 => ⟨S2x1024x3072, .i1⟩
  | 3 => ⟨S_, .i32⟩
  | 4 => ⟨S2x1024x3072, .i32⟩
  | 5 => ⟨S2x1024x3072, .i1⟩
  | 6 => ⟨S_, .i32⟩
  | 7 => ⟨S2x1024x3072, .i32⟩
  | 8 => ⟨S2x1024x3072, .i1⟩
  | 9 => ⟨S2x1024x3072, .f32⟩
  | 10 => ⟨S2x1024x3072, .f32⟩
  | 11 => ⟨S2x1024x3072, .f32⟩
  | 12 => ⟨S2x1024x3072, .f32⟩
  | 13 => ⟨S2x1024x3072, .i1⟩
  | 14 => ⟨S_, .f32⟩
  | 15 => ⟨S2x1024x3072, .f32⟩
  | 16 => ⟨S2x1024x3072, .i1⟩
  | 17 => ⟨S2x1024x3072, .f32⟩
  | 18 => ⟨S_, .f32⟩
  | 19 => ⟨S_, .f32⟩
  | 20 => ⟨S2x1024x3072, .f32⟩
  | 21 => ⟨S2x1024x3072, .f32⟩
  | 22 => ⟨S2x1024x3072, .f32⟩
  | 23 => ⟨S2x1024x3072, .f32⟩
  | 24 => ⟨S2x1024x3072, .f32⟩
  | 25 => ⟨S_, .i32⟩
  | 26 => ⟨S2x1024x3072, .i32⟩
  | 27 => ⟨S2x1024x3072, .i1⟩
  | 28 => ⟨S_, .i32⟩
  | 29 => ⟨S2x1024x3072, .i32⟩
  | 30 => ⟨S2x1024x3072, .i1⟩
  | 31 => ⟨S_, .i32⟩
  | 32 => ⟨S2x1024x3072, .i32⟩
  | 33 => ⟨S2x1024x3072, .i1⟩
  | 34 => ⟨S2x1024x3072, .f32⟩
  | 35 => ⟨S2x1024x3072, .f32⟩
  | 36 => ⟨S2x1024x3072, .f32⟩
  | 37 => ⟨S2x1024x3072, .f32⟩
  | 38 => ⟨S2x1024x3072, .i1⟩
  | 39 => ⟨S_, .f32⟩
  | 40 => ⟨S2x1024x3072, .f32⟩
  | 41 => ⟨S2x1024x3072, .i1⟩
  | 42 => ⟨S2x1024x3072, .f32⟩
  | 43 => ⟨S_, .f32⟩
  | 44 => ⟨S_, .f32⟩
  | 45 => ⟨S2x1024x3072, .f32⟩
  | 46 => ⟨S2x1024x3072, .f32⟩
  | 47 => ⟨S2x1024x3072, .f32⟩
  | 48 => ⟨S2x1024x3072, .f32⟩
  | 49 => ⟨S2x1024x3072, .f32⟩
  | 50 => ⟨S2x1024x3072, .f32⟩
  | 51 => ⟨S2x1024x3072, .f32⟩
  | 52 => ⟨S2x1024x3072, .f32⟩
  | 53 => ⟨S2x1024x96x32, .f32⟩
  | 54 => ⟨S_, .f32⟩
  | 55 => ⟨S2x1024x96, .f32⟩
  | 56 => ⟨S_, .f32⟩
  | 57 => ⟨S2x1024x96, .f32⟩
  | 58 => ⟨S2x1024x96, .f32⟩
  | 59 => ⟨S2x1024x96, .f32⟩
  | 60 => ⟨S_, .f32⟩
  | 61 => ⟨S2x1024x96, .f32⟩
  | 62 => ⟨S2x1024x96, .f32⟩
  | 63 => ⟨S2x1024x96, .f32⟩
  | 64 => ⟨S2x1024x96, .f32⟩
  | 65 => ⟨S_, .f32⟩
  | 66 => ⟨S2x1024x96, .f32⟩
  | 67 => ⟨S2x1024x96, .f32⟩
  | 68 => ⟨S_, .f32⟩
  | 69 => ⟨S2x1024x96, .f32⟩
  | 70 => ⟨S2x1024x96, .i1⟩
  | 71 => ⟨S_, .f32⟩
  | 72 => ⟨S_, .f32⟩
  | 73 => ⟨S2x1024x96, .f32⟩
  | 74 => ⟨S2x1024x96, .f32⟩
  | 75 => ⟨S_, .f32⟩
  | 76 => ⟨S2x1024x96, .f32⟩
  | 77 => ⟨S2x1024x96, .f32⟩
  | 78 => ⟨S_, .f32⟩
  | 79 => ⟨S2x1024x96, .f32⟩
  | 80 => ⟨S2x1024x96, .f32⟩
  | 81 => ⟨S2x1024x96, .f32⟩
  | 82 => ⟨S2x1024x96x32, .f32⟩
  | 83 => ⟨S2x1024x3072, .f32⟩
  | 84 => ⟨S2x1024x3072, .f32⟩
  | 85 => ⟨S_, .f32⟩
  | 86 => ⟨S_, .f32⟩
  | 87 => ⟨S_, .f32⟩
  | 88 => ⟨S2x1024x3072, .f32⟩
  | 89 => ⟨S2x1024x3072, .f32⟩
  | 90 => ⟨S_, .f32⟩
  | 91 => ⟨S2x1024x3072, .f32⟩
  | 92 => ⟨S2x1024x3072, .f32⟩
  | 93 => ⟨S2x1024x3072, .f32⟩
  | 94 => ⟨S_, .f32⟩
  | 95 => ⟨S_, .f32⟩
  | 96 => ⟨S_, .f32⟩
  | 97 => ⟨S2x1024x3072, .f32⟩
  | 98 => ⟨S2x1024x3072, .f32⟩
  | 99 => ⟨S_, .f32⟩
  | 100 => ⟨S2x1024x3072, .f32⟩
  | 101 => ⟨S2x1024x3072, .f32⟩
  | 102 => ⟨S2x1024x3072x1, .f32⟩
  | 103 => ⟨S2x1024x3072x1, .f32⟩
  | 104 => ⟨S2x1024x3072x2, .f32⟩
  | 105 => ⟨S2048x6144, .f32⟩
  | 106 => ⟨S_, .i32⟩
  | 107 => ⟨S2x1024x3072, .i32⟩
  | 108 => ⟨S2x1024x3072, .i32⟩
  | 109 => ⟨S2x1024x3072, .i32⟩
  | 110 => ⟨S2x1024x1536, .i32⟩
  | 111 => ⟨S2x1024x1536, .i32⟩
  | 112 => ⟨S_, .i32⟩
  | 113 => ⟨S2x1024x1536, .i32⟩
  | 114 => ⟨S2x1024x1536, .i32⟩
  | 115 => ⟨S2x1024x1536, .i32⟩
  | 116 => ⟨S2x1024x1536, .i8⟩
  | 117 => ⟨S2048x1536, .i8⟩
  | 118 => ⟨S2048x96, .f32⟩
  | 119 => ⟨S2048x6144, .fp8e5m2⟩
  | _ => ⟨S2x1024x12288, .bf16⟩

abbrev hbmTy (i : Nat) : BufTy := match i / 128 with
  | 0 => hbmTy0_0 i
  | 1 => hbmTy0_1 i
  | _ => ⟨S2x1024x12288, .bf16⟩

abbrev bufTy : (tb : Table) → Fin (tcTables nBuf tb) → BufTy
  | .hbm, ⟨i, _⟩ => hbmTy i
  | .local _ .vmem, ⟨0, _⟩ => ⟨S2048x6144, .f32⟩
  | .local _ .vmem, ⟨1, _⟩ => ⟨S2048x6144, .fp8e5m2⟩
  | _, _ => ⟨S2x1024x12288, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_c : Ref sig .tc := ⟨.hbm, 25, rfl⟩
abbrev main_c_0 : Ref sig .tc := ⟨.hbm, 26, rfl⟩
abbrev main_call0_v0 : Ref sig .tc := ⟨.hbm, 27, rfl⟩
abbrev main_call0_v1 : Ref sig .tc := ⟨.hbm, 28, rfl⟩
abbrev main_v23 : Ref sig .tc := ⟨.hbm, 29, rfl⟩
abbrev main_c_1 : Ref sig .tc := ⟨.hbm, 30, rfl⟩
abbrev main_call1_v0 : Ref sig .tc := ⟨.hbm, 31, rfl⟩
abbrev main_v24 : Ref sig .tc := ⟨.hbm, 32, rfl⟩
abbrev main_c_2 : Ref sig .tc := ⟨.hbm, 33, rfl⟩
abbrev main_call2_v0 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_c_7 : Ref sig .tc := ⟨.hbm, 53, rfl⟩
abbrev main_call3_v0 : Ref sig .tc := ⟨.hbm, 54, rfl⟩
abbrev main_call3_v1 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_c_10 : Ref sig .tc := ⟨.hbm, 61, rfl⟩
abbrev main_call4_v0 : Ref sig .tc := ⟨.hbm, 62, rfl⟩
abbrev main_call4_v1 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_c_13 : Ref sig .tc := ⟨.hbm, 69, rfl⟩
abbrev main_call5_v0 : Ref sig .tc := ⟨.hbm, 70, rfl⟩
abbrev main_call5_v1 : Ref sig .tc := ⟨.hbm, 71, rfl⟩
abbrev main_v44 : Ref sig .tc := ⟨.hbm, 72, rfl⟩
abbrev main_c_14 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_15 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_16 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_17 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_19 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_20 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_21 : Ref sig .tc := ⟨.hbm, 128, rfl⟩
abbrev main_v93 : Ref sig .tc := ⟨.hbm, 129, rfl⟩
abbrev main_v94 : Ref sig .tc := ⟨.hbm, 130, rfl⟩
abbrev main_c_22 : Ref sig .tc := ⟨.hbm, 131, rfl⟩
abbrev main_v95 : Ref sig .tc := ⟨.hbm, 132, rfl⟩
abbrev main_v96 : Ref sig .tc := ⟨.hbm, 133, rfl⟩
abbrev main_c_23 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_24 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_25 : Ref sig .tc := ⟨.hbm, 146, rfl⟩
abbrev main_call15_v0 : Ref sig .tc := ⟨.hbm, 147, rfl⟩
abbrev main_call15_v1 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_c_26 : Ref sig .tc := ⟨.hbm, 153, rfl⟩
abbrev main_v111 : Ref sig .tc := ⟨.hbm, 154, rfl⟩
abbrev main_v112 : Ref sig .tc := ⟨.hbm, 155, rfl⟩
abbrev main_c_27 : Ref sig .tc := ⟨.hbm, 156, rfl⟩
abbrev main_v113 : Ref sig .tc := ⟨.hbm, 157, rfl⟩
abbrev main_v114 : Ref sig .tc := ⟨.hbm, 158, rfl⟩
abbrev main_c_28 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_29 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_30 : Ref sig .tc := ⟨.hbm, 171, rfl⟩
abbrev main_call21_v0 : Ref sig .tc := ⟨.hbm, 172, rfl⟩
abbrev main_call21_v1 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_31 : Ref sig .tc := ⟨.hbm, 182, rfl⟩
abbrev main_v133 : Ref sig .tc := ⟨.hbm, 183, rfl⟩
abbrev main_cst_32 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_33 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_34 : Ref sig .tc := ⟨.hbm, 193, rfl⟩
abbrev main_v141 : Ref sig .tc := ⟨.hbm, 194, rfl⟩
abbrev main_v142 : Ref sig .tc := ⟨.hbm, 195, rfl⟩
abbrev main_cst_35 : Ref sig .tc := ⟨.hbm, 196, rfl⟩
abbrev main_v143 : Ref sig .tc := ⟨.hbm, 197, rfl⟩
abbrev main_v144 : Ref sig .tc := ⟨.hbm, 198, rfl⟩
abbrev main_cst_36 : Ref sig .tc := ⟨.hbm, 199, rfl⟩
abbrev main_call24_v0 : Ref sig .tc := ⟨.hbm, 200, rfl⟩
abbrev main_call24_v1 : Ref sig .tc := ⟨.hbm, 201, rfl⟩
abbrev main_v145 : Ref sig .tc := ⟨.hbm, 202, rfl⟩
abbrev main_cst_37 : Ref sig .tc := ⟨.hbm, 203, rfl⟩
abbrev main_v146 : Ref sig .tc := ⟨.hbm, 204, rfl⟩
abbrev main_v147 : Ref sig .tc := ⟨.hbm, 205, rfl⟩
abbrev main_cst_38 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_cst_39 : Ref sig .tc := ⟨.hbm, 213, rfl⟩
abbrev main_cst_40 : Ref sig .tc := ⟨.hbm, 214, rfl⟩
abbrev main_call25_v0 : Ref sig .tc := ⟨.hbm, 215, rfl⟩
abbrev main_call25_v1 : Ref sig .tc := ⟨.hbm, 216, rfl⟩
abbrev main_call25_v2 : Ref sig .tc := ⟨.hbm, 217, rfl⟩
abbrev main_call25_v3 : Ref sig .tc := ⟨.hbm, 218, rfl⟩
abbrev main_call25_v4 : Ref sig .tc := ⟨.hbm, 219, rfl⟩
abbrev main_v154 : Ref sig .tc := ⟨.hbm, 220, rfl⟩
abbrev main_v155 : Ref sig .tc := ⟨.hbm, 221, rfl⟩
abbrev main_cst_41 : Ref sig .tc := ⟨.hbm, 222, rfl⟩
abbrev main_cst_42 : Ref sig .tc := ⟨.hbm, 223, rfl⟩
abbrev main_call26_v0 : Ref sig .tc := ⟨.hbm, 224, rfl⟩
abbrev main_call26_v1 : Ref sig .tc := ⟨.hbm, 225, rfl⟩
abbrev main_call26_v2 : Ref sig .tc := ⟨.hbm, 226, rfl⟩
abbrev main_call26_v3 : Ref sig .tc := ⟨.hbm, 227, rfl⟩
abbrev main_call26_v4 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_c_43 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_c_44 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2048x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x6144 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KB.Loop.lean ====
/- One trip of the kernel's loop over pairs of column chunks, at a symbolic trip, and the loop's invariant.

   A trip reads the gradient block, the random words and the permutation matrix, fills the planes it needs for itself,
   and stores its part of the codes, of the packed positions and of the scales. What the planes hold between trips
   matters to nobody, so the invariant states them at some contents; the three results are stated piece by piece. -/
module

public import proofs.«01_k».proof.Proof.Gen.Kernel.Loops

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
variable (arg1 : Memref sig .tc .vmem S128x12288 .bf16) (harg1 : arg1.IsWhole)
variable (arg2 : Memref sig .tc .vmem S128x3072 .i32) (harg2 : arg2.IsWhole)
variable (arg3 : Memref sig .tc .vmem S128x6144 .fp8e5m2) (harg3 : arg3.IsWhole)
variable (arg4 : Memref sig .tc .vmem S128x96 .f32) (harg4 : arg4.IsWhole)
variable (arg5 : Memref sig .tc .vmem S128x1536 .i8) (harg5 : arg5.IsWhole)
variable (arg6 : Memref sig .tc .vmem S512x512 .bf16) (harg6 : arg6.IsWhole)
variable (arg7 : Memref sig .tc .vmem S2x128x128 .f32) (harg7 : arg7.IsWhole)
variable (arg8 : Memref sig .tc .vmem S2x128x128 .f32) (harg8 : arg8.IsWhole)
variable (arg9 : Memref sig .tc .vmem S2x128x128 .f32) (harg9 : arg9.IsWhole)
variable (arg10 : Memref sig .tc .vmem S2x128x128 .f32) (harg10 : arg10.IsWhole)
variable (arg11 : Memref sig .tc .vmem S2x128x128 .f32) (harg11 : arg11.IsWhole)
variable (arg12 : Memref sig .tc .vmem S2x32x128 .i32) (harg12 : arg12.IsWhole)
variable (arg13 : Memref sig .tc .vmem S128x128 .f32) (harg13 : arg13.IsWhole)
variable (X1 : BufTy.Contents (Elt F) arg1.view.ty) (X2 : BufTy.Contents (Elt F) arg2.view.ty) (X6 : BufTy.Contents (Elt F) arg6.view.ty)

/-- One trip: the pieces it stores into the codes, the packed positions and the scales' scratch, found by the run, with
    the proof that the trip stores them and leaves the inputs and the permutation as they were. None of the pieces
    depends on what any buffer it writes held before. -/
@[irreducible] def trip (k : Fin k0_t1_loop.trips) :
    Σ' (L3 : List (View.Piece (Elt F) S128x6144 .fp8e5m2)) (L5 : List (View.Piece (Elt F) S128x1536 .i8)), { L13 : List (View.Piece (Elt F) S128x128 .f32) //
      ∀ (E : Set ℕ) (f3 : BufTy.Contents (Elt F) arg3.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} X6) ∗ (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
          (fun _ => iprop((arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} X6) ∗ (arg3.view.loc (c : Thread nD τ) ↦[arg3.view.set]{fullShare} (arg3.view.writes (Elt F) f3 L3)) ∗ (arg5.view.loc (c : Thread nD τ) ↦[arg5.view.set]{fullShare} (arg5.view.writes (Elt F) f5 L5)) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (arg13.view.loc (c : Thread nD τ) ↦[arg13.view.set]{fullShare} (arg13.view.writes (Elt F) f13 L13)))) } := by
  have hk : k.val < 12 := Nat.lt_of_lt_of_le k.isLt k0_t1_abs.2.1
  refine ⟨?_, ?_, ?_, fun E f3 f5 f7 f8 f9 f10 f11 f12 f13 => ?run⟩
  case run =>
    unfold k0_t1_body
    iintro ⟨H1, H2, H6, W3, W5, W7, W8, W9, W10, W11, W12, W13⟩
    sl_exec
    sl_step
    sl_close

/-- The pieces of the trips before `k`, last first: of the codes, of the packed positions, of the scales' scratch. -/
def pieces : ℕ → List (View.Piece (Elt F) S128x6144 .fp8e5m2) × List (View.Piece (Elt F) S128x1536 .i8) × List (View.Piece (Elt F) S128x128 .f32)
  | 0 => ([], [], [])
  | k + 1 =>
    if h : k < k0_t1_loop.trips then
      ((trip c i arg1 harg1 arg2 harg2 arg3 harg3 arg4 harg4 arg5 harg5 arg6 harg6 arg7 harg7 arg8 harg8 arg9 harg9 arg10 harg10 arg11 harg11 arg12 harg12 arg13 harg13 X1 X2 X6 ⟨k, h⟩).1 ++ (pieces k).1, (trip c i arg1 harg1 arg2 harg2 arg3 harg3 arg4 harg4 arg5 harg5 arg6 harg6 arg7 harg7 arg8 harg8 arg9 harg9 arg10 harg10 arg11 harg11 arg12 harg12 arg13 harg13 X1 X2 X6 ⟨k, h⟩).2.1 ++ (pieces k).2.1,
        (trip c i arg1 harg1 arg2 harg2 arg3 harg3 arg4 harg4 arg5 harg5 arg6 harg6 arg7 harg7 arg8 harg8 arg9 harg9 arg10 harg10 arg11 harg11 arg12 harg12 arg13 harg13 X1 X2 X6 ⟨k, h⟩).2.2.1 ++ (pieces k).2.2)
    else pieces k

theorem pieces_succ (k : Fin k0_t1_loop.trips) :
    pieces c i arg1 harg1 arg2 harg2 arg3 harg3 arg4 harg4 arg5 harg5 arg6 harg6 arg7 harg7 arg8 harg8 arg9 harg9 arg10 harg10 arg11 harg11 arg12 harg12 arg13 harg13 X1 X2 X6 (k.val + 1)
      = ((trip c i arg1 harg1 arg2 harg2 arg3 harg3 arg4 harg4 arg5 harg5 arg6 harg6 arg7 harg7 arg8 harg8 arg9 harg9 arg10 harg10 arg11 harg11 arg12 harg12 arg13 harg13 X1 X2 X6 k).1 ++ (pieces c i arg1 harg1 arg2 harg2 arg3 harg3 arg4 harg4 arg5 harg5 arg6 harg6 arg7 harg7 arg8 harg8 arg9 harg9 arg10 harg10 arg11 harg11 arg12 harg12 arg13 harg13 X1 X2 X6 k.val).1,
        (trip c i arg1 harg1 arg2 harg2 arg3 harg3 arg4 harg4 arg5 harg5 arg6 harg6 arg7 harg7 arg8 harg8 arg9 harg9 arg10 harg10 arg11 harg11 arg12 harg12 arg13 harg13 X1 X2 X6 k).2.1 ++ (pieces c i arg1 harg1 arg2 harg2 arg3 harg3 arg4 harg4 arg5 harg5 arg6 harg6 arg7 harg7 arg8 harg8 arg9 harg9 arg10 harg10 arg11 harg11 arg12 harg12 arg13 harg13 X1 X2 X6 k.val).2.1,
        (trip c i arg1 harg1 arg2 harg2 arg3 harg3 arg4 harg4 arg5 harg5 arg6 harg6 arg7 harg7 arg8 harg8 arg9 harg9 arg10 harg10 arg11 harg11 arg12 harg12 arg13 harg13 X1 X2 X6 k).2.2.1 ++ (pieces c i arg1 harg1 arg2 harg2 arg3 harg3 arg4 harg4 arg5 harg5 arg6 harg6 arg7 harg7 arg8 harg8 arg9 harg9 arg10 harg10 arg11 harg11 arg12 harg12 arg13 harg13 X1 X2 X6 k.val).2.2) := by
  rw [pieces]; exact dif_pos k.isLt

variable (G3 : BufTy.Contents (Elt F) arg3.view.ty) (G5 : BufTy.Contents (Elt F) arg5.view.ty) (G13 : BufTy.Contents (Elt F) arg13.view.ty)

/-- Before trip `k`: the inputs and the permutation as at entry, the results with the pieces of the trips before `k`
    written over what they held at entry, the planes at some contents. -/
abbrev inv (k : ℕ) (_u : PUnit) : sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} X6) ∗ (∃ f, (arg3.view.loc (c : Thread nD τ) ↦[arg3.view.set]{fullShare} f) ∗ ⌜f = arg3.view.writes (Elt F) G3 (pieces c i arg1 harg1 arg2 harg2 arg3 harg3 arg4 harg4 arg5 harg5 arg6 harg6 arg7 harg7 arg8 harg8 arg9 harg9 arg10 harg10 arg11 harg11 arg12 harg12 arg13 harg13 X1 X2 X6 k).1⌝) ∗ (∃ f, (arg5.view.loc (c : Thread nD τ) ↦[arg5.view.set]{fullShare} f) ∗ ⌜f = arg5.view.writes (Elt F) G5 (pieces c i arg1 harg1 arg2 harg2 arg3 harg3 arg4 harg4 arg5 harg5 arg6 harg6 arg7 harg7 arg8 harg8 arg9 harg9 arg10 harg10 arg11 harg11 arg12 harg12 arg13 harg13 X1 X2 X6 k).2.1⌝) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pieces c i arg1 harg1 arg2 harg2 arg3 harg3 arg4 harg4 arg5 harg5 arg6 harg6 arg7 harg7 arg8 harg8 arg9 harg9 arg10 harg10 arg11 harg11 arg12 harg12 arg13 harg13 X1 X2 X6 k).2.2⌝))

set_option warn.classDefReducibility false in
/-- The loop by that invariant. -/
@[sl_loop] def loopInv (E : Set ℕ) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 where
  inv := inv c i arg1 harg1 arg2 harg2 arg3 harg3 arg4 harg4 arg5 harg5 arg6 harg6 arg7 harg7 arg8 harg8 arg9 harg9 arg10 harg10 arg11 harg11 arg12 harg12 arg13 harg13 X1 X2 X6 G3 G5 G13
  step k acc := by
    iintro ⟨H1, H2, H6, ⟨%f3, W3, %h3⟩, ⟨%f5, W5, %h5⟩, ⟨%f7, W7⟩, ⟨%f8, W8⟩, ⟨%f9, W9⟩, ⟨%f10, W10⟩, ⟨%f11, W11⟩, ⟨%f12, W12⟩, ⟨%f13, W13, %h13⟩⟩
    iapply (wp_wand_r Idealize.ShloMosaic.frame (wpE (defs₀ (F := F)) Variants.none (c : Thread nD τ) none) E)
    isplitl [H1 H2 H6 W3 W5 W7 W8 W9 W10 W11 W12 W13]
    · iapply ((trip c i arg1 harg1 arg2 harg2 arg3 harg3 arg4 harg4 arg5 harg5 arg6 harg6 arg7 harg7 arg8 harg8 arg9 harg9 arg10 harg10 arg11 harg11 arg12 harg12 arg13 harg13 X1 X2 X6 k).2.2.2 E f3 f5 f7 f8 f9 f10 f11 f12 f13)
      isplitl [H1]; · iexact H1
      isplitl [H2]; · iexact H2
      isplitl [H6]; · iexact H6
      isplitl [W3]; · iexact W3
      isplitl [W5]; · iexact W5
      isplitl [W7]; · iexact W7
      isplitl [W8]; · iexact W8
      isplitl [W9]; · iexact W9
      isplitl [W10]; · iexact W10
      isplitl [W11]; · iexact W11
      isplitl [W12]; · iexact W12
      iexact W13
    · iintro %_ ⟨H1, H2, H6, W3, W5, W7, W8, W9, W10, W11, W12, W13⟩
      isplitl [H1]; · iexact H1
      isplitl [H2]; · iexact H2
      isplitl [H6]; · iexact H6
      rw [pieces_succ]
      isplitl [W3]
      · iexists _; isplitl [W3]; · iexact W3
        ipureintro; rw [h3, ← View.writes_append]
      isplitl [W5]
      · iexists _; isplitl [W5]; · iexact W5
        ipureintro; rw [h5, ← View.writes_append]
      isplitl [W7]; · iexact W7
      isplitl [W8]; · iexact W8
      isplitl [W9]; · iexact W9
      isplitl [W10]; · iexact W10
      isplitl [W11]; · iexact W11
      isplitl [W12]; · iexact W12
      iexists _; isplitl [W13]; · iexact W13
      ipureintro; rw [h13, ← View.writes_append]

end Cert.Proof.Kernel

end
-- ==== Proof.KB.Run.lean ====
/- One grid point of the kernel: what its body leaves in each buffer, from any contents of the buffers it writes.

   The body writes the permutation matrix at the first grid point and finds it there at every later one; in both
   cases the loop runs with that matrix, so the two cases end in the same state. -/
module

public import proofs.«01_k».proof.Proof.KB.Loop
public import proofs.«01_k».proof.Proof.Gen.Kernel.Frame
public import proofs.«01_k».proof.Proof.Gen.Kernel.Skeleton
public import Idealize.ShloMosaic.Lib.VecWindow

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body's one branch: whether the point is the first of the grid, as the kernel's words say it. -/
abbrev first (i : grid0.Coords) : Prop :=
  (Scalar.cmpi .ne (Scalar.extui (Scalar.cmpi .eq (BitVec.ofNat 32 (i 0).val) 0#32)) 0#32) = 1#1

/-- It holds at the first point only. -/
theorem first_iff : ∀ t : Fin cfg0.N, first (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val % 16 = 0)

variable (c : Dev nD) (i : grid0.Coords)
variable (arg1 : Memref sig .tc .vmem S128x12288 .bf16) (harg1 : arg1.IsWhole)
variable (arg2 : Memref sig .tc .vmem S128x3072 .i32) (harg2 : arg2.IsWhole)
variable (arg3 : Memref sig .tc .vmem S128x6144 .fp8e5m2) (harg3 : arg3.IsWhole)
variable (arg4 : Memref sig .tc .vmem S128x96 .f32) (harg4 : arg4.IsWhole)
variable (arg5 : Memref sig .tc .vmem S128x1536 .i8) (harg5 : arg5.IsWhole)
variable (arg6 : Memref sig .tc .vmem S512x512 .bf16) (harg6 : arg6.IsWhole)
variable (arg7 : Memref sig .tc .vmem S2x128x128 .f32) (harg7 : arg7.IsWhole)
variable (arg8 : Memref sig .tc .vmem S2x128x128 .f32) (harg8 : arg8.IsWhole)
variable (arg9 : Memref sig .tc .vmem S2x128x128 .f32) (harg9 : arg9.IsWhole)
variable (arg10 : Memref sig .tc .vmem S2x128x128 .f32) (harg10 : arg10.IsWhole)
variable (arg11 : Memref sig .tc .vmem S2x128x128 .f32) (harg11 : arg11.IsWhole)
variable (arg12 : Memref sig .tc .vmem S2x32x128 .i32) (harg12 : arg12.IsWhole)
variable (arg13 : Memref sig .tc .vmem S128x128 .f32) (harg13 : arg13.IsWhole)

/-- What a grid point leaves, from the gradient block `x1` and the random words `x2`, when the permutation's buffer
    holds the permutation matrix or the point is the first one. -/
theorem body_run (E : Set ℕ) (x1 : Vec F S128x12288 .bf16) (x2 : Vec F S128x3072 .i32) (x6 : Vec F S512x512 .bf16)
    (h6 : ¬ first i → x6 = k0_pay1) :
    (iprop(owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) : sProp (MT nD τ sig Unit (Elt F) ℕ (UR sig nD τ) ℕ))
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare x1 ∗ owns (c : Thread nD τ) arg2 fullShare x2 ∗ (∃ f, (arg3.view.loc (c : Thread nD τ) ↦[arg3.view.set]{fullShare} (arg3.view.writes (Elt F) f (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).1))) ∗ (∃ f g, (arg4.view.loc (c : Thread nD τ) ↦[arg4.view.set]{fullShare} (arg4.view.writes (Elt F) f [⟨Rect.unit (s := S128x96) ![0, 0] S128x96.size inb_S128x96_S128x96_0_0, k0_pay7 (arg13.view.readAt (Elt F) (Rect.unit (s := S128x128) ![0, 0] S128x128.size inb_S128x128_S128x128_0_0).toLoadRect (arg13.view.writes (Elt F) g (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2))⟩]))) ∗ (∃ f, (arg5.view.loc (c : Thread nD τ) ↦[arg5.view.set]{fullShare} (arg5.view.writes (Elt F) f (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.1))) ∗ owns (c : Thread nD τ) arg6 fullShare k0_pay1 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))) := by
  simp only [cc0__body_eq_skeleton]
  unfold cc0__body_skel
  unfold owns
  iintro ⟨⟨%g1, %hg1, H1⟩, ⟨%g2, %hg2, H2⟩, ⟨%d3, %f3, -, W3⟩, ⟨%d4, %f4, -, W4⟩, ⟨%d5, %f5, -, W5⟩, ⟨%g6, %hg6, H6⟩, ⟨%d7, %f7, -, W7⟩, ⟨%d8, %f8, -, W8⟩, ⟨%d9, %f9, -, W9⟩, ⟨%d10, %f10, -, W10⟩, ⟨%d11, %f11, -, W11⟩, ⟨%d12, %f12, -, W12⟩, ⟨%d13, %f13, -, W13⟩⟩
  obtain rfl := harg1.eq_unread hg1
  obtain rfl := harg2.eq_unread hg2
  by_cases hc : first i
  · sl_exec (disch := first | sl_exact hc)
    sl_step
    unfold body_run.sl.v27
    have e6 : arg6.view.writes (Elt F) arg6.view.junk (body_run.sl.H6_1 (F := F)) = harg6.unread k0_pay1 :=
      harg6.eq_unread (by unfold body_run.sl.H6_1; exact View.read_writes_full (v := arg6.view) _ _ _ _)
    rw [e6]
    isplitl [H1]; · iexists _; isplitr; swap; iexact H1; ipureintro; exact harg1.read_unread x1
    isplitl [H2]; · iexists _; isplitr; swap; iexact H2; ipureintro; exact harg2.read_unread x2
    isplitl [W3]; · iexists f3; iexact W3
    isplitl [W4]; · iexists f4; iexists f13; iexact W4
    isplitl [W5]; · iexists f5; iexact W5
    isplitl [H6]; · iexists _; isplitr; swap; iexact H6; ipureintro; exact harg6.read_unread _
    isplitl [W7]; · iexists _; iexists _; isplitr; swap; iexact W7; ipureintro; exact rfl
    isplitl [W8]; · iexists _; iexists _; isplitr; swap; iexact W8; ipureintro; exact rfl
    isplitl [W9]; · iexists _; iexists _; isplitr; swap; iexact W9; ipureintro; exact rfl
    isplitl [W10]; · iexists _; iexists _; isplitr; swap; iexact W10; ipureintro; exact rfl
    isplitl [W11]; · iexists _; iexists _; isplitr; swap; iexact W11; ipureintro; exact rfl
    isplitl [W12]; · iexists _; iexists _; isplitr; swap; iexact W12; ipureintro; exact rfl
    iexists _; iexists _; isplitr; swap; iexact W13; ipureintro; exact rfl
  · obtain rfl := h6 hc
    obtain rfl := harg6.eq_unread hg6
    sl_exec (disch := first | sl_exact hc)
    sl_step
    unfold body_run.sl.v27_1
    isplitl [H1]; · iexists _; isplitr; swap; iexact H1; ipureintro; exact harg1.read_unread x1
    isplitl [H2]; · iexists _; isplitr; swap; iexact H2; ipureintro; exact harg2.read_unread x2
    isplitl [W3]; · iexists f3; iexact W3
    isplitl [W4]; · iexists f4; iexists f13; iexact W4
    isplitl [W5]; · iexists f5; iexact W5
    isplitl [H6]; · iexists _; isplitr; swap; iexact H6; ipureintro; exact harg6.read_unread _
    isplitl [W7]; · iexists _; iexists _; isplitr; swap; iexact W7; ipureintro; exact rfl
    isplitl [W8]; · iexists _; iexists _; isplitr; swap; iexact W8; ipureintro; exact rfl
    isplitl [W9]; · iexists _; iexists _; isplitr; swap; iexact W9; ipureintro; exact rfl
    isplitl [W10]; · iexists _; iexists _; isplitr; swap; iexact W10; ipureintro; exact rfl
    isplitl [W11]; · iexists _; iexists _; isplitr; swap; iexact W11; ipureintro; exact rfl
    isplitl [W12]; · iexists _; iexists _; isplitr; swap; iexact W12; ipureintro; exact rfl
    iexists _; iexists _; isplitr; swap; iexact W13; ipureintro; exact rfl

end Cert.Proof.Kernel

end
-- ==== Proof.KB.Block.lean ====
/- What one grid point leaves in each result's block, as a function of its two input blocks.

   The pieces the loop stores tile the codes and the packed positions; they tile the first 96 rows of the scales'
   scratch, which are the only rows the stored result is made of. -/
module

public import proofs.«01_k».proof.Proof.KB.Run
public import Idealize.ShloMosaic.Lib.Pointwise

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
variable (arg1 : Memref sig .tc .vmem S128x12288 .bf16) (harg1 : arg1.IsWhole)
variable (arg2 : Memref sig .tc .vmem S128x3072 .i32) (harg2 : arg2.IsWhole)
variable (arg3 : Memref sig .tc .vmem S128x6144 .fp8e5m2) (harg3 : arg3.IsWhole)
variable (arg4 : Memref sig .tc .vmem S128x96 .f32) (harg4 : arg4.IsWhole)
variable (arg5 : Memref sig .tc .vmem S128x1536 .i8) (harg5 : arg5.IsWhole)
variable (arg6 : Memref sig .tc .vmem S512x512 .bf16) (harg6 : arg6.IsWhole)
variable (arg7 : Memref sig .tc .vmem S2x128x128 .f32) (harg7 : arg7.IsWhole)
variable (arg8 : Memref sig .tc .vmem S2x128x128 .f32) (harg8 : arg8.IsWhole)
variable (arg9 : Memref sig .tc .vmem S2x128x128 .f32) (harg9 : arg9.IsWhole)
variable (arg10 : Memref sig .tc .vmem S2x128x128 .f32) (harg10 : arg10.IsWhole)
variable (arg11 : Memref sig .tc .vmem S2x128x128 .f32) (harg11 : arg11.IsWhole)
variable (arg12 : Memref sig .tc .vmem S2x32x128 .i32) (harg12 : arg12.IsWhole)
variable (arg13 : Memref sig .tc .vmem S128x128 .f32) (harg13 : arg13.IsWhole)
variable (x1 : Vec F S128x12288 .bf16) (x2 : Vec F S128x3072 .i32)

/-- The codes' block. -/
def codesOut : Vec F S128x6144 .fp8e5m2 := View.canon (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).1
/-- The scales' block: the scratch transposed, its first 96 columns. -/
def scalesOut : Vec F S128x96 .f32 := k0_pay7 (View.canon (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2)
/-- The packed positions' block. -/
def metaOut : Vec F S128x1536 .i8 := View.canon (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.1

/-- The pieces of the codes cover their block. -/
theorem codes_cover (y : S128x6144.Idx) : ∃ p ∈ (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).1, y ∈ p.1.set :=
  View.cover_of_tiledL (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).1 S32x128.size (by sl_kernel_rfl) y

/-- The pieces of the packed positions cover their block. -/
theorem meta_cover (y : S128x1536.Idx) : ∃ p ∈ (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.1, y ∈ p.1.set :=
  View.cover_of_tiledL (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.1 S32x128.size (by sl_kernel_rfl) y

/-- The last 32 rows of the scales' scratch, four at a time. -/
def restRows (F : FTy → Type) [FloatOps F] : List (View.Piece (Elt F) S128x128 .f32) :=
  [⟨Rect.unit (s := S128x128) ![96, 0] S4x128.size (by decide), fun _ => FloatOps.ofBits .f32 0⟩, ⟨Rect.unit (s := S128x128) ![100, 0] S4x128.size (by decide), fun _ => FloatOps.ofBits .f32 0⟩, ⟨Rect.unit (s := S128x128) ![104, 0] S4x128.size (by decide), fun _ => FloatOps.ofBits .f32 0⟩, ⟨Rect.unit (s := S128x128) ![108, 0] S4x128.size (by decide), fun _ => FloatOps.ofBits .f32 0⟩, ⟨Rect.unit (s := S128x128) ![112, 0] S4x128.size (by decide), fun _ => FloatOps.ofBits .f32 0⟩, ⟨Rect.unit (s := S128x128) ![116, 0] S4x128.size (by decide), fun _ => FloatOps.ofBits .f32 0⟩, ⟨Rect.unit (s := S128x128) ![120, 0] S4x128.size (by decide), fun _ => FloatOps.ofBits .f32 0⟩, ⟨Rect.unit (s := S128x128) ![124, 0] S4x128.size (by decide), fun _ => FloatOps.ofBits .f32 0⟩]

/-- The pieces of the scales' scratch cover its first 96 rows. -/
theorem scales_cover (y : S128x128.Idx) (hy : (y 0).val < 96) : ∃ p ∈ (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2, y ∈ p.1.set := by
  obtain ⟨p, hp, hm⟩ := View.cover_of_tiledL (restRows F ++ (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2) S4x128.size (by sl_kernel_rfl) y
  rcases List.mem_append.mp hp with h | h
  · exfalso
    simp only [restRows, List.mem_cons, List.not_mem_nil, or_false] at h
    rcases h with rfl | rfl | rfl | rfl | rfl | rfl | rfl | rfl <;>
    · dsimp only at hm
      have h0 := (Rect.mem_set_unit.mp hm 0).1
      simp only [Matrix.cons_val_zero] at h0
      omega
  · exact ⟨p, h, hm⟩

/-- What the scratch held before the point does not show in the scales. -/
theorem scales_read (g : BufTy.Contents (Elt F) arg13.view.ty) :
    k0_pay7 (arg13.view.readAt (Elt F) (Rect.unit (s := S128x128) ![0, 0] S128x128.size inb_S128x128_S128x128_0_0).toLoadRect
      (arg13.view.writes (Elt F) g (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2)) = scalesOut c i arg1 harg1 arg2 harg2 arg3 harg3 arg4 harg4 arg5 harg5 arg6 harg6 arg7 harg7 arg8 harg8 arg9 harg9 arg10 harg10 arg11 harg11 arg12 harg12 arg13 harg13 x1 x2 := by
  rw [View.readAt_full]
  unfold scalesOut k0_pay7
  funext y
  refine View.read_writes_apply_eq_canon _ _ _ _ (scales_cover c i arg1 harg1 arg2 harg2 arg3 harg3 arg4 harg4 arg5 harg5 arg6 harg6 arg7 harg7 arg8 harg8 arg9 harg9 arg10 harg10 arg11 harg11 arg12 harg12 arg13 harg13 x1 x2 _ ?_)
  have h1 : (y 1).val < 96 := (y 1).isLt
  refine lt_of_le_of_lt (le_of_eq ?_) h1
  exact (congrArg Fin.val (Shape.Transposes.src_apply_val transposes_S128x128_p1_0_S128x128 _ 0)).trans (Nat.zero_add _)

/-- One grid point: from the gradient block `x1` and the random words `x2`, each result's block at its function. -/
theorem body_post (E : Set ℕ) (x6 : Vec F S512x512 .bf16) (h6 : ¬ first i → x6 = k0_pay1) :
    (iprop(owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) : sProp (MT nD τ sig Unit (Elt F) ℕ (UR sig nD τ) ℕ))
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare x1 ∗ owns (c : Thread nD τ) arg2 fullShare x2
            ∗ owns (c : Thread nD τ) arg3 fullShare (codesOut c i arg1 harg1 arg2 harg2 arg3 harg3 arg4 harg4 arg5 harg5 arg6 harg6 arg7 harg7 arg8 harg8 arg9 harg9 arg10 harg10 arg11 harg11 arg12 harg12 arg13 harg13 x1 x2)
            ∗ owns (c : Thread nD τ) arg4 fullShare (scalesOut c i arg1 harg1 arg2 harg2 arg3 harg3 arg4 harg4 arg5 harg5 arg6 harg6 arg7 harg7 arg8 harg8 arg9 harg9 arg10 harg10 arg11 harg11 arg12 harg12 arg13 harg13 x1 x2)
            ∗ owns (c : Thread nD τ) arg5 fullShare (metaOut c i arg1 harg1 arg2 harg2 arg3 harg3 arg4 harg4 arg5 harg5 arg6 harg6 arg7 harg7 arg8 harg8 arg9 harg9 arg10 harg10 arg11 harg11 arg12 harg12 arg13 harg13 x1 x2)
            ∗ owns (c : Thread nD τ) arg6 fullShare k0_pay1 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))) := by
  iintro H
  iapply (wp_wand_r Idealize.ShloMosaic.frame (wpE (defs₀ (F := F)) Variants.none (c : Thread nD τ) none) E)
  isplitl [H]
  · iapply (body_run c i arg1 harg1 arg2 harg2 arg3 harg3 arg4 harg4 arg5 harg5 arg6 harg6 arg7 harg7 arg8 harg8 arg9 harg9 arg10 harg10 arg11 harg11 arg12 harg12 arg13 harg13 E x1 x2 x6 h6); iexact H
  · iintro %_ ⟨H1, H2, ⟨%f3, H3⟩, ⟨%f4, %g, H4⟩, ⟨%f5, H5⟩, H6, HR⟩
    isplitl [H1]; · iexact H1
    isplitl [H2]; · iexact H2
    isplitl [H3]
    · unfold owns; iexists _; isplitr; swap; iexact H3; ipureintro
      exact View.read_writes_eq_canon _ _ _ (codes_cover c i arg1 harg1 arg2 harg2 arg3 harg3 arg4 harg4 arg5 harg5 arg6 harg6 arg7 harg7 arg8 harg8 arg9 harg9 arg10 harg10 arg11 harg11 arg12 harg12 arg13 harg13 x1 x2)
    isplitl [H4]
    · unfold owns; iexists _; isplitr; swap; iexact H4; ipureintro
      rw [View.read_writes_full]; exact scales_read c i arg1 harg1 arg2 harg2 arg3 harg3 arg4 harg4 arg5 harg5 arg6 harg6 arg7 harg7 arg8 harg8 arg9 harg9 arg10 harg10 arg11 harg11 arg12 harg12 arg13 harg13 x1 x2 g
    isplitl [H5]
    · unfold owns; iexists _; isplitr; swap; iexact H5; ipureintro
      exact View.read_writes_eq_canon _ _ _ (meta_cover c i arg1 harg1 arg2 harg2 arg3 harg3 arg4 harg4 arg5 harg5 arg6 harg6 arg7 harg7 arg8 harg8 arg9 harg9 arg10 harg10 arg11 harg11 arg12 harg12 arg13 harg13 x1 x2)
    isplitl [H6]; · iexact H6
    iexact HR

end Cert.Proof.Kernel

end
-- ==== Proof.KB.Frame.lean ====
/- The kernel's run: the pipeline's proof data, the body's obligation at every grid point, and the frame.

   Before the first grid point every scratch buffer holds anything; after it the permutation's buffer holds the
   permutation matrix, the other scratch buffers still anything. -/
module

public import proofs.«01_k».proof.Proof.KB.Block
public import Idealize.ShloMosaic.Lib.Claim

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev ms0 (t : Fin cfg0.N) : Memref sig .tc .vmem S128x12288 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x3072 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x6144 .fp8e5m2 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1536 .i8 := win0_4.stage (cfg0.slots t 4)
abbrev hs4 (t : Fin cfg0.N) : (ms4 t).IsWhole := hstage0_4 ((cfg0.slots t 4).cast nbuf0_4)
abbrev scM0 : Memref sig .tc .vmem S512x512 .bf16 := Memref.whole cc0_scratch0
abbrev scM1 : Memref sig .tc .vmem S2x128x128 .f32 := Memref.whole cc0_scratch1
abbrev scM2 : Memref sig .tc .vmem S2x128x128 .f32 := Memref.whole cc0_scratch2
abbrev scM3 : Memref sig .tc .vmem S2x128x128 .f32 := Memref.whole cc0_scratch3
abbrev scM4 : Memref sig .tc .vmem S2x128x128 .f32 := Memref.whole cc0_scratch4
abbrev scM5 : Memref sig .tc .vmem S2x128x128 .f32 := Memref.whole cc0_scratch5
abbrev scM6 : Memref sig .tc .vmem S2x32x128 .i32 := Memref.whole cc0_scratch6
abbrev scM7 : Memref sig .tc .vmem S128x128 .f32 := Memref.whole cc0_scratch7

variable (m : (ℓ : Loc nD τ sig) → Buf (Elt F) ℓ) (ρ : Dev nD → PrngReg)

/-- The scratch buffers at some contents each, and the generator register. -/
theorem PhiA_eq (c : Dev nD) :
    (Pipeline.ΦA spec0 c : sProp (MT nD τ sig Unit (Elt F) ℕ (UR sig nD τ) ℕ)) = iprop(((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM0, scM1, scM2, scM3, scM4, scM5, scM6, scM7, owns_whole]; try rfl

/-- The invariant before point `n`: the permutation's buffer at the permutation matrix once a point has run. -/
def Phi (c : Dev nD) : ℕ → sProp (MT nD τ sig Unit (Elt F) ℕ (UR sig nD τ) ℕ)
  | 0 => Pipeline.ΦA spec0 c
  | _ + 1 => iprop((owns (c : Thread nD τ) scM0 fullShare k0_pay1 ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r))

/-- The codes, the scales and the packed positions after the body at point `t`. -/
def codesOutAt (c : Dev nD) (t : Fin cfg0.N) : Vec F S128x6144 .fp8e5m2 :=
  codesOut c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (iblk m c 0 t) (iblk m c 1 t)
def scalesOutAt (c : Dev nD) (t : Fin cfg0.N) : Vec F S128x96 .f32 :=
  scalesOut c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (iblk m c 0 t) (iblk m c 1 t)
def metaOutAt (c : Dev nD) (t : Fin cfg0.N) : Vec F S128x1536 .i8 :=
  metaOut c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (iblk m c 0 t) (iblk m c 1 t)

/-- The pipeline's proof data: the arrays as the region finds them; after the body each input's buffer at its block and
    each result's at its block's value; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesOutAt m c t
    | ⟨3, _⟩ => scalesOutAt m c t
    | ⟨4, _⟩ => metaOutAt m c t
  Φ t := Phi c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codesOutAt m c t := by dsimp only [dats]
theorem after0_3 (c : Dev nD) (t : Fin cfg0.N) : (dats m 0 c).after 3 t = scalesOutAt m c t := by dsimp only [dats]
theorem after0_4 (c : Dev nD) (t : Fin cfg0.N) : (dats m 0 c).after 4 t = metaOutAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, after0_3, after0_4,
    show (dats m 0 c).Φ t.succ = Phi c (t.val + 1) from rfl,
    show (dats m 0 c).Φ t.castSucc = Phi c t.val from rfl]
  have hN : t.val < 16 := lt_of_lt_of_eq t.isLt (show cfg0.N = 16 from N_0)
  obtain ⟨P, h6, hΦ⟩ : ∃ P : Vec F S512x512 .bf16 → Prop, (∀ x, P x → ¬ first (grid0.coords t) → x = k0_pay1) ∧
      ((Phi c t.val : sProp (MT nD τ sig Unit (Elt F) ℕ (UR sig nD τ) ℕ)) ⊢ iprop(((∃ d, ⌜P d⌝ ∗ owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r))) := by
    rcases hn : t.val with _ | n
    · refine ⟨fun _ => True, fun _ _ h => absurd ((first_iff t).mpr (by omega)) h, ?_⟩
      rw [show (Phi c 0 : sProp (MT nD τ sig Unit (Elt F) ℕ (UR sig nD τ) ℕ)) = Pipeline.ΦA spec0 c from rfl, PhiA_eq]
      iintro ⟨⟨⟨%d, H0⟩, HR⟩, Hg⟩
      isplitl [H0 HR]
      · isplitl [H0]
        · iexists d; isplitr; · ipureintro; trivial
          iexact H0
        iexact HR
      iexact Hg
    · refine ⟨fun d => d = k0_pay1, fun _ h _ => h, ?_⟩
      rw [show (Phi c (n + 1) : sProp (MT nD τ sig Unit (Elt F) ℕ (UR sig nD τ) ℕ)) = iprop((owns (c : Thread nD τ) scM0 fullShare k0_pay1 ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) from rfl]
      iintro ⟨⟨H0, HR⟩, Hg⟩
      isplitl [H0 HR]
      · isplitl [H0]
        · iexists _; isplitr; swap; iexact H0; ipureintro; exact rfl
        iexact HR
      iexact Hg
  rw [show (Phi c (t.val + 1) : sProp (MT nD τ sig Unit (Elt F) ℕ (UR sig nD τ) ℕ)) = iprop((owns (c : Thread nD τ) scM0 fullShare k0_pay1 ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) from rfl]
  iintro ⟨HΦ, Ho, ⟨%d0, H0⟩, ⟨%d1, H1⟩, ⟨%d2, H2⟩, ⟨%d3, H3⟩, ⟨%d4, H4⟩⟩
  ihave HΦ' := hΦ $$ HΦ
  icases HΦ' with ⟨⟨⟨%d, %hd, HS0⟩, HS1, HS2, HS3, HS4, HS5, HS6, HS7⟩, Hg⟩
  iapply (wp_wand_r Idealize.ShloMosaic.frame (wpE (defs₀ (F := F)) Variants.none (c : Thread nD τ) none) Set.univ)
  isplitl [H0 H1 H2 H3 H4 HS0 HS1 HS2 HS3 HS4 HS5 HS6 HS7]
  · iapply (body_post c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (iblk m c 0 t) (iblk m c 1 t) Set.univ d (h6 d hd))
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  · iintro %_ ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After a point the invariant gives the scratch buffers back. -/
theorem Phi_out (c : Dev nD) (t : Fin (cfg0.N + 1)) (ht : t.val ≠ 0) : (dats m 0 c).Φ t ⊢ Pipeline.ΦA spec0 c := by
  rw [show (dats m 0 c).Φ t = Phi c t.val from rfl, PhiA_eq]
  obtain ⟨n, hn⟩ : ∃ n, t.val = n + 1 := ⟨t.val - 1, by omega⟩
  rw [hn, show (Phi c (n + 1) : sProp (MT nD τ sig Unit (Elt F) ℕ (UR sig nD τ) ℕ)) = iprop((owns (c : Thread nD τ) scM0 fullShare k0_pay1 ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) from rfl]
  iintro ⟨⟨HS0, HR⟩, Hg⟩
  isplitl [HS0 HR]
  · isplitl [HS0]
    · iexists _; iexact HS0
    iexact HR
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The run: every array of the pipeline ends at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates, leaves its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.Kernel

end
-- ==== Proof.KI.Loop.lean ====
/- One trip of the kernel's loop over pairs of column chunks, at a symbolic trip, and the loop's invariant.

   A trip reads the gradient block, the random words and the permutation matrix, fills the planes it needs for itself,
   and stores its part of the codes, of the packed positions and of the scales. What the planes hold between trips
   matters to nobody, so the invariant states them at some contents; the three results are stated piece by piece. -/
module

public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
variable (arg1 : Memref sig .tc .vmem S128x12288 .bf16) (harg1 : arg1.IsWhole)
variable (arg2 : Memref sig .tc .vmem S128x3072 .i32) (harg2 : arg2.IsWhole)
variable (arg3 : Memref sig .tc .vmem S128x6144 .fp8e5m2) (harg3 : arg3.IsWhole)
variable (arg4 : Memref sig .tc .vmem S128x96 .f32) (harg4 : arg4.IsWhole)
variable (arg5 : Memref sig .tc .vmem S128x1536 .i8) (harg5 : arg5.IsWhole)
variable (arg6 : Memref sig .tc .vmem S512x512 .bf16) (harg6 : arg6.IsWhole)
variable (arg7 : Memref sig .tc .vmem S2x128x128 .f32) (harg7 : arg7.IsWhole)
variable (arg8 : Memref sig .tc .vmem S2x128x128 .f32) (harg8 : arg8.IsWhole)
variable (arg9 : Memref sig .tc .vmem S2x128x128 .f32) (harg9 : arg9.IsWhole)
variable (arg10 : Memref sig .tc .vmem S2x128x128 .f32) (harg10 : arg10.IsWhole)
variable (arg11 : Memref sig .tc .vmem S2x128x128 .f32) (harg11 : arg11.IsWhole)
variable (arg12 : Memref sig .tc .vmem S2x32x128 .i32) (harg12 : arg12.IsWhole)
variable (arg13 : Memref sig .tc .vmem S128x128 .f32) (harg13 : arg13.IsWhole)
variable (X1 : BufTy.Contents (Elt F) arg1.view.ty) (X2 : BufTy.Contents (Elt F) arg2.view.ty) (X6 : BufTy.Contents (Elt F) arg6.view.ty)

/-- One trip: the pieces it stores into the codes, the packed positions and the scales' scratch, found by the run, with
    the proof that the trip stores them and leaves the inputs and the permutation as they were. None of the pieces
    depends on what any buffer it writes held before. -/
@[irreducible] def trip (k : Fin k0_t1_loop.trips) :
    Σ' (L3 : List (View.Piece (Elt F) S128x6144 .fp8e5m2)) (L5 : List (View.Piece (Elt F) S128x1536 .i8)), { L13 : List (View.Piece (Elt F) S128x128 .f32) //
      ∀ (E : Set ℕ) (f3 : BufTy.Contents (Elt F) arg3.view.ty) (f5 : BufTy.Contents (Elt F) arg5.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} X6) ∗ (arg3.view.loc (c : Thread nD τ) ↦[arg3.view.set]{fullShare} f3) ∗ (arg5.view.loc (c : Thread nD τ) ↦[arg5.view.set]{fullShare} f5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 k PUnit.unit)
          (fun _ => iprop((arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} X6) ∗ (arg3.view.loc (c : Thread nD τ) ↦[arg3.view.set]{fullShare} (arg3.view.writes (Elt F) f3 L3)) ∗ (arg5.view.loc (c : Thread nD τ) ↦[arg5.view.set]{fullShare} (arg5.view.writes (Elt F) f5 L5)) ∗ (∃ g, (arg7.view.loc (c : Thread nD τ) ↦[arg7.view.set]{fullShare} g)) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (arg13.view.loc (c : Thread nD τ) ↦[arg13.view.set]{fullShare} (arg13.view.writes (Elt F) f13 L13)))) } := by
  have hk : k.val < 12 := Nat.lt_of_lt_of_le k.isLt k0_t1_abs.2.1
  refine ⟨?_, ?_, ?_, fun E f3 f5 f7 f8 f9 f10 f11 f12 f13 => ?run⟩
  case run =>
    unfold k0_t1_body
    iintro ⟨H1, H2, H6, W3, W5, W7, W8, W9, W10, W11, W12, W13⟩
    sl_exec
    sl_step
    sl_close

/-- The pieces of the trips before `k`, last first: of the codes, of the packed positions, of the scales' scratch. -/
def pieces : ℕ → List (View.Piece (Elt F) S128x6144 .fp8e5m2) × List (View.Piece (Elt F) S128x1536 .i8) × List (View.Piece (Elt F) S128x128 .f32)
  | 0 => ([], [], [])
  | k + 1 =>
    if h : k < k0_t1_loop.trips then
      ((trip c i arg1 harg1 arg2 harg2 arg3 harg3 arg4 harg4 arg5 harg5 arg6 harg6 arg7 harg7 arg8 harg8 arg9 harg9 arg10 harg10 arg11 harg11 arg12 harg12 arg13 harg13 X1 X2 X6 ⟨k, h⟩).1 ++ (pieces k).1, (trip c i arg1 harg1 arg2 harg2 arg3 harg3 arg4 harg4 arg5 harg5 arg6 harg6 arg7 harg7 arg8 harg8 arg9 harg9 arg10 harg10 arg11 harg11 arg12 harg12 arg13 harg13 X1 X2 X6 ⟨k, h⟩).2.1 ++ (pieces k).2.1,
        (trip c i arg1 harg1 arg2 harg2 arg3 harg3 arg4 harg4 arg5 harg5 arg6 harg6 arg7 harg7 arg8 harg8 arg9 harg9 arg10 harg10 arg11 harg11 arg12 harg12 arg13 harg13 X1 X2 X6 ⟨k, h⟩).2.2.1 ++ (pieces k).2.2)
    else pieces k

theorem pieces_succ (k : Fin k0_t1_loop.trips) :
    pieces c i arg1 harg1 arg2 harg2 arg3 harg3 arg4 harg4 arg5 harg5 arg6 harg6 arg7 harg7 arg8 harg8 arg9 harg9 arg10 harg10 arg11 harg11 arg12 harg12 arg13 harg13 X1 X2 X6 (k.val + 1)
      = ((trip c i arg1 harg1 arg2 harg2 arg3 harg3 arg4 harg4 arg5 harg5 arg6 harg6 arg7 harg7 arg8 harg8 arg9 harg9 arg10 harg10 arg11 harg11 arg12 harg12 arg13 harg13 X1 X2 X6 k).1 ++ (pieces c i arg1 harg1 arg2 harg2 arg3 harg3 arg4 harg4 arg5 harg5 arg6 harg6 arg7 harg7 arg8 harg8 arg9 harg9 arg10 harg10 arg11 harg11 arg12 harg12 arg13 harg13 X1 X2 X6 k.val).1,
        (trip c i arg1 harg1 arg2 harg2 arg3 harg3 arg4 harg4 arg5 harg5 arg6 harg6 arg7 harg7 arg8 harg8 arg9 harg9 arg10 harg10 arg11 harg11 arg12 harg12 arg13 harg13 X1 X2 X6 k).2.1 ++ (pieces c i arg1 harg1 arg2 harg2 arg3 harg3 arg4 harg4 arg5 harg5 arg6 harg6 arg7 harg7 arg8 harg8 arg9 harg9 arg10 harg10 arg11 harg11 arg12 harg12 arg13 harg13 X1 X2 X6 k.val).2.1,
        (trip c i arg1 harg1 arg2 harg2 arg3 harg3 arg4 harg4 arg5 harg5 arg6 harg6 arg7 harg7 arg8 harg8 arg9 harg9 arg10 harg10 arg11 harg11 arg12 harg12 arg13 harg13 X1 X2 X6 k).2.2.1 ++ (pieces c i arg1 harg1 arg2 harg2 arg3 harg3 arg4 harg4 arg5 harg5 arg6 harg6 arg7 harg7 arg8 harg8 arg9 harg9 arg10 harg10 arg11 harg11 arg12 harg12 arg13 harg13 X1 X2 X6 k.val).2.2) := by
  rw [pieces]; exact dif_pos k.isLt

variable (G3 : BufTy.Contents (Elt F) arg3.view.ty) (G5 : BufTy.Contents (Elt F) arg5.view.ty) (G13 : BufTy.Contents (Elt F) arg13.view.ty)

/-- Before trip `k`: the inputs and the permutation as at entry, the results with the pieces of the trips before `k`
    written over what they held at entry, the planes at some contents. -/
abbrev inv (k : ℕ) (_u : PUnit) : sProp (MT nD τ sig Unit (Elt F) ℕ (UR sig nD τ) ℕ) :=
  iprop((arg1.view.loc (c : Thread nD τ) ↦[arg1.view.set]{fullShare} X1) ∗ (arg2.view.loc (c : Thread nD τ) ↦[arg2.view.set]{fullShare} X2) ∗ (arg6.view.loc (c : Thread nD τ) ↦[arg6.view.set]{fullShare} X6) ∗ (∃ f, (arg3.view.loc (c : Thread nD τ) ↦[arg3.view.set]{fullShare} f) ∗ ⌜f = arg3.view.writes (Elt F) G3 (pieces c i arg1 harg1 arg2 harg2 arg3 harg3 arg4 harg4 arg5 harg5 arg6 harg6 arg7 harg7 arg8 harg8 arg9 harg9 arg10 harg10 arg11 harg11 arg12 harg12 arg13 harg13 X1 X2 X6 k).1⌝) ∗ (∃ f, (arg5.view.loc (c : Thread nD τ) ↦[arg5.view.set]{fullShare} f) ∗ ⌜f = arg5.view.writes (Elt F) G5 (pieces c i arg1 harg1 arg2 harg2 arg3 harg3 arg4 harg4 arg5 harg5 arg6 harg6 arg7 harg7 arg8 harg8 arg9 harg9 arg10 harg10 arg11 harg11 arg12 harg12 arg13 harg13 X1 X2 X6 k).2.1⌝) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pieces c i arg1 harg1 arg2 harg2 arg3 harg3 arg4 harg4 arg5 harg5 arg6 harg6 arg7 harg7 arg8 harg8 arg9 harg9 arg10 harg10 arg11 harg11 arg12 harg12 arg13 harg13 X1 X2 X6 k).2.2⌝))

set_option warn.classDefReducibility false in
/-- The loop by that invariant. -/
@[sl_loop] def loopInv (E : Set ℕ) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 where
  inv := inv c i arg1 harg1 arg2 harg2 arg3 harg3 arg4 harg4 arg5 harg5 arg6 harg6 arg7 harg7 arg8 harg8 arg9 harg9 arg10 harg10 arg11 harg11 arg12 harg12 arg13 harg13 X1 X2 X6 G3 G5 G13
  step k acc := by
    iintro ⟨H1, H2, H6, ⟨%f3, W3, %h3⟩, ⟨%f5, W5, %h5⟩, ⟨%f7, W7⟩, ⟨%f8, W8⟩, ⟨%f9, W9⟩, ⟨%f10, W10⟩, ⟨%f11, W11⟩, ⟨%f12, W12⟩, ⟨%f13, W13, %h13⟩⟩
    iapply (wp_wand_r Idealize.ShloMosaic.frame (wpE (defs₀ (F := F)) Variants.none (c : Thread nD τ) none) E)
    isplitl [H1 H2 H6 W3 W5 W7 W8 W9 W10 W11 W12 W13]
    · iapply ((trip c i arg1 harg1 arg2 harg2 arg3 harg3 arg4 harg4 arg5 harg5 arg6 harg6 arg7 harg7 arg8 harg8 arg9 harg9 arg10 harg10 arg11 harg11 arg12 harg12 arg13 harg13 X1 X2 X6 k).2.2.2 E f3 f5 f7 f8 f9 f10 f11 f12 f13)
      isplitl [H1]; · iexact H1
      isplitl [H2]; · iexact H2
      isplitl [H6]; · iexact H6
      isplitl [W3]; · iexact W3
      isplitl [W5]; · iexact W5
      isplitl [W7]; · iexact W7
      isplitl [W8]; · iexact W8
      isplitl [W9]; · iexact W9
      isplitl [W10]; · iexact W10
      isplitl [W11]; · iexact W11
      isplitl [W12]; · iexact W12
      iexact W13
    · iintro %_ ⟨H1, H2, H6, W3, W5, W7, W8, W9, W10, W11, W12, W13⟩
      isplitl [H1]; · iexact H1
      isplitl [H2]; · iexact H2
      isplitl [H6]; · iexact H6
      rw [pieces_succ]
      isplitl [W3]
      · iexists _; isplitl [W3]; · iexact W3
        ipureintro; rw [h3, ← View.writes_append]
      isplitl [W5]
      · iexists _; isplitl [W5]; · iexact W5
        ipureintro; rw [h5, ← View.writes_append]
      isplitl [W7]; · iexact W7
      isplitl [W8]; · iexact W8
      isplitl [W9]; · iexact W9
      isplitl [W10]; · iexact W10
      isplitl [W11]; · iexact W11
      isplitl [W12]; · iexact W12
      iexists _; isplitl [W13]; · iexact W13
      ipureintro; rw [h13, ← View.writes_append]

end Cert.Proof.KernelIdeal

end
-- ==== Proof.KI.Run.lean ====
/- One grid point of the kernel: what its body leaves in each buffer, from any contents of the buffers it writes.

   The body writes the permutation matrix at the first grid point and finds it there at every later one; in both
   cases the loop runs with that matrix, so the two cases end in the same state. -/
module

public import proofs.«01_k».proof.Proof.KI.Loop
public import proofs.«01_k».proof.Proof.Gen.KernelIdeal.Frame
public import proofs.«01_k».proof.Proof.Gen.KernelIdeal.Skeleton
public import Idealize.ShloMosaic.Lib.VecWindow

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body's one branch: whether the point is the first of the grid, as the kernel's words say it. -/
abbrev first (i : grid0.Coords) : Prop :=
  (Scalar.cmpi .ne (Scalar.extui (Scalar.cmpi .eq (BitVec.ofNat 32 (i 0).val) 0#32)) 0#32) = 1#1

/-- It holds at the first point only. -/
theorem first_iff : ∀ t : Fin cfg0.N, first (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val % 16 = 0)

variable (c : Dev nD) (i : grid0.Coords)
variable (arg1 : Memref sig .tc .vmem S128x12288 .bf16) (harg1 : arg1.IsWhole)
variable (arg2 : Memref sig .tc .vmem S128x3072 .i32) (harg2 : arg2.IsWhole)
variable (arg3 : Memref sig .tc .vmem S128x6144 .fp8e5m2) (harg3 : arg3.IsWhole)
variable (arg4 : Memref sig .tc .vmem S128x96 .f32) (harg4 : arg4.IsWhole)
variable (arg5 : Memref sig .tc .vmem S128x1536 .i8) (harg5 : arg5.IsWhole)
variable (arg6 : Memref sig .tc .vmem S512x512 .bf16) (harg6 : arg6.IsWhole)
variable (arg7 : Memref sig .tc .vmem S2x128x128 .f32) (harg7 : arg7.IsWhole)
variable (arg8 : Memref sig .tc .vmem S2x128x128 .f32) (harg8 : arg8.IsWhole)
variable (arg9 : Memref sig .tc .vmem S2x128x128 .f32) (harg9 : arg9.IsWhole)
variable (arg10 : Memref sig .tc .vmem S2x128x128 .f32) (harg10 : arg10.IsWhole)
variable (arg11 : Memref sig .tc .vmem S2x128x128 .f32) (harg11 : arg11.IsWhole)
variable (arg12 : Memref sig .tc .vmem S2x32x128 .i32) (harg12 : arg12.IsWhole)
variable (arg13 : Memref sig .tc .vmem S128x128 .f32) (harg13 : arg13.IsWhole)

/-- What a grid point leaves, from the gradient block `x1` and the random words `x2`, when the permutation's buffer
    holds the permutation matrix or the point is the first one. -/
theorem body_run (E : Set ℕ) (x1 : Vec F S128x12288 .bf16) (x2 : Vec F S128x3072 .i32) (x6 : Vec F S512x512 .bf16)
    (h6 : ¬ first i → x6 = k0_pay1) :
    (iprop(owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) : sProp (MT nD τ sig Unit (Elt F) ℕ (UR sig nD τ) ℕ))
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare x1 ∗ owns (c : Thread nD τ) arg2 fullShare x2 ∗ (∃ f, (arg3.view.loc (c : Thread nD τ) ↦[arg3.view.set]{fullShare} (arg3.view.writes (Elt F) f (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).1))) ∗ (∃ f g, (arg4.view.loc (c : Thread nD τ) ↦[arg4.view.set]{fullShare} (arg4.view.writes (Elt F) f [⟨Rect.unit (s := S128x96) ![0, 0] S128x96.size inb_S128x96_S128x96_0_0, k0_pay7 (arg13.view.readAt (Elt F) (Rect.unit (s := S128x128) ![0, 0] S128x128.size inb_S128x128_S128x128_0_0).toLoadRect (arg13.view.writes (Elt F) g (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2))⟩]))) ∗ (∃ f, (arg5.view.loc (c : Thread nD τ) ↦[arg5.view.set]{fullShare} (arg5.view.writes (Elt F) f (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.1))) ∗ owns (c : Thread nD τ) arg6 fullShare k0_pay1 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))) := by
  simp only [cc0__body_eq_skeleton]
  unfold cc0__body_skel
  unfold owns
  iintro ⟨⟨%g1, %hg1, H1⟩, ⟨%g2, %hg2, H2⟩, ⟨%d3, %f3, -, W3⟩, ⟨%d4, %f4, -, W4⟩, ⟨%d5, %f5, -, W5⟩, ⟨%g6, %hg6, H6⟩, ⟨%d7, %f7, -, W7⟩, ⟨%d8, %f8, -, W8⟩, ⟨%d9, %f9, -, W9⟩, ⟨%d10, %f10, -, W10⟩, ⟨%d11, %f11, -, W11⟩, ⟨%d12, %f12, -, W12⟩, ⟨%d13, %f13, -, W13⟩⟩
  obtain rfl := harg1.eq_unread hg1
  obtain rfl := harg2.eq_unread hg2
  by_cases hc : first i
  · sl_exec (disch := first | sl_exact hc)
    sl_step
    unfold body_run.sl.v27
    have e6 : arg6.view.writes (Elt F) arg6.view.junk (body_run.sl.H6_1 (F := F)) = harg6.unread k0_pay1 :=
      harg6.eq_unread (by unfold body_run.sl.H6_1; exact View.read_writes_full (v := arg6.view) _ _ _ _)
    rw [e6]
    isplitl [H1]; · iexists _; isplitr; swap; iexact H1; ipureintro; exact harg1.read_unread x1
    isplitl [H2]; · iexists _; isplitr; swap; iexact H2; ipureintro; exact harg2.read_unread x2
    isplitl [W3]; · iexists f3; iexact W3
    isplitl [W4]; · iexists f4; iexists f13; iexact W4
    isplitl [W5]; · iexists f5; iexact W5
    isplitl [H6]; · iexists _; isplitr; swap; iexact H6; ipureintro; exact harg6.read_unread _
    isplitl [W7]; · iexists _; iexists _; isplitr; swap; iexact W7; ipureintro; exact rfl
    isplitl [W8]; · iexists _; iexists _; isplitr; swap; iexact W8; ipureintro; exact rfl
    isplitl [W9]; · iexists _; iexists _; isplitr; swap; iexact W9; ipureintro; exact rfl
    isplitl [W10]; · iexists _; iexists _; isplitr; swap; iexact W10; ipureintro; exact rfl
    isplitl [W11]; · iexists _; iexists _; isplitr; swap; iexact W11; ipureintro; exact rfl
    isplitl [W12]; · iexists _; iexists _; isplitr; swap; iexact W12; ipureintro; exact rfl
    iexists _; iexists _; isplitr; swap; iexact W13; ipureintro; exact rfl
  · obtain rfl := h6 hc
    obtain rfl := harg6.eq_unread hg6
    sl_exec (disch := first | sl_exact hc)
    sl_step
    unfold body_run.sl.v27_1
    isplitl [H1]; · iexists _; isplitr; swap; iexact H1; ipureintro; exact harg1.read_unread x1
    isplitl [H2]; · iexists _; isplitr; swap; iexact H2; ipureintro; exact harg2.read_unread x2
    isplitl [W3]; · iexists f3; iexact W3
    isplitl [W4]; · iexists f4; iexists f13; iexact W4
    isplitl [W5]; · iexists f5; iexact W5
    isplitl [H6]; · iexists _; isplitr; swap; iexact H6; ipureintro; exact harg6.read_unread _
    isplitl [W7]; · iexists _; iexists _; isplitr; swap; iexact W7; ipureintro; exact rfl
    isplitl [W8]; · iexists _; iexists _; isplitr; swap; iexact W8; ipureintro; exact rfl
    isplitl [W9]; · iexists _; iexists _; isplitr; swap; iexact W9; ipureintro; exact rfl
    isplitl [W10]; · iexists _; iexists _; isplitr; swap; iexact W10; ipureintro; exact rfl
    isplitl [W11]; · iexists _; iexists _; isplitr; swap; iexact W11; ipureintro; exact rfl
    isplitl [W12]; · iexists _; iexists _; isplitr; swap; iexact W12; ipureintro; exact rfl
    iexists _; iexists _; isplitr; swap; iexact W13; ipureintro; exact rfl

end Cert.Proof.KernelIdeal

end
-- ==== Proof.KI.Block.lean ====
/- What one grid point leaves in each result's block, as a function of its two input blocks.

   The pieces the loop stores tile the codes and the packed positions; they tile the first 96 rows of the scales'
   scratch, which are the only rows the stored result is made of. -/
module

public import proofs.«01_k».proof.Proof.KI.Run
public import Idealize.ShloMosaic.Lib.Pointwise

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
variable (arg1 : Memref sig .tc .vmem S128x12288 .bf16) (harg1 : arg1.IsWhole)
variable (arg2 : Memref sig .tc .vmem S128x3072 .i32) (harg2 : arg2.IsWhole)
variable (arg3 : Memref sig .tc .vmem S128x6144 .fp8e5m2) (harg3 : arg3.IsWhole)
variable (arg4 : Memref sig .tc .vmem S128x96 .f32) (harg4 : arg4.IsWhole)
variable (arg5 : Memref sig .tc .vmem S128x1536 .i8) (harg5 : arg5.IsWhole)
variable (arg6 : Memref sig .tc .vmem S512x512 .bf16) (harg6 : arg6.IsWhole)
variable (arg7 : Memref sig .tc .vmem S2x128x128 .f32) (harg7 : arg7.IsWhole)
variable (arg8 : Memref sig .tc .vmem S2x128x128 .f32) (harg8 : arg8.IsWhole)
variable (arg9 : Memref sig .tc .vmem S2x128x128 .f32) (harg9 : arg9.IsWhole)
variable (arg10 : Memref sig .tc .vmem S2x128x128 .f32) (harg10 : arg10.IsWhole)
variable (arg11 : Memref sig .tc .vmem S2x128x128 .f32) (harg11 : arg11.IsWhole)
variable (arg12 : Memref sig .tc .vmem S2x32x128 .i32) (harg12 : arg12.IsWhole)
variable (arg13 : Memref sig .tc .vmem S128x128 .f32) (harg13 : arg13.IsWhole)
variable (x1 : Vec F S128x12288 .bf16) (x2 : Vec F S128x3072 .i32)

/-- The codes' block. -/
def codesOut : Vec F S128x6144 .fp8e5m2 := View.canon (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).1
/-- The scales' block: the scratch transposed, its first 96 columns. -/
def scalesOut : Vec F S128x96 .f32 := k0_pay7 (View.canon (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2)
/-- The packed positions' block. -/
def metaOut : Vec F S128x1536 .i8 := View.canon (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.1

/-- The pieces of the codes cover their block. -/
theorem codes_cover (y : S128x6144.Idx) : ∃ p ∈ (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).1, y ∈ p.1.set :=
  View.cover_of_tiledL (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).1 S32x128.size (by sl_kernel_rfl) y

/-- The pieces of the packed positions cover their block. -/
theorem meta_cover (y : S128x1536.Idx) : ∃ p ∈ (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.1, y ∈ p.1.set :=
  View.cover_of_tiledL (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.1 S32x128.size (by sl_kernel_rfl) y

/-- The last 32 rows of the scales' scratch, four at a time. -/
def restRows (F : FTy → Type) [FloatOps F] : List (View.Piece (Elt F) S128x128 .f32) :=
  [⟨Rect.unit (s := S128x128) ![96, 0] S4x128.size (by decide), fun _ => FloatOps.ofBits .f32 0⟩, ⟨Rect.unit (s := S128x128) ![100, 0] S4x128.size (by decide), fun _ => FloatOps.ofBits .f32 0⟩, ⟨Rect.unit (s := S128x128) ![104, 0] S4x128.size (by decide), fun _ => FloatOps.ofBits .f32 0⟩, ⟨Rect.unit (s := S128x128) ![108, 0] S4x128.size (by decide), fun _ => FloatOps.ofBits .f32 0⟩, ⟨Rect.unit (s := S128x128) ![112, 0] S4x128.size (by decide), fun _ => FloatOps.ofBits .f32 0⟩, ⟨Rect.unit (s := S128x128) ![116, 0] S4x128.size (by decide), fun _ => FloatOps.ofBits .f32 0⟩, ⟨Rect.unit (s := S128x128) ![120, 0] S4x128.size (by decide), fun _ => FloatOps.ofBits .f32 0⟩, ⟨Rect.unit (s := S128x128) ![124, 0] S4x128.size (by decide), fun _ => FloatOps.ofBits .f32 0⟩]

/-- The pieces of the scales' scratch cover its first 96 rows. -/
theorem scales_cover (y : S128x128.Idx) (hy : (y 0).val < 96) : ∃ p ∈ (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2, y ∈ p.1.set := by
  obtain ⟨p, hp, hm⟩ := View.cover_of_tiledL (restRows F ++ (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2) S4x128.size (by sl_kernel_rfl) y
  rcases List.mem_append.mp hp with h | h
  · exfalso
    simp only [restRows, List.mem_cons, List.not_mem_nil, or_false] at h
    rcases h with rfl | rfl | rfl | rfl | rfl | rfl | rfl | rfl <;>
    · dsimp only at hm
      have h0 := (Rect.mem_set_unit.mp hm 0).1
      simp only [Matrix.cons_val_zero] at h0
      omega
  · exact ⟨p, h, hm⟩

/-- What the scratch held before the point does not show in the scales. -/
theorem scales_read (g : BufTy.Contents (Elt F) arg13.view.ty) :
    k0_pay7 (arg13.view.readAt (Elt F) (Rect.unit (s := S128x128) ![0, 0] S128x128.size inb_S128x128_S128x128_0_0).toLoadRect
      (arg13.view.writes (Elt F) g (pieces c i arg1 harg1 arg2 harg2 arg3 harg3 arg4 harg4 arg5 harg5 arg6 harg6 arg7 harg7 arg8 harg8 arg9 harg9 arg10 harg10 arg11 harg11 arg12 harg12 arg13 harg13 (harg1.unread x1) (harg2.unread x2) (harg6.unread k0_pay1) k0_t1_loop.trips).2.2)) = scalesOut c i arg1 harg1 arg2 harg2 arg3 harg3 arg4 harg4 arg5 harg5 arg6 harg6 arg7 harg7 arg8 harg8 arg9 harg9 arg10 harg10 arg11 harg11 arg12 harg12 arg13 harg13 x1 x2 := by
  rw [View.readAt_full]
  unfold scalesOut k0_pay7
  funext y
  refine View.read_writes_apply_eq_canon _ _ _ _ (scales_cover c i arg1 harg1 arg2 harg2 arg3 harg3 arg4 harg4 arg5 harg5 arg6 harg6 arg7 harg7 arg8 harg8 arg9 harg9 arg10 harg10 arg11 harg11 arg12 harg12 arg13 harg13 x1 x2 _ ?_)
  have h1 : (y 1).val < 96 := (y 1).isLt
  refine lt_of_le_of_lt (le_of_eq ?_) h1
  exact (congrArg Fin.val (Shape.Transposes.src_apply_val transposes_S128x128_p1_0_S128x128 _ 0)).trans (Nat.zero_add _)

/-- One grid point: from the gradient block `x1` and the random words `x2`, each result's block at its function. -/
theorem body_post (E : Set ℕ) (x6 : Vec F S512x512 .bf16) (h6 : ¬ first i → x6 = k0_pay1) :
    (iprop(owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) : sProp (MT nD τ sig Unit (Elt F) ℕ (UR sig nD τ) ℕ))
      ⊢ wp frame (wpE (defs₀ (F := F)) Variants.none (c : Thread nD τ) none) E (cc0__body (F := F) i arg1 harg1 arg2 harg2 arg3 harg3 arg4 harg4 arg5 harg5 arg6 harg6 arg7 harg7 arg8 harg8 arg9 harg9 arg10 harg10 arg11 harg11 arg12 harg12 arg13 harg13)
          (fun _ => iprop(owns (c : Thread nD τ) arg1 fullShare x1 ∗ owns (c : Thread nD τ) arg2 fullShare x2
            ∗ owns (c : Thread nD τ) arg3 fullShare (codesOut c i arg1 harg1 arg2 harg2 arg3 harg3 arg4 harg4 arg5 harg5 arg6 harg6 arg7 harg7 arg8 harg8 arg9 harg9 arg10 harg10 arg11 harg11 arg12 harg12 arg13 harg13 x1 x2)
            ∗ owns (c : Thread nD τ) arg4 fullShare (scalesOut c i arg1 harg1 arg2 harg2 arg3 harg3 arg4 harg4 arg5 harg5 arg6 harg6 arg7 harg7 arg8 harg8 arg9 harg9 arg10 harg10 arg11 harg11 arg12 harg12 arg13 harg13 x1 x2)
            ∗ owns (c : Thread nD τ) arg5 fullShare (metaOut c i arg1 harg1 arg2 harg2 arg3 harg3 arg4 harg4 arg5 harg5 arg6 harg6 arg7 harg7 arg8 harg8 arg9 harg9 arg10 harg10 arg11 harg11 arg12 harg12 arg13 harg13 x1 x2)
            ∗ owns (c : Thread nD τ) arg6 fullShare k0_pay1 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))) := by
  iintro H
  iapply (wp_wand_r Idealize.ShloMosaic.frame (wpE (defs₀ (F := F)) Variants.none (c : Thread nD τ) none) E)
  isplitl [H]
  · iapply (body_run c i arg1 harg1 arg2 harg2 arg3 harg3 arg4 harg4 arg5 harg5 arg6 harg6 arg7 harg7 arg8 harg8 arg9 harg9 arg10 harg10 arg11 harg11 arg12 harg12 arg13 harg13 E x1 x2 x6 h6); iexact H
  · iintro %_ ⟨H1, H2, ⟨%f3, H3⟩, ⟨%f4, %g, H4⟩, ⟨%f5, H5⟩, H6, HR⟩
    isplitl [H1]; · iexact H1
    isplitl [H2]; · iexact H2
    isplitl [H3]
    · unfold owns; iexists _; isplitr; swap; iexact H3; ipureintro
      exact View.read_writes_eq_canon _ _ _ (codes_cover c i arg1 harg1 arg2 harg2 arg3 harg3 arg4 harg4 arg5 harg5 arg6 harg6 arg7 harg7 arg8 harg8 arg9 harg9 arg10 harg10 arg11 harg11 arg12 harg12 arg13 harg13 x1 x2)
    isplitl [H4]
    · unfold owns; iexists _; isplitr; swap; iexact H4; ipureintro
      rw [View.read_writes_full]; exact scales_read c i arg1 harg1 arg2 harg2 arg3 harg3 arg4 harg4 arg5 harg5 arg6 harg6 arg7 harg7 arg8 harg8 arg9 harg9 arg10 harg10 arg11 harg11 arg12 harg12 arg13 harg13 x1 x2 g
    isplitl [H5]
    · unfold owns; iexists _; isplitr; swap; iexact H5; ipureintro
      exact View.read_writes_eq_canon _ _ _ (meta_cover c i arg1 harg1 arg2 harg2 arg3 harg3 arg4 harg4 arg5 harg5 arg6 harg6 arg7 harg7 arg8 harg8 arg9 harg9 arg10 harg10 arg11 harg11 arg12 harg12 arg13 harg13 x1 x2)
    isplitl [H6]; · iexact H6
    iexact HR

end Cert.Proof.KernelIdeal

end
-- ==== Proof.KI.Frame.lean ====
/- The kernel's run: the pipeline's proof data, the body's obligation at every grid point, and the frame.

   Before the first grid point every scratch buffer holds anything; after it the permutation's buffer holds the
   permutation matrix, the other scratch buffers still anything. -/
module

public import proofs.«01_k».proof.Proof.KI.Block
public import Idealize.ShloMosaic.Lib.Claim

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev ms0 (t : Fin cfg0.N) : Memref sig .tc .vmem S128x12288 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x3072 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x6144 .fp8e5m2 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1536 .i8 := win0_4.stage (cfg0.slots t 4)
abbrev hs4 (t : Fin cfg0.N) : (ms4 t).IsWhole := hstage0_4 ((cfg0.slots t 4).cast nbuf0_4)
abbrev scM0 : Memref sig .tc .vmem S512x512 .bf16 := Memref.whole cc0_scratch0
abbrev scM1 : Memref sig .tc .vmem S2x128x128 .f32 := Memref.whole cc0_scratch1
abbrev scM2 : Memref sig .tc .vmem S2x128x128 .f32 := Memref.whole cc0_scratch2
abbrev scM3 : Memref sig .tc .vmem S2x128x128 .f32 := Memref.whole cc0_scratch3
abbrev scM4 : Memref sig .tc .vmem S2x128x128 .f32 := Memref.whole cc0_scratch4
abbrev scM5 : Memref sig .tc .vmem S2x128x128 .f32 := Memref.whole cc0_scratch5
abbrev scM6 : Memref sig .tc .vmem S2x32x128 .i32 := Memref.whole cc0_scratch6
abbrev scM7 : Memref sig .tc .vmem S128x128 .f32 := Memref.whole cc0_scratch7

variable (m : (ℓ : Loc nD τ sig) → Buf (Elt F) ℓ) (ρ : Dev nD → PrngReg)

/-- The scratch buffers at some contents each, and the generator register. -/
theorem PhiA_eq (c : Dev nD) :
    (Pipeline.ΦA spec0 c : sProp (MT nD τ sig Unit (Elt F) ℕ (UR sig nD τ) ℕ)) = iprop(((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) := by
  unfold Pipeline.ΦA; rw [scopedRest0_eq]; simp only [scM0, scM1, scM2, scM3, scM4, scM5, scM6, scM7, owns_whole]; try rfl

/-- The invariant before point `n`: the permutation's buffer at the permutation matrix once a point has run. -/
def Phi (c : Dev nD) : ℕ → sProp (MT nD τ sig Unit (Elt F) ℕ (UR sig nD τ) ℕ)
  | 0 => Pipeline.ΦA spec0 c
  | _ + 1 => iprop((owns (c : Thread nD τ) scM0 fullShare k0_pay1 ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r))

/-- The codes, the scales and the packed positions after the body at point `t`. -/
def codesOutAt (c : Dev nD) (t : Fin cfg0.N) : Vec F S128x6144 .fp8e5m2 :=
  codesOut c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (iblk m c 0 t) (iblk m c 1 t)
def scalesOutAt (c : Dev nD) (t : Fin cfg0.N) : Vec F S128x96 .f32 :=
  scalesOut c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (iblk m c 0 t) (iblk m c 1 t)
def metaOutAt (c : Dev nD) (t : Fin cfg0.N) : Vec F S128x1536 .i8 :=
  metaOut c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (iblk m c 0 t) (iblk m c 1 t)

/-- The pipeline's proof data: the arrays as the region finds them; after the body each input's buffer at its block and
    each result's at its block's value; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesOutAt m c t
    | ⟨3, _⟩ => scalesOutAt m c t
    | ⟨4, _⟩ => metaOutAt m c t
  Φ t := Phi c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codesOutAt m c t := by dsimp only [dats]
theorem after0_3 (c : Dev nD) (t : Fin cfg0.N) : (dats m 0 c).after 3 t = scalesOutAt m c t := by dsimp only [dats]
theorem after0_4 (c : Dev nD) (t : Fin cfg0.N) : (dats m 0 c).after 4 t = metaOutAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2, after0_3, after0_4,
    show (dats m 0 c).Φ t.succ = Phi c (t.val + 1) from rfl,
    show (dats m 0 c).Φ t.castSucc = Phi c t.val from rfl]
  have hN : t.val < 16 := lt_of_lt_of_eq t.isLt (show cfg0.N = 16 from N_0)
  obtain ⟨P, h6, hΦ⟩ : ∃ P : Vec F S512x512 .bf16 → Prop, (∀ x, P x → ¬ first (grid0.coords t) → x = k0_pay1) ∧
      ((Phi c t.val : sProp (MT nD τ sig Unit (Elt F) ℕ (UR sig nD τ) ℕ)) ⊢ iprop(((∃ d, ⌜P d⌝ ∗ owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r))) := by
    rcases hn : t.val with _ | n
    · refine ⟨fun _ => True, fun _ _ h => absurd ((first_iff t).mpr (by omega)) h, ?_⟩
      rw [show (Phi c 0 : sProp (MT nD τ sig Unit (Elt F) ℕ (UR sig nD τ) ℕ)) = Pipeline.ΦA spec0 c from rfl, PhiA_eq]
      iintro ⟨⟨⟨%d, H0⟩, HR⟩, Hg⟩
      isplitl [H0 HR]
      · isplitl [H0]
        · iexists d; isplitr; · ipureintro; trivial
          iexact H0
        iexact HR
      iexact Hg
    · refine ⟨fun d => d = k0_pay1, fun _ h _ => h, ?_⟩
      rw [show (Phi c (n + 1) : sProp (MT nD τ sig Unit (Elt F) ℕ (UR sig nD τ) ℕ)) = iprop((owns (c : Thread nD τ) scM0 fullShare k0_pay1 ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) from rfl]
      iintro ⟨⟨H0, HR⟩, Hg⟩
      isplitl [H0 HR]
      · isplitl [H0]
        · iexists _; isplitr; swap; iexact H0; ipureintro; exact rfl
        iexact HR
      iexact Hg
  rw [show (Phi c (t.val + 1) : sProp (MT nD τ sig Unit (Elt F) ℕ (UR sig nD τ) ℕ)) = iprop((owns (c : Thread nD τ) scM0 fullShare k0_pay1 ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) from rfl]
  iintro ⟨HΦ, Ho, ⟨%d0, H0⟩, ⟨%d1, H1⟩, ⟨%d2, H2⟩, ⟨%d3, H3⟩, ⟨%d4, H4⟩⟩
  ihave HΦ' := hΦ $$ HΦ
  icases HΦ' with ⟨⟨⟨%d, %hd, HS0⟩, HS1, HS2, HS3, HS4, HS5, HS6, HS7⟩, Hg⟩
  iapply (wp_wand_r Idealize.ShloMosaic.frame (wpE (defs₀ (F := F)) Variants.none (c : Thread nD τ) none) Set.univ)
  isplitl [H0 H1 H2 H3 H4 HS0 HS1 HS2 HS3 HS4 HS5 HS6 HS7]
  · iapply (body_post c (grid0.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) scM3 (Memref.isWhole_whole _) scM4 (Memref.isWhole_whole _) scM5 (Memref.isWhole_whole _) scM6 (Memref.isWhole_whole _) scM7 (Memref.isWhole_whole _) (iblk m c 0 t) (iblk m c 1 t) Set.univ d (h6 d hd))
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  · iintro %_ ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After a point the invariant gives the scratch buffers back. -/
theorem Phi_out (c : Dev nD) (t : Fin (cfg0.N + 1)) (ht : t.val ≠ 0) : (dats m 0 c).Φ t ⊢ Pipeline.ΦA spec0 c := by
  rw [show (dats m 0 c).Φ t = Phi c t.val from rfl, PhiA_eq]
  obtain ⟨n, hn⟩ : ∃ n, t.val = n + 1 := ⟨t.val - 1, by omega⟩
  rw [hn, show (Phi c (n + 1) : sProp (MT nD τ sig Unit (Elt F) ℕ (UR sig nD τ) ℕ)) = iprop((owns (c : Thread nD τ) scM0 fullShare k0_pay1 ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r)) from rfl]
  iintro ⟨⟨HS0, HR⟩, Hg⟩
  isplitl [HS0 HR]
  · isplitl [HS0]
    · iexists _; iexact HS0
    iexact HR
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The run: every array of the pipeline ends at what the proof data says, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the program terminates, leaves its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.KI.Select.lean ====
/- What the kernel computes of one group of four values and one random word, as scalar functions.

   The kernel works on negated magnitudes. Each function below is one line of its selection, at one element; the last six
   are what it keeps in its planes. -/
module

public import proofs.«01_k».proof.Proof.KI.Frame

@[expose] public section

set_option maxRecDepth 16384

noncomputable section

namespace Cert.Proof.KernelIdeal

open Idealize.ShloMosaic

variable {F : FTy → Type} [FloatOps F]

/-- The negated magnitude. -/
def sNeg (a : F .f32) : F .f32 := FloatOps.subf (FloatOps.ofBits .f32 0x00000000#32) (FloatOps.absf a)
/-- The sum of the first two negated magnitudes. -/
def sC2 (a0 a1 : F .f32) : F .f32 := FloatOps.addf (sNeg a0) (sNeg a1)
/-- The sum of the first three. -/
def sC3 (a0 a1 a2 : F .f32) : F .f32 := FloatOps.addf (sC2 a0 a1) (sNeg a2)
/-- The sum of all four. -/
def sTot (a0 a1 a2 a3 : F .f32) : F .f32 := FloatOps.addf (sC3 a0 a1 a2) (sNeg a3)
/-- The larger of the two kept magnitudes, negated: the largest magnitude, or half the total where that is more. -/
def sBig (a0 a1 a2 a3 : F .f32) : F .f32 :=
  FloatOps.minimumf (FloatOps.minimumf (FloatOps.minimumf (sNeg a0) (sNeg a1)) (FloatOps.minimumf (sNeg a2) (sNeg a3)))
    (FloatOps.mulf (sTot a0 a1 a2 a3) (FloatOps.ofBits .f32 0x3F000000#32))
/-- The smaller of the two: the rest of the total. -/
def sSmall (a0 a1 a2 a3 : F .f32) : F .f32 := FloatOps.subf (sTot a0 a1 a2 a3) (sBig a0 a1 a2 a3)
/-- The first threshold: the random fraction of the smaller magnitude. -/
def sT1 (a0 a1 a2 a3 : F .f32) (w : BitVec 32) : F .f32 :=
  FloatOps.mulf (FloatOps.mulf (FloatOps.sitofp .f32 (IntOp.shrui .vector w 8#32)) (FloatOps.ofBits .f32 0x33800000#32))
    (sSmall a0 a1 a2 a3)
/-- The second threshold. -/
def sT2 (a0 a1 a2 a3 : F .f32) (w : BitVec 32) : F .f32 := FloatOps.addf (sT1 a0 a1 a2 a3 w) (sBig a0 a1 a2 a3)
/-- `x` is at least the threshold `t`, and the weight `v` behind the threshold is not zero. -/
def sLe (x t v : F .f32) : BitVec 1 :=
  IntOp.andi (FloatOps.cmpf .oge x t) (FloatOps.cmpf .olt v (FloatOps.ofBits .f32 0x00000000#32))
/-- The lower position is past the first value. -/
def sF1 (a0 a1 a2 a3 : F .f32) (w : BitVec 32) : BitVec 1 := sLe (sNeg a0) (sT1 a0 a1 a2 a3 w) (sSmall a0 a1 a2 a3)
/-- The lower position is past the second value. -/
def sF2 (a0 a1 a2 a3 : F .f32) (w : BitVec 32) : BitVec 1 := sLe (sC2 a0 a1) (sT1 a0 a1 a2 a3 w) (sSmall a0 a1 a2 a3)
/-- The higher position is past the second value. -/
def sG2 (a0 a1 a2 a3 : F .f32) (w : BitVec 32) : BitVec 1 :=
  IntOp.andi
    (IntOp.andi (sLe (sC2 a0 a1) (sT2 a0 a1 a2 a3 w) (sBig a0 a1 a2 a3))
      (IntOp.ori (sF1 a0 a1 a2 a3 w) (FloatOps.cmpf .ogt (sNeg a1) (sBig a0 a1 a2 a3))))
    (IntOp.ori (sLe (sNeg a1) (sT1 a0 a1 a2 a3 w) (sSmall a0 a1 a2 a3))
      (FloatOps.cmpf .ogt (sNeg a0) (sBig a0 a1 a2 a3)))
/-- The higher position is the last. -/
def sG3 (a0 a1 a2 a3 : F .f32) (w : BitVec 32) : BitVec 1 :=
  IntOp.andi (IntOp.andi (sLe (sC3 a0 a1 a2) (sT2 a0 a1 a2 a3 w) (sBig a0 a1 a2 a3)) (sG2 a0 a1 a2 a3 w))
    (IntOp.ori (sF2 a0 a1 a2 a3 w) (FloatOps.cmpf .ogt (sNeg a2) (sBig a0 a1 a2 a3)))
/-- The value at the lower position. -/
def sPlo (a0 a1 a2 a3 : F .f32) (w : BitVec 32) : F .f32 :=
  Scalar.select (sF2 a0 a1 a2 a3 w) a2 (Scalar.select (sF1 a0 a1 a2 a3 w) a1 a0)
/-- The value at the higher position. -/
def sPhi (a0 a1 a2 a3 : F .f32) (w : BitVec 32) : F .f32 :=
  Scalar.select (sG3 a0 a1 a2 a3 w) a3 (Scalar.select (sG2 a0 a1 a2 a3 w) a2 a1)
/-- The two positions, two bits each. -/
def sField (a0 a1 a2 a3 : F .f32) (w : BitVec 32) : BitVec 8 :=
  (IntOp.ori (Scalar.select (sF2 a0 a1 a2 a3 w) (2#32) (Scalar.select (sF1 a0 a1 a2 a3 w) (1#32) (0#32)))
    (Scalar.select (sG3 a0 a1 a2 a3 w) (12#32) (Scalar.select (sG2 a0 a1 a2 a3 w) (8#32) (4#32)))).setWidth 8
/-- The higher position holds a zero. -/
def sHz (a0 a1 a2 a3 : F .f32) (w : BitVec 32) : BitVec 1 :=
  IntOp.andi (sG3 a0 a1 a2 a3 w) (FloatOps.cmpf .oeq a3 (FloatOps.ofBits .f32 0x00000000#32))
/-- The lower position holds the larger magnitude. -/
def sLm (a0 a1 a2 a3 : F .f32) (w : BitVec 32) : BitVec 1 :=
  IntOp.ori (FloatOps.cmpf .ole (sNeg (sPlo a0 a1 a2 a3 w)) (sBig a0 a1 a2 a3)) (sHz a0 a1 a2 a3 w)
/-- The smaller magnitude, or zero beside a position that holds a zero. -/
def sSm' (a0 a1 a2 a3 : F .f32) (w : BitVec 32) : F .f32 :=
  Scalar.select
    (IntOp.ori (sHz a0 a1 a2 a3 w)
      (IntOp.andi (sF2 a0 a1 a2 a3 w) (FloatOps.cmpf .oeq a2 (FloatOps.ofBits .f32 0x00000000#32))))
    (FloatOps.ofBits .f32 0x00000000#32) (sSmall a0 a1 a2 a3)
/-- The magnitude at the lower position. -/
def sMlo (a0 a1 a2 a3 : F .f32) (w : BitVec 32) : F .f32 :=
  Scalar.select (sLm a0 a1 a2 a3 w) (sBig a0 a1 a2 a3) (sSm' a0 a1 a2 a3 w)
/-- The magnitude at the higher position. -/
def sMhi (a0 a1 a2 a3 : F .f32) (w : BitVec 32) : F .f32 :=
  Scalar.select (sLm a0 a1 a2 a3 w) (sSm' a0 a1 a2 a3 w) (sBig a0 a1 a2 a3)

end Cert.Proof.KernelIdeal

end
-- ==== Proof.KI.Planes.lean ====
/- The kernel's planes after one trip's selections: what each stored block holds, element by element.

   A trip takes two chunks of 128 groups; a chunk is handled in four strips of 32 rows. The values a strip works on are
   cut out of the chunk's permuted matrix, 128 columns to each of the four places of a group. -/
module

public import proofs.«01_k».proof.Proof.KI.Select

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

variable (arg1 : Memref sig .tc .vmem S128x12288 .bf16) (arg2 : Memref sig .tc .vmem S128x3072 .i32)
variable (arg6 : Memref sig .tc .vmem S512x512 .bf16)
variable (X1 : BufTy.Contents (Elt F) arg1.view.ty) (X2 : BufTy.Contents (Elt F) arg2.view.ty)
variable (X6 : BufTy.Contents (Elt F) arg6.view.ty) (k : Fin k0_t1_loop.trips)

/-- Strip `s` of place `i` of a chunk's permuted matrix. -/
def cut (X : FVec F S128x512 .f32) (s i : Fin 4) : FVec F S32x128 .f32 :=
  fun j => X (ValueIdx.ix2 ⟨32 * s.val + (j 0).val, by have := (j 0).isLt; change (j 0).val < 32 at this; omega⟩
    ⟨128 * i.val + (j 1).val, by have := (j 1).isLt; change (j 1).val < 128 at this; omega⟩)

/-- The strip is what the slice takes. -/
theorem slice_eq_cut (X : FVec F S128x512 .f32) (s i : Fin 4) (off : Fin 2 → Nat) (h : S128x512.Slices off S32x128)
    (h0 : off 0 = 32 * s.val) (h1 : off 1 = 128 * i.val) : extractStridedSlice S32x128 off X h = cut X s i := by
  funext j
  refine congrArg X (funext fun a => ?_)
  match a with
  | ⟨0, _⟩ => exact Fin.ext (congrArg (· + (j 0).val) h0)
  | ⟨1, _⟩ => exact Fin.ext (congrArg (· + (j 1).val) h1)

/-- Chunk 1, strip 3: the block stored in plane `big`. -/
theorem big_1_3 : k0_pay287 (trip.sl.r_147 arg1 arg6 X1 X6 k) =
    shapeCast S1x32x128 (fun j => sBig (extractStridedSlice S32x128 ![96, 0] (trip.sl.r_80 arg1 arg6 X1 X6 k) slices_S128x512_o96_0_S32x128 j) (extractStridedSlice S32x128 ![96, 128] (trip.sl.r_80 arg1 arg6 X1 X6 k) slices_S128x512_o96_128_S32x128 j) (extractStridedSlice S32x128 ![96, 256] (trip.sl.r_80 arg1 arg6 X1 X6 k) slices_S128x512_o96_256_S32x128 j) (extractStridedSlice S32x128 ![96, 384] (trip.sl.r_80 arg1 arg6 X1 X6 k) slices_S128x512_o96_384_S32x128 j)) shapeCasts_S32x128_S1x32x128 := rfl

/-- Chunk 1, strip 2: the block stored in plane `big`. -/
theorem big_1_2 : k0_pay248 (trip.sl.r_131 arg1 arg6 X1 X6 k) =
    shapeCast S1x32x128 (fun j => sBig (extractStridedSlice S32x128 ![64, 0] (trip.sl.r_80 arg1 arg6 X1 X6 k) slices_S128x512_o64_0_S32x128 j) (extractStridedSlice S32x128 ![64, 128] (trip.sl.r_80 arg1 arg6 X1 X6 k) slices_S128x512_o64_128_S32x128 j) (extractStridedSlice S32x128 ![64, 256] (trip.sl.r_80 arg1 arg6 X1 X6 k) slices_S128x512_o64_256_S32x128 j) (extractStridedSlice S32x128 ![64, 384] (trip.sl.r_80 arg1 arg6 X1 X6 k) slices_S128x512_o64_384_S32x128 j)) shapeCasts_S32x128_S1x32x128 := rfl

/-- Chunk 1, strip 1: the block stored in plane `big`. -/
theorem big_1_1 : k0_pay215 (trip.sl.r_113 arg1 arg6 X1 X6 k) =
    shapeCast S1x32x128 (fun j => sBig (extractStridedSlice S32x128 ![32, 0] (trip.sl.r_80 arg1 arg6 X1 X6 k) slices_S128x512_o32_0_S32x128 j) (extractStridedSlice S32x128 ![32, 128] (trip.sl.r_80 arg1 arg6 X1 X6 k) slices_S128x512_o32_128_S32x128 j) (extractStridedSlice S32x128 ![32, 256] (trip.sl.r_80 arg1 arg6 X1 X6 k) slices_S128x512_o32_256_S32x128 j) (extractStridedSlice S32x128 ![32, 384] (trip.sl.r_80 arg1 arg6 X1 X6 k) slices_S128x512_o32_384_S32x128 j)) shapeCasts_S32x128_S1x32x128 := rfl

/-- Chunk 1, strip 0: the block stored in plane `big`. -/
theorem big_1_0 : k0_pay180 (trip.sl.r_89 arg1 arg6 X1 X6 k) =
    shapeCast S1x32x128 (fun j => sBig (extractStridedSlice S32x128 ![0, 0] (trip.sl.r_80 arg1 arg6 X1 X6 k) slices_S128x512_o0_0_S32x128 j) (extractStridedSlice S32x128 ![0, 128] (trip.sl.r_80 arg1 arg6 X1 X6 k) slices_S128x512_o0_128_S32x128 j) (extractStridedSlice S32x128 ![0, 256] (trip.sl.r_80 arg1 arg6 X1 X6 k) slices_S128x512_o0_256_S32x128 j) (extractStridedSlice S32x128 ![0, 384] (trip.sl.r_80 arg1 arg6 X1 X6 k) slices_S128x512_o0_384_S32x128 j)) shapeCasts_S32x128_S1x32x128 := rfl

/-- Chunk 0, strip 3: the block stored in plane `big`. -/
theorem big_0_3 : k0_pay143 (trip.sl.r_71 arg1 arg6 X1 X6 k) =
    shapeCast S1x32x128 (fun j => sBig (extractStridedSlice S32x128 ![96, 0] (trip.sl.r arg1 arg6 X1 X6 k) slices_S128x512_o96_0_S32x128 j) (extractStridedSlice S32x128 ![96, 128] (trip.sl.r arg1 arg6 X1 X6 k) slices_S128x512_o96_128_S32x128 j) (extractStridedSlice S32x128 ![96, 256] (trip.sl.r arg1 arg6 X1 X6 k) slices_S128x512_o96_256_S32x128 j) (extractStridedSlice S32x128 ![96, 384] (trip.sl.r arg1 arg6 X1 X6 k) slices_S128x512_o96_384_S32x128 j)) shapeCasts_S32x128_S1x32x128 := rfl

/-- Chunk 0, strip 2: the block stored in plane `big`. -/
theorem big_0_2 : k0_pay111 (trip.sl.r_47 arg1 arg6 X1 X6 k) =
    shapeCast S1x32x128 (fun j => sBig (extractStridedSlice S32x128 ![64, 0] (trip.sl.r arg1 arg6 X1 X6 k) slices_S128x512_o64_0_S32x128 j) (extractStridedSlice S32x128 ![64, 128] (trip.sl.r arg1 arg6 X1 X6 k) slices_S128x512_o64_128_S32x128 j) (extractStridedSlice S32x128 ![64, 256] (trip.sl.r arg1 arg6 X1 X6 k) slices_S128x512_o64_256_S32x128 j) (extractStridedSlice S32x128 ![64, 384] (trip.sl.r arg1 arg6 X1 X6 k) slices_S128x512_o64_384_S32x128 j)) shapeCasts_S32x128_S1x32x128 := rfl

/-- Chunk 0, strip 1: the block stored in plane `big`. -/
theorem big_0_1 : k0_pay72 (trip.sl.r_29 arg1 arg6 X1 X6 k) =
    shapeCast S1x32x128 (fun j => sBig (extractStridedSlice S32x128 ![32, 0] (trip.sl.r arg1 arg6 X1 X6 k) slices_S128x512_o32_0_S32x128 j) (extractStridedSlice S32x128 ![32, 128] (trip.sl.r arg1 arg6 X1 X6 k) slices_S128x512_o32_128_S32x128 j) (extractStridedSlice S32x128 ![32, 256] (trip.sl.r arg1 arg6 X1 X6 k) slices_S128x512_o32_256_S32x128 j) (extractStridedSlice S32x128 ![32, 384] (trip.sl.r arg1 arg6 X1 X6 k) slices_S128x512_o32_384_S32x128 j)) shapeCasts_S32x128_S1x32x128 := rfl

/-- Chunk 0, strip 0: the block stored in plane `big`. -/
theorem big_0_0 : k0_pay36 (trip.sl.r_11 arg1 arg6 X1 X6 k) =
    shapeCast S1x32x128 (fun j => sBig (extractStridedSlice S32x128 ![0, 0] (trip.sl.r arg1 arg6 X1 X6 k) slices_S128x512_o0_0_S32x128 j) (extractStridedSlice S32x128 ![0, 128] (trip.sl.r arg1 arg6 X1 X6 k) slices_S128x512_o0_128_S32x128 j) (extractStridedSlice S32x128 ![0, 256] (trip.sl.r arg1 arg6 X1 X6 k) slices_S128x512_o0_256_S32x128 j) (extractStridedSlice S32x128 ![0, 384] (trip.sl.r arg1 arg6 X1 X6 k) slices_S128x512_o0_384_S32x128 j)) shapeCasts_S32x128_S1x32x128 := rfl

/-- Chunk 1, strip 3: the block stored in plane `mlo`. -/
theorem mlo_1_3 : k0_pay288 (trip.sl.r_160 arg1 arg2 arg6 X1 X2 X6 k) =
    shapeCast S1x32x128 (fun j => sMlo (extractStridedSlice S32x128 ![96, 0] (trip.sl.r_80 arg1 arg6 X1 X6 k) slices_S128x512_o96_0_S32x128 j) (extractStridedSlice S32x128 ![96, 128] (trip.sl.r_80 arg1 arg6 X1 X6 k) slices_S128x512_o96_128_S32x128 j) (extractStridedSlice S32x128 ![96, 256] (trip.sl.r_80 arg1 arg6 X1 X6 k) slices_S128x512_o96_256_S32x128 j) (extractStridedSlice S32x128 ![96, 384] (trip.sl.r_80 arg1 arg6 X1 X6 k) slices_S128x512_o96_384_S32x128 j) (shapeCast S32x128 (View.readAt (Elt F) arg2.view (Rect.unit (s := S128x3072) (k0_off5 k 1#32) S32x128.size (k0_off5_inb k 1)).toLoadRect X2) shapeCasts_S32x128_S32x128 j)) shapeCasts_S32x128_S1x32x128 := rfl

/-- Chunk 1, strip 2: the block stored in plane `mlo`. -/
theorem mlo_1_2 : k0_pay249 (trip.sl.r_131 arg1 arg6 X1 X6 k) (trip.sl.r_132 arg1 arg6 X1 X6 k) (trip.sl.r_139 arg1 arg2 arg6 X1 X2 X6 k) (trip.sl.r_140 arg1 arg2 arg6 X1 X2 X6 k) (trip.sl.r_141 arg1 arg2 arg6 X1 X2 X6 k) =
    shapeCast S1x32x128 (fun j => sMlo (extractStridedSlice S32x128 ![64, 0] (trip.sl.r_80 arg1 arg6 X1 X6 k) slices_S128x512_o64_0_S32x128 j) (extractStridedSlice S32x128 ![64, 128] (trip.sl.r_80 arg1 arg6 X1 X6 k) slices_S128x512_o64_128_S32x128 j) (extractStridedSlice S32x128 ![64, 256] (trip.sl.r_80 arg1 arg6 X1 X6 k) slices_S128x512_o64_256_S32x128 j) (extractStridedSlice S32x128 ![64, 384] (trip.sl.r_80 arg1 arg6 X1 X6 k) slices_S128x512_o64_384_S32x128 j) (shapeCast S32x128 (View.readAt (Elt F) arg2.view (Rect.unit (s := S128x3072) (k0_off4 k 1#32) S32x128.size (k0_off4_inb k 1)).toLoadRect X2) shapeCasts_S32x128_S32x128 j)) shapeCasts_S32x128_S1x32x128 := rfl

/-- Chunk 1, strip 1: the block stored in plane `mlo`. -/
theorem mlo_1_1 : k0_pay216 (trip.sl.r_102 arg1 arg6 X1 X6 k) (trip.sl.r_103 arg1 arg6 X1 X6 k) (trip.sl.r_113 arg1 arg6 X1 X6 k) (trip.sl.r_114 arg1 arg6 X1 X6 k) (trip.sl.r_115 arg1 arg2 arg6 X1 X2 X6 k) (trip.sl.r_117 arg1 arg2 arg6 X1 X2 X6 k) (trip.sl.r_118 arg1 arg2 arg6 X1 X2 X6 k) =
    shapeCast S1x32x128 (fun j => sMlo (extractStridedSlice S32x128 ![32, 0] (trip.sl.r_80 arg1 arg6 X1 X6 k) slices_S128x512_o32_0_S32x128 j) (extractStridedSlice S32x128 ![32, 128] (trip.sl.r_80 arg1 arg6 X1 X6 k) slices_S128x512_o32_128_S32x128 j) (extractStridedSlice S32x128 ![32, 256] (trip.sl.r_80 arg1 arg6 X1 X6 k) slices_S128x512_o32_256_S32x128 j) (extractStridedSlice S32x128 ![32, 384] (trip.sl.r_80 arg1 arg6 X1 X6 k) slices_S128x512_o32_384_S32x128 j) (shapeCast S32x128 (View.readAt (Elt F) arg2.view (Rect.unit (s := S128x3072) (k0_off3 k 1#32) S32x128.size (k0_off3_inb k 1)).toLoadRect X2) shapeCasts_S32x128_S32x128 j)) shapeCasts_S32x128_S1x32x128 := rfl

/-- Chunk 1, strip 0: the block stored in plane `mlo`. -/
theorem mlo_1_0 : k0_pay181 (trip.sl.r_81 arg1 arg6 X1 X6 k) (trip.sl.r_82 arg1 arg6 X1 X6 k) (trip.sl.r_83 arg1 arg6 X1 X6 k) (trip.sl.r_84 arg1 arg6 X1 X6 k) (trip.sl.r_89 arg1 arg6 X1 X6 k) (trip.sl.r_90 arg1 arg6 X1 X6 k) (trip.sl.r_91 arg1 arg2 arg6 X1 X2 X6 k) (trip.sl.r_92 arg1 arg2 arg6 X1 X2 X6 k) (trip.sl.r_93 arg1 arg6 X1 X6 k) (trip.sl.r_95 arg1 arg2 arg6 X1 X2 X6 k) =
    shapeCast S1x32x128 (fun j => sMlo (extractStridedSlice S32x128 ![0, 0] (trip.sl.r_80 arg1 arg6 X1 X6 k) slices_S128x512_o0_0_S32x128 j) (extractStridedSlice S32x128 ![0, 128] (trip.sl.r_80 arg1 arg6 X1 X6 k) slices_S128x512_o0_128_S32x128 j) (extractStridedSlice S32x128 ![0, 256] (trip.sl.r_80 arg1 arg6 X1 X6 k) slices_S128x512_o0_256_S32x128 j) (extractStridedSlice S32x128 ![0, 384] (trip.sl.r_80 arg1 arg6 X1 X6 k) slices_S128x512_o0_384_S32x128 j) (shapeCast S32x128 (View.readAt (Elt F) arg2.view (Rect.unit (s := S128x3072) (k0_off2 k 1#32) S32x128.size (k0_off2_inb k 1)).toLoadRect X2) shapeCasts_S32x128_S32x128 j)) shapeCasts_S32x128_S1x32x128 := rfl

/-- Chunk 0, strip 3: the block stored in plane `mlo`. -/
theorem mlo_0_3 : k0_pay144 (trip.sl.r_64 arg1 arg6 X1 X6 k) (trip.sl.r_65 arg1 arg6 X1 X6 k) (trip.sl.r_71 arg1 arg6 X1 X6 k) (trip.sl.r_72 arg1 arg6 X1 X6 k) (trip.sl.r_74 arg1 arg2 arg6 X1 X2 X6 k) (trip.sl.r_76 arg1 arg2 arg6 X1 X2 X6 k) (trip.sl.r_77 arg1 arg2 arg6 X1 X2 X6 k) =
    shapeCast S1x32x128 (fun j => sMlo (extractStridedSlice S32x128 ![96, 0] (trip.sl.r arg1 arg6 X1 X6 k) slices_S128x512_o96_0_S32x128 j) (extractStridedSlice S32x128 ![96, 128] (trip.sl.r arg1 arg6 X1 X6 k) slices_S128x512_o96_128_S32x128 j) (extractStridedSlice S32x128 ![96, 256] (trip.sl.r arg1 arg6 X1 X6 k) slices_S128x512_o96_256_S32x128 j) (extractStridedSlice S32x128 ![96, 384] (trip.sl.r arg1 arg6 X1 X6 k) slices_S128x512_o96_384_S32x128 j) (shapeCast S32x128 (View.readAt (Elt F) arg2.view (Rect.unit (s := S128x3072) (k0_off5 k 0#32) S32x128.size (k0_off5_inb k 0)).toLoadRect X2) shapeCasts_S32x128_S32x128 j)) shapeCasts_S32x128_S1x32x128 := rfl

/-- Chunk 0, strip 2: the block stored in plane `mlo`. -/
theorem mlo_0_2 : k0_pay112 (trip.sl.r_60 arg1 arg2 arg6 X1 X2 X6 k) =
    shapeCast S1x32x128 (fun j => sMlo (extractStridedSlice S32x128 ![64, 0] (trip.sl.r arg1 arg6 X1 X6 k) slices_S128x512_o64_0_S32x128 j) (extractStridedSlice S32x128 ![64, 128] (trip.sl.r arg1 arg6 X1 X6 k) slices_S128x512_o64_128_S32x128 j) (extractStridedSlice S32x128 ![64, 256] (trip.sl.r arg1 arg6 X1 X6 k) slices_S128x512_o64_256_S32x128 j) (extractStridedSlice S32x128 ![64, 384] (trip.sl.r arg1 arg6 X1 X6 k) slices_S128x512_o64_384_S32x128 j) (shapeCast S32x128 (View.readAt (Elt F) arg2.view (Rect.unit (s := S128x3072) (k0_off4 k 0#32) S32x128.size (k0_off4_inb k 0)).toLoadRect X2) shapeCasts_S32x128_S32x128 j)) shapeCasts_S32x128_S1x32x128 := rfl

/-- Chunk 0, strip 1: the block stored in plane `mlo`. -/
theorem mlo_0_1 : k0_pay73 (trip.sl.r_29 arg1 arg6 X1 X6 k) (trip.sl.r_30 arg1 arg6 X1 X6 k) (trip.sl.r_38 arg1 arg2 arg6 X1 X2 X6 k) (trip.sl.r_39 arg1 arg2 arg6 X1 X2 X6 k) (trip.sl.r_40 arg1 arg2 arg6 X1 X2 X6 k) =
    shapeCast S1x32x128 (fun j => sMlo (extractStridedSlice S32x128 ![32, 0] (trip.sl.r arg1 arg6 X1 X6 k) slices_S128x512_o32_0_S32x128 j) (extractStridedSlice S32x128 ![32, 128] (trip.sl.r arg1 arg6 X1 X6 k) slices_S128x512_o32_128_S32x128 j) (extractStridedSlice S32x128 ![32, 256] (trip.sl.r arg1 arg6 X1 X6 k) slices_S128x512_o32_256_S32x128 j) (extractStridedSlice S32x128 ![32, 384] (trip.sl.r arg1 arg6 X1 X6 k) slices_S128x512_o32_384_S32x128 j) (shapeCast S32x128 (View.readAt (Elt F) arg2.view (Rect.unit (s := S128x3072) (k0_off3 k 0#32) S32x128.size (k0_off3_inb k 0)).toLoadRect X2) shapeCasts_S32x128_S32x128 j)) shapeCasts_S32x128_S1x32x128 := rfl

/-- Chunk 0, strip 0: the block stored in plane `mlo`. -/
theorem mlo_0_0 : k0_pay37 (trip.sl.r_3 arg1 arg6 X1 X6 k) (trip.sl.r_4 arg1 arg6 X1 X6 k) (trip.sl.r_11 arg1 arg6 X1 X6 k) (trip.sl.r_12 arg1 arg6 X1 X6 k) (trip.sl.r_13 arg1 arg2 arg6 X1 X2 X6 k) (trip.sl.r_14 arg1 arg2 arg6 X1 X2 X6 k) (trip.sl.r_15 arg1 arg2 arg6 X1 X2 X6 k) =
    shapeCast S1x32x128 (fun j => sMlo (extractStridedSlice S32x128 ![0, 0] (trip.sl.r arg1 arg6 X1 X6 k) slices_S128x512_o0_0_S32x128 j) (extractStridedSlice S32x128 ![0, 128] (trip.sl.r arg1 arg6 X1 X6 k) slices_S128x512_o0_128_S32x128 j) (extractStridedSlice S32x128 ![0, 256] (trip.sl.r arg1 arg6 X1 X6 k) slices_S128x512_o0_256_S32x128 j) (extractStridedSlice S32x128 ![0, 384] (trip.sl.r arg1 arg6 X1 X6 k) slices_S128x512_o0_384_S32x128 j) (shapeCast S32x128 (View.readAt (Elt F) arg2.view (Rect.unit (s := S128x3072) (k0_off2 k 0#32) S32x128.size (k0_off2_inb k 0)).toLoadRect X2) shapeCasts_S32x128_S32x128 j)) shapeCasts_S32x128_S1x32x128 := rfl

/-- Chunk 1, strip 3: the block stored in plane `mhi`. -/
theorem mhi_1_3 : k0_pay289 (trip.sl.r_161 arg1 arg2 arg6 X1 X2 X6 k) =
    shapeCast S1x32x128 (fun j => sMhi (extractStridedSlice S32x128 ![96, 0] (trip.sl.r_80 arg1 arg6 X1 X6 k) slices_S128x512_o96_0_S32x128 j) (extractStridedSlice S32x128 ![96, 128] (trip.sl.r_80 arg1 arg6 X1 X6 k) slices_S128x512_o96_128_S32x128 j) (extractStridedSlice S32x128 ![96, 256] (trip.sl.r_80 arg1 arg6 X1 X6 k) slices_S128x512_o96_256_S32x128 j) (extractStridedSlice S32x128 ![96, 384] (trip.sl.r_80 arg1 arg6 X1 X6 k) slices_S128x512_o96_384_S32x128 j) (shapeCast S32x128 (View.readAt (Elt F) arg2.view (Rect.unit (s := S128x3072) (k0_off5 k 1#32) S32x128.size (k0_off5_inb k 1)).toLoadRect X2) shapeCasts_S32x128_S32x128 j)) shapeCasts_S32x128_S1x32x128 := rfl

/-- Chunk 1, strip 2: the block stored in plane `mhi`. -/
theorem mhi_1_2 : k0_pay250 (trip.sl.r_131 arg1 arg6 X1 X6 k) (trip.sl.r_132 arg1 arg6 X1 X6 k) (trip.sl.r_139 arg1 arg2 arg6 X1 X2 X6 k) (trip.sl.r_140 arg1 arg2 arg6 X1 X2 X6 k) (trip.sl.r_141 arg1 arg2 arg6 X1 X2 X6 k) =
    shapeCast S1x32x128 (fun j => sMhi (extractStridedSlice S32x128 ![64, 0] (trip.sl.r_80 arg1 arg6 X1 X6 k) slices_S128x512_o64_0_S32x128 j) (extractStridedSlice S32x128 ![64, 128] (trip.sl.r_80 arg1 arg6 X1 X6 k) slices_S128x512_o64_128_S32x128 j) (extractStridedSlice S32x128 ![64, 256] (trip.sl.r_80 arg1 arg6 X1 X6 k) slices_S128x512_o64_256_S32x128 j) (extractStridedSlice S32x128 ![64, 384] (trip.sl.r_80 arg1 arg6 X1 X6 k) slices_S128x512_o64_384_S32x128 j) (shapeCast S32x128 (View.readAt (Elt F) arg2.view (Rect.unit (s := S128x3072) (k0_off4 k 1#32) S32x128.size (k0_off4_inb k 1)).toLoadRect X2) shapeCasts_S32x128_S32x128 j)) shapeCasts_S32x128_S1x32x128 := rfl

/-- Chunk 1, strip 1: the block stored in plane `mhi`. -/
theorem mhi_1_1 : k0_pay217 (trip.sl.r_102 arg1 arg6 X1 X6 k) (trip.sl.r_103 arg1 arg6 X1 X6 k) (trip.sl.r_113 arg1 arg6 X1 X6 k) (trip.sl.r_114 arg1 arg6 X1 X6 k) (trip.sl.r_115 arg1 arg2 arg6 X1 X2 X6 k) (trip.sl.r_117 arg1 arg2 arg6 X1 X2 X6 k) (trip.sl.r_118 arg1 arg2 arg6 X1 X2 X6 k) =
    shapeCast S1x32x128 (fun j => sMhi (extractStridedSlice S32x128 ![32, 0] (trip.sl.r_80 arg1 arg6 X1 X6 k) slices_S128x512_o32_0_S32x128 j) (extractStridedSlice S32x128 ![32, 128] (trip.sl.r_80 arg1 arg6 X1 X6 k) slices_S128x512_o32_128_S32x128 j) (extractStridedSlice S32x128 ![32, 256] (trip.sl.r_80 arg1 arg6 X1 X6 k) slices_S128x512_o32_256_S32x128 j) (extractStridedSlice S32x128 ![32, 384] (trip.sl.r_80 arg1 arg6 X1 X6 k) slices_S128x512_o32_384_S32x128 j) (shapeCast S32x128 (View.readAt (Elt F) arg2.view (Rect.unit (s := S128x3072) (k0_off3 k 1#32) S32x128.size (k0_off3_inb k 1)).toLoadRect X2) shapeCasts_S32x128_S32x128 j)) shapeCasts_S32x128_S1x32x128 := rfl

/-- Chunk 1, strip 0: the block stored in plane `mhi`. -/
theorem mhi_1_0 : k0_pay182 (trip.sl.r_99 arg1 arg2 arg6 X1 X2 X6 k) =
    shapeCast S1x32x128 (fun j => sMhi (extractStridedSlice S32x128 ![0, 0] (trip.sl.r_80 arg1 arg6 X1 X6 k) slices_S128x512_o0_0_S32x128 j) (extractStridedSlice S32x128 ![0, 128] (trip.sl.r_80 arg1 arg6 X1 X6 k) slices_S128x512_o0_128_S32x128 j) (extractStridedSlice S32x128 ![0, 256] (trip.sl.r_80 arg1 arg6 X1 X6 k) slices_S128x512_o0_256_S32x128 j) (extractStridedSlice S32x128 ![0, 384] (trip.sl.r_80 arg1 arg6 X1 X6 k) slices_S128x512_o0_384_S32x128 j) (shapeCast S32x128 (View.readAt (Elt F) arg2.view (Rect.unit (s := S128x3072) (k0_off2 k 1#32) S32x128.size (k0_off2_inb k 1)).toLoadRect X2) shapeCasts_S32x128_S32x128 j)) shapeCasts_S32x128_S1x32x128 := rfl

/-- Chunk 0, strip 3: the block stored in plane `mhi`. -/
theorem mhi_0_3 : k0_pay145 (trip.sl.r_64 arg1 arg6 X1 X6 k) (trip.sl.r_65 arg1 arg6 X1 X6 k) (trip.sl.r_71 arg1 arg6 X1 X6 k) (trip.sl.r_72 arg1 arg6 X1 X6 k) (trip.sl.r_74 arg1 arg2 arg6 X1 X2 X6 k) (trip.sl.r_76 arg1 arg2 arg6 X1 X2 X6 k) (trip.sl.r_77 arg1 arg2 arg6 X1 X2 X6 k) =
    shapeCast S1x32x128 (fun j => sMhi (extractStridedSlice S32x128 ![96, 0] (trip.sl.r arg1 arg6 X1 X6 k) slices_S128x512_o96_0_S32x128 j) (extractStridedSlice S32x128 ![96, 128] (trip.sl.r arg1 arg6 X1 X6 k) slices_S128x512_o96_128_S32x128 j) (extractStridedSlice S32x128 ![96, 256] (trip.sl.r arg1 arg6 X1 X6 k) slices_S128x512_o96_256_S32x128 j) (extractStridedSlice S32x128 ![96, 384] (trip.sl.r arg1 arg6 X1 X6 k) slices_S128x512_o96_384_S32x128 j) (shapeCast S32x128 (View.readAt (Elt F) arg2.view (Rect.unit (s := S128x3072) (k0_off5 k 0#32) S32x128.size (k0_off5_inb k 0)).toLoadRect X2) shapeCasts_S32x128_S32x128 j)) shapeCasts_S32x128_S1x32x128 := rfl

/-- Chunk 0, strip 2: the block stored in plane `mhi`. -/
theorem mhi_0_2 : k0_pay113 (trip.sl.r_61 arg1 arg2 arg6 X1 X2 X6 k) =
    shapeCast S1x32x128 (fun j => sMhi (extractStridedSlice S32x128 ![64, 0] (trip.sl.r arg1 arg6 X1 X6 k) slices_S128x512_o64_0_S32x128 j) (extractStridedSlice S32x128 ![64, 128] (trip.sl.r arg1 arg6 X1 X6 k) slices_S128x512_o64_128_S32x128 j) (extractStridedSlice S32x128 ![64, 256] (trip.sl.r arg1 arg6 X1 X6 k) slices_S128x512_o64_256_S32x128 j) (extractStridedSlice S32x128 ![64, 384] (trip.sl.r arg1 arg6 X1 X6 k) slices_S128x512_o64_384_S32x128 j) (shapeCast S32x128 (View.readAt (Elt F) arg2.view (Rect.unit (s := S128x3072) (k0_off4 k 0#32) S32x128.size (k0_off4_inb k 0)).toLoadRect X2) shapeCasts_S32x128_S32x128 j)) shapeCasts_S32x128_S1x32x128 := rfl

/-- Chunk 0, strip 1: the block stored in plane `mhi`. -/
theorem mhi_0_1 : k0_pay74 (trip.sl.r_29 arg1 arg6 X1 X6 k) (trip.sl.r_30 arg1 arg6 X1 X6 k) (trip.sl.r_38 arg1 arg2 arg6 X1 X2 X6 k) (trip.sl.r_39 arg1 arg2 arg6 X1 X2 X6 k) (trip.sl.r_40 arg1 arg2 arg6 X1 X2 X6 k) =
    shapeCast S1x32x128 (fun j => sMhi (extractStridedSlice S32x128 ![32, 0] (trip.sl.r arg1 arg6 X1 X6 k) slices_S128x512_o32_0_S32x128 j) (extractStridedSlice S32x128 ![32, 128] (trip.sl.r arg1 arg6 X1 X6 k) slices_S128x512_o32_128_S32x128 j) (extractStridedSlice S32x128 ![32, 256] (trip.sl.r arg1 arg6 X1 X6 k) slices_S128x512_o32_256_S32x128 j) (extractStridedSlice S32x128 ![32, 384] (trip.sl.r arg1 arg6 X1 X6 k) slices_S128x512_o32_384_S32x128 j) (shapeCast S32x128 (View.readAt (Elt F) arg2.view (Rect.unit (s := S128x3072) (k0_off3 k 0#32) S32x128.size (k0_off3_inb k 0)).toLoadRect X2) shapeCasts_S32x128_S32x128 j)) shapeCasts_S32x128_S1x32x128 := rfl

/-- Chunk 0, strip 0: the block stored in plane `mhi`. -/
theorem mhi_0_0 : k0_pay38 (trip.sl.r_3 arg1 arg6 X1 X6 k) (trip.sl.r_4 arg1 arg6 X1 X6 k) (trip.sl.r_11 arg1 arg6 X1 X6 k) (trip.sl.r_12 arg1 arg6 X1 X6 k) (trip.sl.r_13 arg1 arg2 arg6 X1 X2 X6 k) (trip.sl.r_14 arg1 arg2 arg6 X1 X2 X6 k) (trip.sl.r_15 arg1 arg2 arg6 X1 X2 X6 k) =
    shapeCast S1x32x128 (fun j => sMhi (extractStridedSlice S32x128 ![0, 0] (trip.sl.r arg1 arg6 X1 X6 k) slices_S128x512_o0_0_S32x128 j) (extractStridedSlice S32x128 ![0, 128] (trip.sl.r arg1 arg6 X1 X6 k) slices_S128x512_o0_128_S32x128 j) (extractStridedSlice S32x128 ![0, 256] (trip.sl.r arg1 arg6 X1 X6 k) slices_S128x512_o0_256_S32x128 j) (extractStridedSlice S32x128 ![0, 384] (trip.sl.r arg1 arg6 X1 X6 k) slices_S128x512_o0_384_S32x128 j) (shapeCast S32x128 (View.readAt (Elt F) arg2.view (Rect.unit (s := S128x3072) (k0_off2 k 0#32) S32x128.size (k0_off2_inb k 0)).toLoadRect X2) shapeCasts_S32x128_S32x128 j)) shapeCasts_S32x128_S1x32x128 := rfl

/-- Chunk 1, strip 3: the block stored in plane `plo`. -/
theorem plo_1_3 : k0_pay290 (trip.sl.r_157 arg1 arg2 arg6 X1 X2 X6 k) =
    shapeCast S1x32x128 (fun j => sPlo (extractStridedSlice S32x128 ![96, 0] (trip.sl.r_80 arg1 arg6 X1 X6 k) slices_S128x512_o96_0_S32x128 j) (extractStridedSlice S32x128 ![96, 128] (trip.sl.r_80 arg1 arg6 X1 X6 k) slices_S128x512_o96_128_S32x128 j) (extractStridedSlice S32x128 ![96, 256] (trip.sl.r_80 arg1 arg6 X1 X6 k) slices_S128x512_o96_256_S32x128 j) (extractStridedSlice S32x128 ![96, 384] (trip.sl.r_80 arg1 arg6 X1 X6 k) slices_S128x512_o96_384_S32x128 j) (shapeCast S32x128 (View.readAt (Elt F) arg2.view (Rect.unit (s := S128x3072) (k0_off5 k 1#32) S32x128.size (k0_off5_inb k 1)).toLoadRect X2) shapeCasts_S32x128_S32x128 j)) shapeCasts_S32x128_S1x32x128 := rfl

/-- Chunk 1, strip 2: the block stored in plane `plo`. -/
theorem plo_1_2 : k0_pay251 (trip.sl.r_136 arg1 arg2 arg6 X1 X2 X6 k) =
    shapeCast S1x32x128 (fun j => sPlo (extractStridedSlice S32x128 ![64, 0] (trip.sl.r_80 arg1 arg6 X1 X6 k) slices_S128x512_o64_0_S32x128 j) (extractStridedSlice S32x128 ![64, 128] (trip.sl.r_80 arg1 arg6 X1 X6 k) slices_S128x512_o64_128_S32x128 j) (extractStridedSlice S32x128 ![64, 256] (trip.sl.r_80 arg1 arg6 X1 X6 k) slices_S128x512_o64_256_S32x128 j) (extractStridedSlice S32x128 ![64, 384] (trip.sl.r_80 arg1 arg6 X1 X6 k) slices_S128x512_o64_384_S32x128 j) (shapeCast S32x128 (View.readAt (Elt F) arg2.view (Rect.unit (s := S128x3072) (k0_off4 k 1#32) S32x128.size (k0_off4_inb k 1)).toLoadRect X2) shapeCasts_S32x128_S32x128 j)) shapeCasts_S32x128_S1x32x128 := rfl

/-- Chunk 1, strip 1: the block stored in plane `plo`. -/
theorem plo_1_1 : k0_pay218 (trip.sl.r_118 arg1 arg2 arg6 X1 X2 X6 k) =
    shapeCast S1x32x128 (fun j => sPlo (extractStridedSlice S32x128 ![32, 0] (trip.sl.r_80 arg1 arg6 X1 X6 k) slices_S128x512_o32_0_S32x128 j) (extractStridedSlice S32x128 ![32, 128] (trip.sl.r_80 arg1 arg6 X1 X6 k) slices_S128x512_o32_128_S32x128 j) (extractStridedSlice S32x128 ![32, 256] (trip.sl.r_80 arg1 arg6 X1 X6 k) slices_S128x512_o32_256_S32x128 j) (extractStridedSlice S32x128 ![32, 384] (trip.sl.r_80 arg1 arg6 X1 X6 k) slices_S128x512_o32_384_S32x128 j) (shapeCast S32x128 (View.readAt (Elt F) arg2.view (Rect.unit (s := S128x3072) (k0_off3 k 1#32) S32x128.size (k0_off3_inb k 1)).toLoadRect X2) shapeCasts_S32x128_S32x128 j)) shapeCasts_S32x128_S1x32x128 := rfl

/-- Chunk 1, strip 0: the block stored in plane `plo`. -/
theorem plo_1_0 : k0_pay183 (trip.sl.r_96 arg1 arg2 arg6 X1 X2 X6 k) =
    shapeCast S1x32x128 (fun j => sPlo (extractStridedSlice S32x128 ![0, 0] (trip.sl.r_80 arg1 arg6 X1 X6 k) slices_S128x512_o0_0_S32x128 j) (extractStridedSlice S32x128 ![0, 128] (trip.sl.r_80 arg1 arg6 X1 X6 k) slices_S128x512_o0_128_S32x128 j) (extractStridedSlice S32x128 ![0, 256] (trip.sl.r_80 arg1 arg6 X1 X6 k) slices_S128x512_o0_256_S32x128 j) (extractStridedSlice S32x128 ![0, 384] (trip.sl.r_80 arg1 arg6 X1 X6 k) slices_S128x512_o0_384_S32x128 j) (shapeCast S32x128 (View.readAt (Elt F) arg2.view (Rect.unit (s := S128x3072) (k0_off2 k 1#32) S32x128.size (k0_off2_inb k 1)).toLoadRect X2) shapeCasts_S32x128_S32x128 j)) shapeCasts_S32x128_S1x32x128 := rfl

/-- Chunk 0, strip 3: the block stored in plane `plo`. -/
theorem plo_0_3 : k0_pay146 (trip.sl.r_77 arg1 arg2 arg6 X1 X2 X6 k) =
    shapeCast S1x32x128 (fun j => sPlo (extractStridedSlice S32x128 ![96, 0] (trip.sl.r arg1 arg6 X1 X6 k) slices_S128x512_o96_0_S32x128 j) (extractStridedSlice S32x128 ![96, 128] (trip.sl.r arg1 arg6 X1 X6 k) slices_S128x512_o96_128_S32x128 j) (extractStridedSlice S32x128 ![96, 256] (trip.sl.r arg1 arg6 X1 X6 k) slices_S128x512_o96_256_S32x128 j) (extractStridedSlice S32x128 ![96, 384] (trip.sl.r arg1 arg6 X1 X6 k) slices_S128x512_o96_384_S32x128 j) (shapeCast S32x128 (View.readAt (Elt F) arg2.view (Rect.unit (s := S128x3072) (k0_off5 k 0#32) S32x128.size (k0_off5_inb k 0)).toLoadRect X2) shapeCasts_S32x128_S32x128 j)) shapeCasts_S32x128_S1x32x128 := rfl

/-- Chunk 0, strip 2: the block stored in plane `plo`. -/
theorem plo_0_2 : k0_pay114 (trip.sl.r_57 arg1 arg2 arg6 X1 X2 X6 k) =
    shapeCast S1x32x128 (fun j => sPlo (extractStridedSlice S32x128 ![64, 0] (trip.sl.r arg1 arg6 X1 X6 k) slices_S128x512_o64_0_S32x128 j) (extractStridedSlice S32x128 ![64, 128] (trip.sl.r arg1 arg6 X1 X6 k) slices_S128x512_o64_128_S32x128 j) (extractStridedSlice S32x128 ![64, 256] (trip.sl.r arg1 arg6 X1 X6 k) slices_S128x512_o64_256_S32x128 j) (extractStridedSlice S32x128 ![64, 384] (trip.sl.r arg1 arg6 X1 X6 k) slices_S128x512_o64_384_S32x128 j) (shapeCast S32x128 (View.readAt (Elt F) arg2.view (Rect.unit (s := S128x3072) (k0_off4 k 0#32) S32x128.size (k0_off4_inb k 0)).toLoadRect X2) shapeCasts_S32x128_S32x128 j)) shapeCasts_S32x128_S1x32x128 := rfl

/-- Chunk 0, strip 1: the block stored in plane `plo`. -/
theorem plo_0_1 : k0_pay75 (trip.sl.r_35 arg1 arg2 arg6 X1 X2 X6 k) =
    shapeCast S1x32x128 (fun j => sPlo (extractStridedSlice S32x128 ![32, 0] (trip.sl.r arg1 arg6 X1 X6 k) slices_S128x512_o32_0_S32x128 j) (extractStridedSlice S32x128 ![32, 128] (trip.sl.r arg1 arg6 X1 X6 k) slices_S128x512_o32_128_S32x128 j) (extractStridedSlice S32x128 ![32, 256] (trip.sl.r arg1 arg6 X1 X6 k) slices_S128x512_o32_256_S32x128 j) (extractStridedSlice S32x128 ![32, 384] (trip.sl.r arg1 arg6 X1 X6 k) slices_S128x512_o32_384_S32x128 j) (shapeCast S32x128 (View.readAt (Elt F) arg2.view (Rect.unit (s := S128x3072) (k0_off3 k 0#32) S32x128.size (k0_off3_inb k 0)).toLoadRect X2) shapeCasts_S32x128_S32x128 j)) shapeCasts_S32x128_S1x32x128 := rfl

/-- Chunk 0, strip 0: the block stored in plane `plo`. -/
theorem plo_0_0 : k0_pay39 (trip.sl.r_15 arg1 arg2 arg6 X1 X2 X6 k) =
    shapeCast S1x32x128 (fun j => sPlo (extractStridedSlice S32x128 ![0, 0] (trip.sl.r arg1 arg6 X1 X6 k) slices_S128x512_o0_0_S32x128 j) (extractStridedSlice S32x128 ![0, 128] (trip.sl.r arg1 arg6 X1 X6 k) slices_S128x512_o0_128_S32x128 j) (extractStridedSlice S32x128 ![0, 256] (trip.sl.r arg1 arg6 X1 X6 k) slices_S128x512_o0_256_S32x128 j) (extractStridedSlice S32x128 ![0, 384] (trip.sl.r arg1 arg6 X1 X6 k) slices_S128x512_o0_384_S32x128 j) (shapeCast S32x128 (View.readAt (Elt F) arg2.view (Rect.unit (s := S128x3072) (k0_off2 k 0#32) S32x128.size (k0_off2_inb k 0)).toLoadRect X2) shapeCasts_S32x128_S32x128 j)) shapeCasts_S32x128_S1x32x128 := rfl

/-- Chunk 1, strip 3: the block stored in plane `phi`. -/
theorem phi_1_3 : k0_pay291 (trip.sl.r_158 arg1 arg2 arg6 X1 X2 X6 k) =
    shapeCast S1x32x128 (fun j => sPhi (extractStridedSlice S32x128 ![96, 0] (trip.sl.r_80 arg1 arg6 X1 X6 k) slices_S128x512_o96_0_S32x128 j) (extractStridedSlice S32x128 ![96, 128] (trip.sl.r_80 arg1 arg6 X1 X6 k) slices_S128x512_o96_128_S32x128 j) (extractStridedSlice S32x128 ![96, 256] (trip.sl.r_80 arg1 arg6 X1 X6 k) slices_S128x512_o96_256_S32x128 j) (extractStridedSlice S32x128 ![96, 384] (trip.sl.r_80 arg1 arg6 X1 X6 k) slices_S128x512_o96_384_S32x128 j) (shapeCast S32x128 (View.readAt (Elt F) arg2.view (Rect.unit (s := S128x3072) (k0_off5 k 1#32) S32x128.size (k0_off5_inb k 1)).toLoadRect X2) shapeCasts_S32x128_S32x128 j)) shapeCasts_S32x128_S1x32x128 := rfl

/-- Chunk 1, strip 2: the block stored in plane `phi`. -/
theorem phi_1_2 : k0_pay252 (trip.sl.r_137 arg1 arg2 arg6 X1 X2 X6 k) =
    shapeCast S1x32x128 (fun j => sPhi (extractStridedSlice S32x128 ![64, 0] (trip.sl.r_80 arg1 arg6 X1 X6 k) slices_S128x512_o64_0_S32x128 j) (extractStridedSlice S32x128 ![64, 128] (trip.sl.r_80 arg1 arg6 X1 X6 k) slices_S128x512_o64_128_S32x128 j) (extractStridedSlice S32x128 ![64, 256] (trip.sl.r_80 arg1 arg6 X1 X6 k) slices_S128x512_o64_256_S32x128 j) (extractStridedSlice S32x128 ![64, 384] (trip.sl.r_80 arg1 arg6 X1 X6 k) slices_S128x512_o64_384_S32x128 j) (shapeCast S32x128 (View.readAt (Elt F) arg2.view (Rect.unit (s := S128x3072) (k0_off4 k 1#32) S32x128.size (k0_off4_inb k 1)).toLoadRect X2) shapeCasts_S32x128_S32x128 j)) shapeCasts_S32x128_S1x32x128 := rfl

/-- Chunk 1, strip 1: the block stored in plane `phi`. -/
theorem phi_1_1 : k0_pay219 (trip.sl.r_119 arg1 arg2 arg6 X1 X2 X6 k) =
    shapeCast S1x32x128 (fun j => sPhi (extractStridedSlice S32x128 ![32, 0] (trip.sl.r_80 arg1 arg6 X1 X6 k) slices_S128x512_o32_0_S32x128 j) (extractStridedSlice S32x128 ![32, 128] (trip.sl.r_80 arg1 arg6 X1 X6 k) slices_S128x512_o32_128_S32x128 j) (extractStridedSlice S32x128 ![32, 256] (trip.sl.r_80 arg1 arg6 X1 X6 k) slices_S128x512_o32_256_S32x128 j) (extractStridedSlice S32x128 ![32, 384] (trip.sl.r_80 arg1 arg6 X1 X6 k) slices_S128x512_o32_384_S32x128 j) (shapeCast S32x128 (View.readAt (Elt F) arg2.view (Rect.unit (s := S128x3072) (k0_off3 k 1#32) S32x128.size (k0_off3_inb k 1)).toLoadRect X2) shapeCasts_S32x128_S32x128 j)) shapeCasts_S32x128_S1x32x128 := rfl

/-- Chunk 1, strip 0: the block stored in plane `phi`. -/
theorem phi_1_0 : k0_pay184 (trip.sl.r_97 arg1 arg2 arg6 X1 X2 X6 k) =
    shapeCast S1x32x128 (fun j => sPhi (extractStridedSlice S32x128 ![0, 0] (trip.sl.r_80 arg1 arg6 X1 X6 k) slices_S128x512_o0_0_S32x128 j) (extractStridedSlice S32x128 ![0, 128] (trip.sl.r_80 arg1 arg6 X1 X6 k) slices_S128x512_o0_128_S32x128 j) (extractStridedSlice S32x128 ![0, 256] (trip.sl.r_80 arg1 arg6 X1 X6 k) slices_S128x512_o0_256_S32x128 j) (extractStridedSlice S32x128 ![0, 384] (trip.sl.r_80 arg1 arg6 X1 X6 k) slices_S128x512_o0_384_S32x128 j) (shapeCast S32x128 (View.readAt (Elt F) arg2.view (Rect.unit (s := S128x3072) (k0_off2 k 1#32) S32x128.size (k0_off2_inb k 1)).toLoadRect X2) shapeCasts_S32x128_S32x128 j)) shapeCasts_S32x128_S1x32x128 := rfl

/-- Chunk 0, strip 3: the block stored in plane `phi`. -/
theorem phi_0_3 : k0_pay147 (trip.sl.r_78 arg1 arg2 arg6 X1 X2 X6 k) =
    shapeCast S1x32x128 (fun j => sPhi (extractStridedSlice S32x128 ![96, 0] (trip.sl.r arg1 arg6 X1 X6 k) slices_S128x512_o96_0_S32x128 j) (extractStridedSlice S32x128 ![96, 128] (trip.sl.r arg1 arg6 X1 X6 k) slices_S128x512_o96_128_S32x128 j) (extractStridedSlice S32x128 ![96, 256] (trip.sl.r arg1 arg6 X1 X6 k) slices_S128x512_o96_256_S32x128 j) (extractStridedSlice S32x128 ![96, 384] (trip.sl.r arg1 arg6 X1 X6 k) slices_S128x512_o96_384_S32x128 j) (shapeCast S32x128 (View.readAt (Elt F) arg2.view (Rect.unit (s := S128x3072) (k0_off5 k 0#32) S32x128.size (k0_off5_inb k 0)).toLoadRect X2) shapeCasts_S32x128_S32x128 j)) shapeCasts_S32x128_S1x32x128 := rfl

/-- Chunk 0, strip 2: the block stored in plane `phi`. -/
theorem phi_0_2 : k0_pay115 (trip.sl.r_58 arg1 arg2 arg6 X1 X2 X6 k) =
    shapeCast S1x32x128 (fun j => sPhi (extractStridedSlice S32x128 ![64, 0] (trip.sl.r arg1 arg6 X1 X6 k) slices_S128x512_o64_0_S32x128 j) (extractStridedSlice S32x128 ![64, 128] (trip.sl.r arg1 arg6 X1 X6 k) slices_S128x512_o64_128_S32x128 j) (extractStridedSlice S32x128 ![64, 256] (trip.sl.r arg1 arg6 X1 X6 k) slices_S128x512_o64_256_S32x128 j) (extractStridedSlice S32x128 ![64, 384] (trip.sl.r arg1 arg6 X1 X6 k) slices_S128x512_o64_384_S32x128 j) (shapeCast S32x128 (View.readAt (Elt F) arg2.view (Rect.unit (s := S128x3072) (k0_off4 k 0#32) S32x128.size (k0_off4_inb k 0)).toLoadRect X2) shapeCasts_S32x128_S32x128 j)) shapeCasts_S32x128_S1x32x128 := rfl

/-- Chunk 0, strip 1: the block stored in plane `phi`. -/
theorem phi_0_1 : k0_pay76 (trip.sl.r_36 arg1 arg2 arg6 X1 X2 X6 k) =
    shapeCast S1x32x128 (fun j => sPhi (extractStridedSlice S32x128 ![32, 0] (trip.sl.r arg1 arg6 X1 X6 k) slices_S128x512_o32_0_S32x128 j) (extractStridedSlice S32x128 ![32, 128] (trip.sl.r arg1 arg6 X1 X6 k) slices_S128x512_o32_128_S32x128 j) (extractStridedSlice S32x128 ![32, 256] (trip.sl.r arg1 arg6 X1 X6 k) slices_S128x512_o32_256_S32x128 j) (extractStridedSlice S32x128 ![32, 384] (trip.sl.r arg1 arg6 X1 X6 k) slices_S128x512_o32_384_S32x128 j) (shapeCast S32x128 (View.readAt (Elt F) arg2.view (Rect.unit (s := S128x3072) (k0_off3 k 0#32) S32x128.size (k0_off3_inb k 0)).toLoadRect X2) shapeCasts_S32x128_S32x128 j)) shapeCasts_S32x128_S1x32x128 := rfl

/-- Chunk 0, strip 0: the block stored in plane `phi`. -/
theorem phi_0_0 : k0_pay40 (trip.sl.r_16 arg1 arg2 arg6 X1 X2 X6 k) =
    shapeCast S1x32x128 (fun j => sPhi (extractStridedSlice S32x128 ![0, 0] (trip.sl.r arg1 arg6 X1 X6 k) slices_S128x512_o0_0_S32x128 j) (extractStridedSlice S32x128 ![0, 128] (trip.sl.r arg1 arg6 X1 X6 k) slices_S128x512_o0_128_S32x128 j) (extractStridedSlice S32x128 ![0, 256] (trip.sl.r arg1 arg6 X1 X6 k) slices_S128x512_o0_256_S32x128 j) (extractStridedSlice S32x128 ![0, 384] (trip.sl.r arg1 arg6 X1 X6 k) slices_S128x512_o0_384_S32x128 j) (shapeCast S32x128 (View.readAt (Elt F) arg2.view (Rect.unit (s := S128x3072) (k0_off2 k 0#32) S32x128.size (k0_off2_inb k 0)).toLoadRect X2) shapeCasts_S32x128_S32x128 j)) shapeCasts_S32x128_S1x32x128 := rfl

/-- Chunk 1, strip 3: the block stored in plane `fld`. -/
theorem fld_1_3 : k0_pay292 (trip.sl.r_159 arg1 arg2 arg6 X1 X2 X6 k) =
    shapeCast S1x8x128 (bitcast S8x128 32 (fun j => sField (extractStridedSlice S32x128 ![96, 0] (trip.sl.r_80 arg1 arg6 X1 X6 k) slices_S128x512_o96_0_S32x128 j) (extractStridedSlice S32x128 ![96, 128] (trip.sl.r_80 arg1 arg6 X1 X6 k) slices_S128x512_o96_128_S32x128 j) (extractStridedSlice S32x128 ![96, 256] (trip.sl.r_80 arg1 arg6 X1 X6 k) slices_S128x512_o96_256_S32x128 j) (extractStridedSlice S32x128 ![96, 384] (trip.sl.r_80 arg1 arg6 X1 X6 k) slices_S128x512_o96_384_S32x128 j) (shapeCast S32x128 (View.readAt (Elt F) arg2.view (Rect.unit (s := S128x3072) (k0_off5 k 1#32) S32x128.size (k0_off5_inb k 1)).toLoadRect X2) shapeCasts_S32x128_S32x128 j)) bitcasts_S32x128_w8_S8x128_w32) shapeCasts_S8x128_S1x8x128 := rfl

/-- Chunk 1, strip 2: the block stored in plane `fld`. -/
theorem fld_1_2 : k0_pay253 (trip.sl.r_138 arg1 arg2 arg6 X1 X2 X6 k) =
    shapeCast S1x8x128 (bitcast S8x128 32 (fun j => sField (extractStridedSlice S32x128 ![64, 0] (trip.sl.r_80 arg1 arg6 X1 X6 k) slices_S128x512_o64_0_S32x128 j) (extractStridedSlice S32x128 ![64, 128] (trip.sl.r_80 arg1 arg6 X1 X6 k) slices_S128x512_o64_128_S32x128 j) (extractStridedSlice S32x128 ![64, 256] (trip.sl.r_80 arg1 arg6 X1 X6 k) slices_S128x512_o64_256_S32x128 j) (extractStridedSlice S32x128 ![64, 384] (trip.sl.r_80 arg1 arg6 X1 X6 k) slices_S128x512_o64_384_S32x128 j) (shapeCast S32x128 (View.readAt (Elt F) arg2.view (Rect.unit (s := S128x3072) (k0_off4 k 1#32) S32x128.size (k0_off4_inb k 1)).toLoadRect X2) shapeCasts_S32x128_S32x128 j)) bitcasts_S32x128_w8_S8x128_w32) shapeCasts_S8x128_S1x8x128 := rfl

/-- Chunk 1, strip 1: the block stored in plane `fld`. -/
theorem fld_1_1 : k0_pay220 (trip.sl.r_121 arg1 arg2 arg6 X1 X2 X6 k) =
    shapeCast S1x8x128 (bitcast S8x128 32 (fun j => sField (extractStridedSlice S32x128 ![32, 0] (trip.sl.r_80 arg1 arg6 X1 X6 k) slices_S128x512_o32_0_S32x128 j) (extractStridedSlice S32x128 ![32, 128] (trip.sl.r_80 arg1 arg6 X1 X6 k) slices_S128x512_o32_128_S32x128 j) (extractStridedSlice S32x128 ![32, 256] (trip.sl.r_80 arg1 arg6 X1 X6 k) slices_S128x512_o32_256_S32x128 j) (extractStridedSlice S32x128 ![32, 384] (trip.sl.r_80 arg1 arg6 X1 X6 k) slices_S128x512_o32_384_S32x128 j) (shapeCast S32x128 (View.readAt (Elt F) arg2.view (Rect.unit (s := S128x3072) (k0_off3 k 1#32) S32x128.size (k0_off3_inb k 1)).toLoadRect X2) shapeCasts_S32x128_S32x128 j)) bitcasts_S32x128_w8_S8x128_w32) shapeCasts_S8x128_S1x8x128 := rfl

/-- Chunk 1, strip 0: the block stored in plane `fld`. -/
theorem fld_1_0 : k0_pay185 (trip.sl.r_98 arg1 arg2 arg6 X1 X2 X6 k) =
    shapeCast S1x8x128 (bitcast S8x128 32 (fun j => sField (extractStridedSlice S32x128 ![0, 0] (trip.sl.r_80 arg1 arg6 X1 X6 k) slices_S128x512_o0_0_S32x128 j) (extractStridedSlice S32x128 ![0, 128] (trip.sl.r_80 arg1 arg6 X1 X6 k) slices_S128x512_o0_128_S32x128 j) (extractStridedSlice S32x128 ![0, 256] (trip.sl.r_80 arg1 arg6 X1 X6 k) slices_S128x512_o0_256_S32x128 j) (extractStridedSlice S32x128 ![0, 384] (trip.sl.r_80 arg1 arg6 X1 X6 k) slices_S128x512_o0_384_S32x128 j) (shapeCast S32x128 (View.readAt (Elt F) arg2.view (Rect.unit (s := S128x3072) (k0_off2 k 1#32) S32x128.size (k0_off2_inb k 1)).toLoadRect X2) shapeCasts_S32x128_S32x128 j)) bitcasts_S32x128_w8_S8x128_w32) shapeCasts_S8x128_S1x8x128 := rfl

/-- Chunk 0, strip 3: the block stored in plane `fld`. -/
theorem fld_0_3 : k0_pay148 (trip.sl.r_79 arg1 arg2 arg6 X1 X2 X6 k) =
    shapeCast S1x8x128 (bitcast S8x128 32 (fun j => sField (extractStridedSlice S32x128 ![96, 0] (trip.sl.r arg1 arg6 X1 X6 k) slices_S128x512_o96_0_S32x128 j) (extractStridedSlice S32x128 ![96, 128] (trip.sl.r arg1 arg6 X1 X6 k) slices_S128x512_o96_128_S32x128 j) (extractStridedSlice S32x128 ![96, 256] (trip.sl.r arg1 arg6 X1 X6 k) slices_S128x512_o96_256_S32x128 j) (extractStridedSlice S32x128 ![96, 384] (trip.sl.r arg1 arg6 X1 X6 k) slices_S128x512_o96_384_S32x128 j) (shapeCast S32x128 (View.readAt (Elt F) arg2.view (Rect.unit (s := S128x3072) (k0_off5 k 0#32) S32x128.size (k0_off5_inb k 0)).toLoadRect X2) shapeCasts_S32x128_S32x128 j)) bitcasts_S32x128_w8_S8x128_w32) shapeCasts_S8x128_S1x8x128 := rfl

/-- Chunk 0, strip 2: the block stored in plane `fld`. -/
theorem fld_0_2 : k0_pay116 (trip.sl.r_59 arg1 arg2 arg6 X1 X2 X6 k) =
    shapeCast S1x8x128 (bitcast S8x128 32 (fun j => sField (extractStridedSlice S32x128 ![64, 0] (trip.sl.r arg1 arg6 X1 X6 k) slices_S128x512_o64_0_S32x128 j) (extractStridedSlice S32x128 ![64, 128] (trip.sl.r arg1 arg6 X1 X6 k) slices_S128x512_o64_128_S32x128 j) (extractStridedSlice S32x128 ![64, 256] (trip.sl.r arg1 arg6 X1 X6 k) slices_S128x512_o64_256_S32x128 j) (extractStridedSlice S32x128 ![64, 384] (trip.sl.r arg1 arg6 X1 X6 k) slices_S128x512_o64_384_S32x128 j) (shapeCast S32x128 (View.readAt (Elt F) arg2.view (Rect.unit (s := S128x3072) (k0_off4 k 0#32) S32x128.size (k0_off4_inb k 0)).toLoadRect X2) shapeCasts_S32x128_S32x128 j)) bitcasts_S32x128_w8_S8x128_w32) shapeCasts_S8x128_S1x8x128 := rfl

/-- Chunk 0, strip 1: the block stored in plane `fld`. -/
theorem fld_0_1 : k0_pay77 (trip.sl.r_37 arg1 arg2 arg6 X1 X2 X6 k) =
    shapeCast S1x8x128 (bitcast S8x128 32 (fun j => sField (extractStridedSlice S32x128 ![32, 0] (trip.sl.r arg1 arg6 X1 X6 k) slices_S128x512_o32_0_S32x128 j) (extractStridedSlice S32x128 ![32, 128] (trip.sl.r arg1 arg6 X1 X6 k) slices_S128x512_o32_128_S32x128 j) (extractStridedSlice S32x128 ![32, 256] (trip.sl.r arg1 arg6 X1 X6 k) slices_S128x512_o32_256_S32x128 j) (extractStridedSlice S32x128 ![32, 384] (trip.sl.r arg1 arg6 X1 X6 k) slices_S128x512_o32_384_S32x128 j) (shapeCast S32x128 (View.readAt (Elt F) arg2.view (Rect.unit (s := S128x3072) (k0_off3 k 0#32) S32x128.size (k0_off3_inb k 0)).toLoadRect X2) shapeCasts_S32x128_S32x128 j)) bitcasts_S32x128_w8_S8x128_w32) shapeCasts_S8x128_S1x8x128 := rfl

/-- Chunk 0, strip 0: the block stored in plane `fld`. -/
theorem fld_0_0 : k0_pay42 (trip.sl.r_19 arg1 arg2 arg6 X1 X2 X6 k) =
    shapeCast S1x8x128 (bitcast S8x128 32 (fun j => sField (extractStridedSlice S32x128 ![0, 0] (trip.sl.r arg1 arg6 X1 X6 k) slices_S128x512_o0_0_S32x128 j) (extractStridedSlice S32x128 ![0, 128] (trip.sl.r arg1 arg6 X1 X6 k) slices_S128x512_o0_128_S32x128 j) (extractStridedSlice S32x128 ![0, 256] (trip.sl.r arg1 arg6 X1 X6 k) slices_S128x512_o0_256_S32x128 j) (extractStridedSlice S32x128 ![0, 384] (trip.sl.r arg1 arg6 X1 X6 k) slices_S128x512_o0_384_S32x128 j) (shapeCast S32x128 (View.readAt (Elt F) arg2.view (Rect.unit (s := S128x3072) (k0_off2 k 0#32) S32x128.size (k0_off2_inb k 0)).toLoadRect X2) shapeCasts_S32x128_S32x128 j)) bitcasts_S32x128_w8_S8x128_w32) shapeCasts_S8x128_S1x8x128 := rfl

end Cert.Proof.KernelIdeal

end
-- ==== Proof.KI.Filled.lean ====
/- The kernel's planes after one trip's selections, as functions of an element's place.

   Plane `(k', p, l)` belongs to the group of lane `l`, row `p`, of the trip's chunk `k'`; its four values stand at
   columns `l`, `128 + l`, `256 + l`, `384 + l` of the chunk's permuted matrix. -/
module

public import proofs.«01_k».proof.Proof.KI.Planes
public import Idealize.ShloMosaic.Lib.ValueLayout
public import Idealize.ShloMosaic.Lib.BitcastFour

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

variable (arg1 : Memref sig .tc .vmem S128x12288 .bf16) (arg2 : Memref sig .tc .vmem S128x3072 .i32)
variable (arg6 : Memref sig .tc .vmem S512x512 .bf16)
variable (X1 : BufTy.Contents (Elt F) arg1.view.ty) (X2 : BufTy.Contents (Elt F) arg2.view.ty)
variable (X6 : BufTy.Contents (Elt F) arg6.view.ty) (k : Fin k0_t1_loop.trips)

/-- The trip's number is below twelve. -/
theorem trip_lt : k.val < 12 := Nat.lt_of_lt_of_le k.isLt k0_t1_abs.2.1

/-- The permuted matrix of the trip's chunk `kp`. -/
def chunkX (kp : Fin 2) : FVec F S128x512 .f32 :=
  match kp with | 0 => trip.sl.r arg1 arg6 X1 X6 k | 1 => trip.sl.r_80 arg1 arg6 X1 X6 k

/-- The random word of row `p`, lane `l`, of the trip's chunk `kp`. -/
def wordAt (kp : Fin 2) (p : Fin 128) (l : Fin 128) : BitVec 32 :=
  arg2.view.read (Elt F) X2 (ValueIdx.ix2 p (⟨256 * k.val + 128 * kp.val + l.val, by have := trip_lt k; omega⟩ : Fin 3072))

/-- The value at place `i` of the group of row `p`, lane `l`, of the trip's chunk `kp`. -/
def valAt (kp : Fin 2) (i : Fin 4) (p l : Fin 128) : F .f32 :=
  chunkX arg1 arg6 X1 X6 k kp (ValueIdx.ix2 p (⟨128 * i.val + l.val, by omega⟩ : Fin 512))

/-- A scalar function of the four values of a group and its random word. -/
abbrev GroupFn (F : FTy → Type) (α : Type) := F .f32 → F .f32 → F .f32 → F .f32 → BitVec 32 → α

/-- A scalar function at the group of row `p`, lane `l`, of the trip's chunk `kp`. -/
def groupAt {α : Type} (f : GroupFn F α) (kp : Fin 2) (p l : Fin 128) : α :=
  f (valAt arg1 arg6 X1 X6 k kp 0 p l) (valAt arg1 arg6 X1 X6 k kp 1 p l) (valAt arg1 arg6 X1 X6 k kp 2 p l)
    (valAt arg1 arg6 X1 X6 k kp 3 p l) (wordAt arg2 X2 k kp p l)

/-- A row of a strip. -/
abbrev stripRow (s : Fin 4) (p : Fin 32) : Fin 128 := ⟨32 * s.val + p.val, by omega⟩

/-- One strip of one chunk, worked on element by element, is the scalar function at its groups. -/
theorem strip_eq {α : Type} (f : GroupFn F α) (kp : Fin 2) (s : Fin 4) (X : FVec F S128x512 .f32)
    (W : S32x128.Idx → BitVec 32) (hX : X = chunkX arg1 arg6 X1 X6 k kp)
    (hW : ∀ p l, W (ValueIdx.ix2 p l) = wordAt arg2 X2 k kp (stripRow s p) l)
    (o0 o1 o2 o3 : Fin 2 → Nat) (h0 : S128x512.Slices o0 S32x128) (h1 : S128x512.Slices o1 S32x128)
    (h2 : S128x512.Slices o2 S32x128) (h3 : S128x512.Slices o3 S32x128)
    (e0 : o0 0 = 32 * s.val ∧ o0 1 = 0) (e1 : o1 0 = 32 * s.val ∧ o1 1 = 128) (e2 : o2 0 = 32 * s.val ∧ o2 1 = 256)
    (e3 : o3 0 = 32 * s.val ∧ o3 1 = 384) (p : Fin 32) (l : Fin 128) :
    f (extractStridedSlice S32x128 o0 X h0 (ValueIdx.ix2 p l)) (extractStridedSlice S32x128 o1 X h1 (ValueIdx.ix2 p l))
      (extractStridedSlice S32x128 o2 X h2 (ValueIdx.ix2 p l)) (extractStridedSlice S32x128 o3 X h3 (ValueIdx.ix2 p l))
      (W (ValueIdx.ix2 p l)) = groupAt arg1 arg2 arg6 X1 X2 X6 k f kp (stripRow s p) l := by
  rw [slice_eq_cut X s 0 o0 h0 e0.1 e0.2, slice_eq_cut X s 1 o1 h1 e1.1 e1.2, slice_eq_cut X s 2 o2 h2 e2.1 e2.2,
    slice_eq_cut X s 3 o3 h3 e3.1 e3.2, hW, hX]
  rfl

/-- The random words of chunk 0, strip 0. -/
theorem word_0_0 (p : Fin 32) (l : Fin 128) :
    shapeCast S32x128 (View.readAt (Elt F) arg2.view (Rect.unit (s := S128x3072) (k0_off2 k 0#32) S32x128.size (k0_off2_inb k 0)).toLoadRect X2) shapeCasts_S32x128_S32x128 (ValueIdx.ix2 p l)
      = wordAt arg2 X2 k 0 (stripRow 0 p) l := by
  refine (congrFun (shapeCast_self (s := S32x128) (α := BitVec 32) _ _) _).trans ?_
  refine congrArg (arg2.view.read (Elt F) X2) (funext fun a => Fin.ext ?_)
  have e := k0_off2_eq k 0
  match a with
  | ⟨0, _⟩ => exact (congrArg (fun o : Fin 2 → Nat => o 0 + 1 * p.val) e).trans (by simp)
  | ⟨1, _⟩ => exact (congrArg (fun o : Fin 2 → Nat => o 1 + 1 * l.val) e).trans (by simp)

/-- The random words of chunk 0, strip 1. -/
theorem word_0_1 (p : Fin 32) (l : Fin 128) :
    shapeCast S32x128 (View.readAt (Elt F) arg2.view (Rect.unit (s := S128x3072) (k0_off3 k 0#32) S32x128.size (k0_off3_inb k 0)).toLoadRect X2) shapeCasts_S32x128_S32x128 (ValueIdx.ix2 p l)
      = wordAt arg2 X2 k 0 (stripRow 1 p) l := by
  refine (congrFun (shapeCast_self (s := S32x128) (α := BitVec 32) _ _) _).trans ?_
  refine congrArg (arg2.view.read (Elt F) X2) (funext fun a => Fin.ext ?_)
  have e := k0_off3_eq k 0
  match a with
  | ⟨0, _⟩ => exact (congrArg (fun o : Fin 2 → Nat => o 0 + 1 * p.val) e).trans (by simp)
  | ⟨1, _⟩ => exact (congrArg (fun o : Fin 2 → Nat => o 1 + 1 * l.val) e).trans (by simp)

/-- The random words of chunk 0, strip 2. -/
theorem word_0_2 (p : Fin 32) (l : Fin 128) :
    shapeCast S32x128 (View.readAt (Elt F) arg2.view (Rect.unit (s := S128x3072) (k0_off4 k 0#32) S32x128.size (k0_off4_inb k 0)).toLoadRect X2) shapeCasts_S32x128_S32x128 (ValueIdx.ix2 p l)
      = wordAt arg2 X2 k 0 (stripRow 2 p) l := by
  refine (congrFun (shapeCast_self (s := S32x128) (α := BitVec 32) _ _) _).trans ?_
  refine congrArg (arg2.view.read (Elt F) X2) (funext fun a => Fin.ext ?_)
  have e := k0_off4_eq k 0
  match a with
  | ⟨0, _⟩ => exact (congrArg (fun o : Fin 2 → Nat => o 0 + 1 * p.val) e).trans (by simp)
  | ⟨1, _⟩ => exact (congrArg (fun o : Fin 2 → Nat => o 1 + 1 * l.val) e).trans (by simp)

/-- The random words of chunk 0, strip 3. -/
theorem word_0_3 (p : Fin 32) (l : Fin 128) :
    shapeCast S32x128 (View.readAt (Elt F) arg2.view (Rect.unit (s := S128x3072) (k0_off5 k 0#32) S32x128.size (k0_off5_inb k 0)).toLoadRect X2) shapeCasts_S32x128_S32x128 (ValueIdx.ix2 p l)
      = wordAt arg2 X2 k 0 (stripRow 3 p) l := by
  refine (congrFun (shapeCast_self (s := S32x128) (α := BitVec 32) _ _) _).trans ?_
  refine congrArg (arg2.view.read (Elt F) X2) (funext fun a => Fin.ext ?_)
  have e := k0_off5_eq k 0
  match a with
  | ⟨0, _⟩ => exact (congrArg (fun o : Fin 2 → Nat => o 0 + 1 * p.val) e).trans (by simp)
  | ⟨1, _⟩ => exact (congrArg (fun o : Fin 2 → Nat => o 1 + 1 * l.val) e).trans (by simp)

/-- The random words of chunk 1, strip 0. -/
theorem word_1_0 (p : Fin 32) (l : Fin 128) :
    shapeCast S32x128 (View.readAt (Elt F) arg2.view (Rect.unit (s := S128x3072) (k0_off2 k 1#32) S32x128.size (k0_off2_inb k 1)).toLoadRect X2) shapeCasts_S32x128_S32x128 (ValueIdx.ix2 p l)
      = wordAt arg2 X2 k 1 (stripRow 0 p) l := by
  refine (congrFun (shapeCast_self (s := S32x128) (α := BitVec 32) _ _) _).trans ?_
  refine congrArg (arg2.view.read (Elt F) X2) (funext fun a => Fin.ext ?_)
  have e := k0_off2_eq k 1
  match a with
  | ⟨0, _⟩ => exact (congrArg (fun o : Fin 2 → Nat => o 0 + 1 * p.val) e).trans (by simp)
  | ⟨1, _⟩ => exact (congrArg (fun o : Fin 2 → Nat => o 1 + 1 * l.val) e).trans (by simp)

/-- The random words of chunk 1, strip 1. -/
theorem word_1_1 (p : Fin 32) (l : Fin 128) :
    shapeCast S32x128 (View.readAt (Elt F) arg2.view (Rect.unit (s := S128x3072) (k0_off3 k 1#32) S32x128.size (k0_off3_inb k 1)).toLoadRect X2) shapeCasts_S32x128_S32x128 (ValueIdx.ix2 p l)
      = wordAt arg2 X2 k 1 (stripRow 1 p) l := by
  refine (congrFun (shapeCast_self (s := S32x128) (α := BitVec 32) _ _) _).trans ?_
  refine congrArg (arg2.view.read (Elt F) X2) (funext fun a => Fin.ext ?_)
  have e := k0_off3_eq k 1
  match a with
  | ⟨0, _⟩ => exact (congrArg (fun o : Fin 2 → Nat => o 0 + 1 * p.val) e).trans (by simp)
  | ⟨1, _⟩ => exact (congrArg (fun o : Fin 2 → Nat => o 1 + 1 * l.val) e).trans (by simp)

/-- The random words of chunk 1, strip 2. -/
theorem word_1_2 (p : Fin 32) (l : Fin 128) :
    shapeCast S32x128 (View.readAt (Elt F) arg2.view (Rect.unit (s := S128x3072) (k0_off4 k 1#32) S32x128.size (k0_off4_inb k 1)).toLoadRect X2) shapeCasts_S32x128_S32x128 (ValueIdx.ix2 p l)
      = wordAt arg2 X2 k 1 (stripRow 2 p) l := by
  refine (congrFun (shapeCast_self (s := S32x128) (α := BitVec 32) _ _) _).trans ?_
  refine congrArg (arg2.view.read (Elt F) X2) (funext fun a => Fin.ext ?_)
  have e := k0_off4_eq k 1
  match a with
  | ⟨0, _⟩ => exact (congrArg (fun o : Fin 2 → Nat => o 0 + 1 * p.val) e).trans (by simp)
  | ⟨1, _⟩ => exact (congrArg (fun o : Fin 2 → Nat => o 1 + 1 * l.val) e).trans (by simp)

/-- The random words of chunk 1, strip 3. -/
theorem word_1_3 (p : Fin 32) (l : Fin 128) :
    shapeCast S32x128 (View.readAt (Elt F) arg2.view (Rect.unit (s := S128x3072) (k0_off5 k 1#32) S32x128.size (k0_off5_inb k 1)).toLoadRect X2) shapeCasts_S32x128_S32x128 (ValueIdx.ix2 p l)
      = wordAt arg2 X2 k 1 (stripRow 3 p) l := by
  refine (congrFun (shapeCast_self (s := S32x128) (α := BitVec 32) _ _) _).trans ?_
  refine congrArg (arg2.view.read (Elt F) X2) (funext fun a => Fin.ext ?_)
  have e := k0_off5_eq k 1
  match a with
  | ⟨0, _⟩ => exact (congrArg (fun o : Fin 2 → Nat => o 0 + 1 * p.val) e).trans (by simp)
  | ⟨1, _⟩ => exact (congrArg (fun o : Fin 2 → Nat => o 1 + 1 * l.val) e).trans (by simp)

/-- A place of a plane. -/
theorem plane_emb (kp : Fin 2) (s : Fin 4) (off : Fin 3 → Nat) (hb : ∀ a, off a + S1x32x128.size a ≤ S2x128x128.size a)
    (h0 : off 0 = kp.val) (h1 : off 1 = 32 * s.val) (h2 : off 2 = 0) (u : Fin 1) (p : Fin 32) (l : Fin 128) :
    (Rect.unit (s := S2x128x128) off S1x32x128.size hb).emb (ValueIdx.ix3 u p l) = ValueIdx.ix3 kp (stripRow s p) l := by
  funext a
  refine Fin.ext ?_
  have hu : u.val = 0 := by omega
  match a with
  | ⟨0, _⟩ => show off 0 + 1 * u.val = kp.val; omega
  | ⟨1, _⟩ => show off 1 + 1 * p.val = 32 * s.val + p.val; omega
  | ⟨2, _⟩ => show off 2 + 1 * l.val = l.val; omega

/-- A place of the plane of packed fields. -/
theorem fld_emb (kp : Fin 2) (s : Fin 4) (off : Fin 3 → Nat) (hb : ∀ a, off a + S1x8x128.size a ≤ S2x32x128.size a)
    (h0 : off 0 = kp.val) (h1 : off 1 = 8 * s.val) (h2 : off 2 = 0) (u : Fin 1) (p : Fin 8) (l : Fin 128) :
    (Rect.unit (s := S2x32x128) off S1x8x128.size hb).emb (ValueIdx.ix3 u p l)
      = ValueIdx.ix3 kp (⟨8 * s.val + p.val, by omega⟩ : Fin 32) l := by
  funext a
  refine Fin.ext ?_
  have hu : u.val = 0 := by omega
  match a with
  | ⟨0, _⟩ => show off 0 + 1 * u.val = kp.val; omega
  | ⟨1, _⟩ => show off 1 + 1 * p.val = 8 * s.val + p.val; omega
  | ⟨2, _⟩ => show off 2 + 1 * l.val = l.val; omega

/-- The byte order of the packed fields: bit `q` of the word at packed row `p` is bit `q % 8` of row `4p + q / 8`. -/
def packedAt (f : GroupFn F (BitVec 8)) (kp : Fin 2) (p : Fin 32) (l : Fin 128) (q : Nat) : Bool :=
  (groupAt arg1 arg2 arg6 X1 X2 X6 k f kp ⟨(4 * p.val + q / 8) % 128, Nat.mod_lt _ (by decide)⟩ l).getLsbD (q % 8)

/-- The random word does not matter to the larger magnitude. -/
def gBig : GroupFn F (F .f32) := fun a0 a1 a2 a3 _ => sBig a0 a1 a2 a3

/-- Plane `big` after the trip's selections. -/
theorem big_plane (y : S2x128x128.Idx) :
    View.canon (trip.sl.W7_8 arg1 arg6 X1 X6 k) y = groupAt arg1 arg2 arg6 X1 X2 X6 k gBig (y 0) (y 1) (y 2) := by
  refine View.canon_apply_of_pieces (fun y : S2x128x128.Idx => groupAt arg1 arg2 arg6 X1 X2 X6 k gBig (y 0) (y 1) (y 2)) _ ?_ y
    (View.cover_of_tiledL (trip.sl.W7_8 arg1 arg6 X1 X6 k) S1x32x128.size (by sl_kernel_rfl) y)
  unfold trip.sl.W7_8
  intro q hq
  simp only [List.mem_cons, List.not_mem_nil, or_false] at hq
  rcases hq with rfl | rfl | rfl | rfl | rfl | rfl | rfl | rfl
  · intro x
    obtain ⟨u, p, l, rfl⟩ : ∃ u p l, x = ValueIdx.ix3 u p l := ⟨x 0, x 1, x 2, ValueIdx.eq_ix3 x⟩
    refine (congrFun (big_1_3 arg1 arg6 X1 X6 k) _).trans ((ValueIdx.shapeCast_ab_1ab_apply _ _ u p l).trans ?_)
    rw [plane_emb 1 3 _ _ rfl rfl rfl u p l]
    exact strip_eq arg1 arg2 arg6 X1 X2 X6 k gBig 1 3 _ _ rfl (word_1_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (big_1_2 arg1 arg6 X1 X6 k) _).trans ((ValueIdx.shapeCast_ab_1ab_apply _ _ u p l).trans ?_)
    rw [plane_emb 1 2 _ _ rfl rfl rfl u p l]
    exact strip_eq arg1 arg2 arg6 X1 X2 X6 k gBig 1 2 _ _ rfl (word_1_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (big_1_1 arg1 arg6 X1 X6 k) _).trans ((ValueIdx.shapeCast_ab_1ab_apply _ _ u p l).trans ?_)
    rw [plane_emb 1 1 _ _ rfl rfl rfl u p l]
    exact strip_eq arg1 arg2 arg6 X1 X2 X6 k gBig 1 1 _ _ rfl (word_1_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (big_1_0 arg1 arg6 X1 X6 k) _).trans ((ValueIdx.shapeCast_ab_1ab_apply _ _ u p l).trans ?_)
    rw [plane_emb 1 0 _ _ rfl rfl rfl u p l]
    exact strip_eq arg1 arg2 arg6 X1 X2 X6 k gBig 1 0 _ _ rfl (word_1_0 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (big_0_3 arg1 arg6 X1 X6 k) _).trans ((ValueIdx.shapeCast_ab_1ab_apply _ _ u p l).trans ?_)
    rw [plane_emb 0 3 _ _ rfl rfl rfl u p l]
    exact strip_eq arg1 arg2 arg6 X1 X2 X6 k gBig 0 3 _ _ rfl (word_0_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (big_0_2 arg1 arg6 X1 X6 k) _).trans ((ValueIdx.shapeCast_ab_1ab_apply _ _ u p l).trans ?_)
    rw [plane_emb 0 2 _ _ rfl rfl rfl u p l]
    exact strip_eq arg1 arg2 arg6 X1 X2 X6 k gBig 0 2 _ _ rfl (word_0_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (big_0_1 arg1 arg6 X1 X6 k) _).trans ((ValueIdx.shapeCast_ab_1ab_apply _ _ u p l).trans ?_)
    rw [plane_emb 0 1 _ _ rfl rfl rfl u p l]
    exact strip_eq arg1 arg2 arg6 X1 X2 X6 k gBig 0 1 _ _ rfl (word_0_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (big_0_0 arg1 arg6 X1 X6 k) _).trans ((ValueIdx.shapeCast_ab_1ab_apply _ _ u p l).trans ?_)
    rw [plane_emb 0 0 _ _ rfl rfl rfl u p l]
    exact strip_eq arg1 arg2 arg6 X1 X2 X6 k gBig 0 0 _ _ rfl (word_0_0 arg2 X2 k) _ _ _ _ _ _ _ _ ⟨rfl, rfl⟩ ⟨rfl, rfl⟩ ⟨rfl, rfl⟩ ⟨rfl, rfl⟩ p l

/-- Plane `mlo` after the trip's selections. -/
theorem mlo_plane (y : S2x128x128.Idx) :
    View.canon (trip.sl.W8_8 arg1 arg2 arg6 X1 X2 X6 k) y = groupAt arg1 arg2 arg6 X1 X2 X6 k sMlo (y 0) (y 1) (y 2) := by
  refine View.canon_apply_of_pieces (fun y : S2x128x128.Idx => groupAt arg1 arg2 arg6 X1 X2 X6 k sMlo (y 0) (y 1) (y 2)) _ ?_ y
    (View.cover_of_tiledL (trip.sl.W8_8 arg1 arg2 arg6 X1 X2 X6 k) S1x32x128.size (by sl_kernel_rfl) y)
  unfold trip.sl.W8_8
  intro q hq
  simp only [List.mem_cons, List.not_mem_nil, or_false] at hq
  rcases hq with rfl | rfl | rfl | rfl | rfl | rfl | rfl | rfl
  · intro x
    obtain ⟨u, p, l, rfl⟩ : ∃ u p l, x = ValueIdx.ix3 u p l := ⟨x 0, x 1, x 2, ValueIdx.eq_ix3 x⟩
    refine (congrFun (mlo_1_3 arg1 arg2 arg6 X1 X2 X6 k) _).trans ((ValueIdx.shapeCast_ab_1ab_apply _ _ u p l).trans ?_)
    rw [plane_emb 1 3 _ _ rfl rfl rfl u p l]
    exact strip_eq arg1 arg2 arg6 X1 X2 X6 k sMlo 1 3 _ _ rfl (word_1_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mlo_1_2 arg1 arg2 arg6 X1 X2 X6 k) _).trans ((ValueIdx.shapeCast_ab_1ab_apply _ _ u p l).trans ?_)
    rw [plane_emb 1 2 _ _ rfl rfl rfl u p l]
    exact strip_eq arg1 arg2 arg6 X1 X2 X6 k sMlo 1 2 _ _ rfl (word_1_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mlo_1_1 arg1 arg2 arg6 X1 X2 X6 k) _).trans ((ValueIdx.shapeCast_ab_1ab_apply _ _ u p l).trans ?_)
    rw [plane_emb 1 1 _ _ rfl rfl rfl u p l]
    exact strip_eq arg1 arg2 arg6 X1 X2 X6 k sMlo 1 1 _ _ rfl (word_1_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mlo_1_0 arg1 arg2 arg6 X1 X2 X6 k) _).trans ((ValueIdx.shapeCast_ab_1ab_apply _ _ u p l).trans ?_)
    rw [plane_emb 1 0 _ _ rfl rfl rfl u p l]
    exact strip_eq arg1 arg2 arg6 X1 X2 X6 k sMlo 1 0 _ _ rfl (word_1_0 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mlo_0_3 arg1 arg2 arg6 X1 X2 X6 k) _).trans ((ValueIdx.shapeCast_ab_1ab_apply _ _ u p l).trans ?_)
    rw [plane_emb 0 3 _ _ rfl rfl rfl u p l]
    exact strip_eq arg1 arg2 arg6 X1 X2 X6 k sMlo 0 3 _ _ rfl (word_0_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mlo_0_2 arg1 arg2 arg6 X1 X2 X6 k) _).trans ((ValueIdx.shapeCast_ab_1ab_apply _ _ u p l).trans ?_)
    rw [plane_emb 0 2 _ _ rfl rfl rfl u p l]
    exact strip_eq arg1 arg2 arg6 X1 X2 X6 k sMlo 0 2 _ _ rfl (word_0_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mlo_0_1 arg1 arg2 arg6 X1 X2 X6 k) _).trans ((ValueIdx.shapeCast_ab_1ab_apply _ _ u p l).trans ?_)
    rw [plane_emb 0 1 _ _ rfl rfl rfl u p l]
    exact strip_eq arg1 arg2 arg6 X1 X2 X6 k sMlo 0 1 _ _ rfl (word_0_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mlo_0_0 arg1 arg2 arg6 X1 X2 X6 k) _).trans ((ValueIdx.shapeCast_ab_1ab_apply _ _ u p l).trans ?_)
    rw [plane_emb 0 0 _ _ rfl rfl rfl u p l]
    exact strip_eq arg1 arg2 arg6 X1 X2 X6 k sMlo 0 0 _ _ rfl (word_0_0 arg2 X2 k) _ _ _ _ _ _ _ _ ⟨rfl, rfl⟩ ⟨rfl, rfl⟩ ⟨rfl, rfl⟩ ⟨rfl, rfl⟩ p l

/-- Plane `mhi` after the trip's selections. -/
theorem mhi_plane (y : S2x128x128.Idx) :
    View.canon (trip.sl.W9_8 arg1 arg2 arg6 X1 X2 X6 k) y = groupAt arg1 arg2 arg6 X1 X2 X6 k sMhi (y 0) (y 1) (y 2) := by
  refine View.canon_apply_of_pieces (fun y : S2x128x128.Idx => groupAt arg1 arg2 arg6 X1 X2 X6 k sMhi (y 0) (y 1) (y 2)) _ ?_ y
    (View.cover_of_tiledL (trip.sl.W9_8 arg1 arg2 arg6 X1 X2 X6 k) S1x32x128.size (by sl_kernel_rfl) y)
  unfold trip.sl.W9_8
  intro q hq
  simp only [List.mem_cons, List.not_mem_nil, or_false] at hq
  rcases hq with rfl | rfl | rfl | rfl | rfl | rfl | rfl | rfl
  · intro x
    obtain ⟨u, p, l, rfl⟩ : ∃ u p l, x = ValueIdx.ix3 u p l := ⟨x 0, x 1, x 2, ValueIdx.eq_ix3 x⟩
    refine (congrFun (mhi_1_3 arg1 arg2 arg6 X1 X2 X6 k) _).trans ((ValueIdx.shapeCast_ab_1ab_apply _ _ u p l).trans ?_)
    rw [plane_emb 1 3 _ _ rfl rfl rfl u p l]
    exact strip_eq arg1 arg2 arg6 X1 X2 X6 k sMhi 1 3 _ _ rfl (word_1_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mhi_1_2 arg1 arg2 arg6 X1 X2 X6 k) _).trans ((ValueIdx.shapeCast_ab_1ab_apply _ _ u p l).trans ?_)
    rw [plane_emb 1 2 _ _ rfl rfl rfl u p l]
    exact strip_eq arg1 arg2 arg6 X1 X2 X6 k sMhi 1 2 _ _ rfl (word_1_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mhi_1_1 arg1 arg2 arg6 X1 X2 X6 k) _).trans ((ValueIdx.shapeCast_ab_1ab_apply _ _ u p l).trans ?_)
    rw [plane_emb 1 1 _ _ rfl rfl rfl u p l]
    exact strip_eq arg1 arg2 arg6 X1 X2 X6 k sMhi 1 1 _ _ rfl (word_1_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mhi_1_0 arg1 arg2 arg6 X1 X2 X6 k) _).trans ((ValueIdx.shapeCast_ab_1ab_apply _ _ u p l).trans ?_)
    rw [plane_emb 1 0 _ _ rfl rfl rfl u p l]
    exact strip_eq arg1 arg2 arg6 X1 X2 X6 k sMhi 1 0 _ _ rfl (word_1_0 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mhi_0_3 arg1 arg2 arg6 X1 X2 X6 k) _).trans ((ValueIdx.shapeCast_ab_1ab_apply _ _ u p l).trans ?_)
    rw [plane_emb 0 3 _ _ rfl rfl rfl u p l]
    exact strip_eq arg1 arg2 arg6 X1 X2 X6 k sMhi 0 3 _ _ rfl (word_0_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mhi_0_2 arg1 arg2 arg6 X1 X2 X6 k) _).trans ((ValueIdx.shapeCast_ab_1ab_apply _ _ u p l).trans ?_)
    rw [plane_emb 0 2 _ _ rfl rfl rfl u p l]
    exact strip_eq arg1 arg2 arg6 X1 X2 X6 k sMhi 0 2 _ _ rfl (word_0_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mhi_0_1 arg1 arg2 arg6 X1 X2 X6 k) _).trans ((ValueIdx.shapeCast_ab_1ab_apply _ _ u p l).trans ?_)
    rw [plane_emb 0 1 _ _ rfl rfl rfl u p l]
    exact strip_eq arg1 arg2 arg6 X1 X2 X6 k sMhi 0 1 _ _ rfl (word_0_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (mhi_0_0 arg1 arg2 arg6 X1 X2 X6 k) _).trans ((ValueIdx.shapeCast_ab_1ab_apply _ _ u p l).trans ?_)
    rw [plane_emb 0 0 _ _ rfl rfl rfl u p l]
    exact strip_eq arg1 arg2 arg6 X1 X2 X6 k sMhi 0 0 _ _ rfl (word_0_0 arg2 X2 k) _ _ _ _ _ _ _ _ ⟨rfl, rfl⟩ ⟨rfl, rfl⟩ ⟨rfl, rfl⟩ ⟨rfl, rfl⟩ p l

/-- Plane `plo` after the trip's selections. -/
theorem plo_plane (y : S2x128x128.Idx) :
    View.canon (trip.sl.W10_8 arg1 arg2 arg6 X1 X2 X6 k) y = groupAt arg1 arg2 arg6 X1 X2 X6 k sPlo (y 0) (y 1) (y 2) := by
  refine View.canon_apply_of_pieces (fun y : S2x128x128.Idx => groupAt arg1 arg2 arg6 X1 X2 X6 k sPlo (y 0) (y 1) (y 2)) _ ?_ y
    (View.cover_of_tiledL (trip.sl.W10_8 arg1 arg2 arg6 X1 X2 X6 k) S1x32x128.size (by sl_kernel_rfl) y)
  unfold trip.sl.W10_8
  intro q hq
  simp only [List.mem_cons, List.not_mem_nil, or_false] at hq
  rcases hq with rfl | rfl | rfl | rfl | rfl | rfl | rfl | rfl
  · intro x
    obtain ⟨u, p, l, rfl⟩ : ∃ u p l, x = ValueIdx.ix3 u p l := ⟨x 0, x 1, x 2, ValueIdx.eq_ix3 x⟩
    refine (congrFun (plo_1_3 arg1 arg2 arg6 X1 X2 X6 k) _).trans ((ValueIdx.shapeCast_ab_1ab_apply _ _ u p l).trans ?_)
    rw [plane_emb 1 3 _ _ rfl rfl rfl u p l]
    exact strip_eq arg1 arg2 arg6 X1 X2 X6 k sPlo 1 3 _ _ rfl (word_1_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (plo_1_2 arg1 arg2 arg6 X1 X2 X6 k) _).trans ((ValueIdx.shapeCast_ab_1ab_apply _ _ u p l).trans ?_)
    rw [plane_emb 1 2 _ _ rfl rfl rfl u p l]
    exact strip_eq arg1 arg2 arg6 X1 X2 X6 k sPlo 1 2 _ _ rfl (word_1_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (plo_1_1 arg1 arg2 arg6 X1 X2 X6 k) _).trans ((ValueIdx.shapeCast_ab_1ab_apply _ _ u p l).trans ?_)
    rw [plane_emb 1 1 _ _ rfl rfl rfl u p l]
    exact strip_eq arg1 arg2 arg6 X1 X2 X6 k sPlo 1 1 _ _ rfl (word_1_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (plo_1_0 arg1 arg2 arg6 X1 X2 X6 k) _).trans ((ValueIdx.shapeCast_ab_1ab_apply _ _ u p l).trans ?_)
    rw [plane_emb 1 0 _ _ rfl rfl rfl u p l]
    exact strip_eq arg1 arg2 arg6 X1 X2 X6 k sPlo 1 0 _ _ rfl (word_1_0 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (plo_0_3 arg1 arg2 arg6 X1 X2 X6 k) _).trans ((ValueIdx.shapeCast_ab_1ab_apply _ _ u p l).trans ?_)
    rw [plane_emb 0 3 _ _ rfl rfl rfl u p l]
    exact strip_eq arg1 arg2 arg6 X1 X2 X6 k sPlo 0 3 _ _ rfl (word_0_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (plo_0_2 arg1 arg2 arg6 X1 X2 X6 k) _).trans ((ValueIdx.shapeCast_ab_1ab_apply _ _ u p l).trans ?_)
    rw [plane_emb 0 2 _ _ rfl rfl rfl u p l]
    exact strip_eq arg1 arg2 arg6 X1 X2 X6 k sPlo 0 2 _ _ rfl (word_0_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (plo_0_1 arg1 arg2 arg6 X1 X2 X6 k) _).trans ((ValueIdx.shapeCast_ab_1ab_apply _ _ u p l).trans ?_)
    rw [plane_emb 0 1 _ _ rfl rfl rfl u p l]
    exact strip_eq arg1 arg2 arg6 X1 X2 X6 k sPlo 0 1 _ _ rfl (word_0_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (plo_0_0 arg1 arg2 arg6 X1 X2 X6 k) _).trans ((ValueIdx.shapeCast_ab_1ab_apply _ _ u p l).trans ?_)
    rw [plane_emb 0 0 _ _ rfl rfl rfl u p l]
    exact strip_eq arg1 arg2 arg6 X1 X2 X6 k sPlo 0 0 _ _ rfl (word_0_0 arg2 X2 k) _ _ _ _ _ _ _ _ ⟨rfl, rfl⟩ ⟨rfl, rfl⟩ ⟨rfl, rfl⟩ ⟨rfl, rfl⟩ p l

/-- Plane `phi` after the trip's selections. -/
theorem phi_plane (y : S2x128x128.Idx) :
    View.canon (trip.sl.W11_8 arg1 arg2 arg6 X1 X2 X6 k) y = groupAt arg1 arg2 arg6 X1 X2 X6 k sPhi (y 0) (y 1) (y 2) := by
  refine View.canon_apply_of_pieces (fun y : S2x128x128.Idx => groupAt arg1 arg2 arg6 X1 X2 X6 k sPhi (y 0) (y 1) (y 2)) _ ?_ y
    (View.cover_of_tiledL (trip.sl.W11_8 arg1 arg2 arg6 X1 X2 X6 k) S1x32x128.size (by sl_kernel_rfl) y)
  unfold trip.sl.W11_8
  intro q hq
  simp only [List.mem_cons, List.not_mem_nil, or_false] at hq
  rcases hq with rfl | rfl | rfl | rfl | rfl | rfl | rfl | rfl
  · intro x
    obtain ⟨u, p, l, rfl⟩ : ∃ u p l, x = ValueIdx.ix3 u p l := ⟨x 0, x 1, x 2, ValueIdx.eq_ix3 x⟩
    refine (congrFun (phi_1_3 arg1 arg2 arg6 X1 X2 X6 k) _).trans ((ValueIdx.shapeCast_ab_1ab_apply _ _ u p l).trans ?_)
    rw [plane_emb 1 3 _ _ rfl rfl rfl u p l]
    exact strip_eq arg1 arg2 arg6 X1 X2 X6 k sPhi 1 3 _ _ rfl (word_1_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (phi_1_2 arg1 arg2 arg6 X1 X2 X6 k) _).trans ((ValueIdx.shapeCast_ab_1ab_apply _ _ u p l).trans ?_)
    rw [plane_emb 1 2 _ _ rfl rfl rfl u p l]
    exact strip_eq arg1 arg2 arg6 X1 X2 X6 k sPhi 1 2 _ _ rfl (word_1_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (phi_1_1 arg1 arg2 arg6 X1 X2 X6 k) _).trans ((ValueIdx.shapeCast_ab_1ab_apply _ _ u p l).trans ?_)
    rw [plane_emb 1 1 _ _ rfl rfl rfl u p l]
    exact strip_eq arg1 arg2 arg6 X1 X2 X6 k sPhi 1 1 _ _ rfl (word_1_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (phi_1_0 arg1 arg2 arg6 X1 X2 X6 k) _).trans ((ValueIdx.shapeCast_ab_1ab_apply _ _ u p l).trans ?_)
    rw [plane_emb 1 0 _ _ rfl rfl rfl u p l]
    exact strip_eq arg1 arg2 arg6 X1 X2 X6 k sPhi 1 0 _ _ rfl (word_1_0 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (phi_0_3 arg1 arg2 arg6 X1 X2 X6 k) _).trans ((ValueIdx.shapeCast_ab_1ab_apply _ _ u p l).trans ?_)
    rw [plane_emb 0 3 _ _ rfl rfl rfl u p l]
    exact strip_eq arg1 arg2 arg6 X1 X2 X6 k sPhi 0 3 _ _ rfl (word_0_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (phi_0_2 arg1 arg2 arg6 X1 X2 X6 k) _).trans ((ValueIdx.shapeCast_ab_1ab_apply _ _ u p l).trans ?_)
    rw [plane_emb 0 2 _ _ rfl rfl rfl u p l]
    exact strip_eq arg1 arg2 arg6 X1 X2 X6 k sPhi 0 2 _ _ rfl (word_0_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (phi_0_1 arg1 arg2 arg6 X1 X2 X6 k) _).trans ((ValueIdx.shapeCast_ab_1ab_apply _ _ u p l).trans ?_)
    rw [plane_emb 0 1 _ _ rfl rfl rfl u p l]
    exact strip_eq arg1 arg2 arg6 X1 X2 X6 k sPhi 0 1 _ _ rfl (word_0_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (phi_0_0 arg1 arg2 arg6 X1 X2 X6 k) _).trans ((ValueIdx.shapeCast_ab_1ab_apply _ _ u p l).trans ?_)
    rw [plane_emb 0 0 _ _ rfl rfl rfl u p l]
    exact strip_eq arg1 arg2 arg6 X1 X2 X6 k sPhi 0 0 _ _ rfl (word_0_0 arg2 X2 k) _ _ _ _ _ _ _ _ ⟨rfl, rfl⟩ ⟨rfl, rfl⟩ ⟨rfl, rfl⟩ ⟨rfl, rfl⟩ p l

end Cert.Proof.KernelIdeal

end
-- ==== Proof.KI.Chunk.lean ====
/- What one trip stores in the codes and in the scales' scratch, as vectors made of its planes.

   A chunk's 128 groups of a row make four scale blocks of 32. The scale's exponent is found by an eight-step search over
   the exponents' powers of two. -/
module

public import proofs.«01_k».proof.Proof.KI.Filled

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

variable (arg1 : Memref sig .tc .vmem S128x12288 .bf16) (arg2 : Memref sig .tc .vmem S128x3072 .i32)
variable (arg6 : Memref sig .tc .vmem S512x512 .bf16)
variable (arg7 : Memref sig .tc .vmem S2x128x128 .f32)
variable (arg8 : Memref sig .tc .vmem S2x128x128 .f32)
variable (arg9 : Memref sig .tc .vmem S2x128x128 .f32)
variable (arg10 : Memref sig .tc .vmem S2x128x128 .f32)
variable (arg11 : Memref sig .tc .vmem S2x128x128 .f32)

variable (X1 : BufTy.Contents (Elt F) arg1.view.ty) (X2 : BufTy.Contents (Elt F) arg2.view.ty)
variable (X6 : BufTy.Contents (Elt F) arg6.view.ty) (k : Fin k0_t1_loop.trips)

/-- One step of the search: `up` replaces `ex` where its power of two is at most `y`. -/
def sStep (y : F .f32) (c : BitVec 32) (ex : BitVec 32) : BitVec 32 :=
  Scalar.select (FloatOps.cmpf .oge y (FloatOps.ofBits .f32 (IntOp.shli .vector (IntOp.addi ex c) 23#32))) (IntOp.addi ex c) ex
/-- The exponent field found. -/
def sEx (y : F .f32) : BitVec 32 :=
  sStep y 1#32 (sStep y 2#32 (sStep y 4#32 (sStep y 8#32 (sStep y 16#32 (sStep y 32#32 (sStep y 64#32 (sStep y 128#32 0#32)))))))
/-- The scale: the power of two above the exponent found, one where there is none. -/
def sScale (y : F .f32) : F .f32 :=
  FloatOps.ofBits .f32 (IntOp.shli .vector (Scalar.select (IntOp.cmpi .eq (sEx y) 0#32) 127#32 (IntOp.addi (sEx y) 1#32)) 23#32)
/-- The scale's inverse. -/
def sInv (y : F .f32) : F .f32 :=
  FloatOps.ofBits .f32 (IntOp.shli .vector (Scalar.select (IntOp.cmpi .eq (sEx y) 0#32) 127#32 (IntOp.subi 253#32 (sEx y))) 23#32)
/-- A kept magnitude scaled and clipped, with the kept value's sign. -/
def sQuant (mag p inv : F .f32) : F .f32 :=
  Scalar.select (FloatOps.cmpf .olt p (FloatOps.ofBits .f32 0x00000000#32))
    (FloatOps.maximumf (FloatOps.mulf mag inv) (FloatOps.ofBits .f32 0xC7600000#32))
    (FloatOps.subf (FloatOps.ofBits .f32 0x00000000#32)
      (FloatOps.maximumf (FloatOps.mulf mag inv) (FloatOps.ofBits .f32 0xC7600000#32)))

/-- The scales' inverses, one to each group. -/
def invPlane (y : FVec F S4x128 .f32) : FVec F S128x128 .f32 :=
  transpose S128x128 [1, 0] (shapeCast S128x128 (broadcastTo S4x32x128 (shapeCast S4x1x128 (shapeCast S4x1x128
    (fun j => sInv (y j) : FVec F S4x128 .f32) shapeCasts_S4x128_S4x1x128) shapeCasts_S4x1x128_S4x1x128) broadcasts_S4x1x128_S4x32x128)
    shapeCasts_S4x32x128_S128x128) transposes_S128x128_p1_0_S128x128
/-- One strip quantised. -/
def quantStrip (off : Fin 2 → Nat) (h : S128x128.Slices off S32x128) (mag p : Vec F S1x32x128 .f32) (y : FVec F S4x128 .f32) :
    FVec F S32x128 .f32 :=
  fun j => sQuant (shapeCast S32x128 mag shapeCasts_S1x32x128_S32x128 j) (shapeCast S32x128 p shapeCasts_S1x32x128_S32x128 j)
    (extractStridedSlice S32x128 off (invPlane y) h j)
/-- The lanes to gather from. -/
def gatherIdx (v : IVec S32x128 32) : IVec S32x128 32 :=
  shapeCast S32x128 (shapeCast S32x128x1 (select (cmpi .slt v (broadcast S32x128 0#32)) (addi v (broadcast S32x128 128#32)) v)
    shapeCasts_S32x128_S32x128x1) shapeCasts_S32x128x1_S32x128
/-- One stored block of codes: the two kept values of a group beside each other. -/
def codeBlock (idx : IVec S32x128 32) (lo hi : FVec F S32x128 .f32) : FVec F S32x128 .fp8e5m2 :=
  truncf .fp8e5m2 (select k0_pay3 (dynamicGather 1 lo (gatherIdx idx)) (dynamicGather 1 hi (gatherIdx idx))) bitsLt_fp8e5m2_f32

/-- The scaled maxima of the trip's first chunk. -/
def y0 : FVec F S4x128 .f32 := k0_pay293 (trip.sl.v993 arg1 arg6 arg7 X1 X6 k)
/-- The scaled maxima of the trip's second chunk. -/
def y1 : FVec F S4x128 .f32 := k0_pay293 (trip.sl.v1395 arg1 arg6 arg7 X1 X6 k)

/-- Chunk 1, strip 3, half 1: the codes stored. -/
theorem code_1_3_1 : k0_pay370 k0_pay3 k0_pay5 (trip.sl.r_212 arg1 arg2 arg6 arg7 arg8 arg10 X1 X2 X6 k) (trip.sl.r_213 arg1 arg2 arg6 arg7 arg9 arg11 X1 X2 X6 k) (k0_pay369 k0_pay5) 128#32 =
    codeBlock k0_pay5 (quantStrip ![96, 0] slices_S128x128_o96_0_S32x128 (trip.sl.v1721 arg1 arg2 arg6 arg8 X1 X2 X6 k) (trip.sl.v1723 arg1 arg2 arg6 arg10 X1 X2 X6 k) (y1 arg1 arg6 arg7 X1 X6 k)) (quantStrip ![96, 0] slices_S128x128_o96_0_S32x128 (trip.sl.v1733 arg1 arg2 arg6 arg9 X1 X2 X6 k) (trip.sl.v1735 arg1 arg2 arg6 arg11 X1 X2 X6 k) (y1 arg1 arg6 arg7 X1 X6 k)) := rfl

/-- Chunk 1, strip 3, half 0: the codes stored. -/
theorem code_1_3_0 : k0_pay368 k0_pay3 k0_pay4 (trip.sl.r_211 arg1 arg6 arg7 X1 X6 k) (trip.sl.r_212 arg1 arg2 arg6 arg7 arg8 arg10 X1 X2 X6 k) (trip.sl.v1733 arg1 arg2 arg6 arg9 X1 X2 X6 k) (trip.sl.v1735 arg1 arg2 arg6 arg11 X1 X2 X6 k) =
    codeBlock k0_pay4 (quantStrip ![96, 0] slices_S128x128_o96_0_S32x128 (trip.sl.v1721 arg1 arg2 arg6 arg8 X1 X2 X6 k) (trip.sl.v1723 arg1 arg2 arg6 arg10 X1 X2 X6 k) (y1 arg1 arg6 arg7 X1 X6 k)) (quantStrip ![96, 0] slices_S128x128_o96_0_S32x128 (trip.sl.v1733 arg1 arg2 arg6 arg9 X1 X2 X6 k) (trip.sl.v1735 arg1 arg2 arg6 arg11 X1 X2 X6 k) (y1 arg1 arg6 arg7 X1 X6 k)) := rfl

/-- Chunk 1, strip 2, half 1: the codes stored. -/
theorem code_1_2_1 : k0_pay364 k0_pay3 k0_pay5 (trip.sl.r_209 arg1 arg2 arg6 arg7 arg8 arg10 X1 X2 X6 k) (trip.sl.r_210 arg1 arg2 arg6 arg7 arg9 arg11 X1 X2 X6 k) 0#32 =
    codeBlock k0_pay5 (quantStrip ![64, 0] slices_S128x128_o64_0_S32x128 (trip.sl.v1644 arg1 arg2 arg6 arg8 X1 X2 X6 k) (trip.sl.v1646 arg1 arg2 arg6 arg10 X1 X2 X6 k) (y1 arg1 arg6 arg7 X1 X6 k)) (quantStrip ![64, 0] slices_S128x128_o64_0_S32x128 (trip.sl.v1656 arg1 arg2 arg6 arg9 X1 X2 X6 k) (trip.sl.v1658 arg1 arg2 arg6 arg11 X1 X2 X6 k) (y1 arg1 arg6 arg7 X1 X6 k)) := rfl

/-- Chunk 1, strip 2, half 0: the codes stored. -/
theorem code_1_2_0 : k0_pay363 k0_pay3 k0_pay4 (trip.sl.r_205 arg1 arg6 arg7 X1 X6 k) (trip.sl.r_206 arg1 arg2 arg6 arg7 arg8 X1 X2 X6 k) (trip.sl.r_207 arg1 arg2 arg6 arg10 X1 X2 X6 k) (trip.sl.r_208 arg1 arg2 arg6 arg7 arg8 X1 X2 X6 k) (trip.sl.v1656 arg1 arg2 arg6 arg9 X1 X2 X6 k) (trip.sl.v1658 arg1 arg2 arg6 arg11 X1 X2 X6 k) =
    codeBlock k0_pay4 (quantStrip ![64, 0] slices_S128x128_o64_0_S32x128 (trip.sl.v1644 arg1 arg2 arg6 arg8 X1 X2 X6 k) (trip.sl.v1646 arg1 arg2 arg6 arg10 X1 X2 X6 k) (y1 arg1 arg6 arg7 X1 X6 k)) (quantStrip ![64, 0] slices_S128x128_o64_0_S32x128 (trip.sl.v1656 arg1 arg2 arg6 arg9 X1 X2 X6 k) (trip.sl.v1658 arg1 arg2 arg6 arg11 X1 X2 X6 k) (y1 arg1 arg6 arg7 X1 X6 k)) := rfl

/-- Chunk 1, strip 1, half 1: the codes stored. -/
theorem code_1_1_1 : k0_pay356 k0_pay3 k0_pay5 (trip.sl.r_202 arg1 arg2 arg6 arg7 arg8 arg10 X1 X2 X6 k) (trip.sl.r_203 arg1 arg2 arg6 arg7 arg9 arg11 X1 X2 X6 k) =
    codeBlock k0_pay5 (quantStrip ![32, 0] slices_S128x128_o32_0_S32x128 (trip.sl.v1567 arg1 arg2 arg6 arg8 X1 X2 X6 k) (trip.sl.v1569 arg1 arg2 arg6 arg10 X1 X2 X6 k) (y1 arg1 arg6 arg7 X1 X6 k)) (quantStrip ![32, 0] slices_S128x128_o32_0_S32x128 (trip.sl.v1579 arg1 arg2 arg6 arg9 X1 X2 X6 k) (trip.sl.v1581 arg1 arg2 arg6 arg11 X1 X2 X6 k) (y1 arg1 arg6 arg7 X1 X6 k)) := rfl

/-- Chunk 1, strip 1, half 0: the codes stored. -/
theorem code_1_1_0 : trip.sl.r_204 arg1 arg2 arg6 arg7 arg8 arg9 arg10 arg11 X1 X2 X6 k =
    codeBlock k0_pay4 (quantStrip ![32, 0] slices_S128x128_o32_0_S32x128 (trip.sl.v1567 arg1 arg2 arg6 arg8 X1 X2 X6 k) (trip.sl.v1569 arg1 arg2 arg6 arg10 X1 X2 X6 k) (y1 arg1 arg6 arg7 X1 X6 k)) (quantStrip ![32, 0] slices_S128x128_o32_0_S32x128 (trip.sl.v1579 arg1 arg2 arg6 arg9 X1 X2 X6 k) (trip.sl.v1581 arg1 arg2 arg6 arg11 X1 X2 X6 k) (y1 arg1 arg6 arg7 X1 X6 k)) := rfl

/-- Chunk 1, strip 0, half 1: the codes stored. -/
theorem code_1_0_1 : k0_pay349 k0_pay3 k0_pay5 (trip.sl.r_196 arg1 arg2 arg6 arg7 arg8 arg10 X1 X2 X6 k) (trip.sl.r_197 arg1 arg2 arg6 arg7 arg9 arg11 X1 X2 X6 k) =
    codeBlock k0_pay5 (quantStrip ![0, 0] slices_S128x128_o0_0_S32x128 (trip.sl.v1490 arg1 arg2 arg6 arg8 X1 X2 X6 k) (trip.sl.v1492 arg1 arg2 arg6 arg10 X1 X2 X6 k) (y1 arg1 arg6 arg7 X1 X6 k)) (quantStrip ![0, 0] slices_S128x128_o0_0_S32x128 (trip.sl.v1502 arg1 arg2 arg6 arg9 X1 X2 X6 k) (trip.sl.v1504 arg1 arg2 arg6 arg11 X1 X2 X6 k) (y1 arg1 arg6 arg7 X1 X6 k)) := rfl

/-- Chunk 1, strip 0, half 0: the codes stored. -/
theorem code_1_0_0 : k0_pay348 (trip.sl.r_198 arg1 arg2 arg6 arg7 arg8 arg9 arg10 arg11 X1 X2 X6 k) =
    codeBlock k0_pay4 (quantStrip ![0, 0] slices_S128x128_o0_0_S32x128 (trip.sl.v1490 arg1 arg2 arg6 arg8 X1 X2 X6 k) (trip.sl.v1492 arg1 arg2 arg6 arg10 X1 X2 X6 k) (y1 arg1 arg6 arg7 X1 X6 k)) (quantStrip ![0, 0] slices_S128x128_o0_0_S32x128 (trip.sl.v1502 arg1 arg2 arg6 arg9 X1 X2 X6 k) (trip.sl.v1504 arg1 arg2 arg6 arg11 X1 X2 X6 k) (y1 arg1 arg6 arg7 X1 X6 k)) := rfl

/-- Chunk 0, strip 3, half 1: the codes stored. -/
theorem code_0_3_1 : k0_pay331 k0_pay3 k0_pay5 (trip.sl.r_187 arg1 arg2 arg6 arg7 arg8 arg10 X1 X2 X6 k) (trip.sl.r_188 arg1 arg2 arg6 arg7 arg9 arg11 X1 X2 X6 k) 0#32 =
    codeBlock k0_pay5 (quantStrip ![96, 0] slices_S128x128_o96_0_S32x128 (trip.sl.v1319 arg1 arg2 arg6 arg8 X1 X2 X6 k) (trip.sl.v1321 arg1 arg2 arg6 arg10 X1 X2 X6 k) (y0 arg1 arg6 arg7 X1 X6 k)) (quantStrip ![96, 0] slices_S128x128_o96_0_S32x128 (trip.sl.v1331 arg1 arg2 arg6 arg9 X1 X2 X6 k) (trip.sl.v1333 arg1 arg2 arg6 arg11 X1 X2 X6 k) (y0 arg1 arg6 arg7 X1 X6 k)) := rfl

/-- Chunk 0, strip 3, half 0: the codes stored. -/
theorem code_0_3_0 : k0_pay330 k0_pay3 k0_pay4 (trip.sl.r_183 arg1 arg6 arg7 X1 X6 k) (trip.sl.r_184 arg1 arg2 arg6 arg7 arg8 X1 X2 X6 k) (trip.sl.r_185 arg1 arg2 arg6 arg10 X1 X2 X6 k) (trip.sl.r_186 arg1 arg2 arg6 arg7 arg8 X1 X2 X6 k) (trip.sl.v1331 arg1 arg2 arg6 arg9 X1 X2 X6 k) (trip.sl.v1333 arg1 arg2 arg6 arg11 X1 X2 X6 k) =
    codeBlock k0_pay4 (quantStrip ![96, 0] slices_S128x128_o96_0_S32x128 (trip.sl.v1319 arg1 arg2 arg6 arg8 X1 X2 X6 k) (trip.sl.v1321 arg1 arg2 arg6 arg10 X1 X2 X6 k) (y0 arg1 arg6 arg7 X1 X6 k)) (quantStrip ![96, 0] slices_S128x128_o96_0_S32x128 (trip.sl.v1331 arg1 arg2 arg6 arg9 X1 X2 X6 k) (trip.sl.v1333 arg1 arg2 arg6 arg11 X1 X2 X6 k) (y0 arg1 arg6 arg7 X1 X6 k)) := rfl

/-- Chunk 0, strip 2, half 1: the codes stored. -/
theorem code_0_2_1 : k0_pay323 k0_pay3 k0_pay5 (trip.sl.r_180 arg1 arg2 arg6 arg7 arg8 arg10 X1 X2 X6 k) (trip.sl.r_181 arg1 arg2 arg6 arg7 arg9 arg11 X1 X2 X6 k) =
    codeBlock k0_pay5 (quantStrip ![64, 0] slices_S128x128_o64_0_S32x128 (trip.sl.v1242 arg1 arg2 arg6 arg8 X1 X2 X6 k) (trip.sl.v1244 arg1 arg2 arg6 arg10 X1 X2 X6 k) (y0 arg1 arg6 arg7 X1 X6 k)) (quantStrip ![64, 0] slices_S128x128_o64_0_S32x128 (trip.sl.v1254 arg1 arg2 arg6 arg9 X1 X2 X6 k) (trip.sl.v1256 arg1 arg2 arg6 arg11 X1 X2 X6 k) (y0 arg1 arg6 arg7 X1 X6 k)) := rfl

/-- Chunk 0, strip 2, half 0: the codes stored. -/
theorem code_0_2_0 : trip.sl.r_182 arg1 arg2 arg6 arg7 arg8 arg9 arg10 arg11 X1 X2 X6 k =
    codeBlock k0_pay4 (quantStrip ![64, 0] slices_S128x128_o64_0_S32x128 (trip.sl.v1242 arg1 arg2 arg6 arg8 X1 X2 X6 k) (trip.sl.v1244 arg1 arg2 arg6 arg10 X1 X2 X6 k) (y0 arg1 arg6 arg7 X1 X6 k)) (quantStrip ![64, 0] slices_S128x128_o64_0_S32x128 (trip.sl.v1254 arg1 arg2 arg6 arg9 X1 X2 X6 k) (trip.sl.v1256 arg1 arg2 arg6 arg11 X1 X2 X6 k) (y0 arg1 arg6 arg7 X1 X6 k)) := rfl

/-- Chunk 0, strip 1, half 1: the codes stored. -/
theorem code_0_1_1 : k0_pay316 k0_pay3 k0_pay5 (trip.sl.r_174 arg1 arg2 arg6 arg7 arg8 arg10 X1 X2 X6 k) (trip.sl.r_175 arg1 arg2 arg6 arg7 arg9 arg11 X1 X2 X6 k) =
    codeBlock k0_pay5 (quantStrip ![32, 0] slices_S128x128_o32_0_S32x128 (trip.sl.v1165 arg1 arg2 arg6 arg8 X1 X2 X6 k) (trip.sl.v1167 arg1 arg2 arg6 arg10 X1 X2 X6 k) (y0 arg1 arg6 arg7 X1 X6 k)) (quantStrip ![32, 0] slices_S128x128_o32_0_S32x128 (trip.sl.v1177 arg1 arg2 arg6 arg9 X1 X2 X6 k) (trip.sl.v1179 arg1 arg2 arg6 arg11 X1 X2 X6 k) (y0 arg1 arg6 arg7 X1 X6 k)) := rfl

/-- Chunk 0, strip 1, half 0: the codes stored. -/
theorem code_0_1_0 : k0_pay315 (trip.sl.r_176 arg1 arg2 arg6 arg7 arg8 arg9 arg10 arg11 X1 X2 X6 k) =
    codeBlock k0_pay4 (quantStrip ![32, 0] slices_S128x128_o32_0_S32x128 (trip.sl.v1165 arg1 arg2 arg6 arg8 X1 X2 X6 k) (trip.sl.v1167 arg1 arg2 arg6 arg10 X1 X2 X6 k) (y0 arg1 arg6 arg7 X1 X6 k)) (quantStrip ![32, 0] slices_S128x128_o32_0_S32x128 (trip.sl.v1177 arg1 arg2 arg6 arg9 X1 X2 X6 k) (trip.sl.v1179 arg1 arg2 arg6 arg11 X1 X2 X6 k) (y0 arg1 arg6 arg7 X1 X6 k)) := rfl

/-- Chunk 0, strip 0, half 1: the codes stored. -/
theorem code_0_0_1 : k0_pay308 k0_pay3 k0_pay5 (trip.sl.r_168 arg1 arg2 arg6 arg7 arg8 arg10 X1 X2 X6 k) (trip.sl.r_169 arg1 arg2 arg6 arg7 arg9 arg11 X1 X2 X6 k) =
    codeBlock k0_pay5 (quantStrip ![0, 0] slices_S128x128_o0_0_S32x128 (trip.sl.v1088 arg1 arg2 arg6 arg8 X1 X2 X6 k) (trip.sl.v1090 arg1 arg2 arg6 arg10 X1 X2 X6 k) (y0 arg1 arg6 arg7 X1 X6 k)) (quantStrip ![0, 0] slices_S128x128_o0_0_S32x128 (trip.sl.v1100 arg1 arg2 arg6 arg9 X1 X2 X6 k) (trip.sl.v1102 arg1 arg2 arg6 arg11 X1 X2 X6 k) (y0 arg1 arg6 arg7 X1 X6 k)) := rfl

/-- Chunk 0, strip 0, half 0: the codes stored. -/
theorem code_0_0_0 : k0_pay307 (trip.sl.r_170 arg1 arg2 arg6 arg7 arg8 arg9 arg10 arg11 X1 X2 X6 k) =
    codeBlock k0_pay4 (quantStrip ![0, 0] slices_S128x128_o0_0_S32x128 (trip.sl.v1088 arg1 arg2 arg6 arg8 X1 X2 X6 k) (trip.sl.v1090 arg1 arg2 arg6 arg10 X1 X2 X6 k) (y0 arg1 arg6 arg7 X1 X6 k)) (quantStrip ![0, 0] slices_S128x128_o0_0_S32x128 (trip.sl.v1100 arg1 arg2 arg6 arg9 X1 X2 X6 k) (trip.sl.v1102 arg1 arg2 arg6 arg11 X1 X2 X6 k) (y0 arg1 arg6 arg7 X1 X6 k)) := rfl

/-- The scales stored of the first chunk. -/
theorem scale_0 : k0_pay299 (trip.sl.r_162 arg1 arg6 arg7 X1 X6 k) (trip.sl.r_163 arg1 arg6 arg7 X1 X6 k) 1#32 =
    shapeCast S4x128 (fun j => sScale (y0 arg1 arg6 arg7 X1 X6 k j)) shapeCasts_S4x128_S4x128 := rfl

/-- The scales stored of the second chunk. -/
theorem scale_1 : k0_pay340 (trip.sl.r_189 arg1 arg6 arg7 X1 X6 k) (trip.sl.r_190 arg1 arg6 arg7 X1 X6 k) (trip.sl.r_191 arg1 arg6 arg7 X1 X6 k) 23#32 =
    shapeCast S4x128 (fun j => sScale (y1 arg1 arg6 arg7 X1 X6 k j)) shapeCasts_S4x128_S4x128 := rfl

end Cert.Proof.KernelIdeal

end
-- ==== Proof.KI.ChunkAt.lean ====
/- What one trip stores in the codes and in the scales' scratch, element by element. -/
module

public import proofs.«01_k».proof.Proof.KI.Chunk

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

variable (arg1 : Memref sig .tc .vmem S128x12288 .bf16) (arg2 : Memref sig .tc .vmem S128x3072 .i32)
variable (arg6 : Memref sig .tc .vmem S512x512 .bf16)
variable (arg7 : Memref sig .tc .vmem S2x128x128 .f32)
variable (arg8 : Memref sig .tc .vmem S2x128x128 .f32)
variable (arg9 : Memref sig .tc .vmem S2x128x128 .f32)
variable (arg10 : Memref sig .tc .vmem S2x128x128 .f32)
variable (arg11 : Memref sig .tc .vmem S2x128x128 .f32)

variable (X1 : BufTy.Contents (Elt F) arg1.view.ty) (X2 : BufTy.Contents (Elt F) arg2.view.ty)
variable (X6 : BufTy.Contents (Elt F) arg6.view.ty) (k : Fin k0_t1_loop.trips)

/-- The scales' inverses, one to each group: group `l` of row `p` takes its block's. -/
theorem invPlane_at (y : FVec F S4x128 .f32) (p l : Fin 128) :
    invPlane y (ValueIdx.ix2 p l) = sInv (y (ValueIdx.ix2 (⟨l.val / 32, by omega⟩ : Fin 4) p)) := by
  unfold invPlane
  refine (ValueIdx.transpose_ix2_apply _ _ p l).trans ?_
  refine (shapeCast_apply _ _ (ValueIdx.ix2 l p) (ValueIdx.ix3 (⟨l.val / 32, by omega⟩ : Fin 4) (⟨l.val % 32, Nat.mod_lt _ (by decide)⟩ : Fin 32) p) ?_).trans ?_
  · rw [Shape.rowMajor_val_three, Shape.rowMajor_val_two]
    show (l.val / 32 * 32 + l.val % 32) * 128 + p.val = l.val * 128 + p.val
    omega
  refine (broadcastTo_apply _ _ _ (ValueIdx.ix3 (⟨l.val / 32, by omega⟩ : Fin 4) (0 : Fin 1) p) ?_).trans ?_
  · intro a
    match a with
    | ⟨0, _⟩ => rfl
    | ⟨1, _⟩ => rfl
    | ⟨2, _⟩ => rfl
  rw [shapeCast_self]
  refine (shapeCast_apply _ _ _ (ValueIdx.ix2 (⟨l.val / 32, by omega⟩ : Fin 4) p) ?_).trans rfl
  rw [Shape.rowMajor_val_three, Shape.rowMajor_val_two]
  show l.val / 32 * 128 + p.val = (l.val / 32 * 1 + 0) * 128 + p.val
  omega

/-- A strip of a plane read back. -/
theorem read_strip (v : View sig .tc .vmem S2x128x128 .f32) (L : List (View.Piece (Elt F) S2x128x128 .f32)) (kp : Fin 2) (s : Fin 4)
    (off : Fin 3 → Nat) (hb : ∀ a, off a + S1x32x128.size a ≤ S2x128x128.size a)
    (h0 : off 0 = kp.val) (h1 : off 1 = 32 * s.val) (h2 : off 2 = 0) (p : Fin 32) (l : Fin 128) :
    shapeCast S32x128 (v.readCov L (Rect.unit (s := S2x128x128) off S1x32x128.size hb).toLoadRect) shapeCasts_S1x32x128_S32x128 (ValueIdx.ix2 p l)
      = View.canon L (ValueIdx.ix3 kp (stripRow s p) l) := by
  refine (ValueIdx.shapeCast_1ab_ab_apply _ _ p l).trans ?_
  rw [View.readCov_eq_canon']
  exact congrArg (View.canon L) (plane_emb kp s off hb h0 h1 h2 0 p l)

/-- The scaled maxima of the trip's chunk `kp`. -/
def yK (kp : Fin 2) : FVec F S4x128 .f32 :=
  match kp with | 0 => y0 arg1 arg6 arg7 X1 X6 k | 1 => y1 arg1 arg6 arg7 X1 X6 k

/-- The code, before its rounding, of the lower (`b = 0`) or the higher kept value of group `l` of row `p`. -/
def quantAt (b : Fin 2) (kp : Fin 2) (p l : Fin 128) : F .f32 :=
  match b with
  | 0 => sQuant (groupAt arg1 arg2 arg6 X1 X2 X6 k sMlo kp p l) (groupAt arg1 arg2 arg6 X1 X2 X6 k sPlo kp p l)
      (sInv (yK arg1 arg6 arg7 X1 X6 k kp (ValueIdx.ix2 (⟨l.val / 32, by omega⟩ : Fin 4) p)))
  | 1 => sQuant (groupAt arg1 arg2 arg6 X1 X2 X6 k sMhi kp p l) (groupAt arg1 arg2 arg6 X1 X2 X6 k sPhi kp p l)
      (sInv (yK arg1 arg6 arg7 X1 X6 k kp (ValueIdx.ix2 (⟨l.val / 32, by omega⟩ : Fin 4) p)))

/-- One strip quantised, element by element. -/
theorem quantStrip_at (off : Fin 2 → Nat) (h : S128x128.Slices off S32x128) (mag p : Vec F S1x32x128 .f32) (y : FVec F S4x128 .f32)
    (s : Fin 4) (h0 : off 0 = 32 * s.val) (h1 : off 1 = 0) (q : Fin 32) (l : Fin 128) (m v : F .f32)
    (hm : shapeCast S32x128 mag shapeCasts_S1x32x128_S32x128 (ValueIdx.ix2 q l) = m)
    (hp : shapeCast S32x128 p shapeCasts_S1x32x128_S32x128 (ValueIdx.ix2 q l) = v) :
    quantStrip off h mag p y (ValueIdx.ix2 q l)
      = sQuant m v (sInv (y (ValueIdx.ix2 (⟨l.val / 32, by omega⟩ : Fin 4) (stripRow s q)))) := by
  unfold quantStrip
  rw [hm, hp, ← invPlane_at]
  refine congrArg (sQuant m v) (extractStridedSlice_apply _ _ _ _ _ fun a => ?_)
  match a with
  | ⟨0, _⟩ => exact (congrArg (· + q.val) h0).symm
  | ⟨1, _⟩ => exact ((congrArg (· + l.val) h1).trans (Nat.zero_add _)).symm

/-- The lanes to gather from are the lanes given, where they are lanes. -/
theorem gatherIdx_at (v : IVec S32x128 32) (j : S32x128.Idx) : gatherIdx v j =
    Scalar.select (IntOp.cmpi .slt (v j) 0#32) (IntOp.addi (v j) 128#32) (v j) := by
  unfold gatherIdx
  rw [shapeCast_shapeCast]
  rfl

/-- The first half's lanes: lane `l` takes group `l / 2`. -/
theorem gather_4 (p : Fin 32) (l : Fin 128) : (gatherIdx k0_pay4 (ValueIdx.ix2 p l)).toNat % 128 = l.val / 2 := by
  have h : k0_pay4 (ValueIdx.ix2 p l) = IntOp.shrsi .vector (BitVec.ofNat 32 l.val) 1#32 :=
    congrArg (fun x => IntOp.shrsi .vector x 1#32) (iota_single_apply .tc S32x128 32 1 _ (ValueIdx.ix2 p l))
  rw [gatherIdx_at, h]
  clear h
  revert l
  decide

/-- The second half's lanes: lane `l` takes group `64 + l / 2`. -/
theorem gather_5 (p : Fin 32) (l : Fin 128) : (gatherIdx k0_pay5 (ValueIdx.ix2 p l)).toNat % 128 = 64 + l.val / 2 := by
  have h : k0_pay5 (ValueIdx.ix2 p l) = IntOp.addi (IntOp.shrsi .vector (BitVec.ofNat 32 l.val) 1#32) 64#32 :=
    congrArg (fun x => IntOp.addi (IntOp.shrsi .vector x 1#32) 64#32) (iota_single_apply .tc S32x128 32 1 _ (ValueIdx.ix2 p l))
  rw [gatherIdx_at, h]
  clear h
  revert l
  decide

/-- The even lanes. -/
theorem even_at (p : Fin 32) (l : Fin 128) : k0_pay3 (ValueIdx.ix2 p l) = BitVec.ofBool (decide (l.val % 2 = 0)) := by
  have h : k0_pay3 (ValueIdx.ix2 p l) = IntOp.cmpi .eq (IntOp.andi (BitVec.ofNat 32 l.val) 1#32) 0#32 :=
    congrArg (fun x => IntOp.cmpi .eq (IntOp.andi x 1#32) 0#32) (iota_single_apply .tc S32x128 32 1 _ (ValueIdx.ix2 p l))
  rw [h]
  clear h
  revert l
  decide

/-- The rounding of a code. -/
def sTrunc (x : F .f32) : F .fp8e5m2 := FloatOps.truncf .fp8e5m2 bitsLt_fp8e5m2_f32 x

/-- One stored block of codes, element by element: even lanes the lower values, odd lanes the higher ones. -/
theorem codeBlock_at (idx : IVec S32x128 32) (lo hi : FVec F S32x128 .f32) (p : Fin 32) (l : Fin 128) (g : Fin 128)
    (hg : (gatherIdx idx (ValueIdx.ix2 p l)).toNat % 128 = g.val) :
    codeBlock idx lo hi (ValueIdx.ix2 p l)
      = sTrunc (if l.val % 2 = 0 then lo (ValueIdx.ix2 p g) else hi (ValueIdx.ix2 p g)) := by
  have e : ∀ x : FVec F S32x128 .f32, dynamicGather 1 x (gatherIdx idx) (ValueIdx.ix2 p l) = x (ValueIdx.ix2 p g) := by
    intro x
    refine congrArg x (funext fun a => Fin.ext ?_)
    match a with
    | ⟨0, _⟩ => rfl
    | ⟨1, _⟩ => exact hg
  show sTrunc (Scalar.select (k0_pay3 (ValueIdx.ix2 p l)) _ _) = _
  rw [even_at, e, e]
  by_cases h : l.val % 2 = 0
  · simp only [h]; rfl
  · simp only [h]; rfl

/-- The code stored at lane `l` of half `h`, row `p`, of the trip's chunk `kp`. -/
def codeAt (h : Fin 2) (kp : Fin 2) (p l : Fin 128) : F .fp8e5m2 :=
  sTrunc
    (quantAt arg1 arg2 arg6 arg7 X1 X2 X6 k ⟨l.val % 2, Nat.mod_lt _ (by decide)⟩ kp p ⟨64 * h.val + l.val / 2, by omega⟩)

/-- A stored block of codes made of a strip of the planes holds the codes. -/
theorem codes_strip (h kp : Fin 2) (s : Fin 4) (idx : IVec S32x128 32)
    (hidx : ∀ p l, (gatherIdx idx (ValueIdx.ix2 p l)).toNat % 128 = 64 * h.val + l.val / 2)
    (off : Fin 2 → Nat) (hs : S128x128.Slices off S32x128) (h0 : off 0 = 32 * s.val) (h1 : off 1 = 0)
    (mlo plo mhi phi : Vec F S1x32x128 .f32)
    (e1 : ∀ q l, shapeCast S32x128 mlo shapeCasts_S1x32x128_S32x128 (ValueIdx.ix2 q l) = groupAt arg1 arg2 arg6 X1 X2 X6 k sMlo kp (stripRow s q) l)
    (e2 : ∀ q l, shapeCast S32x128 plo shapeCasts_S1x32x128_S32x128 (ValueIdx.ix2 q l) = groupAt arg1 arg2 arg6 X1 X2 X6 k sPlo kp (stripRow s q) l)
    (e3 : ∀ q l, shapeCast S32x128 mhi shapeCasts_S1x32x128_S32x128 (ValueIdx.ix2 q l) = groupAt arg1 arg2 arg6 X1 X2 X6 k sMhi kp (stripRow s q) l)
    (e4 : ∀ q l, shapeCast S32x128 phi shapeCasts_S1x32x128_S32x128 (ValueIdx.ix2 q l) = groupAt arg1 arg2 arg6 X1 X2 X6 k sPhi kp (stripRow s q) l)
    (p : Fin 32) (l : Fin 128) :
    codeBlock idx (quantStrip off hs mlo plo (yK arg1 arg6 arg7 X1 X6 k kp)) (quantStrip off hs mhi phi (yK arg1 arg6 arg7 X1 X6 k kp)) (ValueIdx.ix2 p l)
      = codeAt arg1 arg2 arg6 arg7 X1 X2 X6 k h kp (stripRow s p) l := by
  rw [codeBlock_at idx _ _ p l ⟨64 * h.val + l.val / 2, by omega⟩ (hidx p l)]
  unfold codeAt
  refine congrArg _ ?_
  rw [quantStrip_at off hs mlo plo _ s h0 h1 p _ _ _ (e1 p _) (e2 p _), quantStrip_at off hs mhi phi _ s h0 h1 p _ _ _ (e3 p _) (e4 p _)]
  have hl : l.val % 2 = 0 ∨ l.val % 2 = 1 := by omega
  rcases hl with hl | hl
  · rw [if_pos hl, show (⟨l.val % 2, Nat.mod_lt _ (by decide)⟩ : Fin 2) = 0 from Fin.ext hl]; rfl
  · rw [if_neg (by omega), show (⟨l.val % 2, Nat.mod_lt _ (by decide)⟩ : Fin 2) = 1 from Fin.ext hl]; rfl

/-- Chunk 1, strip 3, half 1: the codes stored, element by element. -/
theorem code_1_3_1_at (x : S32x128.Idx) : k0_pay370 k0_pay3 k0_pay5 (trip.sl.r_212 arg1 arg2 arg6 arg7 arg8 arg10 X1 X2 X6 k) (trip.sl.r_213 arg1 arg2 arg6 arg7 arg9 arg11 X1 X2 X6 k) (k0_pay369 k0_pay5) 128#32 x = codeAt arg1 arg2 arg6 arg7 X1 X2 X6 k 1 1 (stripRow 3 (x 0)) (x 1) := by
  obtain ⟨p, l, rfl⟩ : ∃ p l, x = ValueIdx.ix2 p l := ⟨x 0, x 1, ValueIdx.eq_ix2 x⟩
  exact (congrFun (code_1_3_1 arg1 arg2 arg6 arg7 arg8 arg9 arg10 arg11 X1 X2 X6 k) _).trans
    (codes_strip arg1 arg2 arg6 arg7 X1 X2 X6 k 1 1 3 _ (fun p l => (gather_5 p l).trans (by simp)) _ _ rfl rfl _ _ _ _
      (fun q l => (read_strip _ _ 1 3 _ _ rfl rfl rfl q l).trans (mlo_plane arg1 arg2 arg6 X1 X2 X6 k _)) (fun q l => (read_strip _ _ 1 3 _ _ rfl rfl rfl q l).trans (plo_plane arg1 arg2 arg6 X1 X2 X6 k _)) (fun q l => (read_strip _ _ 1 3 _ _ rfl rfl rfl q l).trans (mhi_plane arg1 arg2 arg6 X1 X2 X6 k _)) (fun q l => (read_strip _ _ 1 3 _ _ rfl rfl rfl q l).trans (phi_plane arg1 arg2 arg6 X1 X2 X6 k _)) p l)

/-- Chunk 1, strip 3, half 0: the codes stored, element by element. -/
theorem code_1_3_0_at (x : S32x128.Idx) : k0_pay368 k0_pay3 k0_pay4 (trip.sl.r_211 arg1 arg6 arg7 X1 X6 k) (trip.sl.r_212 arg1 arg2 arg6 arg7 arg8 arg10 X1 X2 X6 k) (trip.sl.v1733 arg1 arg2 arg6 arg9 X1 X2 X6 k) (trip.sl.v1735 arg1 arg2 arg6 arg11 X1 X2 X6 k) x = codeAt arg1 arg2 arg6 arg7 X1 X2 X6 k 0 1 (stripRow 3 (x 0)) (x 1) := by
  obtain ⟨p, l, rfl⟩ : ∃ p l, x = ValueIdx.ix2 p l := ⟨x 0, x 1, ValueIdx.eq_ix2 x⟩
  exact (congrFun (code_1_3_0 arg1 arg2 arg6 arg7 arg8 arg9 arg10 arg11 X1 X2 X6 k) _).trans
    (codes_strip arg1 arg2 arg6 arg7 X1 X2 X6 k 0 1 3 _ (fun p l => (gather_4 p l).trans (by simp)) _ _ rfl rfl _ _ _ _
      (fun q l => (read_strip _ _ 1 3 _ _ rfl rfl rfl q l).trans (mlo_plane arg1 arg2 arg6 X1 X2 X6 k _)) (fun q l => (read_strip _ _ 1 3 _ _ rfl rfl rfl q l).trans (plo_plane arg1 arg2 arg6 X1 X2 X6 k _)) (fun q l => (read_strip _ _ 1 3 _ _ rfl rfl rfl q l).trans (mhi_plane arg1 arg2 arg6 X1 X2 X6 k _)) (fun q l => (read_strip _ _ 1 3 _ _ rfl rfl rfl q l).trans (phi_plane arg1 arg2 arg6 X1 X2 X6 k _)) p l)

/-- Chunk 1, strip 2, half 1: the codes stored, element by element. -/
theorem code_1_2_1_at (x : S32x128.Idx) : k0_pay364 k0_pay3 k0_pay5 (trip.sl.r_209 arg1 arg2 arg6 arg7 arg8 arg10 X1 X2 X6 k) (trip.sl.r_210 arg1 arg2 arg6 arg7 arg9 arg11 X1 X2 X6 k) 0#32 x = codeAt arg1 arg2 arg6 arg7 X1 X2 X6 k 1 1 (stripRow 2 (x 0)) (x 1) := by
  obtain ⟨p, l, rfl⟩ : ∃ p l, x = ValueIdx.ix2 p l := ⟨x 0, x 1, ValueIdx.eq_ix2 x⟩
  exact (congrFun (code_1_2_1 arg1 arg2 arg6 arg7 arg8 arg9 arg10 arg11 X1 X2 X6 k) _).trans
    (codes_strip arg1 arg2 arg6 arg7 X1 X2 X6 k 1 1 2 _ (fun p l => (gather_5 p l).trans (by simp)) _ _ rfl rfl _ _ _ _
      (fun q l => (read_strip _ _ 1 2 _ _ rfl rfl rfl q l).trans (mlo_plane arg1 arg2 arg6 X1 X2 X6 k _)) (fun q l => (read_strip _ _ 1 2 _ _ rfl rfl rfl q l).trans (plo_plane arg1 arg2 arg6 X1 X2 X6 k _)) (fun q l => (read_strip _ _ 1 2 _ _ rfl rfl rfl q l).trans (mhi_plane arg1 arg2 arg6 X1 X2 X6 k _)) (fun q l => (read_strip _ _ 1 2 _ _ rfl rfl rfl q l).trans (phi_plane arg1 arg2 arg6 X1 X2 X6 k _)) p l)

/-- Chunk 1, strip 2, half 0: the codes stored, element by element. -/
theorem code_1_2_0_at (x : S32x128.Idx) : k0_pay363 k0_pay3 k0_pay4 (trip.sl.r_205 arg1 arg6 arg7 X1 X6 k) (trip.sl.r_206 arg1 arg2 arg6 arg7 arg8 X1 X2 X6 k) (trip.sl.r_207 arg1 arg2 arg6 arg10 X1 X2 X6 k) (trip.sl.r_208 arg1 arg2 arg6 arg7 arg8 X1 X2 X6 k) (trip.sl.v1656 arg1 arg2 arg6 arg9 X1 X2 X6 k) (trip.sl.v1658 arg1 arg2 arg6 arg11 X1 X2 X6 k) x = codeAt arg1 arg2 arg6 arg7 X1 X2 X6 k 0 1 (stripRow 2 (x 0)) (x 1) := by
  obtain ⟨p, l, rfl⟩ : ∃ p l, x = ValueIdx.ix2 p l := ⟨x 0, x 1, ValueIdx.eq_ix2 x⟩
  exact (congrFun (code_1_2_0 arg1 arg2 arg6 arg7 arg8 arg9 arg10 arg11 X1 X2 X6 k) _).trans
    (codes_strip arg1 arg2 arg6 arg7 X1 X2 X6 k 0 1 2 _ (fun p l => (gather_4 p l).trans (by simp)) _ _ rfl rfl _ _ _ _
      (fun q l => (read_strip _ _ 1 2 _ _ rfl rfl rfl q l).trans (mlo_plane arg1 arg2 arg6 X1 X2 X6 k _)) (fun q l => (read_strip _ _ 1 2 _ _ rfl rfl rfl q l).trans (plo_plane arg1 arg2 arg6 X1 X2 X6 k _)) (fun q l => (read_strip _ _ 1 2 _ _ rfl rfl rfl q l).trans (mhi_plane arg1 arg2 arg6 X1 X2 X6 k _)) (fun q l => (read_strip _ _ 1 2 _ _ rfl rfl rfl q l).trans (phi_plane arg1 arg2 arg6 X1 X2 X6 k _)) p l)

/-- Chunk 1, strip 1, half 1: the codes stored, element by element. -/
theorem code_1_1_1_at (x : S32x128.Idx) : k0_pay356 k0_pay3 k0_pay5 (trip.sl.r_202 arg1 arg2 arg6 arg7 arg8 arg10 X1 X2 X6 k) (trip.sl.r_203 arg1 arg2 arg6 arg7 arg9 arg11 X1 X2 X6 k) x = codeAt arg1 arg2 arg6 arg7 X1 X2 X6 k 1 1 (stripRow 1 (x 0)) (x 1) := by
  obtain ⟨p, l, rfl⟩ : ∃ p l, x = ValueIdx.ix2 p l := ⟨x 0, x 1, ValueIdx.eq_ix2 x⟩
  exact (congrFun (code_1_1_1 arg1 arg2 arg6 arg7 arg8 arg9 arg10 arg11 X1 X2 X6 k) _).trans
    (codes_strip arg1 arg2 arg6 arg7 X1 X2 X6 k 1 1 1 _ (fun p l => (gather_5 p l).trans (by simp)) _ _ rfl rfl _ _ _ _
      (fun q l => (read_strip _ _ 1 1 _ _ rfl rfl rfl q l).trans (mlo_plane arg1 arg2 arg6 X1 X2 X6 k _)) (fun q l => (read_strip _ _ 1 1 _ _ rfl rfl rfl q l).trans (plo_plane arg1 arg2 arg6 X1 X2 X6 k _)) (fun q l => (read_strip _ _ 1 1 _ _ rfl rfl rfl q l).trans (mhi_plane arg1 arg2 arg6 X1 X2 X6 k _)) (fun q l => (read_strip _ _ 1 1 _ _ rfl rfl rfl q l).trans (phi_plane arg1 arg2 arg6 X1 X2 X6 k _)) p l)

/-- Chunk 1, strip 1, half 0: the codes stored, element by element. -/
theorem code_1_1_0_at (x : S32x128.Idx) : trip.sl.r_204 arg1 arg2 arg6 arg7 arg8 arg9 arg10 arg11 X1 X2 X6 k x = codeAt arg1 arg2 arg6 arg7 X1 X2 X6 k 0 1 (stripRow 1 (x 0)) (x 1) := by
  obtain ⟨p, l, rfl⟩ : ∃ p l, x = ValueIdx.ix2 p l := ⟨x 0, x 1, ValueIdx.eq_ix2 x⟩
  exact (congrFun (code_1_1_0 arg1 arg2 arg6 arg7 arg8 arg9 arg10 arg11 X1 X2 X6 k) _).trans
    (codes_strip arg1 arg2 arg6 arg7 X1 X2 X6 k 0 1 1 _ (fun p l => (gather_4 p l).trans (by simp)) _ _ rfl rfl _ _ _ _
      (fun q l => (read_strip _ _ 1 1 _ _ rfl rfl rfl q l).trans (mlo_plane arg1 arg2 arg6 X1 X2 X6 k _)) (fun q l => (read_strip _ _ 1 1 _ _ rfl rfl rfl q l).trans (plo_plane arg1 arg2 arg6 X1 X2 X6 k _)) (fun q l => (read_strip _ _ 1 1 _ _ rfl rfl rfl q l).trans (mhi_plane arg1 arg2 arg6 X1 X2 X6 k _)) (fun q l => (read_strip _ _ 1 1 _ _ rfl rfl rfl q l).trans (phi_plane arg1 arg2 arg6 X1 X2 X6 k _)) p l)

/-- Chunk 1, strip 0, half 1: the codes stored, element by element. -/
theorem code_1_0_1_at (x : S32x128.Idx) : k0_pay349 k0_pay3 k0_pay5 (trip.sl.r_196 arg1 arg2 arg6 arg7 arg8 arg10 X1 X2 X6 k) (trip.sl.r_197 arg1 arg2 arg6 arg7 arg9 arg11 X1 X2 X6 k) x = codeAt arg1 arg2 arg6 arg7 X1 X2 X6 k 1 1 (stripRow 0 (x 0)) (x 1) := by
  obtain ⟨p, l, rfl⟩ : ∃ p l, x = ValueIdx.ix2 p l := ⟨x 0, x 1, ValueIdx.eq_ix2 x⟩
  exact (congrFun (code_1_0_1 arg1 arg2 arg6 arg7 arg8 arg9 arg10 arg11 X1 X2 X6 k) _).trans
    (codes_strip arg1 arg2 arg6 arg7 X1 X2 X6 k 1 1 0 _ (fun p l => (gather_5 p l).trans (by simp)) _ _ rfl rfl _ _ _ _
      (fun q l => (read_strip _ _ 1 0 _ _ rfl rfl rfl q l).trans (mlo_plane arg1 arg2 arg6 X1 X2 X6 k _)) (fun q l => (read_strip _ _ 1 0 _ _ rfl rfl rfl q l).trans (plo_plane arg1 arg2 arg6 X1 X2 X6 k _)) (fun q l => (read_strip _ _ 1 0 _ _ rfl rfl rfl q l).trans (mhi_plane arg1 arg2 arg6 X1 X2 X6 k _)) (fun q l => (read_strip _ _ 1 0 _ _ rfl rfl rfl q l).trans (phi_plane arg1 arg2 arg6 X1 X2 X6 k _)) p l)

/-- Chunk 1, strip 0, half 0: the codes stored, element by element. -/
theorem code_1_0_0_at (x : S32x128.Idx) : k0_pay348 (trip.sl.r_198 arg1 arg2 arg6 arg7 arg8 arg9 arg10 arg11 X1 X2 X6 k) x = codeAt arg1 arg2 arg6 arg7 X1 X2 X6 k 0 1 (stripRow 0 (x 0)) (x 1) := by
  obtain ⟨p, l, rfl⟩ : ∃ p l, x = ValueIdx.ix2 p l := ⟨x 0, x 1, ValueIdx.eq_ix2 x⟩
  exact (congrFun (code_1_0_0 arg1 arg2 arg6 arg7 arg8 arg9 arg10 arg11 X1 X2 X6 k) _).trans
    (codes_strip arg1 arg2 arg6 arg7 X1 X2 X6 k 0 1 0 _ (fun p l => (gather_4 p l).trans (by simp)) _ _ rfl rfl _ _ _ _
      (fun q l => (read_strip _ _ 1 0 _ _ rfl rfl rfl q l).trans (mlo_plane arg1 arg2 arg6 X1 X2 X6 k _)) (fun q l => (read_strip _ _ 1 0 _ _ rfl rfl rfl q l).trans (plo_plane arg1 arg2 arg6 X1 X2 X6 k _)) (fun q l => (read_strip _ _ 1 0 _ _ rfl rfl rfl q l).trans (mhi_plane arg1 arg2 arg6 X1 X2 X6 k _)) (fun q l => (read_strip _ _ 1 0 _ _ rfl rfl rfl q l).trans (phi_plane arg1 arg2 arg6 X1 X2 X6 k _)) p l)

/-- Chunk 0, strip 3, half 1: the codes stored, element by element. -/
theorem code_0_3_1_at (x : S32x128.Idx) : k0_pay331 k0_pay3 k0_pay5 (trip.sl.r_187 arg1 arg2 arg6 arg7 arg8 arg10 X1 X2 X6 k) (trip.sl.r_188 arg1 arg2 arg6 arg7 arg9 arg11 X1 X2 X6 k) 0#32 x = codeAt arg1 arg2 arg6 arg7 X1 X2 X6 k 1 0 (stripRow 3 (x 0)) (x 1) := by
  obtain ⟨p, l, rfl⟩ : ∃ p l, x = ValueIdx.ix2 p l := ⟨x 0, x 1, ValueIdx.eq_ix2 x⟩
  exact (congrFun (code_0_3_1 arg1 arg2 arg6 arg7 arg8 arg9 arg10 arg11 X1 X2 X6 k) _).trans
    (codes_strip arg1 arg2 arg6 arg7 X1 X2 X6 k 1 0 3 _ (fun p l => (gather_5 p l).trans (by simp)) _ _ rfl rfl _ _ _ _
      (fun q l => (read_strip _ _ 0 3 _ _ rfl rfl rfl q l).trans (mlo_plane arg1 arg2 arg6 X1 X2 X6 k _)) (fun q l => (read_strip _ _ 0 3 _ _ rfl rfl rfl q l).trans (plo_plane arg1 arg2 arg6 X1 X2 X6 k _)) (fun q l => (read_strip _ _ 0 3 _ _ rfl rfl rfl q l).trans (mhi_plane arg1 arg2 arg6 X1 X2 X6 k _)) (fun q l => (read_strip _ _ 0 3 _ _ rfl rfl rfl q l).trans (phi_plane arg1 arg2 arg6 X1 X2 X6 k _)) p l)

/-- Chunk 0, strip 3, half 0: the codes stored, element by element. -/
theorem code_0_3_0_at (x : S32x128.Idx) : k0_pay330 k0_pay3 k0_pay4 (trip.sl.r_183 arg1 arg6 arg7 X1 X6 k) (trip.sl.r_184 arg1 arg2 arg6 arg7 arg8 X1 X2 X6 k) (trip.sl.r_185 arg1 arg2 arg6 arg10 X1 X2 X6 k) (trip.sl.r_186 arg1 arg2 arg6 arg7 arg8 X1 X2 X6 k) (trip.sl.v1331 arg1 arg2 arg6 arg9 X1 X2 X6 k) (trip.sl.v1333 arg1 arg2 arg6 arg11 X1 X2 X6 k) x = codeAt arg1 arg2 arg6 arg7 X1 X2 X6 k 0 0 (stripRow 3 (x 0)) (x 1) := by
  obtain ⟨p, l, rfl⟩ : ∃ p l, x = ValueIdx.ix2 p l := ⟨x 0, x 1, ValueIdx.eq_ix2 x⟩
  exact (congrFun (code_0_3_0 arg1 arg2 arg6 arg7 arg8 arg9 arg10 arg11 X1 X2 X6 k) _).trans
    (codes_strip arg1 arg2 arg6 arg7 X1 X2 X6 k 0 0 3 _ (fun p l => (gather_4 p l).trans (by simp)) _ _ rfl rfl _ _ _ _
      (fun q l => (read_strip _ _ 0 3 _ _ rfl rfl rfl q l).trans (mlo_plane arg1 arg2 arg6 X1 X2 X6 k _)) (fun q l => (read_strip _ _ 0 3 _ _ rfl rfl rfl q l).trans (plo_plane arg1 arg2 arg6 X1 X2 X6 k _)) (fun q l => (read_strip _ _ 0 3 _ _ rfl rfl rfl q l).trans (mhi_plane arg1 arg2 arg6 X1 X2 X6 k _)) (fun q l => (read_strip _ _ 0 3 _ _ rfl rfl rfl q l).trans (phi_plane arg1 arg2 arg6 X1 X2 X6 k _)) p l)

/-- Chunk 0, strip 2, half 1: the codes stored, element by element. -/
theorem code_0_2_1_at (x : S32x128.Idx) : k0_pay323 k0_pay3 k0_pay5 (trip.sl.r_180 arg1 arg2 arg6 arg7 arg8 arg10 X1 X2 X6 k) (trip.sl.r_181 arg1 arg2 arg6 arg7 arg9 arg11 X1 X2 X6 k) x = codeAt arg1 arg2 arg6 arg7 X1 X2 X6 k 1 0 (stripRow 2 (x 0)) (x 1) := by
  obtain ⟨p, l, rfl⟩ : ∃ p l, x = ValueIdx.ix2 p l := ⟨x 0, x 1, ValueIdx.eq_ix2 x⟩
  exact (congrFun (code_0_2_1 arg1 arg2 arg6 arg7 arg8 arg9 arg10 arg11 X1 X2 X6 k) _).trans
    (codes_strip arg1 arg2 arg6 arg7 X1 X2 X6 k 1 0 2 _ (fun p l => (gather_5 p l).trans (by simp)) _ _ rfl rfl _ _ _ _
      (fun q l => (read_strip _ _ 0 2 _ _ rfl rfl rfl q l).trans (mlo_plane arg1 arg2 arg6 X1 X2 X6 k _)) (fun q l => (read_strip _ _ 0 2 _ _ rfl rfl rfl q l).trans (plo_plane arg1 arg2 arg6 X1 X2 X6 k _)) (fun q l => (read_strip _ _ 0 2 _ _ rfl rfl rfl q l).trans (mhi_plane arg1 arg2 arg6 X1 X2 X6 k _)) (fun q l => (read_strip _ _ 0 2 _ _ rfl rfl rfl q l).trans (phi_plane arg1 arg2 arg6 X1 X2 X6 k _)) p l)

/-- Chunk 0, strip 2, half 0: the codes stored, element by element. -/
theorem code_0_2_0_at (x : S32x128.Idx) : trip.sl.r_182 arg1 arg2 arg6 arg7 arg8 arg9 arg10 arg11 X1 X2 X6 k x = codeAt arg1 arg2 arg6 arg7 X1 X2 X6 k 0 0 (stripRow 2 (x 0)) (x 1) := by
  obtain ⟨p, l, rfl⟩ : ∃ p l, x = ValueIdx.ix2 p l := ⟨x 0, x 1, ValueIdx.eq_ix2 x⟩
  exact (congrFun (code_0_2_0 arg1 arg2 arg6 arg7 arg8 arg9 arg10 arg11 X1 X2 X6 k) _).trans
    (codes_strip arg1 arg2 arg6 arg7 X1 X2 X6 k 0 0 2 _ (fun p l => (gather_4 p l).trans (by simp)) _ _ rfl rfl _ _ _ _
      (fun q l => (read_strip _ _ 0 2 _ _ rfl rfl rfl q l).trans (mlo_plane arg1 arg2 arg6 X1 X2 X6 k _)) (fun q l => (read_strip _ _ 0 2 _ _ rfl rfl rfl q l).trans (plo_plane arg1 arg2 arg6 X1 X2 X6 k _)) (fun q l => (read_strip _ _ 0 2 _ _ rfl rfl rfl q l).trans (mhi_plane arg1 arg2 arg6 X1 X2 X6 k _)) (fun q l => (read_strip _ _ 0 2 _ _ rfl rfl rfl q l).trans (phi_plane arg1 arg2 arg6 X1 X2 X6 k _)) p l)

/-- Chunk 0, strip 1, half 1: the codes stored, element by element. -/
theorem code_0_1_1_at (x : S32x128.Idx) : k0_pay316 k0_pay3 k0_pay5 (trip.sl.r_174 arg1 arg2 arg6 arg7 arg8 arg10 X1 X2 X6 k) (trip.sl.r_175 arg1 arg2 arg6 arg7 arg9 arg11 X1 X2 X6 k) x = codeAt arg1 arg2 arg6 arg7 X1 X2 X6 k 1 0 (stripRow 1 (x 0)) (x 1) := by
  obtain ⟨p, l, rfl⟩ : ∃ p l, x = ValueIdx.ix2 p l := ⟨x 0, x 1, ValueIdx.eq_ix2 x⟩
  exact (congrFun (code_0_1_1 arg1 arg2 arg6 arg7 arg8 arg9 arg10 arg11 X1 X2 X6 k) _).trans
    (codes_strip arg1 arg2 arg6 arg7 X1 X2 X6 k 1 0 1 _ (fun p l => (gather_5 p l).trans (by simp)) _ _ rfl rfl _ _ _ _
      (fun q l => (read_strip _ _ 0 1 _ _ rfl rfl rfl q l).trans (mlo_plane arg1 arg2 arg6 X1 X2 X6 k _)) (fun q l => (read_strip _ _ 0 1 _ _ rfl rfl rfl q l).trans (plo_plane arg1 arg2 arg6 X1 X2 X6 k _)) (fun q l => (read_strip _ _ 0 1 _ _ rfl rfl rfl q l).trans (mhi_plane arg1 arg2 arg6 X1 X2 X6 k _)) (fun q l => (read_strip _ _ 0 1 _ _ rfl rfl rfl q l).trans (phi_plane arg1 arg2 arg6 X1 X2 X6 k _)) p l)

/-- Chunk 0, strip 1, half 0: the codes stored, element by element. -/
theorem code_0_1_0_at (x : S32x128.Idx) : k0_pay315 (trip.sl.r_176 arg1 arg2 arg6 arg7 arg8 arg9 arg10 arg11 X1 X2 X6 k) x = codeAt arg1 arg2 arg6 arg7 X1 X2 X6 k 0 0 (stripRow 1 (x 0)) (x 1) := by
  obtain ⟨p, l, rfl⟩ : ∃ p l, x = ValueIdx.ix2 p l := ⟨x 0, x 1, ValueIdx.eq_ix2 x⟩
  exact (congrFun (code_0_1_0 arg1 arg2 arg6 arg7 arg8 arg9 arg10 arg11 X1 X2 X6 k) _).trans
    (codes_strip arg1 arg2 arg6 arg7 X1 X2 X6 k 0 0 1 _ (fun p l => (gather_4 p l).trans (by simp)) _ _ rfl rfl _ _ _ _
      (fun q l => (read_strip _ _ 0 1 _ _ rfl rfl rfl q l).trans (mlo_plane arg1 arg2 arg6 X1 X2 X6 k _)) (fun q l => (read_strip _ _ 0 1 _ _ rfl rfl rfl q l).trans (plo_plane arg1 arg2 arg6 X1 X2 X6 k _)) (fun q l => (read_strip _ _ 0 1 _ _ rfl rfl rfl q l).trans (mhi_plane arg1 arg2 arg6 X1 X2 X6 k _)) (fun q l => (read_strip _ _ 0 1 _ _ rfl rfl rfl q l).trans (phi_plane arg1 arg2 arg6 X1 X2 X6 k _)) p l)

/-- Chunk 0, strip 0, half 1: the codes stored, element by element. -/
theorem code_0_0_1_at (x : S32x128.Idx) : k0_pay308 k0_pay3 k0_pay5 (trip.sl.r_168 arg1 arg2 arg6 arg7 arg8 arg10 X1 X2 X6 k) (trip.sl.r_169 arg1 arg2 arg6 arg7 arg9 arg11 X1 X2 X6 k) x = codeAt arg1 arg2 arg6 arg7 X1 X2 X6 k 1 0 (stripRow 0 (x 0)) (x 1) := by
  obtain ⟨p, l, rfl⟩ : ∃ p l, x = ValueIdx.ix2 p l := ⟨x 0, x 1, ValueIdx.eq_ix2 x⟩
  exact (congrFun (code_0_0_1 arg1 arg2 arg6 arg7 arg8 arg9 arg10 arg11 X1 X2 X6 k) _).trans
    (codes_strip arg1 arg2 arg6 arg7 X1 X2 X6 k 1 0 0 _ (fun p l => (gather_5 p l).trans (by simp)) _ _ rfl rfl _ _ _ _
      (fun q l => (read_strip _ _ 0 0 _ _ rfl rfl rfl q l).trans (mlo_plane arg1 arg2 arg6 X1 X2 X6 k _)) (fun q l => (read_strip _ _ 0 0 _ _ rfl rfl rfl q l).trans (plo_plane arg1 arg2 arg6 X1 X2 X6 k _)) (fun q l => (read_strip _ _ 0 0 _ _ rfl rfl rfl q l).trans (mhi_plane arg1 arg2 arg6 X1 X2 X6 k _)) (fun q l => (read_strip _ _ 0 0 _ _ rfl rfl rfl q l).trans (phi_plane arg1 arg2 arg6 X1 X2 X6 k _)) p l)

/-- Chunk 0, strip 0, half 0: the codes stored, element by element. -/
theorem code_0_0_0_at (x : S32x128.Idx) : k0_pay307 (trip.sl.r_170 arg1 arg2 arg6 arg7 arg8 arg9 arg10 arg11 X1 X2 X6 k) x = codeAt arg1 arg2 arg6 arg7 X1 X2 X6 k 0 0 (stripRow 0 (x 0)) (x 1) := by
  obtain ⟨p, l, rfl⟩ : ∃ p l, x = ValueIdx.ix2 p l := ⟨x 0, x 1, ValueIdx.eq_ix2 x⟩
  exact (congrFun (code_0_0_0 arg1 arg2 arg6 arg7 arg8 arg9 arg10 arg11 X1 X2 X6 k) _).trans
    (codes_strip arg1 arg2 arg6 arg7 X1 X2 X6 k 0 0 0 _ (fun p l => (gather_4 p l).trans (by simp)) _ _ rfl rfl _ _ _ _
      (fun q l => (read_strip _ _ 0 0 _ _ rfl rfl rfl q l).trans (mlo_plane arg1 arg2 arg6 X1 X2 X6 k _)) (fun q l => (read_strip _ _ 0 0 _ _ rfl rfl rfl q l).trans (plo_plane arg1 arg2 arg6 X1 X2 X6 k _)) (fun q l => (read_strip _ _ 0 0 _ _ rfl rfl rfl q l).trans (mhi_plane arg1 arg2 arg6 X1 X2 X6 k _)) (fun q l => (read_strip _ _ 0 0 _ _ rfl rfl rfl q l).trans (phi_plane arg1 arg2 arg6 X1 X2 X6 k _)) p l)

end Cert.Proof.KernelIdeal

end
-- ==== Proof.KI.Meta.lean ====
/- What one trip stores in the packed positions, element by element.

   The fields of four rows stand in one 32-bit word, a row to a byte. Two neighbouring groups' fields are joined by
   lane rolls of the words and a shift by four; a field has four bits, so the shift carries nothing into the next byte. -/
module

public import proofs.«01_k».proof.Proof.KI.ChunkAt

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

variable (arg1 : Memref sig .tc .vmem S128x12288 .bf16) (arg2 : Memref sig .tc .vmem S128x3072 .i32)
variable (arg6 : Memref sig .tc .vmem S512x512 .bf16) (arg12 : Memref sig .tc .vmem S2x32x128 .i32)
variable (X1 : BufTy.Contents (Elt F) arg1.view.ty) (X2 : BufTy.Contents (Elt F) arg2.view.ty)
variable (X6 : BufTy.Contents (Elt F) arg6.view.ty) (k : Fin k0_t1_loop.trips)

/-- The field of group `l` of row `p` of the trip's chunk `kp`. -/
abbrev fieldAt (kp : Fin 2) (p l : Fin 128) : BitVec 8 := groupAt arg1 arg2 arg6 X1 X2 X6 k sField kp p l

/-- The byte of packed row `p` in place `i`. -/
abbrev byteRow (p : Fin 32) (i : Fin 4) : Fin 128 := ⟨4 * p.val + i.val, by omega⟩

/-- Four rows' fields in one word. -/
def fieldWord (kp : Fin 2) (p : Fin 32) (l : Fin 128) : BitVec 32 :=
  (fieldAt arg1 arg2 arg6 X1 X2 X6 k kp (byteRow p 0) l).setWidth 32 ||| ((fieldAt arg1 arg2 arg6 X1 X2 X6 k kp (byteRow p 1) l).setWidth 32 <<< 8)
    ||| ((fieldAt arg1 arg2 arg6 X1 X2 X6 k kp (byteRow p 2) l).setWidth 32 <<< 16) ||| ((fieldAt arg1 arg2 arg6 X1 X2 X6 k kp (byteRow p 3) l).setWidth 32 <<< 24)

/-- A bit of the word. -/
theorem fieldWord_bit (kp : Fin 2) (p : Fin 32) (l : Fin 128) (q : Nat) (hq : q < 32) :
    (fieldWord arg1 arg2 arg6 X1 X2 X6 k kp p l).getLsbD q = (fieldAt arg1 arg2 arg6 X1 X2 X6 k kp (byteRow p ⟨q / 8, by omega⟩) l).getLsbD (q % 8) :=
  four_bytes_getLsbD (fun i => fieldAt arg1 arg2 arg6 X1 X2 X6 k kp (byteRow p i) l) q hq

/-- A field has four bits. -/
theorem field_high (a0 a1 a2 a3 : F .f32) (w : BitVec 32) (q : Nat) (hq : 4 ≤ q) : (sField a0 a1 a2 a3 w).getLsbD q = false := by
  have key : ∀ a b c d : BitVec 1, ∀ q : Fin 8, 4 ≤ q.val → ((IntOp.ori (Scalar.select a (2#32) (Scalar.select b (1#32) (0#32)))
      (Scalar.select c (12#32) (Scalar.select d (8#32) (4#32)))).setWidth 8).getLsbD q.val = false := by decide
  by_cases h : q < 8
  · exact key _ _ _ _ ⟨q, h⟩ hq
  · exact BitVec.getLsbD_of_ge _ _ (by omega)

/-- One strip's fields as stored. -/
theorem fld_strip (kp : Fin 2) (s : Fin 4) (f : S32x128.Idx → BitVec 8)
    (hf : ∀ p l, f (ValueIdx.ix2 p l) = fieldAt arg1 arg2 arg6 X1 X2 X6 k kp (stripRow s p) l) (p : Fin 8) (l : Fin 128) :
    bitcast S8x128 32 f bitcasts_S32x128_w8_S8x128_w32 (ValueIdx.ix2 p l)
      = fieldWord arg1 arg2 arg6 X1 X2 X6 k kp (⟨8 * s.val + p.val, by omega⟩ : Fin 32) l := by
  apply BitVec.eq_of_getLsbD_eq
  intro q hq
  rw [bitcast_8_32_getLsbD_ix2 f bitcasts_S32x128_w8_S8x128_w32 p l q hq ⟨4 * p.val + q / 8, by omega⟩ rfl, hf, fieldWord_bit _ _ _ _ _ _ _ _ _ _ q hq]
  congr 3
  exact Fin.ext (by show 32 * s.val + (4 * p.val + q / 8) = 4 * (8 * s.val + p.val) + q / 8; omega)

/-- The plane of packed fields after the trip's selections. -/
theorem fld_plane (y : S2x32x128.Idx) :
    View.canon (trip.sl.W12_8 arg1 arg2 arg6 X1 X2 X6 k) y = fieldWord arg1 arg2 arg6 X1 X2 X6 k (y 0) (y 1) (y 2) := by
  refine View.canon_apply_of_pieces (Val := Elt F) (e := .i32) (fun y : S2x32x128.Idx => fieldWord arg1 arg2 arg6 X1 X2 X6 k (y 0) (y 1) (y 2)) _ ?_ y
    (View.cover_of_tiledL (trip.sl.W12_8 arg1 arg2 arg6 X1 X2 X6 k) S1x8x128.size (by sl_kernel_rfl) y)
  unfold trip.sl.W12_8
  intro q hq
  simp only [List.mem_cons, List.not_mem_nil, or_false] at hq
  rcases hq with rfl | rfl | rfl | rfl | rfl | rfl | rfl | rfl
  · intro x
    obtain ⟨u, p, l, rfl⟩ : ∃ u p l, x = ValueIdx.ix3 u p l := ⟨x 0, x 1, x 2, ValueIdx.eq_ix3 x⟩
    refine (congrFun (fld_1_3 arg1 arg2 arg6 X1 X2 X6 k) _).trans ((ValueIdx.shapeCast_ab_1ab_apply _ _ u p l).trans ?_)
    rw [fld_emb 1 3 _ _ rfl rfl rfl u p l]
    refine fld_strip arg1 arg2 arg6 X1 X2 X6 k 1 3 _ (fun p l => ?_) p l
    exact strip_eq arg1 arg2 arg6 X1 X2 X6 k sField 1 3 _ _ rfl (word_1_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (fld_1_2 arg1 arg2 arg6 X1 X2 X6 k) _).trans ((ValueIdx.shapeCast_ab_1ab_apply _ _ u p l).trans ?_)
    rw [fld_emb 1 2 _ _ rfl rfl rfl u p l]
    refine fld_strip arg1 arg2 arg6 X1 X2 X6 k 1 2 _ (fun p l => ?_) p l
    exact strip_eq arg1 arg2 arg6 X1 X2 X6 k sField 1 2 _ _ rfl (word_1_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (fld_1_1 arg1 arg2 arg6 X1 X2 X6 k) _).trans ((ValueIdx.shapeCast_ab_1ab_apply _ _ u p l).trans ?_)
    rw [fld_emb 1 1 _ _ rfl rfl rfl u p l]
    refine fld_strip arg1 arg2 arg6 X1 X2 X6 k 1 1 _ (fun p l => ?_) p l
    exact strip_eq arg1 arg2 arg6 X1 X2 X6 k sField 1 1 _ _ rfl (word_1_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (fld_1_0 arg1 arg2 arg6 X1 X2 X6 k) _).trans ((ValueIdx.shapeCast_ab_1ab_apply _ _ u p l).trans ?_)
    rw [fld_emb 1 0 _ _ rfl rfl rfl u p l]
    refine fld_strip arg1 arg2 arg6 X1 X2 X6 k 1 0 _ (fun p l => ?_) p l
    exact strip_eq arg1 arg2 arg6 X1 X2 X6 k sField 1 0 _ _ rfl (word_1_0 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (fld_0_3 arg1 arg2 arg6 X1 X2 X6 k) _).trans ((ValueIdx.shapeCast_ab_1ab_apply _ _ u p l).trans ?_)
    rw [fld_emb 0 3 _ _ rfl rfl rfl u p l]
    refine fld_strip arg1 arg2 arg6 X1 X2 X6 k 0 3 _ (fun p l => ?_) p l
    exact strip_eq arg1 arg2 arg6 X1 X2 X6 k sField 0 3 _ _ rfl (word_0_3 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (fld_0_2 arg1 arg2 arg6 X1 X2 X6 k) _).trans ((ValueIdx.shapeCast_ab_1ab_apply _ _ u p l).trans ?_)
    rw [fld_emb 0 2 _ _ rfl rfl rfl u p l]
    refine fld_strip arg1 arg2 arg6 X1 X2 X6 k 0 2 _ (fun p l => ?_) p l
    exact strip_eq arg1 arg2 arg6 X1 X2 X6 k sField 0 2 _ _ rfl (word_0_2 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (fld_0_1 arg1 arg2 arg6 X1 X2 X6 k) _).trans ((ValueIdx.shapeCast_ab_1ab_apply _ _ u p l).trans ?_)
    rw [fld_emb 0 1 _ _ rfl rfl rfl u p l]
    refine fld_strip arg1 arg2 arg6 X1 X2 X6 k 0 1 _ (fun p l => ?_) p l
    exact strip_eq arg1 arg2 arg6 X1 X2 X6 k sField 0 1 _ _ rfl (word_0_1 arg2 X2 k) _ _ _ _ _ _ _ _ ⟨rfl, rfl⟩ ⟨rfl, rfl⟩ ⟨rfl, rfl⟩ ⟨rfl, rfl⟩ p l
  · intro x
    obtain ⟨u, p, l, rfl⟩ : ∃ u p l, x = ValueIdx.ix3 u p l := ⟨x 0, x 1, x 2, ValueIdx.eq_ix3 x⟩
    refine (congrFun (fld_0_0 arg1 arg2 arg6 X1 X2 X6 k) _).trans ((ValueIdx.shapeCast_ab_1ab_apply _ _ u p l).trans ?_)
    rw [fld_emb 0 0 _ _ rfl rfl rfl u p l]
    refine fld_strip arg1 arg2 arg6 X1 X2 X6 k 0 0 _ (fun p l => ?_) p l
    exact strip_eq arg1 arg2 arg6 X1 X2 X6 k sField 0 0 _ _ rfl (word_0_0 arg2 X2 k) _ _ _ _ _ _ _ _ ⟨rfl, rfl⟩ ⟨rfl, rfl⟩ ⟨rfl, rfl⟩ ⟨rfl, rfl⟩ p l

/-- A strip of the plane of packed fields read back. -/
theorem read_fld (v : View sig .tc .vmem S2x32x128 .i32) (L : List (View.Piece (Elt F) S2x32x128 .i32)) (kp : Fin 2) (s : Fin 4)
    (off : Fin 3 → Nat) (hb : ∀ a, off a + S1x8x128.size a ≤ S2x32x128.size a)
    (h0 : off 0 = kp.val) (h1 : off 1 = 8 * s.val) (h2 : off 2 = 0) (p : Fin 8) (l : Fin 128) :
    shapeCast S8x128 (v.readCov L (Rect.unit (s := S2x32x128) off S1x8x128.size hb).toLoadRect) shapeCasts_S1x8x128_S8x128 (ValueIdx.ix2 p l)
      = View.canon L (ValueIdx.ix3 kp (⟨8 * s.val + p.val, by omega⟩ : Fin 32) l) := by
  refine (ValueIdx.shapeCast_1ab_ab_apply _ _ p l).trans ?_
  rw [View.readCov_eq_canon']
  exact congrArg (View.canon L) (fld_emb kp s off hb h0 h1 h2 0 p l)

/-- The words of two neighbouring groups joined. -/
def joined (fa fb : IVec S8x128 32) : IVec S8x128 32 :=
  ori (select k0_pay2 fa (dynamicRotate 1 1#32 none fb rotates_S8x128_d1)) (shli (select k0_pay2 (dynamicRotate 1 127#32 none fa rotates_S8x128_d1) fb) (broadcast S8x128 4#32))
/-- The lanes to gather from. -/
def metaIdx : IVec S8x128 32 :=
  shapeCast S8x128 (shapeCast S8x128x1 (select (cmpi .slt k0_pay6 (broadcast S8x128 0#32)) (addi k0_pay6 (broadcast S8x128 128#32)) k0_pay6) shapeCasts_S8x128_S8x128x1) shapeCasts_S8x128x1_S8x128
/-- One stored block of packed positions. -/
def metaBlock (fa fb : IVec S8x128 32) : IVec S32x128 8 :=
  bitcast S32x128 8 (dynamicGather 1 (joined fa fb) metaIdx) bitcasts_S8x128_w32_S32x128_w8

/-- Strip 0: the packed positions stored. -/
theorem meta_0 : trip.sl.v1816 arg1 arg2 arg6 arg12 X1 X2 X6 k = metaBlock (shapeCast S8x128 (trip.sl.v1797 arg1 arg2 arg6 arg12 X1 X2 X6 k) shapeCasts_S1x8x128_S8x128) (shapeCast S8x128 (trip.sl.v1799 arg1 arg2 arg6 arg12 X1 X2 X6 k) shapeCasts_S1x8x128_S8x128) := rfl

/-- Strip 1: the packed positions stored. -/
theorem meta_1 : trip.sl.v1840 arg1 arg2 arg6 arg12 X1 X2 X6 k = metaBlock (shapeCast S8x128 (trip.sl.v1821 arg1 arg2 arg6 arg12 X1 X2 X6 k) shapeCasts_S1x8x128_S8x128) (shapeCast S8x128 (trip.sl.v1823 arg1 arg2 arg6 arg12 X1 X2 X6 k) shapeCasts_S1x8x128_S8x128) := rfl

/-- Strip 2: the packed positions stored. -/
theorem meta_2 : trip.sl.v1864 arg1 arg2 arg6 arg12 X1 X2 X6 k = metaBlock (shapeCast S8x128 (trip.sl.v1845 arg1 arg2 arg6 arg12 X1 X2 X6 k) shapeCasts_S1x8x128_S8x128) (shapeCast S8x128 (trip.sl.v1847 arg1 arg2 arg6 arg12 X1 X2 X6 k) shapeCasts_S1x8x128_S8x128) := rfl

/-- Strip 3: the packed positions stored. -/
theorem meta_3 : trip.sl.v1888 arg1 arg2 arg6 arg12 X1 X2 X6 k = metaBlock (shapeCast S8x128 (trip.sl.v1869 arg1 arg2 arg6 arg12 X1 X2 X6 k) shapeCasts_S1x8x128_S8x128) (shapeCast S8x128 (trip.sl.v1871 arg1 arg2 arg6 arg12 X1 X2 X6 k) shapeCasts_S1x8x128_S8x128) := rfl

/-- The even lanes of the packed words. -/
theorem evenm_at (p : Fin 8) (l : Fin 128) : k0_pay2 (ValueIdx.ix2 p l) = BitVec.ofBool (decide (l.val % 2 = 0)) := by
  have h : k0_pay2 (ValueIdx.ix2 p l) = IntOp.cmpi .eq (IntOp.andi (BitVec.ofNat 32 l.val) 1#32) 0#32 :=
    congrArg (fun x => IntOp.cmpi .eq (IntOp.andi x 1#32) 0#32) (iota_single_apply .tc S8x128 32 1 _ (ValueIdx.ix2 p l))
  rw [h]
  clear h
  revert l
  decide

/-- The lane a packed lane gathers from: even lanes of the first chunk, then odd lanes of the second. -/
theorem metaIdx_at (p : Fin 8) (l : Fin 128) :
    (metaIdx (ValueIdx.ix2 p l)).toNat % 128 = if l.val < 64 then 2 * l.val else 2 * l.val - 127 := by
  have h : k0_pay6 (ValueIdx.ix2 p l) = Scalar.select (IntOp.cmpi .slt (BitVec.ofNat 32 l.val) 64#32) (IntOp.muli (BitVec.ofNat 32 l.val) 2#32)
      (IntOp.subi (IntOp.muli (BitVec.ofNat 32 l.val) 2#32) 127#32) :=
    congrArg (fun x => Scalar.select (IntOp.cmpi .slt x 64#32) (IntOp.muli x 2#32) (IntOp.subi (IntOp.muli x 2#32) 127#32)) (iota_single_apply .tc S8x128 32 1 _ (ValueIdx.ix2 p l))
  have e : metaIdx (ValueIdx.ix2 p l) = Scalar.select (IntOp.cmpi .slt (k0_pay6 (ValueIdx.ix2 p l)) 0#32) (IntOp.addi (k0_pay6 (ValueIdx.ix2 p l)) 128#32) (k0_pay6 (ValueIdx.ix2 p l)) := by
    unfold metaIdx
    rw [shapeCast_shapeCast]
    rfl
  rw [e, h]
  clear e h
  revert l
  decide

/-- The two groups a packed lane joins: lanes `2 l` and `2 l + 1` of the two chunks laid end to end. -/
theorem joined_at (fa fb : IVec S8x128 32) (p : Fin 8) (l m : Fin 128) (hm : m.val = if l.val < 64 then 2 * l.val else 2 * l.val - 127) :
    joined fa fb (ValueIdx.ix2 p m) =
      (if l.val < 64 then fa (ValueIdx.ix2 p ⟨2 * (l.val % 64), by omega⟩) else fb (ValueIdx.ix2 p ⟨2 * (l.val % 64), by omega⟩))
      ||| ((if l.val < 64 then fa (ValueIdx.ix2 p ⟨2 * (l.val % 64) + 1, by omega⟩) else fb (ValueIdx.ix2 p ⟨2 * (l.val % 64) + 1, by omega⟩)) <<< 4) := by
  have e1 : ∀ (x : IVec S8x128 32) (n : Fin 128), (m.val + 127) % 128 = n.val → dynamicRotate 1 1#32 none x rotates_S8x128_d1 (ValueIdx.ix2 p m) = x (ValueIdx.ix2 p n) := by
    intro x n hn
    refine congrArg x (funext fun a => Fin.ext ?_)
    match a with
    | ⟨0, _⟩ => rfl
    | ⟨1, _⟩ => exact hn
  have e2 : ∀ (x : IVec S8x128 32) (n : Fin 128), (m.val + 1) % 128 = n.val → dynamicRotate 1 127#32 none x rotates_S8x128_d1 (ValueIdx.ix2 p m) = x (ValueIdx.ix2 p n) := by
    intro x n hn
    refine congrArg x (funext fun a => Fin.ext ?_)
    match a with
    | ⟨0, _⟩ => rfl
    | ⟨1, _⟩ => exact hn
  have sh4 : ∀ x : BitVec 32, IntOp.shli .vector x 4#32 = x <<< 4 := fun x => rfl
  show IntOp.ori (Scalar.select (k0_pay2 (ValueIdx.ix2 p m)) _ _) (IntOp.shli .vector (Scalar.select (k0_pay2 (ValueIdx.ix2 p m)) _ _) 4#32) = _
  rw [evenm_at, sh4]
  by_cases h : l.val < 64
  · rw [if_pos h] at hm
    have hme : m.val % 2 = 0 := by omega
    have hv : decide (m.val % 2 = 0) = true := decide_eq_true hme
    rw [hv, if_pos h, if_pos h, e2 fa ⟨2 * (l.val % 64) + 1, by omega⟩ (by show (m.val + 1) % 128 = 2 * (l.val % 64) + 1; omega)]
    exact congrArg (fun z => fa (ValueIdx.ix2 p z) ||| fa (ValueIdx.ix2 p ⟨2 * (l.val % 64) + 1, by omega⟩) <<< 4) (Fin.ext (by show m.val = 2 * (l.val % 64); omega))
  · rw [if_neg h] at hm
    have hme : m.val % 2 = 1 := by omega
    have hv : decide (m.val % 2 = 0) = false := decide_eq_false (by omega)
    rw [hv, if_neg h, if_neg h, e1 fb ⟨2 * (l.val % 64), by omega⟩ (by show (m.val + 127) % 128 = 2 * (l.val % 64); omega)]
    exact congrArg (fun z => fb (ValueIdx.ix2 p ⟨2 * (l.val % 64), by omega⟩) ||| fb (ValueIdx.ix2 p z) <<< 4) (Fin.ext (by show m.val = 2 * (l.val % 64) + 1; omega))

/-- The packed positions at lane `l`, row `p`: the fields of the groups `2 l` and `2 l + 1` of the trip's two chunks. -/
def metaAt (p l : Fin 128) : BitVec 8 :=
  fieldAt arg1 arg2 arg6 X1 X2 X6 k ⟨l.val / 64, by omega⟩ p ⟨2 * (l.val % 64), by omega⟩
    ||| (fieldAt arg1 arg2 arg6 X1 X2 X6 k ⟨l.val / 64, by omega⟩ p ⟨2 * (l.val % 64) + 1, by omega⟩ <<< 4)

/-- A stored block of packed positions. -/
theorem metaBlock_at (s : Fin 4) (fa fb : IVec S8x128 32)
    (ha : ∀ p l, fa (ValueIdx.ix2 p l) = fieldWord arg1 arg2 arg6 X1 X2 X6 k 0 (⟨8 * s.val + p.val, by omega⟩ : Fin 32) l)
    (hb : ∀ p l, fb (ValueIdx.ix2 p l) = fieldWord arg1 arg2 arg6 X1 X2 X6 k 1 (⟨8 * s.val + p.val, by omega⟩ : Fin 32) l)
    (p : Fin 32) (l : Fin 128) :
    metaBlock fa fb (ValueIdx.ix2 p l) = metaAt arg1 arg2 arg6 X1 X2 X6 k (stripRow s p) l := by
  have hrow : (S32x128.row (ValueIdx.ix2 p l)) = p.val := rfl
  have hw : dynamicGather 1 (joined fa fb) metaIdx (ValueIdx.ix2 (⟨p.val / 4, by omega⟩ : Fin 8) l)
      = fieldWord arg1 arg2 arg6 X1 X2 X6 k ⟨l.val / 64, by omega⟩ (⟨8 * s.val + p.val / 4, by omega⟩ : Fin 32) ⟨2 * (l.val % 64), by omega⟩
        ||| (fieldWord arg1 arg2 arg6 X1 X2 X6 k ⟨l.val / 64, by omega⟩ (⟨8 * s.val + p.val / 4, by omega⟩ : Fin 32) ⟨2 * (l.val % 64) + 1, by omega⟩ <<< 4) := by
    have hmi := metaIdx_at (⟨p.val / 4, by omega⟩ : Fin 8) l
    have hlt : (if l.val < 64 then 2 * l.val else 2 * l.val - 127) < 128 := by split_ifs <;> omega
    have e : dynamicGather 1 (joined fa fb) metaIdx (ValueIdx.ix2 (⟨p.val / 4, by omega⟩ : Fin 8) l)
        = joined fa fb (ValueIdx.ix2 (⟨p.val / 4, by omega⟩ : Fin 8) ⟨_, hlt⟩) := by
      refine congrArg (joined fa fb) (funext fun a => Fin.ext ?_)
      match a with
      | ⟨0, _⟩ => rfl
      | ⟨1, _⟩ => exact hmi
    rw [e, joined_at fa fb _ l _ rfl, ha, ha, hb, hb]
    by_cases h : l.val < 64
    · simp only [if_pos h]
      rw [show (⟨l.val / 64, by omega⟩ : Fin 2) = 0 from Fin.ext (by show l.val / 64 = 0; omega)]
    · simp only [if_neg h]
      rw [show (⟨l.val / 64, by omega⟩ : Fin 2) = 1 from Fin.ext (by show l.val / 64 = 1; omega)]
  apply BitVec.eq_of_getLsbD_eq
  intro q hq
  unfold metaBlock
  rw [bitcast_getLsbD _ bitcasts_S8x128_w32_S32x128_w8 _ q hq (by decide)]
  have hsrc : bitcasts_S8x128_w32_S32x128_w8.srcIdx (ValueIdx.ix2 p l) ((S32x128.row (ValueIdx.ix2 p l) * 8 + q) / 32) (fun a ha =>
          (Nat.div_lt_iff_lt_mul (by decide)).2 (bitcasts_S8x128_w32_S32x128_w8.pos_lt (ValueIdx.ix2 p l) q hq a ha)) = ValueIdx.ix2 (⟨p.val / 4, by omega⟩ : Fin 8) l := by
    funext c
    match c with
    | ⟨0, _⟩ => exact Fin.ext ((bitcasts_S8x128_w32_S32x128_w8.srcIdx_row _ _ _ ⟨0, Nat.zero_lt_two⟩ rfl).trans (by rw [hrow]; show (p.val * 8 + q) / 32 = p.val / 4; omega))
    | ⟨1, _⟩ => exact Fin.ext (bitcasts_S8x128_w32_S32x128_w8.srcIdx_other _ _ _ ⟨1, Nat.one_lt_two⟩ (by show ¬ 1 + 2 = 2; omega))
  rw [hsrc, hw, hrow]
  have hm8 : (p.val * 8 + q) % 32 = 8 * (p.val % 4) + q := by omega
  rw [hm8, BitVec.getLsbD_or, BitVec.getLsbD_shiftLeft, fieldWord_bit _ _ _ _ _ _ _ _ _ _ _ (by omega)]
  unfold metaAt
  rw [BitVec.getLsbD_or, BitVec.getLsbD_shiftLeft]
  have er : ∀ n : Nat, (h : n / 8 < 4) → n / 8 = p.val % 4 → byteRow (⟨8 * s.val + p.val / 4, by omega⟩ : Fin 32) ⟨n / 8, h⟩ = stripRow s p := by
    intro n h hn
    exact Fin.ext (by show 4 * (8 * s.val + p.val / 4) + n / 8 = 32 * s.val + p.val; omega)
  rw [er _ _ (by omega), show (8 * (p.val % 4) + q) % 8 = q by omega]
  congr 1
  by_cases h4 : q < 4
  · simp only [h4, decide_true, Bool.not_true, Bool.false_and, Bool.and_false]
    by_cases hp : p.val % 4 = 0
    · simp [hp, h4]
    · rw [fieldWord_bit _ _ _ _ _ _ _ _ _ _ _ (by omega)]
      have : 4 ≤ (8 * (p.val % 4) + q - 4) % 8 := by omega
      rw [show fieldAt arg1 arg2 arg6 X1 X2 X6 k _ _ _ = sField _ _ _ _ _ from rfl, field_high _ _ _ _ _ _ this]
      simp
  · rw [fieldWord_bit _ _ _ _ _ _ _ _ _ _ _ (by omega), er _ _ (by omega), show (8 * (p.val % 4) + q - 4) % 8 = q - 4 by omega]
    have h1 : 8 * (p.val % 4) + q < 32 := by omega
    simp [h4, hq, h1]
    intro
    omega

/-- Strip 0: the packed positions stored, element by element. -/
theorem meta_0_at (x : S32x128.Idx) : trip.sl.v1816 arg1 arg2 arg6 arg12 X1 X2 X6 k x = metaAt arg1 arg2 arg6 X1 X2 X6 k (stripRow 0 (x 0)) (x 1) := by
  obtain ⟨p, l, rfl⟩ : ∃ p l, x = ValueIdx.ix2 p l := ⟨x 0, x 1, ValueIdx.eq_ix2 x⟩
  exact (congrFun (meta_0 arg1 arg2 arg6 arg12 X1 X2 X6 k) _).trans (metaBlock_at arg1 arg2 arg6 X1 X2 X6 k 0 _ _
    (fun p l => (read_fld _ _ 0 0 _ _ rfl rfl rfl p l).trans (fld_plane arg1 arg2 arg6 X1 X2 X6 k _))
    (fun p l => (read_fld _ _ 1 0 _ _ rfl rfl rfl p l).trans (fld_plane arg1 arg2 arg6 X1 X2 X6 k _)) p l)

/-- Strip 1: the packed positions stored, element by element. -/
theorem meta_1_at (x : S32x128.Idx) : trip.sl.v1840 arg1 arg2 arg6 arg12 X1 X2 X6 k x = metaAt arg1 arg2 arg6 X1 X2 X6 k (stripRow 1 (x 0)) (x 1) := by
  obtain ⟨p, l, rfl⟩ : ∃ p l, x = ValueIdx.ix2 p l := ⟨x 0, x 1, ValueIdx.eq_ix2 x⟩
  exact (congrFun (meta_1 arg1 arg2 arg6 arg12 X1 X2 X6 k) _).trans (metaBlock_at arg1 arg2 arg6 X1 X2 X6 k 1 _ _
    (fun p l => (read_fld _ _ 0 1 _ _ rfl rfl rfl p l).trans (fld_plane arg1 arg2 arg6 X1 X2 X6 k _))
    (fun p l => (read_fld _ _ 1 1 _ _ rfl rfl rfl p l).trans (fld_plane arg1 arg2 arg6 X1 X2 X6 k _)) p l)

/-- Strip 2: the packed positions stored, element by element. -/
theorem meta_2_at (x : S32x128.Idx) : trip.sl.v1864 arg1 arg2 arg6 arg12 X1 X2 X6 k x = metaAt arg1 arg2 arg6 X1 X2 X6 k (stripRow 2 (x 0)) (x 1) := by
  obtain ⟨p, l, rfl⟩ : ∃ p l, x = ValueIdx.ix2 p l := ⟨x 0, x 1, ValueIdx.eq_ix2 x⟩
  exact (congrFun (meta_2 arg1 arg2 arg6 arg12 X1 X2 X6 k) _).trans (metaBlock_at arg1 arg2 arg6 X1 X2 X6 k 2 _ _
    (fun p l => (read_fld _ _ 0 2 _ _ rfl rfl rfl p l).trans (fld_plane arg1 arg2 arg6 X1 X2 X6 k _))
    (fun p l => (read_fld _ _ 1 2 _ _ rfl rfl rfl p l).trans (fld_plane arg1 arg2 arg6 X1 X2 X6 k _)) p l)

/-- Strip 3: the packed positions stored, element by element. -/
theorem meta_3_at (x : S32x128.Idx) : trip.sl.v1888 arg1 arg2 arg6 arg12 X1 X2 X6 k x = metaAt arg1 arg2 arg6 X1 X2 X6 k (stripRow 3 (x 0)) (x 1) := by
  obtain ⟨p, l, rfl⟩ : ∃ p l, x = ValueIdx.ix2 p l := ⟨x 0, x 1, ValueIdx.eq_ix2 x⟩
  exact (congrFun (meta_3 arg1 arg2 arg6 arg12 X1 X2 X6 k) _).trans (metaBlock_at arg1 arg2 arg6 X1 X2 X6 k 3 _ _
    (fun p l => (read_fld _ _ 0 3 _ _ rfl rfl rfl p l).trans (fld_plane arg1 arg2 arg6 X1 X2 X6 k _))
    (fun p l => (read_fld _ _ 1 3 _ _ rfl rfl rfl p l).trans (fld_plane arg1 arg2 arg6 X1 X2 X6 k _)) p l)

end Cert.Proof.KernelIdeal

end
-- ==== Proof.KI.Points.lean ====
/- What one grid point stores, element by element: every trip's pieces agree with one function of the place, so the
   pieces of all the trips make that function. -/
module

public import proofs.«01_k».proof.Proof.KI.Meta

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

variable (arg1 : Memref sig .tc .vmem S128x12288 .bf16) (arg2 : Memref sig .tc .vmem S128x3072 .i32)
variable (arg6 : Memref sig .tc .vmem S512x512 .bf16) (arg7 : Memref sig .tc .vmem S2x128x128 .f32)
variable (X1 : BufTy.Contents (Elt F) arg1.view.ty) (X2 : BufTy.Contents (Elt F) arg2.view.ty)
variable (X6 : BufTy.Contents (Elt F) arg6.view.ty)

/-- There are twelve trips. -/
theorem trips_eq : k0_t1_loop.trips = 12 := by decide

/-- Trip `n`. -/
abbrev tripOf (n : Nat) (h : n < 12) : Fin k0_t1_loop.trips := ⟨n, by rw [trips_eq]; exact h⟩

/-- The code at row `p`, column `q` of a grid point's block. -/
def codesFn (p : Fin 128) (q : Fin 6144) : F .fp8e5m2 :=
  codeAt arg1 arg2 arg6 arg7 X1 X2 X6 (tripOf (q.val / 512) (by omega)) ⟨q.val / 128 % 2, by omega⟩ ⟨q.val / 256 % 2, by omega⟩ p ⟨q.val % 128, by omega⟩

/-- The scale of row `p`, column `q` of a grid point's block. -/
def scalesFn (p : Fin 128) (q : Fin 96) : F .f32 :=
  sScale (yK arg1 arg6 arg7 X1 X6 (tripOf (q.val / 8) (by omega)) ⟨q.val / 4 % 2, by omega⟩ (ValueIdx.ix2 (⟨q.val % 4, by omega⟩ : Fin 4) p))

/-- The packed positions at row `p`, column `q` of a grid point's block. -/
def metaFn (p : Fin 128) (q : Fin 1536) : BitVec 8 :=
  metaAt arg1 arg2 arg6 X1 X2 X6 (tripOf (q.val / 128) (by omega)) p ⟨q.val % 128, by omega⟩

/-- The codes' function at the places of a piece. -/
theorem codes_emb (k : Fin k0_t1_loop.trips) (h kp : Fin 2) (s : Fin 4) (off : Fin 2 → Nat) (hb : ∀ a, off a + S32x128.size a ≤ S128x6144.size a)
    (ho : off = ![32 * s.val, 512 * k.val + 256 * kp.val + 128 * h.val]) (x : S32x128.Idx) :
    codesFn arg1 arg2 arg6 arg7 X1 X2 X6 ((Rect.unit (s := S128x6144) off S32x128.size hb).emb x 0) ((Rect.unit (s := S128x6144) off S32x128.size hb).emb x 1)
      = codeAt arg1 arg2 arg6 arg7 X1 X2 X6 k h kp (stripRow s (x 0)) (x 1) := by
  subst ho
  have hk := trip_lt k
  have hx : (x 1).val < 128 := (x 1).isLt
  have e0 : (Rect.unit (s := S128x6144) ![32 * s.val, 512 * k.val + 256 * kp.val + 128 * h.val] S32x128.size hb).emb x 0 = stripRow s (x 0) :=
    Fin.ext (by show 32 * s.val + 1 * (x 0).val = 32 * s.val + (x 0).val; omega)
  have e1 : (Rect.unit (s := S128x6144) ![32 * s.val, 512 * k.val + 256 * kp.val + 128 * h.val] S32x128.size hb).emb x 1
      = (⟨512 * k.val + 256 * kp.val + 128 * h.val + (x 1).val, by omega⟩ : Fin 6144) :=
    Fin.ext (by show 512 * k.val + 256 * kp.val + 128 * h.val + 1 * (x 1).val = 512 * k.val + 256 * kp.val + 128 * h.val + (x 1).val; omega)
  rw [e0, e1]
  unfold codesFn
  congr 1
  · exact Fin.ext (by show (512 * k.val + 256 * kp.val + 128 * h.val + (x 1).val) / 512 = k.val; omega)
  · exact Fin.ext (by show (512 * k.val + 256 * kp.val + 128 * h.val + (x 1).val) / 128 % 2 = h.val; omega)
  · exact Fin.ext (by show (512 * k.val + 256 * kp.val + 128 * h.val + (x 1).val) / 256 % 2 = kp.val; omega)
  · exact Fin.ext (by show (512 * k.val + 256 * kp.val + 128 * h.val + (x 1).val) % 128 = (x 1).val; omega)

/-- The scales' function at the places of a piece of the scratch. -/
theorem scales_emb (k : Fin k0_t1_loop.trips) (kp : Fin 2) (off : Fin 2 → Nat) (hb : ∀ a, off a + S4x128.size a ≤ S128x128.size a)
    (ho : off = ![8 * k.val + 4 * kp.val, 0]) (x : S4x128.Idx) (q : Fin 96) (hq : q.val = ((Rect.unit (s := S128x128) off S4x128.size hb).emb x 0).val) :
    scalesFn arg1 arg6 arg7 X1 X6 ((Rect.unit (s := S128x128) off S4x128.size hb).emb x 1) q
      = sScale (yK arg1 arg6 arg7 X1 X6 k kp x) := by
  subst ho
  have hk := trip_lt k
  have hx : (x 0).val < 4 := (x 0).isLt
  have e1 : (Rect.unit (s := S128x128) ![8 * k.val + 4 * kp.val, 0] S4x128.size hb).emb x 1 = (x 1) :=
    Fin.ext (by show 0 + 1 * (x 1).val = (x 1).val; omega)
  have e0 : q.val = 8 * k.val + 4 * kp.val + (x 0).val := hq.trans (by show 8 * k.val + 4 * kp.val + 1 * (x 0).val = _; omega)
  rw [e1]
  unfold scalesFn
  have ek : tripOf (q.val / 8) (by omega) = k := Fin.ext (by show q.val / 8 = k.val; omega)
  have ekp : (⟨q.val / 4 % 2, by omega⟩ : Fin 2) = kp := Fin.ext (by show q.val / 4 % 2 = kp.val; omega)
  have ex : (ValueIdx.ix2 (⟨q.val % 4, by omega⟩ : Fin 4) (x 1 : Fin 128) : S4x128.Idx) = x := by
    funext a
    match a with
    | ⟨0, _⟩ => exact Fin.ext (by show q.val % 4 = (x 0).val; omega)
    | ⟨1, _⟩ => rfl
  rw [ek, ekp]
  exact congrArg (fun z => sScale (yK arg1 arg6 arg7 X1 X6 k kp z)) ex

/-- The packed positions' function at the places of a piece. -/
theorem meta_emb (k : Fin k0_t1_loop.trips) (s : Fin 4) (off : Fin 2 → Nat) (hb : ∀ a, off a + S32x128.size a ≤ S128x1536.size a)
    (ho : off = ![32 * s.val, 128 * k.val]) (x : S32x128.Idx) :
    metaFn arg1 arg2 arg6 X1 X2 X6 ((Rect.unit (s := S128x1536) off S32x128.size hb).emb x 0) ((Rect.unit (s := S128x1536) off S32x128.size hb).emb x 1)
      = metaAt arg1 arg2 arg6 X1 X2 X6 k (stripRow s (x 0)) (x 1) := by
  subst ho
  have hk := trip_lt k
  have hx : (x 1).val < 128 := (x 1).isLt
  have e0 : (Rect.unit (s := S128x1536) ![32 * s.val, 128 * k.val] S32x128.size hb).emb x 0 = stripRow s (x 0) :=
    Fin.ext (by show 32 * s.val + 1 * (x 0).val = 32 * s.val + (x 0).val; omega)
  have e1 : (Rect.unit (s := S128x1536) ![32 * s.val, 128 * k.val] S32x128.size hb).emb x 1
      = (⟨128 * k.val + (x 1).val, by omega⟩ : Fin 1536) :=
    Fin.ext (by show 128 * k.val + 1 * (x 1).val = 128 * k.val + (x 1).val; omega)
  rw [e0, e1]
  unfold metaFn
  congr 1
  · exact Fin.ext (by show (128 * k.val + (x 1).val) / 128 = k.val; omega)
  · exact Fin.ext (by show (128 * k.val + (x 1).val) % 128 = (x 1).val; omega)

variable (c : Dev nD) (i : grid0.Coords) (harg1 : arg1.IsWhole) (harg2 : arg2.IsWhole)
variable (arg3 : Memref sig .tc .vmem S128x6144 .fp8e5m2) (harg3 : arg3.IsWhole)
variable (arg4 : Memref sig .tc .vmem S128x96 .f32) (harg4 : arg4.IsWhole)
variable (arg5 : Memref sig .tc .vmem S128x1536 .i8) (harg5 : arg5.IsWhole) (harg6 : arg6.IsWhole) (harg7 : arg7.IsWhole)
variable (arg8 : Memref sig .tc .vmem S2x128x128 .f32) (harg8 : arg8.IsWhole)
variable (arg9 : Memref sig .tc .vmem S2x128x128 .f32) (harg9 : arg9.IsWhole)
variable (arg10 : Memref sig .tc .vmem S2x128x128 .f32) (harg10 : arg10.IsWhole)
variable (arg11 : Memref sig .tc .vmem S2x128x128 .f32) (harg11 : arg11.IsWhole)
variable (arg12 : Memref sig .tc .vmem S2x32x128 .i32) (harg12 : arg12.IsWhole)
variable (arg13 : Memref sig .tc .vmem S128x128 .f32) (harg13 : arg13.IsWhole)

/-- Every piece of one trip's codes holds the codes' function. -/
theorem trip_codes (k : Fin k0_t1_loop.trips) : ∀ p ∈ (trip c i arg1 harg1 arg2 harg2 arg3 harg3 arg4 harg4 arg5 harg5 arg6 harg6 arg7 harg7 arg8 harg8 arg9 harg9 arg10 harg10 arg11 harg11 arg12 harg12 arg13 harg13 X1 X2 X6 k).1, ∀ x, p.2 x = codesFn arg1 arg2 arg6 arg7 X1 X2 X6 (p.1.emb x 0) (p.1.emb x 1) := by
  unfold trip
  intro p hp
  simp only [List.mem_cons, List.not_mem_nil, or_false] at hp
  rcases hp with rfl | rfl | rfl | rfl | rfl | rfl | rfl | rfl | rfl | rfl | rfl | rfl | rfl | rfl | rfl | rfl
  · exact fun x => (code_1_3_1_at arg1 arg2 arg6 arg7 arg8 arg9 arg10 arg11 X1 X2 X6 k x).trans (codes_emb arg1 arg2 arg6 arg7 X1 X2 X6 k 1 1 3 _ (Cert.KernelIdeal.Gen.k0_off10_inb k 1 1) (k0_off10_eq k 1 1) x).symm
  · exact fun x => (code_1_3_0_at arg1 arg2 arg6 arg7 arg8 arg9 arg10 arg11 X1 X2 X6 k x).trans (codes_emb arg1 arg2 arg6 arg7 X1 X2 X6 k 0 1 3 _ (Cert.KernelIdeal.Gen.k0_off10_inb k 1 0) (k0_off10_eq k 1 0) x).symm
  · exact fun x => (code_1_2_1_at arg1 arg2 arg6 arg7 arg8 arg9 arg10 arg11 X1 X2 X6 k x).trans (codes_emb arg1 arg2 arg6 arg7 X1 X2 X6 k 1 1 2 _ (Cert.KernelIdeal.Gen.k0_off9_inb k 1 1) (k0_off9_eq k 1 1) x).symm
  · exact fun x => (code_1_2_0_at arg1 arg2 arg6 arg7 arg8 arg9 arg10 arg11 X1 X2 X6 k x).trans (codes_emb arg1 arg2 arg6 arg7 X1 X2 X6 k 0 1 2 _ (Cert.KernelIdeal.Gen.k0_off9_inb k 1 0) (k0_off9_eq k 1 0) x).symm
  · exact fun x => (code_1_1_1_at arg1 arg2 arg6 arg7 arg8 arg9 arg10 arg11 X1 X2 X6 k x).trans (codes_emb arg1 arg2 arg6 arg7 X1 X2 X6 k 1 1 1 _ (Cert.KernelIdeal.Gen.k0_off8_inb k 1 1) (k0_off8_eq k 1 1) x).symm
  · exact fun x => (code_1_1_0_at arg1 arg2 arg6 arg7 arg8 arg9 arg10 arg11 X1 X2 X6 k x).trans (codes_emb arg1 arg2 arg6 arg7 X1 X2 X6 k 0 1 1 _ (Cert.KernelIdeal.Gen.k0_off8_inb k 1 0) (k0_off8_eq k 1 0) x).symm
  · exact fun x => (code_1_0_1_at arg1 arg2 arg6 arg7 arg8 arg9 arg10 arg11 X1 X2 X6 k x).trans (codes_emb arg1 arg2 arg6 arg7 X1 X2 X6 k 1 1 0 _ (Cert.KernelIdeal.Gen.k0_off7_inb k 1 1) (k0_off7_eq k 1 1) x).symm
  · exact fun x => (code_1_0_0_at arg1 arg2 arg6 arg7 arg8 arg9 arg10 arg11 X1 X2 X6 k x).trans (codes_emb arg1 arg2 arg6 arg7 X1 X2 X6 k 0 1 0 _ (Cert.KernelIdeal.Gen.k0_off7_inb k 1 0) (k0_off7_eq k 1 0) x).symm
  · exact fun x => (code_0_3_1_at arg1 arg2 arg6 arg7 arg8 arg9 arg10 arg11 X1 X2 X6 k x).trans (codes_emb arg1 arg2 arg6 arg7 X1 X2 X6 k 1 0 3 _ (Cert.KernelIdeal.Gen.k0_off10_inb k 0 1) (k0_off10_eq k 0 1) x).symm
  · exact fun x => (code_0_3_0_at arg1 arg2 arg6 arg7 arg8 arg9 arg10 arg11 X1 X2 X6 k x).trans (codes_emb arg1 arg2 arg6 arg7 X1 X2 X6 k 0 0 3 _ (Cert.KernelIdeal.Gen.k0_off10_inb k 0 0) (k0_off10_eq k 0 0) x).symm
  · exact fun x => (code_0_2_1_at arg1 arg2 arg6 arg7 arg8 arg9 arg10 arg11 X1 X2 X6 k x).trans (codes_emb arg1 arg2 arg6 arg7 X1 X2 X6 k 1 0 2 _ (Cert.KernelIdeal.Gen.k0_off9_inb k 0 1) (k0_off9_eq k 0 1) x).symm
  · exact fun x => (code_0_2_0_at arg1 arg2 arg6 arg7 arg8 arg9 arg10 arg11 X1 X2 X6 k x).trans (codes_emb arg1 arg2 arg6 arg7 X1 X2 X6 k 0 0 2 _ (Cert.KernelIdeal.Gen.k0_off9_inb k 0 0) (k0_off9_eq k 0 0) x).symm
  · exact fun x => (code_0_1_1_at arg1 arg2 arg6 arg7 arg8 arg9 arg10 arg11 X1 X2 X6 k x).trans (codes_emb arg1 arg2 arg6 arg7 X1 X2 X6 k 1 0 1 _ (Cert.KernelIdeal.Gen.k0_off8_inb k 0 1) (k0_off8_eq k 0 1) x).symm
  · exact fun x => (code_0_1_0_at arg1 arg2 arg6 arg7 arg8 arg9 arg10 arg11 X1 X2 X6 k x).trans (codes_emb arg1 arg2 arg6 arg7 X1 X2 X6 k 0 0 1 _ (Cert.KernelIdeal.Gen.k0_off8_inb k 0 0) (k0_off8_eq k 0 0) x).symm
  · exact fun x => (code_0_0_1_at arg1 arg2 arg6 arg7 arg8 arg9 arg10 arg11 X1 X2 X6 k x).trans (codes_emb arg1 arg2 arg6 arg7 X1 X2 X6 k 1 0 0 _ (Cert.KernelIdeal.Gen.k0_off7_inb k 0 1) (k0_off7_eq k 0 1) x).symm
  · exact fun x => (code_0_0_0_at arg1 arg2 arg6 arg7 arg8 arg9 arg10 arg11 X1 X2 X6 k x).trans (codes_emb arg1 arg2 arg6 arg7 X1 X2 X6 k 0 0 0 _ (Cert.KernelIdeal.Gen.k0_off7_inb k 0 0) (k0_off7_eq k 0 0) x).symm

/-- Every piece of one trip's packed positions holds their function. -/
theorem trip_meta (k : Fin k0_t1_loop.trips) : ∀ p ∈ (trip c i arg1 harg1 arg2 harg2 arg3 harg3 arg4 harg4 arg5 harg5 arg6 harg6 arg7 harg7 arg8 harg8 arg9 harg9 arg10 harg10 arg11 harg11 arg12 harg12 arg13 harg13 X1 X2 X6 k).2.1, ∀ x, p.2 x = metaFn arg1 arg2 arg6 X1 X2 X6 (p.1.emb x 0) (p.1.emb x 1) := by
  unfold trip
  intro p hp
  simp only [List.mem_cons, List.not_mem_nil, or_false] at hp
  rcases hp with rfl | rfl | rfl | rfl
  · exact fun x => (meta_3_at arg1 arg2 arg6 arg12 X1 X2 X6 k x).trans (meta_emb arg1 arg2 arg6 X1 X2 X6 k 3 _ (Cert.KernelIdeal.Gen.k0_off14_inb k) (k0_off14_eq k) x).symm
  · exact fun x => (meta_2_at arg1 arg2 arg6 arg12 X1 X2 X6 k x).trans (meta_emb arg1 arg2 arg6 X1 X2 X6 k 2 _ (Cert.KernelIdeal.Gen.k0_off13_inb k) (k0_off13_eq k) x).symm
  · exact fun x => (meta_1_at arg1 arg2 arg6 arg12 X1 X2 X6 k x).trans (meta_emb arg1 arg2 arg6 X1 X2 X6 k 1 _ (Cert.KernelIdeal.Gen.k0_off12_inb k) (k0_off12_eq k) x).symm
  · exact fun x => (meta_0_at arg1 arg2 arg6 arg12 X1 X2 X6 k x).trans (meta_emb arg1 arg2 arg6 X1 X2 X6 k 0 _ (Cert.KernelIdeal.Gen.k0_off11_inb k) (k0_off11_eq k) x).symm

/-- Every piece of one trip's scales holds the scales' function. -/
theorem trip_scales (k : Fin k0_t1_loop.trips) : ∀ p ∈ (trip c i arg1 harg1 arg2 harg2 arg3 harg3 arg4 harg4 arg5 harg5 arg6 harg6 arg7 harg7 arg8 harg8 arg9 harg9 arg10 harg10 arg11 harg11 arg12 harg12 arg13 harg13 X1 X2 X6 k).2.2.1, ∀ x, ∀ q : Fin 96, q.val = (p.1.emb x 0).val → p.2 x = scalesFn arg1 arg6 arg7 X1 X6 (p.1.emb x 1) q := by
  unfold trip
  intro p hp
  simp only [List.mem_cons, List.not_mem_nil, or_false] at hp
  rcases hp with rfl | rfl
  · intro x q hq
    refine (congrFun (scale_1 arg1 arg6 arg7 X1 X6 k) x).trans ((congrFun (shapeCast_self _ _) x).trans ?_)
    exact (scales_emb arg1 arg6 arg7 X1 X6 k 1 _ (Cert.KernelIdeal.Gen.k0_off6_inb k 1) (k0_off6_eq k 1) x q hq).symm
  · intro x q hq
    refine (congrFun (scale_0 arg1 arg6 arg7 X1 X6 k) x).trans ((congrFun (shapeCast_self _ _) x).trans ?_)
    exact (scales_emb arg1 arg6 arg7 X1 X6 k 0 _ (Cert.KernelIdeal.Gen.k0_off6_inb k 0) (k0_off6_eq k 0) x q hq).symm

/-- So does every piece of the trips before `n`. -/
theorem pieces_points (n : Nat) (hn : n ≤ k0_t1_loop.trips) :
    (∀ p ∈ (pieces c i arg1 harg1 arg2 harg2 arg3 harg3 arg4 harg4 arg5 harg5 arg6 harg6 arg7 harg7 arg8 harg8 arg9 harg9 arg10 harg10 arg11 harg11 arg12 harg12 arg13 harg13 X1 X2 X6 n).1, ∀ x, p.2 x = codesFn arg1 arg2 arg6 arg7 X1 X2 X6 (p.1.emb x 0) (p.1.emb x 1))
    ∧ (∀ p ∈ (pieces c i arg1 harg1 arg2 harg2 arg3 harg3 arg4 harg4 arg5 harg5 arg6 harg6 arg7 harg7 arg8 harg8 arg9 harg9 arg10 harg10 arg11 harg11 arg12 harg12 arg13 harg13 X1 X2 X6 n).2.1, ∀ x, p.2 x = metaFn arg1 arg2 arg6 X1 X2 X6 (p.1.emb x 0) (p.1.emb x 1))
    ∧ (∀ p ∈ (pieces c i arg1 harg1 arg2 harg2 arg3 harg3 arg4 harg4 arg5 harg5 arg6 harg6 arg7 harg7 arg8 harg8 arg9 harg9 arg10 harg10 arg11 harg11 arg12 harg12 arg13 harg13 X1 X2 X6 n).2.2, ∀ x, ∀ q : Fin 96, q.val = (p.1.emb x 0).val → p.2 x = scalesFn arg1 arg6 arg7 X1 X6 (p.1.emb x 1) q) := by
  induction n with
  | zero =>
    rw [pieces]
    exact ⟨fun p hp => absurd hp List.not_mem_nil, fun p hp => absurd hp List.not_mem_nil, fun p hp => absurd hp List.not_mem_nil⟩
  | succ n ih =>
    obtain ⟨h1, h2, h3⟩ := ih (by omega)
    rw [pieces_succ c i arg1 harg1 arg2 harg2 arg3 harg3 arg4 harg4 arg5 harg5 arg6 harg6 arg7 harg7 arg8 harg8 arg9 harg9 arg10 harg10 arg11 harg11 arg12 harg12 arg13 harg13 X1 X2 X6 ⟨n, by omega⟩]
    exact ⟨fun p hp => (List.mem_append.mp hp).elim (trip_codes arg1 arg2 arg6 arg7 X1 X2 X6 c i harg1 harg2 arg3 harg3 arg4 harg4 arg5 harg5 harg6 harg7 arg8 harg8 arg9 harg9 arg10 harg10 arg11 harg11 arg12 harg12 arg13 harg13 _ p) (h1 p),
      fun p hp => (List.mem_append.mp hp).elim (trip_meta arg1 arg2 arg6 arg7 X1 X2 X6 c i harg1 harg2 arg3 harg3 arg4 harg4 arg5 harg5 harg6 harg7 arg8 harg8 arg9 harg9 arg10 harg10 arg11 harg11 arg12 harg12 arg13 harg13 _ p) (h2 p),
      fun p hp => (List.mem_append.mp hp).elim (trip_scales arg1 arg2 arg6 arg7 X1 X2 X6 c i harg1 harg2 arg3 harg3 arg4 harg4 arg5 harg5 harg6 harg7 arg8 harg8 arg9 harg9 arg10 harg10 arg11 harg11 arg12 harg12 arg13 harg13 _ p) (h3 p)⟩

variable (x1 : Vec F S128x12288 .bf16) (x2 : Vec F S128x3072 .i32)

/-- The codes' block, element by element. -/
theorem codesOut_at (y : S128x6144.Idx) : codesOut c i arg1 harg1 arg2 harg2 arg3 harg3 arg4 harg4 arg5 harg5 arg6 harg6 arg7 harg7 arg8 harg8 arg9 harg9 arg10 harg10 arg11 harg11 arg12 harg12 arg13 harg13 x1 x2 y
    = codesFn arg1 arg2 arg6 arg7 (harg1.unread x1) (harg2.unread x2) (harg6.unread k0_pay1) (y 0) (y 1) := by
  unfold codesOut
  exact View.canon_apply_of_pieces (Val := Elt F) (e := .fp8e5m2) (fun y : S128x6144.Idx => codesFn arg1 arg2 arg6 arg7 (harg1.unread x1) (harg2.unread x2) (harg6.unread k0_pay1) (y 0) (y 1)) _
    (pieces_points arg1 arg2 arg6 arg7 _ _ _ c i harg1 harg2 arg3 harg3 arg4 harg4 arg5 harg5 harg6 harg7 arg8 harg8 arg9 harg9 arg10 harg10 arg11 harg11 arg12 harg12 arg13 harg13 _ le_rfl).1 y (codes_cover c i arg1 harg1 arg2 harg2 arg3 harg3 arg4 harg4 arg5 harg5 arg6 harg6 arg7 harg7 arg8 harg8 arg9 harg9 arg10 harg10 arg11 harg11 arg12 harg12 arg13 harg13 x1 x2 y)

/-- The packed positions' block, element by element. -/
theorem metaOut_at (y : S128x1536.Idx) : metaOut c i arg1 harg1 arg2 harg2 arg3 harg3 arg4 harg4 arg5 harg5 arg6 harg6 arg7 harg7 arg8 harg8 arg9 harg9 arg10 harg10 arg11 harg11 arg12 harg12 arg13 harg13 x1 x2 y
    = metaFn arg1 arg2 arg6 (harg1.unread x1) (harg2.unread x2) (harg6.unread k0_pay1) (y 0) (y 1) := by
  unfold metaOut
  exact View.canon_apply_of_pieces (Val := Elt F) (e := .i8) (fun y : S128x1536.Idx => metaFn arg1 arg2 arg6 (harg1.unread x1) (harg2.unread x2) (harg6.unread k0_pay1) (y 0) (y 1)) _
    (pieces_points arg1 arg2 arg6 arg7 _ _ _ c i harg1 harg2 arg3 harg3 arg4 harg4 arg5 harg5 harg6 harg7 arg8 harg8 arg9 harg9 arg10 harg10 arg11 harg11 arg12 harg12 arg13 harg13 _ le_rfl).2.1 y (meta_cover c i arg1 harg1 arg2 harg2 arg3 harg3 arg4 harg4 arg5 harg5 arg6 harg6 arg7 harg7 arg8 harg8 arg9 harg9 arg10 harg10 arg11 harg11 arg12 harg12 arg13 harg13 x1 x2 y)

/-- A canonical value at a covered place, where every piece that holds the place agrees with the function there. -/
theorem canon_at {S : Shape} {e : EltTy} (L : List (View.Piece (Elt F) S e)) (y : S.Idx) (v : Elt F e)
    (hL : ∀ p ∈ L, ∀ x, p.1.emb x = y → p.2 x = v) (hy : ∃ p ∈ L, y ∈ p.1.set) : View.canon L y = v := by
  induction L with
  | nil => obtain ⟨p, hp, _⟩ := hy; exact absurd hp List.not_mem_nil
  | cons p L ih =>
    by_cases hm : y ∈ p.1.set
    · obtain ⟨x, rfl⟩ := p.1.exists_idx_of_mem hm
      rw [show p.1.idx x = p.1.emb x from rfl, View.canon_cons_emb]
      exact hL p (by simp) x rfl
    · rw [View.canon_cons_of_not_mem _ _ hm]
      refine ih (fun q hq => hL q (by simp [hq])) ?_
      obtain ⟨q, hq, hyq⟩ := hy
      rcases List.mem_cons.mp hq with rfl | hq'
      · exact absurd hyq hm
      · exact ⟨q, hq', hyq⟩

/-- The scales' block, element by element. -/
theorem scalesOut_at (y : S128x96.Idx) : scalesOut c i arg1 harg1 arg2 harg2 arg3 harg3 arg4 harg4 arg5 harg5 arg6 harg6 arg7 harg7 arg8 harg8 arg9 harg9 arg10 harg10 arg11 harg11 arg12 harg12 arg13 harg13 x1 x2 y
    = scalesFn arg1 arg6 arg7 (harg1.unread x1) (harg6.unread k0_pay1) (y 0) (y 1) := by
  unfold scalesOut k0_pay7
  obtain ⟨p, q, rfl⟩ : ∃ p q, y = ValueIdx.ix2 p q := ⟨y 0, y 1, ValueIdx.eq_ix2 y⟩
  refine (extractStridedSlice_apply _ _ _ _ (ValueIdx.ix2 p (⟨q.val, by omega⟩ : Fin 128)) (fun a => ?_)).trans ?_
  · match a with
    | ⟨0, _⟩ => exact (Nat.zero_add _).symm
    | ⟨1, _⟩ => exact (Nat.zero_add _).symm
  refine (ValueIdx.transpose_ix2_apply _ _ _ _).trans ?_
  refine canon_at _ _ _ (fun P hP x hx => ?_) (scales_cover c i arg1 harg1 arg2 harg2 arg3 harg3 arg4 harg4 arg5 harg5 arg6 harg6 arg7 harg7 arg8 harg8 arg9 harg9 arg10 harg10 arg11 harg11 arg12 harg12 arg13 harg13 x1 x2 _ q.isLt)
  refine ((pieces_points arg1 arg2 arg6 arg7 _ _ _ c i harg1 harg2 arg3 harg3 arg4 harg4 arg5 harg5 harg6 harg7 arg8 harg8 arg9 harg9 arg10 harg10 arg11 harg11 arg12 harg12 arg13 harg13 _ le_rfl).2.2 P hP x q ?_).trans ?_
  · rw [hx]
  · rw [hx]

end Cert.Proof.KernelIdeal

end
-- ==== Proof.KI.Rows.lean ====
/- The kernel's results over the extended reals, a row at a time.

   The matrix a chunk is multiplied by is a permutation, so each product's element is one gradient: the four values at
   columns `l`, `128 + l`, `256 + l`, `384 + l` of a chunk are the four neighbours of the chunk's group `l`. A row's codes,
   scales and packed positions are therefore functions of the row's gradients and random words alone. -/
module

public import proofs.«01_k».proof.Proof.KI.Points
public import Idealize.ShloMosaic.Lib.MatmulPlain
public import Idealize.ShloMosaic.Lib.VecWindow
public import Idealize.ShloMosaic.PureOps.Ideal.Laws

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic

/-- A row of gradients. -/
abbrev Row := Fin 12288 → EReal
/-- A row of random words. -/
abbrev Words := Fin 3072 → BitVec 32

/-- A scalar function at group `Q` of a row. -/
def grp {α : Type} (g : Row) (w : Words) (f : GroupFn Ideal α) (Q : Fin 3072) : α :=
  f (g ⟨4 * Q.val + 0, by omega⟩) (g ⟨4 * Q.val + 1, by omega⟩) (g ⟨4 * Q.val + 2, by omega⟩) (g ⟨4 * Q.val + 3, by omega⟩) (w Q)
/-- Minus the largest kept magnitude of group `Q`. -/
def bigRow (g : Row) (Q : Fin 3072) : EReal :=
  sBig (F := Ideal) (g ⟨4 * Q.val + 0, by omega⟩) (g ⟨4 * Q.val + 1, by omega⟩) (g ⟨4 * Q.val + 2, by omega⟩) (g ⟨4 * Q.val + 3, by omega⟩)
/-- The scaled maximum of block `B` of a row. -/
def yRow (g : Row) (B : Fin 96) : EReal :=
  FloatOps.mulf (F := Ideal) (φ := .f32) (FloatOps.subf (F := Ideal) (φ := .f32) (FloatOps.ofBits (F := Ideal) .f32 0x00000000#32)
    ((Finset.univ : Finset (Fin 32)).fold (FloatOps.minimumf (F := Ideal) (φ := .f32)) (FloatOps.ofBits (F := Ideal) .f32 0x7F800000#32)
      (fun l => bigRow g ⟨32 * B.val + l.val, by omega⟩))) (FloatOps.ofBits (F := Ideal) .f32 0x37924925#32)
/-- The lower kept value's code of group `Q`. -/
def codeLo (g : Row) (w : Words) (Q : Fin 3072) : EReal :=
  sQuant (F := Ideal) (grp g w sMlo Q) (grp g w sPlo Q) (sInv (F := Ideal) (yRow g ⟨Q.val / 32, by omega⟩))
/-- The higher kept value's code. -/
def codeHi (g : Row) (w : Words) (Q : Fin 3072) : EReal :=
  sQuant (F := Ideal) (grp g w sMhi Q) (grp g w sPhi Q) (sInv (F := Ideal) (yRow g ⟨Q.val / 32, by omega⟩))
/-- The code of column `q`. -/
def codeRow (g : Row) (w : Words) (q : Fin 6144) : EReal :=
  if q.val % 2 = 0 then codeLo g w ⟨q.val / 2, by omega⟩ else codeHi g w ⟨q.val / 2, by omega⟩
/-- The scale of block `B`. -/
def scaleRow (g : Row) (B : Fin 96) : EReal := sScale (F := Ideal) (yRow g B)
/-- The packed positions of column `j`. -/
def metaRow (g : Row) (w : Words) (j : Fin 1536) : BitVec 8 :=
  grp g w sField ⟨2 * j.val, by omega⟩ ||| (grp g w sField ⟨2 * j.val + 1, by omega⟩ <<< 4)

/-- The row of the permutation matrix that holds the one of column `c`. -/
theorem perm_row (c : Fin 512) :
    IntOp.addi (IntOp.muli (IntOp.andi (BitVec.ofNat 32 c.val) 127#32) 4#32) (IntOp.shrui .vector (BitVec.ofNat 32 c.val) 7#32)
      = BitVec.ofNat 32 (4 * (c.val % 128) + c.val / 128) := by
  revert c
  decide +kernel

/-- The permutation matrix. -/
theorem perm_at (r c : Fin 512) :
    k0_pay1 (F := Ideal) (ValueIdx.ix2 r c) = if r.val = 4 * (c.val % 128) + c.val / 128 then (1 : EReal) else 0 := by
  have h : k0_pay1 (F := Ideal) (ValueIdx.ix2 r c) = Scalar.select (IntOp.cmpi .eq (BitVec.ofNat 32 r.val)
      (IntOp.addi (IntOp.muli (IntOp.andi (BitVec.ofNat 32 c.val) 127#32) 4#32) (IntOp.shrui .vector (BitVec.ofNat 32 c.val) 7#32)))
      (Ideal.ofBits .f32 0x3F800000#32) (Ideal.ofBits .f32 0x00000000#32) := by
    unfold k0_pay1
    refine (congrFun (shapeCast_self (s := S512x512) (α := EReal) _ _) _).trans ?_
    exact congrArg₂ (fun a b => Scalar.select (IntOp.cmpi .eq a
      (IntOp.addi (IntOp.muli (IntOp.andi b 127#32) 4#32) (IntOp.shrui .vector b 7#32)))
      (Ideal.ofBits .f32 0x3F800000#32) (Ideal.ofBits .f32 0x00000000#32))
      (iota_single_apply .tc S512x512 32 0 _ (ValueIdx.ix2 r c)) (iota_single_apply .tc S512x512 32 1 _ (ValueIdx.ix2 r c))
  have h1 : Ideal.ofBits .f32 0x3F800000#32 = 1 := by simp [Ideal.ofBits, Ideal.ieee, -EReal.coe_mul]; norm_num
  have h0 : Ideal.ofBits .f32 0x00000000#32 = 0 := Ideal.ofBits_zero_f32
  rw [h, perm_row, h1, h0]
  by_cases e : r.val = 4 * (c.val % 128) + c.val / 128
  · rw [if_pos e, e]
    have : IntOp.cmpi .eq (BitVec.ofNat 32 (4 * (c.val % 128) + c.val / 128)) (BitVec.ofNat 32 (4 * (c.val % 128) + c.val / 128)) = 1#1 := by
      simp [IntOp.cmpi]
    rw [this]; rfl
  · rw [if_neg e]
    have hne : BitVec.ofNat 32 r.val ≠ BitVec.ofNat 32 (4 * (c.val % 128) + c.val / 128) := by
      intro hh
      have := congrArg BitVec.toNat hh
      simp only [BitVec.toNat_ofNat] at this
      omega
    have : IntOp.cmpi .eq (BitVec.ofNat 32 r.val) (BitVec.ofNat 32 (4 * (c.val % 128) + c.val / 128)) = 0#1 := by
      show BitVec.ofBool (_ == _) = 0#1
      rw [beq_eq_false_iff_ne.mpr hne]
      rfl
    rw [this]; rfl

/-- A matrix multiplied by the permutation, element by element. -/
theorem permuted (x : Vec Ideal S128x512 .bf16) (p : Fin 128) (c : Fin 512) :
    k0_pay8 (F := Ideal) x (k0_pay1 (F := Ideal)) (ValueIdx.ix2 p c) = x (ValueIdx.ix2 p ⟨4 * (c.val % 128) + c.val / 128, by omega⟩) := by
  have e : k0_pay8 (F := Ideal) x (k0_pay1 (F := Ideal)) (ValueIdx.ix2 p c)
      = Ideal.ofBits .f32 0x00000000#32 + ∑ k : Fin 512, shapeCast S128x512 x shapeCasts_S128x512_S128x512 (ValueIdx.ix2 p k) * k0_pay1 (F := Ideal) (ValueIdx.ix2 k c) :=
    Ideal.matmul_plain_apply none _ _ _ p c
  rw [e, Ideal.ofBits_zero_f32, zero_add, Finset.sum_eq_single (⟨4 * (c.val % 128) + c.val / 128, by omega⟩ : Fin 512)]
  · rw [perm_at, if_pos rfl, mul_one]
    exact congrFun (shapeCast_self (s := S128x512) _ _) _
  · intro k _ hk
    rw [perm_at, if_neg (fun h => hk (Fin.ext h)), mul_zero]
  · intro h; exact absurd (Finset.mem_univ _) h

variable (arg1 : Memref sig .tc .vmem S128x12288 .bf16) (harg1 : arg1.IsWhole)
variable (arg2 : Memref sig .tc .vmem S128x3072 .i32) (harg2 : arg2.IsWhole)
variable (arg6 : Memref sig .tc .vmem S512x512 .bf16) (harg6 : arg6.IsWhole)
variable (arg7 : Memref sig .tc .vmem S2x128x128 .f32)
variable (x1 : Vec Ideal S128x12288 .bf16) (x2 : Vec Ideal S128x3072 .i32)
variable (k : Fin k0_t1_loop.trips)

/-- The gradients of row `p` of a block. -/
abbrev gRow (x1 : Vec Ideal S128x12288 .bf16) (p : Fin 128) : Row := fun q => x1 (ValueIdx.ix2 p q)
/-- The random words of row `p` of a block. -/
abbrev wRow (x2 : Vec Ideal S128x3072 .i32) (p : Fin 128) : Words := fun q => x2 (ValueIdx.ix2 p q)

/-- A chunk of the gradients as loaded. -/
theorem chunk_load (kp : Fin 2) (hb : ∀ a, k0_off1 k (BitVec.ofNat 32 kp.val) a + S128x512.size a ≤ S128x12288.size a) (p : Fin 128) (c : Fin 512) :
    View.readAt (Elt Ideal) arg1.view (Rect.unit (s := S128x12288) (k0_off1 k (BitVec.ofNat 32 kp.val)) S128x512.size hb).toLoadRect (harg1.unread x1) (ValueIdx.ix2 p c)
      = x1 (ValueIdx.ix2 p (⟨1024 * k.val + 512 * kp.val + c.val, by have := trip_lt k; omega⟩ : Fin 12288)) := by
  rw [View.readAt_apply, harg1.read_unread]
  refine congrArg x1 (funext fun a => Fin.ext ?_)
  have e := k0_off1_eq k kp
  match a with
  | ⟨0, _⟩ => exact (congrArg (fun o : Fin 2 → Nat => o 0 + 1 * p.val) e).trans (by simp)
  | ⟨1, _⟩ => exact (congrArg (fun o : Fin 2 → Nat => o 1 + 1 * c.val) e).trans (by simp)

/-- The permutation as loaded. -/
theorem perm_load : View.readAt (Elt Ideal) arg6.view (Rect.unit (s := S512x512) ![0, 0] S512x512.size inb_S512x512_S512x512_0_0).toLoadRect (harg6.unread (k0_pay1 (F := Ideal))) = k0_pay1 (F := Ideal) := by
  rw [View.readAt_full, harg6.read_unread]

/-- The values of a group of the trip's chunk `kp`. -/
theorem valAt_eq (kp : Fin 2) (i : Fin 4) (p l : Fin 128) :
    valAt arg1 arg6 (harg1.unread x1) (harg6.unread (k0_pay1 (F := Ideal))) k kp i p l
      = gRow x1 p ⟨4 * (256 * k.val + 128 * kp.val + l.val) + i.val, by have := trip_lt k; omega⟩ := by
  have hk := trip_lt k
  have hc : ∀ (kp : Fin 2) (hb : ∀ a, k0_off1 k (BitVec.ofNat 32 kp.val) a + S128x512.size a ≤ S128x12288.size a) (c : Fin 512), c.val = 128 * i.val + l.val →
      k0_pay8 (F := Ideal) (View.readAt (Elt Ideal) arg1.view (Rect.unit (s := S128x12288) (k0_off1 k (BitVec.ofNat 32 kp.val)) S128x512.size hb).toLoadRect (harg1.unread x1))
        (View.readAt (Elt Ideal) arg6.view (Rect.unit (s := S512x512) ![0, 0] S512x512.size inb_S512x512_S512x512_0_0).toLoadRect (harg6.unread (k0_pay1 (F := Ideal)))) (ValueIdx.ix2 p c)
      = gRow x1 p ⟨4 * (256 * k.val + 128 * kp.val + l.val) + i.val, by have := trip_lt k; omega⟩ := by
    intro kp hb c hc
    rw [perm_load, permuted, chunk_load]
    exact congrArg (fun q => x1 (ValueIdx.ix2 p q)) (Fin.ext (by
      show 1024 * k.val + 512 * kp.val + (4 * (c.val % 128) + c.val / 128) = 4 * (256 * k.val + 128 * kp.val + l.val) + i.val; omega))
  match kp with
  | 0 => exact hc 0 (k0_off1_inb k 0) _ rfl
  | 1 => exact hc 1 (k0_off1_inb k 1) _ rfl

/-- The random word of a group. -/
theorem wordAt_eq (kp : Fin 2) (p l : Fin 128) :
    wordAt arg2 (harg2.unread x2) k kp p l = wRow x2 p ⟨256 * k.val + 128 * kp.val + l.val, by have := trip_lt k; omega⟩ := by
  unfold wordAt
  rw [harg2.read_unread]

/-- A scalar function at a group of the trip is the function at that group of the row. -/
theorem groupAt_eq {α : Type} (f : GroupFn Ideal α) (kp : Fin 2) (p l : Fin 128) :
    groupAt arg1 arg2 arg6 (harg1.unread x1) (harg2.unread x2) (harg6.unread (k0_pay1 (F := Ideal))) k f kp p l
      = grp (gRow x1 p) (wRow x2 p) f ⟨256 * k.val + 128 * kp.val + l.val, by have := trip_lt k; omega⟩ := by
  unfold groupAt
  rw [valAt_eq, valAt_eq, valAt_eq, valAt_eq, wordAt_eq]
  rfl

/-- The maxima of a chunk from its plane. -/
theorem maxima_at (v : Vec Ideal S1x128x128 .f32) (f : Fin 128 → Fin 128 → EReal) (hv : ∀ p l, v (ValueIdx.ix3 0 p l) = f p l) (b : Fin 4) (p : Fin 128) :
    k0_pay293 (F := Ideal) v (ValueIdx.ix2 b p)
      = FloatOps.mulf (F := Ideal) (φ := .f32) (FloatOps.subf (F := Ideal) (φ := .f32) (FloatOps.ofBits (F := Ideal) .f32 0x00000000#32)
    ((Finset.univ : Finset (Fin 32)).fold (FloatOps.minimumf (F := Ideal) (φ := .f32)) (FloatOps.ofBits (F := Ideal) .f32 0x7F800000#32)
      (fun l => f p ⟨32 * b.val + l.val, by omega⟩))) (FloatOps.ofBits (F := Ideal) .f32 0x37924925#32) := by
  unfold k0_pay293
  refine congrArg (fun z => FloatOps.mulf (F := Ideal) (φ := .f32) (FloatOps.subf (F := Ideal) (φ := .f32) (FloatOps.ofBits (F := Ideal) .f32 0x00000000#32) z) (FloatOps.ofBits (F := Ideal) .f32 0x37924925#32)) ?_
  refine (multiReduction_minimumf_eq_fold (F := Ideal) _ _ _ _ _ _).trans ?_
  refine (reduces_S4x32x128_S4x128.fold_filter_drop_single _ _ _ _).trans ?_
  refine congrArg (fun h => (Finset.univ : Finset (Fin 32)).fold (FloatOps.minimumf (F := Ideal) (φ := .f32)) (FloatOps.ofBits (F := Ideal) .f32 0x7F800000#32) h) (funext fun l => ?_)
  refine (shapeCast_apply _ _ _ (ValueIdx.ix2 (⟨32 * b.val + l.val, by have hl : l.val < 32 := l.isLt; omega⟩ : Fin 128) p) ?_).trans ?_
  · rw [Shape.rowMajor_val_two, Shape.rowMajor_val_three]
    show (32 * b.val + l.val) * 128 + p.val = (b.val * 32 + l.val) * 128 + p.val
    omega
  · refine (ValueIdx.transpose_ix2_apply _ _ _ _).trans ?_
    exact (ValueIdx.shapeCast_1ab_ab_apply _ _ _ _).trans (hv _ _)

include arg2 harg2 x2 in
/-- The scaled maxima of a chunk are the row's. -/
theorem yK_eq (kp : Fin 2) (b : Fin 4) (p : Fin 128) :
    yK arg1 arg6 arg7 (harg1.unread x1) (harg6.unread (k0_pay1 (F := Ideal))) k kp (ValueIdx.ix2 b p)
      = yRow (gRow x1 p) ⟨8 * k.val + 4 * kp.val + b.val, by have := trip_lt k; omega⟩ := by
  have hk := trip_lt k
  have key : ∀ (kp : Fin 2) (v : Vec Ideal S1x128x128 .f32),
      (∀ p l, v (ValueIdx.ix3 0 p l) = View.canon (trip.sl.W7_8 arg1 arg6 (harg1.unread x1) (harg6.unread (k0_pay1 (F := Ideal))) k) (ValueIdx.ix3 kp p l)) →
      k0_pay293 (F := Ideal) v (ValueIdx.ix2 b p) = yRow (gRow x1 p) ⟨8 * k.val + 4 * kp.val + b.val, by omega⟩ := by
    intro kp v hv
    refine (maxima_at v (fun p l => bigRow (gRow x1 p) ⟨256 * k.val + 128 * kp.val + l.val, by omega⟩) (fun p l => ?_) b p).trans ?_
    · rw [hv, big_plane arg1 arg2 arg6 (harg1.unread x1) (harg2.unread x2) (harg6.unread (k0_pay1 (F := Ideal))) k]
      exact groupAt_eq arg1 harg1 arg2 harg2 arg6 harg6 x1 x2 k gBig kp p l
    · unfold yRow
      refine congrArg (fun h => FloatOps.mulf (F := Ideal) (φ := .f32) (FloatOps.subf (F := Ideal) (φ := .f32) (FloatOps.ofBits (F := Ideal) .f32 0x00000000#32)
        ((Finset.univ : Finset (Fin 32)).fold (FloatOps.minimumf (F := Ideal) (φ := .f32)) (FloatOps.ofBits (F := Ideal) .f32 0x7F800000#32) h)) (FloatOps.ofBits (F := Ideal) .f32 0x37924925#32)) (funext fun l => ?_)
      exact congrArg (bigRow (gRow x1 p)) (Fin.ext (by show 256 * k.val + 128 * kp.val + (32 * b.val + l.val) = 32 * (8 * k.val + 4 * kp.val + b.val) + l.val; omega))
  have hread : ∀ (kp : Fin 2) (off : Fin 3 → Nat) (hb : ∀ a, off a + S1x128x128.size a ≤ S2x128x128.size a) (ho : off = ![kp.val, 0, 0]) (p l : Fin 128),
      arg7.view.readCov (trip.sl.W7_8 arg1 arg6 (harg1.unread x1) (harg6.unread (k0_pay1 (F := Ideal))) k) (Rect.unit (s := S2x128x128) off S1x128x128.size hb).toLoadRect (ValueIdx.ix3 0 p l)
        = View.canon (trip.sl.W7_8 arg1 arg6 (harg1.unread x1) (harg6.unread (k0_pay1 (F := Ideal))) k) (ValueIdx.ix3 kp p l) := by
    intro kp off hb ho p l
    subst ho
    rw [View.readCov_eq_canon']
    refine congrArg (View.canon (trip.sl.W7_8 arg1 arg6 (harg1.unread x1) (harg6.unread (k0_pay1 (F := Ideal))) k)) (funext fun a => Fin.ext ?_)
    match a with
    | ⟨0, _⟩ => exact Nat.add_zero _
    | ⟨1, _⟩ => show 0 + 1 * p.val = p.val; omega
    | ⟨2, _⟩ => show 0 + 1 * l.val = l.val; omega
  match kp with
  | 0 => exact key 0 _ (hread 0 _ _ rfl)
  | 1 => exact key 1 _ (hread 1 _ _ rfl)

/-- The codes of a block, row by row. -/
theorem codesFn_eq (p : Fin 128) (q : Fin 6144) :
    codesFn arg1 arg2 arg6 arg7 (harg1.unread x1) (harg2.unread x2) (harg6.unread (k0_pay1 (F := Ideal))) p q = codeRow (gRow x1 p) (wRow x2 p) q := by
  have hq := q.isLt
  unfold codesFn codeAt codeRow
  have eQ : ∀ h, (⟨256 * (q.val / 512) + 128 * (q.val / 256 % 2) + (64 * (q.val / 128 % 2) + q.val % 128 / 2), h⟩ : Fin 3072) = ⟨q.val / 2, by omega⟩ :=
    fun h => Fin.ext (by show 256 * (q.val / 512) + 128 * (q.val / 256 % 2) + (64 * (q.val / 128 % 2) + q.val % 128 / 2) = q.val / 2; omega)
  have eB : ∀ h, (⟨8 * (q.val / 512) + 4 * (q.val / 256 % 2) + (64 * (q.val / 128 % 2) + q.val % 128 / 2) / 32, h⟩ : Fin 96) = ⟨q.val / 2 / 32, by omega⟩ :=
    fun h => Fin.ext (by show 8 * (q.val / 512) + 4 * (q.val / 256 % 2) + (64 * (q.val / 128 % 2) + q.val % 128 / 2) / 32 = q.val / 2 / 32; omega)
  by_cases h0 : q.val % 2 = 0
  · have eb : (⟨q.val % 128 % 2, by omega⟩ : Fin 2) = 0 := Fin.ext (by show q.val % 128 % 2 = 0; omega)
    rw [if_pos h0]
    show sTrunc (quantAt arg1 arg2 arg6 arg7 _ _ _ _ ⟨q.val % 128 % 2, _⟩ _ _ _) = _
    rw [eb]
    unfold quantAt
    dsimp only
    rw [groupAt_eq, groupAt_eq, yK_eq arg1 harg1 arg2 harg2 arg6 harg6 arg7 x1 x2]
    dsimp only
    rw [eQ, eB]
    rfl
  · have eb : (⟨q.val % 128 % 2, by omega⟩ : Fin 2) = 1 := Fin.ext (by show q.val % 128 % 2 = 1; omega)
    rw [if_neg h0]
    show sTrunc (quantAt arg1 arg2 arg6 arg7 _ _ _ _ ⟨q.val % 128 % 2, _⟩ _ _ _) = _
    rw [eb]
    unfold quantAt
    dsimp only
    rw [groupAt_eq, groupAt_eq, yK_eq arg1 harg1 arg2 harg2 arg6 harg6 arg7 x1 x2]
    dsimp only
    rw [eQ, eB]
    rfl

include arg2 harg2 x2 in
/-- The scales of a block, row by row. -/
theorem scalesFn_eq (p : Fin 128) (q : Fin 96) :
    scalesFn arg1 arg6 arg7 (harg1.unread x1) (harg6.unread (k0_pay1 (F := Ideal))) p q = scaleRow (gRow x1 p) q := by
  unfold scalesFn scaleRow
  rw [yK_eq arg1 harg1 arg2 harg2 arg6 harg6 arg7 x1 x2]
  refine congrArg (fun B => sScale (F := Ideal) (yRow (gRow x1 p) B)) (Fin.ext ?_)
  show 8 * (q.val / 8) + 4 * (q.val / 4 % 2) + q.val % 4 = q.val
  omega

/-- The packed positions of a block, row by row. -/
theorem metaFn_eq (p : Fin 128) (q : Fin 1536) :
    metaFn arg1 arg2 arg6 (harg1.unread x1) (harg2.unread x2) (harg6.unread (k0_pay1 (F := Ideal))) p q = metaRow (gRow x1 p) (wRow x2 p) q := by
  have hq := q.isLt
  unfold metaFn metaAt metaRow fieldAt
  rw [groupAt_eq, groupAt_eq]
  refine congrArg₂ (fun a b => grp (gRow x1 p) (wRow x2 p) sField a ||| (grp (gRow x1 p) (wRow x2 p) sField b <<< 4)) (Fin.ext ?_) (Fin.ext ?_)
  · show 256 * (q.val / 128) + 128 * (q.val % 128 / 64) + 2 * (q.val % 128 % 64) = 2 * q.val
    omega
  · show 256 * (q.val / 128) + 128 * (q.val % 128 / 64) + (2 * (q.val % 128 % 64) + 1) = 2 * q.val + 1
    omega

end Cert.Proof.KernelIdeal

end
-- ==== Proof.KI.Arrays.lean ====
/- The kernel's result arrays after the run, over the extended reals.

   Point `t` of the grid writes rows `128 t … 128 t + 127` of each result; its blocks of the arguments are the same rows of the
   two arguments, so row `P` of a result is a function of row `P` of the arguments. -/
module

public import proofs.«01_k».proof.Proof.KI.Rows
public import proofs.«01_k».proof.Proof.KI.Frame
public import Idealize.ShloMosaic.Lib.StableHlo.Run

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- Row `P` of the gradients. -/
abbrev rowG (g : S2x1024x12288.Idx → EReal) (P : Fin 2048) : Row := fun q => g (ValueIdx.ix3 ⟨P.val / 1024, by omega⟩ ⟨P.val % 1024, by omega⟩ q)
/-- Row `P` of the random words. -/
abbrev rowW (w : S2x1024x3072.Idx → BitVec 32) (P : Fin 2048) : Words := fun q => w (ValueIdx.ix3 ⟨P.val / 1024, by omega⟩ ⟨P.val % 1024, by omega⟩ q)

/-- The gradients as the region finds them: the argument's rows one below another. -/
theorem V_main_v0 (P : Fin 2048) (q : Fin 12288) :
    V m c main_v0 (ValueIdx.ix2 P q) = rowG (m ((c : Thread nD τ).loc main_arg0)) P q := by
  have h : V m c main_v0 = shapeCast S2048x12288 (m ((c : Thread nD τ).loc main_arg0)) shapeCasts_S2x1024x12288_S2048x12288 := by
    show StableHlo.after hostOps0 (fun b => m (c, b)) (↑main_v0) = _
    simp only [hostOps0]
    after_results_simp
    rfl
  rw [h]
  refine shapeCast_apply (s := S2x1024x12288) (t := S2048x12288) _ _ _ (ValueIdx.ix3 (⟨P.val / 1024, by omega⟩ : Fin 2) (⟨P.val % 1024, by omega⟩ : Fin 1024) q) ?_
  rw [Shape.rowMajor_val_two, Shape.rowMajor_val_three]
  show (P.val / 1024 * 1024 + P.val % 1024) * 12288 + q.val = P.val * 12288 + q.val
  omega

/-- The random words as the region finds them. -/
theorem V_main_v1 (P : Fin 2048) (q : Fin 3072) :
    V m c main_v1 (ValueIdx.ix2 P q) = rowW (m ((c : Thread nD τ).loc main_arg1)) P q := by
  have h : V m c main_v1 = shapeCast S2048x3072 (m ((c : Thread nD τ).loc main_arg1)) shapeCasts_S2x1024x3072_S2048x3072 := by
    show StableHlo.after hostOps0 (fun b => m (c, b)) (↑main_v1) = _
    simp only [hostOps0]
    after_results_simp
    rfl
  rw [h]
  refine shapeCast_apply (s := S2x1024x3072) (t := S2048x3072) _ _ _ (ValueIdx.ix3 (⟨P.val / 1024, by omega⟩ : Fin 2) (⟨P.val % 1024, by omega⟩ : Fin 1024) q) ?_
  rw [Shape.rowMajor_val_two, Shape.rowMajor_val_three]
  show (P.val / 1024 * 1024 + P.val % 1024) * 3072 + q.val = P.val * 3072 + q.val
  omega

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = t.val ∧ win0_4.index t (1 : Fin 2) = 0 := by decide +kernel

/-- The point of a row's block is below the grid's size. -/
theorem point_lt (t : Fin cfg0.N) (p : Fin 128) : 128 * t.val + p.val < 2048 := by
  have := t.isLt
  have h : cfg0.N = 16 := N_0
  omega

/-- A point's block of the gradients. -/
theorem iblk0_row (t : Fin cfg0.N) (p : Fin 128) :
    gRow (iblk m c 0 t) p = rowG (m ((c : Thread nD τ).loc main_arg0)) ⟨128 * t.val + p.val, point_lt t p⟩ := by
  funext q
  refine Eq.trans ?_ (V_main_v0 m c ⟨128 * t.val + p.val, point_lt t p⟩ q)
  show V m c main_v0 (((cfg0.win 0).blk t).view.emb (ValueIdx.ix2 p q)) = _
  refine congrArg (V m c main_v0) (funext fun a => Fin.ext ?_)
  obtain ⟨e0, e1⟩ := idx0 t
  match a with
  | ⟨0, _⟩ => show win0_0.index t (0 : Fin 2) * 128 + 1 * p.val = 128 * t.val + p.val; omega
  | ⟨1, _⟩ => show win0_0.index t (1 : Fin 2) * 12288 + 1 * q.val = q.val; omega

/-- A point's block of the random words. -/
theorem iblk1_row (t : Fin cfg0.N) (p : Fin 128) :
    wRow (iblk m c 1 t) p = rowW (m ((c : Thread nD τ).loc main_arg1)) ⟨128 * t.val + p.val, point_lt t p⟩ := by
  funext q
  refine Eq.trans ?_ (V_main_v1 m c ⟨128 * t.val + p.val, point_lt t p⟩ q)
  show V m c main_v1 (((cfg0.win 1).blk t).view.emb (ValueIdx.ix2 p q)) = _
  refine congrArg (V m c main_v1) (funext fun a => Fin.ext ?_)
  obtain ⟨e0, e1⟩ := idx1 t
  match a with
  | ⟨0, _⟩ => show win0_1.index t (0 : Fin 2) * 128 + 1 * p.val = 128 * t.val + p.val; omega
  | ⟨1, _⟩ => show win0_1.index t (1 : Fin 2) * 3072 + 1 * q.val = q.val; omega

/-- The codes: what the kernel's first result holds. -/
def codesArr (g : S2x1024x12288.Idx → EReal) (w : S2x1024x3072.Idx → BitVec 32) : S2048x6144.Idx → EReal := fun i => codeRow (rowG g (i 0)) (rowW w (i 0)) (i 1)
/-- The scales: what the kernel's second result holds. -/
def scalesArr (g : S2x1024x12288.Idx → EReal) : S2048x96.Idx → EReal := fun i => scaleRow (rowG g (i 0)) (i 1)
/-- The packed positions: what the kernel's third result holds. -/
def metaArr (g : S2x1024x12288.Idx → EReal) (w : S2x1024x3072.Idx → BitVec 32) : S2048x1536.Idx → BitVec 8 := fun i => metaRow (rowG g (i 0)) (rowW w (i 0)) (i 1)

/-- What a point leaves in its block of result 0. -/
theorem codesOutAt_eq (t : Fin cfg0.N) (p : Fin 128) (q : Fin 6144) :
    codesOutAt m c t (ValueIdx.ix2 p q) = codesArr (m ((c : Thread nD τ).loc main_arg0)) (m ((c : Thread nD τ).loc main_arg1)) (ValueIdx.ix2 ⟨128 * t.val + p.val, point_lt t p⟩ q) := by
  refine (codesOut_at ..).trans ?_
  refine (codesFn_eq (ms0 t) (hs0 t) (ms1 t) (hs1 t) scM0 (Memref.isWhole_whole _) scM1 (iblk m c 0 t) (iblk m c 1 t) p q).trans ?_
  rw [iblk0_row, iblk1_row]
  rfl

/-- What a point writes back is its block of the array. -/
theorem flushed2 (t : Fin cfg0.N) :
    (dats m 0 c).flushed 2 t = ((cfg0.win 2).blk t).view.read (Elt Ideal) (codesArr (m ((c : Thread nD τ).loc main_arg0)) (m ((c : Thread nD τ).loc main_arg1))) := by
  show (cfg0.win 2).cut (grid0.coords t) ((dats m 0 c).after 2 t) = _
  rw [after0_2]
  funext j
  show codesOutAt m c t j = codesArr (m ((c : Thread nD τ).loc main_arg0)) (m ((c : Thread nD τ).loc main_arg1)) (((cfg0.win 2).blk t).view.emb j)
  obtain ⟨p, q, rfl⟩ : ∃ (p : Fin 128) (q : Fin 6144), j = ValueIdx.ix2 p q := ⟨j 0, j 1, ValueIdx.eq_ix2 j⟩
  rw [codesOutAt_eq]
  refine congrArg (codesArr (m ((c : Thread nD τ).loc main_arg0)) (m ((c : Thread nD τ).loc main_arg1))) (funext fun a => Fin.ext ?_)
  obtain ⟨e0, e1⟩ := idx2 t
  match a with
  | ⟨0, _⟩ => show 128 * t.val + p.val = win0_2.index t (0 : Fin 2) * 128 + 1 * p.val; omega
  | ⟨1, _⟩ => show q.val = win0_2.index t (1 : Fin 2) * 6144 + 1 * q.val; omega

/-- An index lies in a point's block iff each coordinate lies in the block's range. -/
theorem mem_blk2 (t : Fin cfg0.N) (i : S2048x6144.Idx) :
    i ∈ ((cfg0.win 2).blk t).view.set ↔ ∀ a : Fin 2, win0_2.index t a * S128x6144.size a ≤ (i a).val ∧ (i a).val < win0_2.index t a * S128x6144.size a + S128x6144.size a := by
  show i ∈ ((View.whole main_v2_0).slice (win0_2.rect t)).set ↔ _
  rw [View.set_slice_whole, Rect.mem_set_unit]
  exact Iff.rfl

/-- Result 0 after the run. -/
theorem final2 : (dats m 0 c).arrAt 2 cfg0.N = codesArr (m ((c : Thread nD τ).loc main_arg0)) (m ((c : Thread nD τ).loc main_arg1)) := by
  refine (dats m 0 c).arrAt_eq_of_cover 2 _ (fun t _ => flushed2 m c t) fun i => ?_
  have hi0 : (i 0).val < 2048 := (i 0).isLt
  have hi1 : (i 1).val < 6144 := (i 1).isLt
  have hN : cfg0.N = 16 := N_0
  have ht : (i 0).val / 128 < cfg0.N := by omega
  obtain ⟨e0, e1⟩ := idx2 ⟨(i 0).val / 128, ht⟩
  refine ⟨⟨(i 0).val / 128, ht⟩, flush0_2 _, ?_⟩
  rw [mem_blk2]
  intro a
  match a with
  | ⟨0, _⟩ => show win0_2.index _ (0 : Fin 2) * 128 ≤ (i 0).val ∧ (i 0).val < win0_2.index _ (0 : Fin 2) * 128 + 128; rw [e0]; dsimp only; omega
  | ⟨1, _⟩ => show win0_2.index _ (1 : Fin 2) * 6144 ≤ (i 1).val ∧ (i 1).val < win0_2.index _ (1 : Fin 2) * 6144 + 6144; rw [e1]; omega

/-- What a point leaves in its block of result 1. -/
theorem scalesOutAt_eq (t : Fin cfg0.N) (p : Fin 128) (q : Fin 96) :
    scalesOutAt m c t (ValueIdx.ix2 p q) = scalesArr (m ((c : Thread nD τ).loc main_arg0)) (ValueIdx.ix2 ⟨128 * t.val + p.val, point_lt t p⟩ q) := by
  refine (scalesOut_at ..).trans ?_
  refine (scalesFn_eq (ms0 t) (hs0 t) (ms1 t) (hs1 t) scM0 (Memref.isWhole_whole _) scM1 (iblk m c 0 t) (iblk m c 1 t) p q).trans ?_
  rw [iblk0_row]
  rfl

/-- What a point writes back is its block of the array. -/
theorem flushed3 (t : Fin cfg0.N) :
    (dats m 0 c).flushed 3 t = ((cfg0.win 3).blk t).view.read (Elt Ideal) (scalesArr (m ((c : Thread nD τ).loc main_arg0))) := by
  show (cfg0.win 3).cut (grid0.coords t) ((dats m 0 c).after 3 t) = _
  rw [after0_3]
  funext j
  show scalesOutAt m c t j = scalesArr (m ((c : Thread nD τ).loc main_arg0)) (((cfg0.win 3).blk t).view.emb j)
  obtain ⟨p, q, rfl⟩ : ∃ (p : Fin 128) (q : Fin 96), j = ValueIdx.ix2 p q := ⟨j 0, j 1, ValueIdx.eq_ix2 j⟩
  rw [scalesOutAt_eq]
  refine congrArg (scalesArr (m ((c : Thread nD τ).loc main_arg0))) (funext fun a => Fin.ext ?_)
  obtain ⟨e0, e1⟩ := idx3 t
  match a with
  | ⟨0, _⟩ => show 128 * t.val + p.val = win0_3.index t (0 : Fin 2) * 128 + 1 * p.val; omega
  | ⟨1, _⟩ => show q.val = win0_3.index t (1 : Fin 2) * 96 + 1 * q.val; omega

/-- An index lies in a point's block iff each coordinate lies in the block's range. -/
theorem mem_blk3 (t : Fin cfg0.N) (i : S2048x96.Idx) :
    i ∈ ((cfg0.win 3).blk t).view.set ↔ ∀ a : Fin 2, win0_3.index t a * S128x96.size a ≤ (i a).val ∧ (i a).val < win0_3.index t a * S128x96.size a + S128x96.size a := by
  show i ∈ ((View.whole main_v2_1).slice (win0_3.rect t)).set ↔ _
  rw [View.set_slice_whole, Rect.mem_set_unit]
  exact Iff.rfl

/-- Result 1 after the run. -/
theorem final3 : (dats m 0 c).arrAt 3 cfg0.N = scalesArr (m ((c : Thread nD τ).loc main_arg0)) := by
  refine (dats m 0 c).arrAt_eq_of_cover 3 _ (fun t _ => flushed3 m c t) fun i => ?_
  have hi0 : (i 0).val < 2048 := (i 0).isLt
  have hi1 : (i 1).val < 96 := (i 1).isLt
  have hN : cfg0.N = 16 := N_0
  have ht : (i 0).val / 128 < cfg0.N := by omega
  obtain ⟨e0, e1⟩ := idx3 ⟨(i 0).val / 128, ht⟩
  refine ⟨⟨(i 0).val / 128, ht⟩, flush0_3 _, ?_⟩
  rw [mem_blk3]
  intro a
  match a with
  | ⟨0, _⟩ => show win0_3.index _ (0 : Fin 2) * 128 ≤ (i 0).val ∧ (i 0).val < win0_3.index _ (0 : Fin 2) * 128 + 128; rw [e0]; dsimp only; omega
  | ⟨1, _⟩ => show win0_3.index _ (1 : Fin 2) * 96 ≤ (i 1).val ∧ (i 1).val < win0_3.index _ (1 : Fin 2) * 96 + 96; rw [e1]; omega

/-- What a point leaves in its block of result 2. -/
theorem metaOutAt_eq (t : Fin cfg0.N) (p : Fin 128) (q : Fin 1536) :
    metaOutAt m c t (ValueIdx.ix2 p q) = metaArr (m ((c : Thread nD τ).loc main_arg0)) (m ((c : Thread nD τ).loc main_arg1)) (ValueIdx.ix2 ⟨128 * t.val + p.val, point_lt t p⟩ q) := by
  refine (metaOut_at ..).trans ?_
  refine (metaFn_eq (ms0 t) (hs0 t) (ms1 t) (hs1 t) scM0 (Memref.isWhole_whole _) (iblk m c 0 t) (iblk m c 1 t) p q).trans ?_
  rw [iblk0_row, iblk1_row]
  rfl

/-- What a point writes back is its block of the array. -/
theorem flushed4 (t : Fin cfg0.N) :
    (dats m 0 c).flushed 4 t = ((cfg0.win 4).blk t).view.read (Elt Ideal) (metaArr (m ((c : Thread nD τ).loc main_arg0)) (m ((c : Thread nD τ).loc main_arg1))) := by
  show (cfg0.win 4).cut (grid0.coords t) ((dats m 0 c).after 4 t) = _
  rw [after0_4]
  funext j
  show metaOutAt m c t j = metaArr (m ((c : Thread nD τ).loc main_arg0)) (m ((c : Thread nD τ).loc main_arg1)) (((cfg0.win 4).blk t).view.emb j)
  obtain ⟨p, q, rfl⟩ : ∃ (p : Fin 128) (q : Fin 1536), j = ValueIdx.ix2 p q := ⟨j 0, j 1, ValueIdx.eq_ix2 j⟩
  rw [metaOutAt_eq]
  refine congrArg (metaArr (m ((c : Thread nD τ).loc main_arg0)) (m ((c : Thread nD τ).loc main_arg1))) (funext fun a => Fin.ext ?_)
  obtain ⟨e0, e1⟩ := idx4 t
  match a with
  | ⟨0, _⟩ => show 128 * t.val + p.val = win0_4.index t (0 : Fin 2) * 128 + 1 * p.val; omega
  | ⟨1, _⟩ => show q.val = win0_4.index t (1 : Fin 2) * 1536 + 1 * q.val; omega

/-- An index lies in a point's block iff each coordinate lies in the block's range. -/
theorem mem_blk4 (t : Fin cfg0.N) (i : S2048x1536.Idx) :
    i ∈ ((cfg0.win 4).blk t).view.set ↔ ∀ a : Fin 2, win0_4.index t a * S128x1536.size a ≤ (i a).val ∧ (i a).val < win0_4.index t a * S128x1536.size a + S128x1536.size a := by
  show i ∈ ((View.whole main_v2_2).slice (win0_4.rect t)).set ↔ _
  rw [View.set_slice_whole, Rect.mem_set_unit]
  exact Iff.rfl

/-- Result 2 after the run. -/
theorem final4 : (dats m 0 c).arrAt 4 cfg0.N = metaArr (m ((c : Thread nD τ).loc main_arg0)) (m ((c : Thread nD τ).loc main_arg1)) := by
  refine (dats m 0 c).arrAt_eq_of_cover 4 _ (fun t _ => flushed4 m c t) fun i => ?_
  have hi0 : (i 0).val < 2048 := (i 0).isLt
  have hi1 : (i 1).val < 1536 := (i 1).isLt
  have hN : cfg0.N = 16 := N_0
  have ht : (i 0).val / 128 < cfg0.N := by omega
  obtain ⟨e0, e1⟩ := idx4 ⟨(i 0).val / 128, ht⟩
  refine ⟨⟨(i 0).val / 128, ht⟩, flush0_4 _, ?_⟩
  rw [mem_blk4]
  intro a
  match a with
  | ⟨0, _⟩ => show win0_4.index _ (0 : Fin 2) * 128 ≤ (i 0).val ∧ (i 0).val < win0_4.index _ (0 : Fin 2) * 128 + 128; rw [e0]; dsimp only; omega
  | ⟨1, _⟩ => show win0_4.index _ (1 : Fin 2) * 1536 ≤ (i 1).val ∧ (i 1).val < win0_4.index _ (1 : Fin 2) * 1536 + 1536; rw [e1]; omega

end Cert.Proof.KernelIdeal

end
-- ==== Proof.RI.Ops.lean ====
/- The reference's host operations as lists, in the order of the program, and the value of each array that several of
   them read, as a term of the arguments. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Proof.ReferenceIdeal

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v159`, named. It packs its operands into a list of dependent pairs
    whose shapes a later argument's type mentions, so `simp` cannot rewrite an operand where it stands; applied by
    name, the operands are plain arguments, which the window lemmas below rewrite before the name unfolds. -/
def fn_main_v159 : (⟨S2x1024x3072x1, .f32⟩ : BufTy).Contents (Elt F) → (⟨S2x1024x3072x1, .f32⟩ : BufTy).Contents (Elt F) → (⟨S2x1024x3072x2, .f32⟩ : BufTy).Contents (Elt F) :=
  (fun a b => concatenate S2x1024x3072x2 3 [⟨S2x1024x3072x1, a⟩, ⟨S2x1024x3072x1, b⟩] concatenates_S2x1024x3072x1_S2x1024x3072x1_S2x1024x3072x2_d3)

/-- @main's operations 1 … 30 of 245 (window `main_part0`). -/
abbrev ops_part0_0 : List (HloOp τ sig (Elt F)) :=
  [ unary main_arg0 main_v0 ((extf .f32 · bitsLt_bf16_f32) : (⟨S2x1024x12288, .bf16⟩ : BufTy).Contents (Elt F) → (⟨S2x1024x12288, .f32⟩ : BufTy).Contents (Elt F)),
    reshape main_v0 main_v1 (rfl : (.f32 : EltTy) = .f32) shapeCasts_S2x1024x12288_S2x1024x3072x4,
    unary main_v1 main_v2 ((extractStridedSlice S2x1024x3072x1 ![0, 0, 0, 0] · slices_S2x1024x3072x4_S2x1024x3072x1_0_0_0_0) : (⟨S2x1024x3072x4, .f32⟩ : BufTy).Contents (Elt F) → (⟨S2x1024x3072x1, .f32⟩ : BufTy).Contents (Elt F)),
    reshape main_v2 main_v3 (rfl : (.f32 : EltTy) = .f32) shapeCasts_S2x1024x3072x1_S2x1024x3072,
    unary main_v1 main_v4 ((extractStridedSlice S2x1024x3072x1 ![0, 0, 0, 1] · slices_S2x1024x3072x4_S2x1024x3072x1_0_0_0_1) : (⟨S2x1024x3072x4, .f32⟩ : BufTy).Contents (Elt F) → (⟨S2x1024x3072x1, .f32⟩ : BufTy).Contents (Elt F)),
    reshape main_v4 main_v5 (rfl : (.f32 : EltTy) = .f32) shapeCasts_S2x1024x3072x1_S2x1024x3072,
    unary main_v1 main_v6 ((extractStridedSlice S2x1024x3072x1 ![0, 0, 0, 2] · slices_S2x1024x3072x4_S2x1024x3072x1_0_0_0_2) : (⟨S2x1024x3072x4, .f32⟩ : BufTy).Contents (Elt F) → (⟨S2x1024x3072x1, .f32⟩ : BufTy).Contents (Elt F)),
    reshape main_v6 main_v7 (rfl : (.f32 : EltTy) = .f32) shapeCasts_S2x1024x3072x1_S2x1024x3072,
    unary main_v1 main_v8 ((extractStridedSlice S2x1024x3072x1 ![0, 0, 0, 3] · slices_S2x1024x3072x4_S2x1024x3072x1_0_0_0_3) : (⟨S2x1024x3072x4, .f32⟩ : BufTy).Contents (Elt F) → (⟨S2x1024x3072x1, .f32⟩ : BufTy).Contents (Elt F)),
    reshape main_v8 main_v9 (rfl : (.f32 : EltTy) = .f32) shapeCasts_S2x1024x3072x1_S2x1024x3072,
    unary main_v3 main_v10 (Host.absf : (⟨S2x1024x3072, .f32⟩ : BufTy).Contents (Elt F) → (⟨S2x1024x3072, .f32⟩ : BufTy).Contents (Elt F)),
    unary main_v5 main_v11 (Host.absf : (⟨S2x1024x3072, .f32⟩ : BufTy).Contents (Elt F) → (⟨S2x1024x3072, .f32⟩ : BufTy).Contents (Elt F)),
    unary main_v7 main_v12 (Host.absf : (⟨S2x1024x3072, .f32⟩ : BufTy).Contents (Elt F) → (⟨S2x1024x3072, .f32⟩ : BufTy).Contents (Elt F)),
    unary main_v9 main_v13 (Host.absf : (⟨S2x1024x3072, .f32⟩ : BufTy).Contents (Elt F) → (⟨S2x1024x3072, .f32⟩ : BufTy).Contents (Elt F)),
    binary main_v10 main_v11 main_v14 (addf : (⟨S2x1024x3072, .f32⟩ : BufTy).Contents (Elt F) → (⟨S2x1024x3072, .f32⟩ : BufTy).Contents (Elt F) → (⟨S2x1024x3072, .f32⟩ : BufTy).Contents (Elt F)),
    binary main_v14 main_v12 main_v15 (addf : (⟨S2x1024x3072, .f32⟩ : BufTy).Contents (Elt F) → (⟨S2x1024x3072, .f32⟩ : BufTy).Contents (Elt F) → (⟨S2x1024x3072, .f32⟩ : BufTy).Contents (Elt F)),
    binary main_v15 main_v13 main_v16 (addf : (⟨S2x1024x3072, .f32⟩ : BufTy).Contents (Elt F) → (⟨S2x1024x3072, .f32⟩ : BufTy).Contents (Elt F) → (⟨S2x1024x3072, .f32⟩ : BufTy).Contents (Elt F)),
    binary main_v10 main_v11 main_v17 (maximumf : (⟨S2x1024x3072, .f32⟩ : BufTy).Contents (Elt F) → (⟨S2x1024x3072, .f32⟩ : BufTy).Contents (Elt F) → (⟨S2x1024x3072, .f32⟩ : BufTy).Contents (Elt F)),
    binary main_v12 main_v13 main_v18 (maximumf : (⟨S2x1024x3072, .f32⟩ : BufTy).Contents (Elt F) → (⟨S2x1024x3072, .f32⟩ : BufTy).Contents (Elt F) → (⟨S2x1024x3072, .f32⟩ : BufTy).Contents (Elt F)),
    binary main_v17 main_v18 main_v19 (maximumf : (⟨S2x1024x3072, .f32⟩ : BufTy).Contents (Elt F) → (⟨S2x1024x3072, .f32⟩ : BufTy).Contents (Elt F) → (⟨S2x1024x3072, .f32⟩ : BufTy).Contents (Elt F)),
    binary main_v10 main_v19 main_v20 (cmpf .oeq : (⟨S2x1024x3072, .f32⟩ : BufTy).Contents (Elt F) → (⟨S2x1024x3072, .f32⟩ : BufTy).Contents (Elt F) → (⟨S2x1024x3072, .i1⟩ : BufTy).Contents (Elt F)),
    binary main_v11 main_v19 main_v21 (cmpf .oeq : (⟨S2x1024x3072, .f32⟩ : BufTy).Contents (Elt F) → (⟨S2x1024x3072, .f32⟩ : BufTy).Contents (Elt F) → (⟨S2x1024x3072, .i1⟩ : BufTy).Contents (Elt F)),
    binary main_v12 main_v19 main_v22 (cmpf .oeq : (⟨S2x1024x3072, .f32⟩ : BufTy).Contents (Elt F) → (⟨S2x1024x3072, .f32⟩ : BufTy).Contents (Elt F) → (⟨S2x1024x3072, .i1⟩ : BufTy).Contents (Elt F)),
    nullary main_c (constantI S_ 32 2#32),
    nullary main_c_0 (constantI S_ 32 3#32),
    TRef.unary (TRef.of (T := ⟨S_, .i32⟩) main_c) (TRef.of (T := ⟨S2x1024x3072, .i32⟩) main_call0_v0) (broadcastInDim S2x1024x3072 ![] bcast_S_S2x1024x3072),
    TRef.unary (TRef.of (T := ⟨S_, .i32⟩) main_c_0) (TRef.of (T := ⟨S2x1024x3072, .i32⟩) main_call0_v1) (broadcastInDim S2x1024x3072 ![] bcast_S_S2x1024x3072),
    TRef.ternary (TRef.of (T := ⟨S2x1024x3072, .i1⟩) main_v22) (TRef.of (T := ⟨S2x1024x3072, .i32⟩) main_call0_v0) (TRef.of (T := ⟨S2x1024x3072, .i32⟩) main_call0_v1) (TRef.of (T := ⟨S2x1024x3072, .i32⟩) main_v23) select,
    nullary main_c_1 (constantI S_ 32 1#32),
    TRef.unary (TRef.of (T := ⟨S_, .i32⟩) main_c_1) (TRef.of (T := ⟨S2x1024x3072, .i32⟩) main_call1_v0) (broadcastInDim S2x1024x3072 ![] bcast_S_S2x1024x3072) ]

/-- @main's operations 31 … 60 of 245 (window `main_part0`). -/
abbrev ops_part0_1 : List (HloOp τ sig (Elt F)) :=
  [ TRef.ternary (TRef.of (T := ⟨S2x1024x3072, .i1⟩) main_v21) (TRef.of (T := ⟨S2x1024x3072, .i32⟩) main_call1_v0) (TRef.of (T := ⟨S2x1024x3072, .i32⟩) main_v23) (TRef.of (T := ⟨S2x1024x3072, .i32⟩) main_v24) select,
    nullary main_c_2 (constantI S_ 32 0#32),
    TRef.unary (TRef.of (T := ⟨S_, .i32⟩) main_c_2) (TRef.of (T := ⟨S2x1024x3072, .i32⟩) main_call2_v0) (broadcastInDim S2x1024x3072 ![] bcast_S_S2x1024x3072),
    TRef.ternary (TRef.of (T := ⟨S2x1024x3072, .i1⟩) main_v20) (TRef.of (T := ⟨S2x1024x3072, .i32⟩) main_call2_v0) (TRef.of (T := ⟨S2x1024x3072, .i32⟩) main_v24) (TRef.of (T := ⟨S2x1024x3072, .i32⟩) main_v25) select,
    unary main_v25 main_v26 (id : (⟨S2x1024x3072, .i32⟩ : BufTy).Contents (Elt F) → (⟨S2x1024x3072, .i32⟩ : BufTy).Contents (Elt F)),
    nullary main_c_3 (constantI S_ 32 8#32),
    unary main_c_3 main_v27 (broadcastInDim S2x1024x3072 ![] bcast_S_S2x1024x3072 : (⟨S_, .i32⟩ : BufTy).Contents (Elt F) → (⟨S2x1024x3072, .i32⟩ : BufTy).Contents (Elt F)),
    binary main_arg1 main_v27 main_v28 (Host.shrui : (⟨S2x1024x3072, .i32⟩ : BufTy).Contents (Elt F) → (⟨S2x1024x3072, .i32⟩ : BufTy).Contents (Elt F) → (⟨S2x1024x3072, .i32⟩ : BufTy).Contents (Elt F)),
    unary main_v28 main_v29 (uitofp .f32 : (⟨S2x1024x3072, .i32⟩ : BufTy).Contents (Elt F) → (⟨S2x1024x3072, .f32⟩ : BufTy).Contents (Elt F)),
    nullary main_cst (constant S_ .f32 0x33800000#32),
    unary main_cst main_v30 (broadcastInDim S2x1024x3072 ![] bcast_S_S2x1024x3072 : (⟨S_, .f32⟩ : BufTy).Contents (Elt F) → (⟨S2x1024x3072, .f32⟩ : BufTy).Contents (Elt F)),
    binary main_v29 main_v30 main_v31 (mulf : (⟨S2x1024x3072, .f32⟩ : BufTy).Contents (Elt F) → (⟨S2x1024x3072, .f32⟩ : BufTy).Contents (Elt F) → (⟨S2x1024x3072, .f32⟩ : BufTy).Contents (Elt F)),
    nullary main_cst_4 (constant S_ .f32 0x40000000#32),
    unary main_cst_4 main_v32 (broadcastInDim S2x1024x3072 ![] bcast_S_S2x1024x3072 : (⟨S_, .f32⟩ : BufTy).Contents (Elt F) → (⟨S2x1024x3072, .f32⟩ : BufTy).Contents (Elt F)),
    binary main_v32 main_v19 main_v33 (mulf : (⟨S2x1024x3072, .f32⟩ : BufTy).Contents (Elt F) → (⟨S2x1024x3072, .f32⟩ : BufTy).Contents (Elt F) → (⟨S2x1024x3072, .f32⟩ : BufTy).Contents (Elt F)),
    binary main_v33 main_v16 main_v34 (cmpf .oge : (⟨S2x1024x3072, .f32⟩ : BufTy).Contents (Elt F) → (⟨S2x1024x3072, .f32⟩ : BufTy).Contents (Elt F) → (⟨S2x1024x3072, .i1⟩ : BufTy).Contents (Elt F)),
    binary main_v16 main_v19 main_v35 (subf : (⟨S2x1024x3072, .f32⟩ : BufTy).Contents (Elt F) → (⟨S2x1024x3072, .f32⟩ : BufTy).Contents (Elt F) → (⟨S2x1024x3072, .f32⟩ : BufTy).Contents (Elt F)),
    nullary main_c_5 (constantI S_ 32 0#32),
    unary main_c_5 main_v36 (broadcastInDim S2x1024x3072 ![] bcast_S_S2x1024x3072 : (⟨S_, .i32⟩ : BufTy).Contents (Elt F) → (⟨S2x1024x3072, .i32⟩ : BufTy).Contents (Elt F)),
    binary main_v26 main_v36 main_v37 (cmpi .eq : (⟨S2x1024x3072, .i32⟩ : BufTy).Contents (Elt F) → (⟨S2x1024x3072, .i32⟩ : BufTy).Contents (Elt F) → (⟨S2x1024x3072, .i1⟩ : BufTy).Contents (Elt F)),
    nullary main_c_6 (constantI S_ 32 1#32),
    nullary main_c_7 (constantI S_ 32 0#32),
    TRef.unary (TRef.of (T := ⟨S_, .i32⟩) main_c_6) (TRef.of (T := ⟨S2x1024x3072, .i32⟩) main_call3_v0) (broadcastInDim S2x1024x3072 ![] bcast_S_S2x1024x3072),
    TRef.unary (TRef.of (T := ⟨S_, .i32⟩) main_c_7) (TRef.of (T := ⟨S2x1024x3072, .i32⟩) main_call3_v1) (broadcastInDim S2x1024x3072 ![] bcast_S_S2x1024x3072),
    TRef.ternary (TRef.of (T := ⟨S2x1024x3072, .i1⟩) main_v37) (TRef.of (T := ⟨S2x1024x3072, .i32⟩) main_call3_v0) (TRef.of (T := ⟨S2x1024x3072, .i32⟩) main_call3_v1) (TRef.of (T := ⟨S2x1024x3072, .i32⟩) main_v38) select,
    nullary main_c_8 (constantI S_ 32 1#32),
    unary main_c_8 main_v39 (broadcastInDim S2x1024x3072 ![] bcast_S_S2x1024x3072 : (⟨S_, .i32⟩ : BufTy).Contents (Elt F) → (⟨S2x1024x3072, .i32⟩ : BufTy).Contents (Elt F)),
    binary main_v26 main_v39 main_v40 (cmpi .sle : (⟨S2x1024x3072, .i32⟩ : BufTy).Contents (Elt F) → (⟨S2x1024x3072, .i32⟩ : BufTy).Contents (Elt F) → (⟨S2x1024x3072, .i1⟩ : BufTy).Contents (Elt F)),
    nullary main_c_9 (constantI S_ 32 2#32),
    nullary main_c_10 (constantI S_ 32 1#32) ]

/-- @main's operations 61 … 68 of 245 (window `main_part0`). -/
abbrev ops_part0_2 : List (HloOp τ sig (Elt F)) :=
  [ TRef.unary (TRef.of (T := ⟨S_, .i32⟩) main_c_9) (TRef.of (T := ⟨S2x1024x3072, .i32⟩) main_call4_v0) (broadcastInDim S2x1024x3072 ![] bcast_S_S2x1024x3072),
    TRef.unary (TRef.of (T := ⟨S_, .i32⟩) main_c_10) (TRef.of (T := ⟨S2x1024x3072, .i32⟩) main_call4_v1) (broadcastInDim S2x1024x3072 ![] bcast_S_S2x1024x3072),
    TRef.ternary (TRef.of (T := ⟨S2x1024x3072, .i1⟩) main_v40) (TRef.of (T := ⟨S2x1024x3072, .i32⟩) main_call4_v0) (TRef.of (T := ⟨S2x1024x3072, .i32⟩) main_call4_v1) (TRef.of (T := ⟨S2x1024x3072, .i32⟩) main_v41) select,
    nullary main_c_11 (constantI S_ 32 2#32),
    unary main_c_11 main_v42 (broadcastInDim S2x1024x3072 ![] bcast_S_S2x1024x3072 : (⟨S_, .i32⟩ : BufTy).Contents (Elt F) → (⟨S2x1024x3072, .i32⟩ : BufTy).Contents (Elt F)),
    binary main_v26 main_v42 main_v43 (cmpi .sle : (⟨S2x1024x3072, .i32⟩ : BufTy).Contents (Elt F) → (⟨S2x1024x3072, .i32⟩ : BufTy).Contents (Elt F) → (⟨S2x1024x3072, .i1⟩ : BufTy).Contents (Elt F)),
    nullary main_c_12 (constantI S_ 32 3#32),
    nullary main_c_13 (constantI S_ 32 2#32) ]

/-- Window `main_part0`'s operations. Not an abbreviation: `main_eq` below splits `ops` into the windows and no further. -/
def ops_part0 : List (HloOp τ sig (Elt F)) :=
  ops_part0_0 ++ (ops_part0_1 ++ (ops_part0_2))

/-- @main's operations 69 … 98 of 245 (window `main_part1`). -/
abbrev ops_part1_0 : List (HloOp τ sig (Elt F)) :=
  [ TRef.unary (TRef.of (T := ⟨S_, .i32⟩) main_c_12) (TRef.of (T := ⟨S2x1024x3072, .i32⟩) main_call5_v0) (broadcastInDim S2x1024x3072 ![] bcast_S_S2x1024x3072),
    TRef.unary (TRef.of (T := ⟨S_, .i32⟩) main_c_13) (TRef.of (T := ⟨S2x1024x3072, .i32⟩) main_call5_v1) (broadcastInDim S2x1024x3072 ![] bcast_S_S2x1024x3072),
    TRef.ternary (TRef.of (T := ⟨S2x1024x3072, .i1⟩) main_v43) (TRef.of (T := ⟨S2x1024x3072, .i32⟩) main_call5_v0) (TRef.of (T := ⟨S2x1024x3072, .i32⟩) main_call5_v1) (TRef.of (T := ⟨S2x1024x3072, .i32⟩) main_v44) select,
    nullary main_c_14 (constantI S_ 32 0#32),
    unary main_c_14 main_v45 (broadcastInDim S2x1024x3072 ![] bcast_S_S2x1024x3072 : (⟨S_, .i32⟩ : BufTy).Contents (Elt F) → (⟨S2x1024x3072, .i32⟩ : BufTy).Contents (Elt F)),
    binary main_v26 main_v45 main_v46 (cmpi .eq : (⟨S2x1024x3072, .i32⟩ : BufTy).Contents (Elt F) → (⟨S2x1024x3072, .i32⟩ : BufTy).Contents (Elt F) → (⟨S2x1024x3072, .i1⟩ : BufTy).Contents (Elt F)),
    TRef.ternary (TRef.of (T := ⟨S2x1024x3072, .i1⟩) main_v46) (TRef.of (T := ⟨S2x1024x3072, .f32⟩) main_v11) (TRef.of (T := ⟨S2x1024x3072, .f32⟩) main_v10) (TRef.of (T := ⟨S2x1024x3072, .f32⟩) main_v47) select,
    nullary main_c_15 (constantI S_ 32 1#32),
    unary main_c_15 main_v48 (broadcastInDim S2x1024x3072 ![] bcast_S_S2x1024x3072 : (⟨S_, .i32⟩ : BufTy).Contents (Elt F) → (⟨S2x1024x3072, .i32⟩ : BufTy).Contents (Elt F)),
    binary main_v26 main_v48 main_v49 (cmpi .sle : (⟨S2x1024x3072, .i32⟩ : BufTy).Contents (Elt F) → (⟨S2x1024x3072, .i32⟩ : BufTy).Contents (Elt F) → (⟨S2x1024x3072, .i1⟩ : BufTy).Contents (Elt F)),
    TRef.ternary (TRef.of (T := ⟨S2x1024x3072, .i1⟩) main_v49) (TRef.of (T := ⟨S2x1024x3072, .f32⟩) main_v12) (TRef.of (T := ⟨S2x1024x3072, .f32⟩) main_v11) (TRef.of (T := ⟨S2x1024x3072, .f32⟩) main_v50) select,
    binary main_v31 main_v35 main_v51 (mulf : (⟨S2x1024x3072, .f32⟩ : BufTy).Contents (Elt F) → (⟨S2x1024x3072, .f32⟩ : BufTy).Contents (Elt F) → (⟨S2x1024x3072, .f32⟩ : BufTy).Contents (Elt F)),
    binary main_v47 main_v50 main_v52 (addf : (⟨S2x1024x3072, .f32⟩ : BufTy).Contents (Elt F) → (⟨S2x1024x3072, .f32⟩ : BufTy).Contents (Elt F) → (⟨S2x1024x3072, .f32⟩ : BufTy).Contents (Elt F)),
    nullary main_cst_16 (constant S_ .f32 0x00000000#32),
    unary main_cst_16 main_v53 (broadcastInDim S2x1024x3072 ![] bcast_S_S2x1024x3072 : (⟨S_, .f32⟩ : BufTy).Contents (Elt F) → (⟨S2x1024x3072, .f32⟩ : BufTy).Contents (Elt F)),
    binary main_v35 main_v53 main_v54 (cmpf .oeq : (⟨S2x1024x3072, .f32⟩ : BufTy).Contents (Elt F) → (⟨S2x1024x3072, .f32⟩ : BufTy).Contents (Elt F) → (⟨S2x1024x3072, .i1⟩ : BufTy).Contents (Elt F)),
    binary main_v51 main_v47 main_v55 (cmpf .olt : (⟨S2x1024x3072, .f32⟩ : BufTy).Contents (Elt F) → (⟨S2x1024x3072, .f32⟩ : BufTy).Contents (Elt F) → (⟨S2x1024x3072, .i1⟩ : BufTy).Contents (Elt F)),
    binary main_v54 main_v55 main_v56 (ori : (⟨S2x1024x3072, .i1⟩ : BufTy).Contents (Elt F) → (⟨S2x1024x3072, .i1⟩ : BufTy).Contents (Elt F) → (⟨S2x1024x3072, .i1⟩ : BufTy).Contents (Elt F)),
    binary main_v51 main_v52 main_v57 (cmpf .olt : (⟨S2x1024x3072, .f32⟩ : BufTy).Contents (Elt F) → (⟨S2x1024x3072, .f32⟩ : BufTy).Contents (Elt F) → (⟨S2x1024x3072, .i1⟩ : BufTy).Contents (Elt F)),
    TRef.ternary (TRef.of (T := ⟨S2x1024x3072, .i1⟩) main_v57) (TRef.of (T := ⟨S2x1024x3072, .i32⟩) main_v41) (TRef.of (T := ⟨S2x1024x3072, .i32⟩) main_v44) (TRef.of (T := ⟨S2x1024x3072, .i32⟩) main_v58) select,
    TRef.ternary (TRef.of (T := ⟨S2x1024x3072, .i1⟩) main_v56) (TRef.of (T := ⟨S2x1024x3072, .i32⟩) main_v38) (TRef.of (T := ⟨S2x1024x3072, .i32⟩) main_v58) (TRef.of (T := ⟨S2x1024x3072, .i32⟩) main_v59) select,
    unary main_v59 main_v60 (id : (⟨S2x1024x3072, .i32⟩ : BufTy).Contents (Elt F) → (⟨S2x1024x3072, .i32⟩ : BufTy).Contents (Elt F)),
    binary main_v26 main_v60 main_v61 (minsi : (⟨S2x1024x3072, .i32⟩ : BufTy).Contents (Elt F) → (⟨S2x1024x3072, .i32⟩ : BufTy).Contents (Elt F) → (⟨S2x1024x3072, .i32⟩ : BufTy).Contents (Elt F)),
    unary main_v59 main_v62 (id : (⟨S2x1024x3072, .i32⟩ : BufTy).Contents (Elt F) → (⟨S2x1024x3072, .i32⟩ : BufTy).Contents (Elt F)),
    binary main_v26 main_v62 main_v63 (maxsi : (⟨S2x1024x3072, .i32⟩ : BufTy).Contents (Elt F) → (⟨S2x1024x3072, .i32⟩ : BufTy).Contents (Elt F) → (⟨S2x1024x3072, .i32⟩ : BufTy).Contents (Elt F)),
    nullary main_cst_17 (constant S_ .f32 0x3F000000#32),
    unary main_cst_17 main_v64 (broadcastInDim S2x1024x3072 ![] bcast_S_S2x1024x3072 : (⟨S_, .f32⟩ : BufTy).Contents (Elt F) → (⟨S2x1024x3072, .f32⟩ : BufTy).Contents (Elt F)),
    binary main_v16 main_v64 main_v65 (mulf : (⟨S2x1024x3072, .f32⟩ : BufTy).Contents (Elt F) → (⟨S2x1024x3072, .f32⟩ : BufTy).Contents (Elt F) → (⟨S2x1024x3072, .f32⟩ : BufTy).Contents (Elt F)),
    binary main_v31 main_v65 main_v66 (mulf : (⟨S2x1024x3072, .f32⟩ : BufTy).Contents (Elt F) → (⟨S2x1024x3072, .f32⟩ : BufTy).Contents (Elt F) → (⟨S2x1024x3072, .f32⟩ : BufTy).Contents (Elt F)),
    binary main_v66 main_v65 main_v67 (addf : (⟨S2x1024x3072, .f32⟩ : BufTy).Contents (Elt F) → (⟨S2x1024x3072, .f32⟩ : BufTy).Contents (Elt F) → (⟨S2x1024x3072, .f32⟩ : BufTy).Contents (Elt F)) ]

/-- @main's operations 99 … 128 of 245 (window `main_part1`). -/
abbrev ops_part1_1 : List (HloOp τ sig (Elt F)) :=
  [ binary main_v10 main_v66 main_v68 (cmpf .ole : (⟨S2x1024x3072, .f32⟩ : BufTy).Contents (Elt F) → (⟨S2x1024x3072, .f32⟩ : BufTy).Contents (Elt F) → (⟨S2x1024x3072, .i1⟩ : BufTy).Contents (Elt F)),
    unary main_v68 main_v69 ((extui 32 · natLt_1_32) : (⟨S2x1024x3072, .i1⟩ : BufTy).Contents (Elt F) → (⟨S2x1024x3072, .i32⟩ : BufTy).Contents (Elt F)),
    binary main_v14 main_v66 main_v70 (cmpf .ole : (⟨S2x1024x3072, .f32⟩ : BufTy).Contents (Elt F) → (⟨S2x1024x3072, .f32⟩ : BufTy).Contents (Elt F) → (⟨S2x1024x3072, .i1⟩ : BufTy).Contents (Elt F)),
    unary main_v70 main_v71 ((extui 32 · natLt_1_32) : (⟨S2x1024x3072, .i1⟩ : BufTy).Contents (Elt F) → (⟨S2x1024x3072, .i32⟩ : BufTy).Contents (Elt F)),
    binary main_v69 main_v71 main_v72 (addi : (⟨S2x1024x3072, .i32⟩ : BufTy).Contents (Elt F) → (⟨S2x1024x3072, .i32⟩ : BufTy).Contents (Elt F) → (⟨S2x1024x3072, .i32⟩ : BufTy).Contents (Elt F)),
    binary main_v15 main_v66 main_v73 (cmpf .ole : (⟨S2x1024x3072, .f32⟩ : BufTy).Contents (Elt F) → (⟨S2x1024x3072, .f32⟩ : BufTy).Contents (Elt F) → (⟨S2x1024x3072, .i1⟩ : BufTy).Contents (Elt F)),
    unary main_v73 main_v74 ((extui 32 · natLt_1_32) : (⟨S2x1024x3072, .i1⟩ : BufTy).Contents (Elt F) → (⟨S2x1024x3072, .i32⟩ : BufTy).Contents (Elt F)),
    binary main_v72 main_v74 main_v75 (addi : (⟨S2x1024x3072, .i32⟩ : BufTy).Contents (Elt F) → (⟨S2x1024x3072, .i32⟩ : BufTy).Contents (Elt F) → (⟨S2x1024x3072, .i32⟩ : BufTy).Contents (Elt F)),
    nullary main_c_18 (constantI S_ 32 2#32),
    unary main_c_18 main_v76 (broadcastInDim S2x1024x3072 ![] bcast_S_S2x1024x3072 : (⟨S_, .i32⟩ : BufTy).Contents (Elt F) → (⟨S2x1024x3072, .i32⟩ : BufTy).Contents (Elt F)),
    binary main_v76 main_v75 main_v77 (minsi : (⟨S2x1024x3072, .i32⟩ : BufTy).Contents (Elt F) → (⟨S2x1024x3072, .i32⟩ : BufTy).Contents (Elt F) → (⟨S2x1024x3072, .i32⟩ : BufTy).Contents (Elt F)),
    binary main_v10 main_v67 main_v78 (cmpf .ole : (⟨S2x1024x3072, .f32⟩ : BufTy).Contents (Elt F) → (⟨S2x1024x3072, .f32⟩ : BufTy).Contents (Elt F) → (⟨S2x1024x3072, .i1⟩ : BufTy).Contents (Elt F)),
    unary main_v78 main_v79 ((extui 32 · natLt_1_32) : (⟨S2x1024x3072, .i1⟩ : BufTy).Contents (Elt F) → (⟨S2x1024x3072, .i32⟩ : BufTy).Contents (Elt F)),
    binary main_v14 main_v67 main_v80 (cmpf .ole : (⟨S2x1024x3072, .f32⟩ : BufTy).Contents (Elt F) → (⟨S2x1024x3072, .f32⟩ : BufTy).Contents (Elt F) → (⟨S2x1024x3072, .i1⟩ : BufTy).Contents (Elt F)),
    unary main_v80 main_v81 ((extui 32 · natLt_1_32) : (⟨S2x1024x3072, .i1⟩ : BufTy).Contents (Elt F) → (⟨S2x1024x3072, .i32⟩ : BufTy).Contents (Elt F)),
    binary main_v79 main_v81 main_v82 (addi : (⟨S2x1024x3072, .i32⟩ : BufTy).Contents (Elt F) → (⟨S2x1024x3072, .i32⟩ : BufTy).Contents (Elt F) → (⟨S2x1024x3072, .i32⟩ : BufTy).Contents (Elt F)),
    binary main_v15 main_v67 main_v83 (cmpf .ole : (⟨S2x1024x3072, .f32⟩ : BufTy).Contents (Elt F) → (⟨S2x1024x3072, .f32⟩ : BufTy).Contents (Elt F) → (⟨S2x1024x3072, .i1⟩ : BufTy).Contents (Elt F)),
    unary main_v83 main_v84 ((extui 32 · natLt_1_32) : (⟨S2x1024x3072, .i1⟩ : BufTy).Contents (Elt F) → (⟨S2x1024x3072, .i32⟩ : BufTy).Contents (Elt F)),
    binary main_v82 main_v84 main_v85 (addi : (⟨S2x1024x3072, .i32⟩ : BufTy).Contents (Elt F) → (⟨S2x1024x3072, .i32⟩ : BufTy).Contents (Elt F) → (⟨S2x1024x3072, .i32⟩ : BufTy).Contents (Elt F)),
    nullary main_c_19 (constantI S_ 32 1#32),
    unary main_c_19 main_v86 (broadcastInDim S2x1024x3072 ![] bcast_S_S2x1024x3072 : (⟨S_, .i32⟩ : BufTy).Contents (Elt F) → (⟨S2x1024x3072, .i32⟩ : BufTy).Contents (Elt F)),
    binary main_v77 main_v86 main_v87 (addi : (⟨S2x1024x3072, .i32⟩ : BufTy).Contents (Elt F) → (⟨S2x1024x3072, .i32⟩ : BufTy).Contents (Elt F) → (⟨S2x1024x3072, .i32⟩ : BufTy).Contents (Elt F)),
    binary main_v85 main_v87 main_v88 (maxsi : (⟨S2x1024x3072, .i32⟩ : BufTy).Contents (Elt F) → (⟨S2x1024x3072, .i32⟩ : BufTy).Contents (Elt F) → (⟨S2x1024x3072, .i32⟩ : BufTy).Contents (Elt F)),
    nullary main_c_20 (constantI S_ 32 3#32),
    unary main_c_20 main_v89 (broadcastInDim S2x1024x3072 ![] bcast_S_S2x1024x3072 : (⟨S_, .i32⟩ : BufTy).Contents (Elt F) → (⟨S2x1024x3072, .i32⟩ : BufTy).Contents (Elt F)),
    binary main_v89 main_v88 main_v90 (minsi : (⟨S2x1024x3072, .i32⟩ : BufTy).Contents (Elt F) → (⟨S2x1024x3072, .i32⟩ : BufTy).Contents (Elt F) → (⟨S2x1024x3072, .i32⟩ : BufTy).Contents (Elt F)),
    TRef.ternary (TRef.of (T := ⟨S2x1024x3072, .i1⟩) main_v34) (TRef.of (T := ⟨S2x1024x3072, .i32⟩) main_v61) (TRef.of (T := ⟨S2x1024x3072, .i32⟩) main_v77) (TRef.of (T := ⟨S2x1024x3072, .i32⟩) main_v91) select,
    TRef.ternary (TRef.of (T := ⟨S2x1024x3072, .i1⟩) main_v34) (TRef.of (T := ⟨S2x1024x3072, .i32⟩) main_v63) (TRef.of (T := ⟨S2x1024x3072, .i32⟩) main_v90) (TRef.of (T := ⟨S2x1024x3072, .i32⟩) main_v92) select,
    nullary main_c_21 (constantI S_ 32 0#32),
    unary main_c_21 main_v93 (broadcastInDim S2x1024x3072 ![] bcast_S_S2x1024x3072 : (⟨S_, .i32⟩ : BufTy).Contents (Elt F) → (⟨S2x1024x3072, .i32⟩ : BufTy).Contents (Elt F)) ]

/-- @main's operations 129 … 130 of 245 (window `main_part1`). -/
abbrev ops_part1_2 : List (HloOp τ sig (Elt F)) :=
  [ binary main_v91 main_v93 main_v94 (cmpi .eq : (⟨S2x1024x3072, .i32⟩ : BufTy).Contents (Elt F) → (⟨S2x1024x3072, .i32⟩ : BufTy).Contents (Elt F) → (⟨S2x1024x3072, .i1⟩ : BufTy).Contents (Elt F)),
    nullary main_c_22 (constantI S_ 32 1#32) ]

/-- Window `main_part1`'s operations. Not an abbreviation: `main_eq` below splits `ops` into the windows and no further. -/
def ops_part1 : List (HloOp τ sig (Elt F)) :=
  ops_part1_0 ++ (ops_part1_1 ++ (ops_part1_2))

/-- @main's operations 131 … 160 of 245 (window `main_part2`). -/
abbrev ops_part2_0 : List (HloOp τ sig (Elt F)) :=
  [ unary main_c_22 main_v95 (broadcastInDim S2x1024x3072 ![] bcast_S_S2x1024x3072 : (⟨S_, .i32⟩ : BufTy).Contents (Elt F) → (⟨S2x1024x3072, .i32⟩ : BufTy).Contents (Elt F)),
    binary main_v91 main_v95 main_v96 (cmpi .eq : (⟨S2x1024x3072, .i32⟩ : BufTy).Contents (Elt F) → (⟨S2x1024x3072, .i32⟩ : BufTy).Contents (Elt F) → (⟨S2x1024x3072, .i1⟩ : BufTy).Contents (Elt F)),
    nullary main_c_23 (constantI S_ 32 2#32),
    unary main_c_23 main_v97 (broadcastInDim S2x1024x3072 ![] bcast_S_S2x1024x3072 : (⟨S_, .i32⟩ : BufTy).Contents (Elt F) → (⟨S2x1024x3072, .i32⟩ : BufTy).Contents (Elt F)),
    binary main_v91 main_v97 main_v98 (cmpi .eq : (⟨S2x1024x3072, .i32⟩ : BufTy).Contents (Elt F) → (⟨S2x1024x3072, .i32⟩ : BufTy).Contents (Elt F) → (⟨S2x1024x3072, .i1⟩ : BufTy).Contents (Elt F)),
    TRef.ternary (TRef.of (T := ⟨S2x1024x3072, .i1⟩) main_v98) (TRef.of (T := ⟨S2x1024x3072, .f32⟩) main_v7) (TRef.of (T := ⟨S2x1024x3072, .f32⟩) main_v9) (TRef.of (T := ⟨S2x1024x3072, .f32⟩) main_v99) select,
    TRef.ternary (TRef.of (T := ⟨S2x1024x3072, .i1⟩) main_v96) (TRef.of (T := ⟨S2x1024x3072, .f32⟩) main_v5) (TRef.of (T := ⟨S2x1024x3072, .f32⟩) main_v99) (TRef.of (T := ⟨S2x1024x3072, .f32⟩) main_v100) select,
    TRef.ternary (TRef.of (T := ⟨S2x1024x3072, .i1⟩) main_v94) (TRef.of (T := ⟨S2x1024x3072, .f32⟩) main_v3) (TRef.of (T := ⟨S2x1024x3072, .f32⟩) main_v100) (TRef.of (T := ⟨S2x1024x3072, .f32⟩) main_v101) select,
    unary main_v101 main_v102 (Host.sign : (⟨S2x1024x3072, .f32⟩ : BufTy).Contents (Elt F) → (⟨S2x1024x3072, .f32⟩ : BufTy).Contents (Elt F)),
    binary main_v91 main_v26 main_v103 (cmpi .eq : (⟨S2x1024x3072, .i32⟩ : BufTy).Contents (Elt F) → (⟨S2x1024x3072, .i32⟩ : BufTy).Contents (Elt F) → (⟨S2x1024x3072, .i1⟩ : BufTy).Contents (Elt F)),
    nullary main_cst_24 (constant S_ .f32 0x00000000#32),
    unary main_cst_24 main_v104 (broadcastInDim S2x1024x3072 ![] bcast_S_S2x1024x3072 : (⟨S_, .f32⟩ : BufTy).Contents (Elt F) → (⟨S2x1024x3072, .f32⟩ : BufTy).Contents (Elt F)),
    binary main_v35 main_v104 main_v105 (cmpf .oeq : (⟨S2x1024x3072, .f32⟩ : BufTy).Contents (Elt F) → (⟨S2x1024x3072, .f32⟩ : BufTy).Contents (Elt F) → (⟨S2x1024x3072, .i1⟩ : BufTy).Contents (Elt F)),
    binary main_v102 main_v35 main_v106 (mulf : (⟨S2x1024x3072, .f32⟩ : BufTy).Contents (Elt F) → (⟨S2x1024x3072, .f32⟩ : BufTy).Contents (Elt F) → (⟨S2x1024x3072, .f32⟩ : BufTy).Contents (Elt F)),
    nullary main_cst_25 (constant S_ .f32 0x00000000#32),
    TRef.unary (TRef.of (T := ⟨S_, .f32⟩) main_cst_25) (TRef.of (T := ⟨S_, .f32⟩) main_call15_v0) id,
    TRef.unary (TRef.of (T := ⟨S_, .f32⟩) main_call15_v0) (TRef.of (T := ⟨S2x1024x3072, .f32⟩) main_call15_v1) (broadcastInDim S2x1024x3072 ![] bcast_S_S2x1024x3072),
    TRef.ternary (TRef.of (T := ⟨S2x1024x3072, .i1⟩) main_v105) (TRef.of (T := ⟨S2x1024x3072, .f32⟩) main_call15_v1) (TRef.of (T := ⟨S2x1024x3072, .f32⟩) main_v106) (TRef.of (T := ⟨S2x1024x3072, .f32⟩) main_v107) select,
    TRef.ternary (TRef.of (T := ⟨S2x1024x3072, .i1⟩) main_v103) (TRef.of (T := ⟨S2x1024x3072, .f32⟩) main_v101) (TRef.of (T := ⟨S2x1024x3072, .f32⟩) main_v107) (TRef.of (T := ⟨S2x1024x3072, .f32⟩) main_v108) select,
    binary main_v102 main_v65 main_v109 (mulf : (⟨S2x1024x3072, .f32⟩ : BufTy).Contents (Elt F) → (⟨S2x1024x3072, .f32⟩ : BufTy).Contents (Elt F) → (⟨S2x1024x3072, .f32⟩ : BufTy).Contents (Elt F)),
    TRef.ternary (TRef.of (T := ⟨S2x1024x3072, .i1⟩) main_v34) (TRef.of (T := ⟨S2x1024x3072, .f32⟩) main_v108) (TRef.of (T := ⟨S2x1024x3072, .f32⟩) main_v109) (TRef.of (T := ⟨S2x1024x3072, .f32⟩) main_v110) select,
    nullary main_c_26 (constantI S_ 32 0#32),
    unary main_c_26 main_v111 (broadcastInDim S2x1024x3072 ![] bcast_S_S2x1024x3072 : (⟨S_, .i32⟩ : BufTy).Contents (Elt F) → (⟨S2x1024x3072, .i32⟩ : BufTy).Contents (Elt F)),
    binary main_v92 main_v111 main_v112 (cmpi .eq : (⟨S2x1024x3072, .i32⟩ : BufTy).Contents (Elt F) → (⟨S2x1024x3072, .i32⟩ : BufTy).Contents (Elt F) → (⟨S2x1024x3072, .i1⟩ : BufTy).Contents (Elt F)),
    nullary main_c_27 (constantI S_ 32 1#32),
    unary main_c_27 main_v113 (broadcastInDim S2x1024x3072 ![] bcast_S_S2x1024x3072 : (⟨S_, .i32⟩ : BufTy).Contents (Elt F) → (⟨S2x1024x3072, .i32⟩ : BufTy).Contents (Elt F)),
    binary main_v92 main_v113 main_v114 (cmpi .eq : (⟨S2x1024x3072, .i32⟩ : BufTy).Contents (Elt F) → (⟨S2x1024x3072, .i32⟩ : BufTy).Contents (Elt F) → (⟨S2x1024x3072, .i1⟩ : BufTy).Contents (Elt F)),
    nullary main_c_28 (constantI S_ 32 2#32),
    unary main_c_28 main_v115 (broadcastInDim S2x1024x3072 ![] bcast_S_S2x1024x3072 : (⟨S_, .i32⟩ : BufTy).Contents (Elt F) → (⟨S2x1024x3072, .i32⟩ : BufTy).Contents (Elt F)),
    binary main_v92 main_v115 main_v116 (cmpi .eq : (⟨S2x1024x3072, .i32⟩ : BufTy).Contents (Elt F) → (⟨S2x1024x3072, .i32⟩ : BufTy).Contents (Elt F) → (⟨S2x1024x3072, .i1⟩ : BufTy).Contents (Elt F)) ]

/-- @main's operations 161 … 190 of 245 (window `main_part2`). -/
abbrev ops_part2_1 : List (HloOp τ sig (Elt F)) :=
  [ TRef.ternary (TRef.of (T := ⟨S2x1024x3072, .i1⟩) main_v116) (TRef.of (T := ⟨S2x1024x3072, .f32⟩) main_v7) (TRef.of (T := ⟨S2x1024x3072, .f32⟩) main_v9) (TRef.of (T := ⟨S2x1024x3072, .f32⟩) main_v117) select,
    TRef.ternary (TRef.of (T := ⟨S2x1024x3072, .i1⟩) main_v114) (TRef.of (T := ⟨S2x1024x3072, .f32⟩) main_v5) (TRef.of (T := ⟨S2x1024x3072, .f32⟩) main_v117) (TRef.of (T := ⟨S2x1024x3072, .f32⟩) main_v118) select,
    TRef.ternary (TRef.of (T := ⟨S2x1024x3072, .i1⟩) main_v112) (TRef.of (T := ⟨S2x1024x3072, .f32⟩) main_v3) (TRef.of (T := ⟨S2x1024x3072, .f32⟩) main_v118) (TRef.of (T := ⟨S2x1024x3072, .f32⟩) main_v119) select,
    unary main_v119 main_v120 (Host.sign : (⟨S2x1024x3072, .f32⟩ : BufTy).Contents (Elt F) → (⟨S2x1024x3072, .f32⟩ : BufTy).Contents (Elt F)),
    binary main_v92 main_v26 main_v121 (cmpi .eq : (⟨S2x1024x3072, .i32⟩ : BufTy).Contents (Elt F) → (⟨S2x1024x3072, .i32⟩ : BufTy).Contents (Elt F) → (⟨S2x1024x3072, .i1⟩ : BufTy).Contents (Elt F)),
    nullary main_cst_29 (constant S_ .f32 0x00000000#32),
    unary main_cst_29 main_v122 (broadcastInDim S2x1024x3072 ![] bcast_S_S2x1024x3072 : (⟨S_, .f32⟩ : BufTy).Contents (Elt F) → (⟨S2x1024x3072, .f32⟩ : BufTy).Contents (Elt F)),
    binary main_v35 main_v122 main_v123 (cmpf .oeq : (⟨S2x1024x3072, .f32⟩ : BufTy).Contents (Elt F) → (⟨S2x1024x3072, .f32⟩ : BufTy).Contents (Elt F) → (⟨S2x1024x3072, .i1⟩ : BufTy).Contents (Elt F)),
    binary main_v120 main_v35 main_v124 (mulf : (⟨S2x1024x3072, .f32⟩ : BufTy).Contents (Elt F) → (⟨S2x1024x3072, .f32⟩ : BufTy).Contents (Elt F) → (⟨S2x1024x3072, .f32⟩ : BufTy).Contents (Elt F)),
    nullary main_cst_30 (constant S_ .f32 0x00000000#32),
    TRef.unary (TRef.of (T := ⟨S_, .f32⟩) main_cst_30) (TRef.of (T := ⟨S_, .f32⟩) main_call21_v0) id,
    TRef.unary (TRef.of (T := ⟨S_, .f32⟩) main_call21_v0) (TRef.of (T := ⟨S2x1024x3072, .f32⟩) main_call21_v1) (broadcastInDim S2x1024x3072 ![] bcast_S_S2x1024x3072),
    TRef.ternary (TRef.of (T := ⟨S2x1024x3072, .i1⟩) main_v123) (TRef.of (T := ⟨S2x1024x3072, .f32⟩) main_call21_v1) (TRef.of (T := ⟨S2x1024x3072, .f32⟩) main_v124) (TRef.of (T := ⟨S2x1024x3072, .f32⟩) main_v125) select,
    TRef.ternary (TRef.of (T := ⟨S2x1024x3072, .i1⟩) main_v121) (TRef.of (T := ⟨S2x1024x3072, .f32⟩) main_v119) (TRef.of (T := ⟨S2x1024x3072, .f32⟩) main_v125) (TRef.of (T := ⟨S2x1024x3072, .f32⟩) main_v126) select,
    binary main_v120 main_v65 main_v127 (mulf : (⟨S2x1024x3072, .f32⟩ : BufTy).Contents (Elt F) → (⟨S2x1024x3072, .f32⟩ : BufTy).Contents (Elt F) → (⟨S2x1024x3072, .f32⟩ : BufTy).Contents (Elt F)),
    TRef.ternary (TRef.of (T := ⟨S2x1024x3072, .i1⟩) main_v34) (TRef.of (T := ⟨S2x1024x3072, .f32⟩) main_v126) (TRef.of (T := ⟨S2x1024x3072, .f32⟩) main_v127) (TRef.of (T := ⟨S2x1024x3072, .f32⟩) main_v128) select,
    unary main_v110 main_v129 (Host.absf : (⟨S2x1024x3072, .f32⟩ : BufTy).Contents (Elt F) → (⟨S2x1024x3072, .f32⟩ : BufTy).Contents (Elt F)),
    unary main_v128 main_v130 (Host.absf : (⟨S2x1024x3072, .f32⟩ : BufTy).Contents (Elt F) → (⟨S2x1024x3072, .f32⟩ : BufTy).Contents (Elt F)),
    binary main_v129 main_v130 main_v131 (maximumf : (⟨S2x1024x3072, .f32⟩ : BufTy).Contents (Elt F) → (⟨S2x1024x3072, .f32⟩ : BufTy).Contents (Elt F) → (⟨S2x1024x3072, .f32⟩ : BufTy).Contents (Elt F)),
    reshape main_v131 main_v132 (rfl : (.f32 : EltTy) = .f32) shapeCasts_S2x1024x3072_S2x1024x96x32,
    nullary main_cst_31 (constant S_ .f32 0xFF800000#32),
    binary main_v132 main_cst_31 main_v133 ((fun x v => Host.reduce FloatOps.maximumf x v reducesTo_S2x1024x96x32_S2x1024x96_d3 h_S_) : (⟨S2x1024x96x32, .f32⟩ : BufTy).Contents (Elt F) → (⟨S_, .f32⟩ : BufTy).Contents (Elt F) → (⟨S2x1024x96, .f32⟩ : BufTy).Contents (Elt F)),
    nullary main_cst_32 (constant S_ .f32 0x37924925#32),
    unary main_cst_32 main_v134 (broadcastInDim S2x1024x96 ![] bcast_S_S2x1024x96 : (⟨S_, .f32⟩ : BufTy).Contents (Elt F) → (⟨S2x1024x96, .f32⟩ : BufTy).Contents (Elt F)),
    binary main_v133 main_v134 main_v135 (mulf : (⟨S2x1024x96, .f32⟩ : BufTy).Contents (Elt F) → (⟨S2x1024x96, .f32⟩ : BufTy).Contents (Elt F) → (⟨S2x1024x96, .f32⟩ : BufTy).Contents (Elt F)),
    unary main_v135 main_v136 (Host.log : (⟨S2x1024x96, .f32⟩ : BufTy).Contents (Elt F) → (⟨S2x1024x96, .f32⟩ : BufTy).Contents (Elt F)),
    nullary main_cst_33 (constant S_ .f32 0x40000000#32),
    unary main_cst_33 main_v137 (broadcastInDim S2x1024x96 ![] bcast_S_S2x1024x96 : (⟨S_, .f32⟩ : BufTy).Contents (Elt F) → (⟨S2x1024x96, .f32⟩ : BufTy).Contents (Elt F)),
    unary main_v137 main_v138 (Host.log : (⟨S2x1024x96, .f32⟩ : BufTy).Contents (Elt F) → (⟨S2x1024x96, .f32⟩ : BufTy).Contents (Elt F)),
    binary main_v136 main_v138 main_v139 (Host.divf : (⟨S2x1024x96, .f32⟩ : BufTy).Contents (Elt F) → (⟨S2x1024x96, .f32⟩ : BufTy).Contents (Elt F) → (⟨S2x1024x96, .f32⟩ : BufTy).Contents (Elt F)) ]

/-- @main's operations 191 … 194 of 245 (window `main_part2`). -/
abbrev ops_part2_2 : List (HloOp τ sig (Elt F)) :=
  [ unary main_v139 main_v140 (Host.floor : (⟨S2x1024x96, .f32⟩ : BufTy).Contents (Elt F) → (⟨S2x1024x96, .f32⟩ : BufTy).Contents (Elt F)),
    nullary main_cst_34 (constant S_ .f32 0x3F800000#32),
    unary main_cst_34 main_v141 (broadcastInDim S2x1024x96 ![] bcast_S_S2x1024x96 : (⟨S_, .f32⟩ : BufTy).Contents (Elt F) → (⟨S2x1024x96, .f32⟩ : BufTy).Contents (Elt F)),
    binary main_v140 main_v141 main_v142 (addf : (⟨S2x1024x96, .f32⟩ : BufTy).Contents (Elt F) → (⟨S2x1024x96, .f32⟩ : BufTy).Contents (Elt F) → (⟨S2x1024x96, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 195 … 245 of 245 (window `main_part3`). -/
abbrev ops_part3 : List (HloOp τ sig (Elt F)) :=
  [ nullary main_cst_35 (constant S_ .f32 0x00800000#32),
    unary main_cst_35 main_v143 (broadcastInDim S2x1024x96 ![] bcast_S_S2x1024x96 : (⟨S_, .f32⟩ : BufTy).Contents (Elt F) → (⟨S2x1024x96, .f32⟩ : BufTy).Contents (Elt F)),
    binary main_v135 main_v143 main_v144 (cmpf .olt : (⟨S2x1024x96, .f32⟩ : BufTy).Contents (Elt F) → (⟨S2x1024x96, .f32⟩ : BufTy).Contents (Elt F) → (⟨S2x1024x96, .i1⟩ : BufTy).Contents (Elt F)),
    nullary main_cst_36 (constant S_ .f32 0x00000000#32),
    TRef.unary (TRef.of (T := ⟨S_, .f32⟩) main_cst_36) (TRef.of (T := ⟨S_, .f32⟩) main_call24_v0) id,
    TRef.unary (TRef.of (T := ⟨S_, .f32⟩) main_call24_v0) (TRef.of (T := ⟨S2x1024x96, .f32⟩) main_call24_v1) (broadcastInDim S2x1024x96 ![] bcast_S_S2x1024x96),
    TRef.ternary (TRef.of (T := ⟨S2x1024x96, .i1⟩) main_v144) (TRef.of (T := ⟨S2x1024x96, .f32⟩) main_call24_v1) (TRef.of (T := ⟨S2x1024x96, .f32⟩) main_v142) (TRef.of (T := ⟨S2x1024x96, .f32⟩) main_v145) select,
    nullary main_cst_37 (constant S_ .f32 0x40000000#32),
    unary main_cst_37 main_v146 (broadcastInDim S2x1024x96 ![] bcast_S_S2x1024x96 : (⟨S_, .f32⟩ : BufTy).Contents (Elt F) → (⟨S2x1024x96, .f32⟩ : BufTy).Contents (Elt F)),
    binary main_v146 main_v145 main_v147 (Host.powf : (⟨S2x1024x96, .f32⟩ : BufTy).Contents (Elt F) → (⟨S2x1024x96, .f32⟩ : BufTy).Contents (Elt F) → (⟨S2x1024x96, .f32⟩ : BufTy).Contents (Elt F)),
    nullary main_cst_38 (constant S_ .f32 0x40000000#32),
    unary main_cst_38 main_v148 (broadcastInDim S2x1024x96 ![] bcast_S_S2x1024x96 : (⟨S_, .f32⟩ : BufTy).Contents (Elt F) → (⟨S2x1024x96, .f32⟩ : BufTy).Contents (Elt F)),
    unary main_v145 main_v149 (Host.negf : (⟨S2x1024x96, .f32⟩ : BufTy).Contents (Elt F) → (⟨S2x1024x96, .f32⟩ : BufTy).Contents (Elt F)),
    binary main_v148 main_v149 main_v150 (Host.powf : (⟨S2x1024x96, .f32⟩ : BufTy).Contents (Elt F) → (⟨S2x1024x96, .f32⟩ : BufTy).Contents (Elt F) → (⟨S2x1024x96, .f32⟩ : BufTy).Contents (Elt F)),
    unary main_v150 main_v151 (broadcastInDim S2x1024x96x32 ![0, 1, 2] bcast_S2x1024x96_S2x1024x96x32_0_1_2 : (⟨S2x1024x96, .f32⟩ : BufTy).Contents (Elt F) → (⟨S2x1024x96x32, .f32⟩ : BufTy).Contents (Elt F)),
    reshape main_v151 main_v152 (rfl : (.f32 : EltTy) = .f32) shapeCasts_S2x1024x96x32_S2x1024x3072,
    binary main_v110 main_v152 main_v153 (mulf : (⟨S2x1024x3072, .f32⟩ : BufTy).Contents (Elt F) → (⟨S2x1024x3072, .f32⟩ : BufTy).Contents (Elt F) → (⟨S2x1024x3072, .f32⟩ : BufTy).Contents (Elt F)),
    nullary main_cst_39 (constant S_ .f32 0xC7600000#32),
    nullary main_cst_40 (constant S_ .f32 0x47600000#32),
    TRef.unary (TRef.of (T := ⟨S_, .f32⟩) main_cst_39) (TRef.of (T := ⟨S_, .f32⟩) main_call25_v0) id,
    TRef.unary (TRef.of (T := ⟨S_, .f32⟩) main_call25_v0) (TRef.of (T := ⟨S2x1024x3072, .f32⟩) main_call25_v1) (broadcastInDim S2x1024x3072 ![] bcast_S_S2x1024x3072),
    TRef.binary (TRef.of (T := ⟨S2x1024x3072, .f32⟩) main_call25_v1) (TRef.of (T := ⟨S2x1024x3072, .f32⟩) main_v153) (TRef.of (T := ⟨S2x1024x3072, .f32⟩) main_call25_v2) maximumf,
    TRef.unary (TRef.of (T := ⟨S_, .f32⟩) main_cst_40) (TRef.of (T := ⟨S_, .f32⟩) main_call25_v3) id,
    TRef.unary (TRef.of (T := ⟨S_, .f32⟩) main_call25_v3) (TRef.of (T := ⟨S2x1024x3072, .f32⟩) main_call25_v4) (broadcastInDim S2x1024x3072 ![] bcast_S_S2x1024x3072),
    TRef.binary (TRef.of (T := ⟨S2x1024x3072, .f32⟩) main_call25_v4) (TRef.of (T := ⟨S2x1024x3072, .f32⟩) main_call25_v2) (TRef.of (T := ⟨S2x1024x3072, .f32⟩) main_v154) minimumf,
    binary main_v128 main_v152 main_v155 (mulf : (⟨S2x1024x3072, .f32⟩ : BufTy).Contents (Elt F) → (⟨S2x1024x3072, .f32⟩ : BufTy).Contents (Elt F) → (⟨S2x1024x3072, .f32⟩ : BufTy).Contents (Elt F)),
    nullary main_cst_41 (constant S_ .f32 0xC7600000#32),
    nullary main_cst_42 (constant S_ .f32 0x47600000#32),
    TRef.unary (TRef.of (T := ⟨S_, .f32⟩) main_cst_41) (TRef.of (T := ⟨S_, .f32⟩) main_call26_v0) id,
    TRef.unary (TRef.of (T := ⟨S_, .f32⟩) main_call26_v0) (TRef.of (T := ⟨S2x1024x3072, .f32⟩) main_call26_v1) (broadcastInDim S2x1024x3072 ![] bcast_S_S2x1024x3072),
    TRef.binary (TRef.of (T := ⟨S2x1024x3072, .f32⟩) main_call26_v1) (TRef.of (T := ⟨S2x1024x3072, .f32⟩) main_v155) (TRef.of (T := ⟨S2x1024x3072, .f32⟩) main_call26_v2) maximumf,
    TRef.unary (TRef.of (T := ⟨S_, .f32⟩) main_cst_42) (TRef.of (T := ⟨S_, .f32⟩) main_call26_v3) id,
    TRef.unary (TRef.of (T := ⟨S_, .f32⟩) main_call26_v3) (TRef.of (T := ⟨S2x1024x3072, .f32⟩) main_call26_v4) (broadcastInDim S2x1024x3072 ![] bcast_S_S2x1024x3072),
    TRef.binary (TRef.of (T := ⟨S2x1024x3072, .f32⟩) main_call26_v4) (TRef.of (T := ⟨S2x1024x3072, .f32⟩) main_call26_v2) (TRef.of (T := ⟨S2x1024x3072, .f32⟩) main_v156) minimumf,
    unary main_v154 main_v157 (broadcastInDim S2x1024x3072x1 ![0, 1, 2] bcast_S2x1024x3072_S2x1024x3072x1_0_1_2 : (⟨S2x1024x3072, .f32⟩ : BufTy).Contents (Elt F) → (⟨S2x1024x3072x1, .f32⟩ : BufTy).Contents (Elt F)),
    unary main_v156 main_v158 (broadcastInDim S2x1024x3072x1 ![0, 1, 2] bcast_S2x1024x3072_S2x1024x3072x1_0_1_2 : (⟨S2x1024x3072, .f32⟩ : BufTy).Contents (Elt F) → (⟨S2x1024x3072x1, .f32⟩ : BufTy).Contents (Elt F)),
    binary main_v157 main_v158 main_v159 (fn_main_v159 (F := F)),
    reshape main_v159 main_v160 (rfl : (.f32 : EltTy) = .f32) shapeCasts_S2x1024x3072x2_S2048x6144,
    nullary main_c_43 (constantI S_ 32 2#32),
    unary main_c_43 main_v161 (broadcastInDim S2x1024x3072 ![] bcast_S_S2x1024x3072 : (⟨S_, .i32⟩ : BufTy).Contents (Elt F) → (⟨S2x1024x3072, .i32⟩ : BufTy).Contents (Elt F)),
    binary main_v92 main_v161 main_v162 (Host.shli : (⟨S2x1024x3072, .i32⟩ : BufTy).Contents (Elt F) → (⟨S2x1024x3072, .i32⟩ : BufTy).Contents (Elt F) → (⟨S2x1024x3072, .i32⟩ : BufTy).Contents (Elt F)),
    binary main_v91 main_v162 main_v163 (ori : (⟨S2x1024x3072, .i32⟩ : BufTy).Contents (Elt F) → (⟨S2x1024x3072, .i32⟩ : BufTy).Contents (Elt F) → (⟨S2x1024x3072, .i32⟩ : BufTy).Contents (Elt F)),
    unary main_v163 main_v164 ((Host.slice S2x1024x1536 ![0, 0, 0] ![1, 1, 2] · slicesBy_S2x1024x3072_S2x1024x1536_0s1_0s1_0s2) : (⟨S2x1024x3072, .i32⟩ : BufTy).Contents (Elt F) → (⟨S2x1024x1536, .i32⟩ : BufTy).Contents (Elt F)),
    unary main_v163 main_v165 ((Host.slice S2x1024x1536 ![0, 0, 1] ![1, 1, 2] · slicesBy_S2x1024x3072_S2x1024x1536_0s1_0s1_1s2) : (⟨S2x1024x3072, .i32⟩ : BufTy).Contents (Elt F) → (⟨S2x1024x1536, .i32⟩ : BufTy).Contents (Elt F)),
    nullary main_c_44 (constantI S_ 32 4#32),
    unary main_c_44 main_v166 (broadcastInDim S2x1024x1536 ![] bcast_S_S2x1024x1536 : (⟨S_, .i32⟩ : BufTy).Contents (Elt F) → (⟨S2x1024x1536, .i32⟩ : BufTy).Contents (Elt F)),
    binary main_v165 main_v166 main_v167 (Host.shli : (⟨S2x1024x1536, .i32⟩ : BufTy).Contents (Elt F) → (⟨S2x1024x1536, .i32⟩ : BufTy).Contents (Elt F) → (⟨S2x1024x1536, .i32⟩ : BufTy).Contents (Elt F)),
    binary main_v164 main_v167 main_v168 (ori : (⟨S2x1024x1536, .i32⟩ : BufTy).Contents (Elt F) → (⟨S2x1024x1536, .i32⟩ : BufTy).Contents (Elt F) → (⟨S2x1024x1536, .i32⟩ : BufTy).Contents (Elt F)),
    unary main_v168 main_v169 ((trunci 8 · natLt_8_32) : (⟨S2x1024x1536, .i32⟩ : BufTy).Contents (Elt F) → (⟨S2x1024x1536, .i8⟩ : BufTy).Contents (Elt F)),
    reshape main_v169 main_v170 (rfl : (.i8 : EltTy) = .i8) shapeCasts_S2x1024x1536_S2048x1536,
    reshape main_v147 main_v171 (rfl : (.f32 : EltTy) = .f32) shapeCasts_S2x1024x96_S2048x96 ]

/-- @main's 245 operations, in order (a called function's operations stand in its call's place, spelt `TRef.…`). -/
abbrev ops : List (HloOp τ sig (Elt F)) :=
  ops_part0 ++ (ops_part1 ++ (ops_part2 ++ (ops_part3)))

set_option maxRecDepth 8192 in
/-- `main_v1`'s composed term of the arguments (named: it is used 4 times). -/
def res_main_v1 (V0 : Valuation τ sig (Elt F)) : (Proc.devRef .tc main_v1 : DevRef τ sig).ty.Contents (Elt F) :=
  shapeCast _ (extf .f32 (V0 (Proc.devRef .tc main_arg0)) bitsLt_bf16_f32) shapeCasts_S2x1024x12288_S2x1024x3072x4

set_option maxRecDepth 8192 in
/-- `main_v3`'s composed term of the arguments (named: it is used 3 times). -/
def res_main_v3 (V0 : Valuation τ sig (Elt F)) : (Proc.devRef .tc main_v3 : DevRef τ sig).ty.Contents (Elt F) :=
  shapeCast _ (extractStridedSlice S2x1024x3072x1 ![0, 0, 0, 0] (res_main_v1 V0) slices_S2x1024x3072x4_S2x1024x3072x1_0_0_0_0) shapeCasts_S2x1024x3072x1_S2x1024x3072

set_option maxRecDepth 8192 in
/-- `main_v5`'s composed term of the arguments (named: it is used 3 times). -/
def res_main_v5 (V0 : Valuation τ sig (Elt F)) : (Proc.devRef .tc main_v5 : DevRef τ sig).ty.Contents (Elt F) :=
  shapeCast _ (extractStridedSlice S2x1024x3072x1 ![0, 0, 0, 1] (res_main_v1 V0) slices_S2x1024x3072x4_S2x1024x3072x1_0_0_0_1) shapeCasts_S2x1024x3072x1_S2x1024x3072

set_option maxRecDepth 8192 in
/-- `main_v7`'s composed term of the arguments (named: it is used 3 times). -/
def res_main_v7 (V0 : Valuation τ sig (Elt F)) : (Proc.devRef .tc main_v7 : DevRef τ sig).ty.Contents (Elt F) :=
  shapeCast _ (extractStridedSlice S2x1024x3072x1 ![0, 0, 0, 2] (res_main_v1 V0) slices_S2x1024x3072x4_S2x1024x3072x1_0_0_0_2) shapeCasts_S2x1024x3072x1_S2x1024x3072

set_option maxRecDepth 8192 in
/-- `main_v9`'s composed term of the arguments (named: it is used 3 times). -/
def res_main_v9 (V0 : Valuation τ sig (Elt F)) : (Proc.devRef .tc main_v9 : DevRef τ sig).ty.Contents (Elt F) :=
  shapeCast _ (extractStridedSlice S2x1024x3072x1 ![0, 0, 0, 3] (res_main_v1 V0) slices_S2x1024x3072x4_S2x1024x3072x1_0_0_0_3) shapeCasts_S2x1024x3072x1_S2x1024x3072

set_option maxRecDepth 8192 in
/-- `main_v10`'s composed term of the arguments (named: it is used 6 times). -/
def res_main_v10 (V0 : Valuation τ sig (Elt F)) : (Proc.devRef .tc main_v10 : DevRef τ sig).ty.Contents (Elt F) :=
  Host.absf (res_main_v3 V0)

set_option maxRecDepth 8192 in
/-- `main_v11`'s composed term of the arguments (named: it is used 5 times). -/
def res_main_v11 (V0 : Valuation τ sig (Elt F)) : (Proc.devRef .tc main_v11 : DevRef τ sig).ty.Contents (Elt F) :=
  Host.absf (res_main_v5 V0)

set_option maxRecDepth 8192 in
/-- `main_v12`'s composed term of the arguments (named: it is used 4 times). -/
def res_main_v12 (V0 : Valuation τ sig (Elt F)) : (Proc.devRef .tc main_v12 : DevRef τ sig).ty.Contents (Elt F) :=
  Host.absf (res_main_v7 V0)

set_option maxRecDepth 8192 in
/-- `main_v13`'s composed term of the arguments (named: it is used 2 times). -/
def res_main_v13 (V0 : Valuation τ sig (Elt F)) : (Proc.devRef .tc main_v13 : DevRef τ sig).ty.Contents (Elt F) :=
  Host.absf (res_main_v9 V0)

set_option maxRecDepth 8192 in
/-- `main_v14`'s composed term of the arguments (named: it is used 3 times). -/
def res_main_v14 (V0 : Valuation τ sig (Elt F)) : (Proc.devRef .tc main_v14 : DevRef τ sig).ty.Contents (Elt F) :=
  addf (res_main_v10 V0) (res_main_v11 V0)

set_option maxRecDepth 8192 in
/-- `main_v15`'s composed term of the arguments (named: it is used 3 times). -/
def res_main_v15 (V0 : Valuation τ sig (Elt F)) : (Proc.devRef .tc main_v15 : DevRef τ sig).ty.Contents (Elt F) :=
  addf (res_main_v14 V0) (res_main_v12 V0)

set_option maxRecDepth 8192 in
/-- `main_v16`'s composed term of the arguments (named: it is used 3 times). -/
def res_main_v16 (V0 : Valuation τ sig (Elt F)) : (Proc.devRef .tc main_v16 : DevRef τ sig).ty.Contents (Elt F) :=
  addf (res_main_v15 V0) (res_main_v13 V0)

set_option maxRecDepth 8192 in
/-- `main_v19`'s composed term of the arguments (named: it is used 5 times). -/
def res_main_v19 (V0 : Valuation τ sig (Elt F)) : (Proc.devRef .tc main_v19 : DevRef τ sig).ty.Contents (Elt F) :=
  maximumf (maximumf (res_main_v10 V0) (res_main_v11 V0)) (maximumf (res_main_v12 V0) (res_main_v13 V0))

set_option maxRecDepth 8192 in
/-- `main_v26`'s composed term of the arguments (named: it is used 9 times). -/
def res_main_v26 (V0 : Valuation τ sig (Elt F)) : (Proc.devRef .tc main_v26 : DevRef τ sig).ty.Contents (Elt F) :=
  id (select (cmpf .oeq (res_main_v10 V0) (res_main_v19 V0)) (broadcastInDim S2x1024x3072 ![] bcast_S_S2x1024x3072 (constantI S_ 32 0#32)) (select (cmpf .oeq (res_main_v11 V0) (res_main_v19 V0)) (broadcastInDim S2x1024x3072 ![] bcast_S_S2x1024x3072 (constantI S_ 32 1#32)) (select (cmpf .oeq (res_main_v12 V0) (res_main_v19 V0)) (broadcastInDim S2x1024x3072 ![] bcast_S_S2x1024x3072 (constantI S_ 32 2#32)) (broadcastInDim S2x1024x3072 ![] bcast_S_S2x1024x3072 (constantI S_ 32 3#32)))))

set_option maxRecDepth 8192 in
/-- `main_v31`'s composed term of the arguments (named: it is used 2 times). -/
def res_main_v31 (V0 : Valuation τ sig (Elt F)) : (Proc.devRef .tc main_v31 : DevRef τ sig).ty.Contents (Elt F) :=
  mulf (uitofp .f32 (Host.shrui (V0 (Proc.devRef .tc main_arg1)) (broadcastInDim S2x1024x3072 ![] bcast_S_S2x1024x3072 (constantI S_ 32 8#32)))) (broadcastInDim S2x1024x3072 ![] bcast_S_S2x1024x3072 (constant S_ .f32 0x33800000#32))

set_option maxRecDepth 8192 in
/-- `main_v34`'s composed term of the arguments (named: it is used 4 times). -/
def res_main_v34 (V0 : Valuation τ sig (Elt F)) : (Proc.devRef .tc main_v34 : DevRef τ sig).ty.Contents (Elt F) :=
  cmpf .oge (mulf (broadcastInDim S2x1024x3072 ![] bcast_S_S2x1024x3072 (constant S_ .f32 0x40000000#32)) (res_main_v19 V0)) (res_main_v16 V0)

set_option maxRecDepth 8192 in
/-- `main_v35`'s composed term of the arguments (named: it is used 6 times). -/
def res_main_v35 (V0 : Valuation τ sig (Elt F)) : (Proc.devRef .tc main_v35 : DevRef τ sig).ty.Contents (Elt F) :=
  subf (res_main_v16 V0) (res_main_v19 V0)

set_option maxRecDepth 8192 in
/-- `main_v47`'s composed term of the arguments (named: it is used 2 times). -/
def res_main_v47 (V0 : Valuation τ sig (Elt F)) : (Proc.devRef .tc main_v47 : DevRef τ sig).ty.Contents (Elt F) :=
  select (cmpi .eq (res_main_v26 V0) (broadcastInDim S2x1024x3072 ![] bcast_S_S2x1024x3072 (constantI S_ 32 0#32))) (res_main_v11 V0) (res_main_v10 V0)

set_option maxRecDepth 8192 in
/-- `main_v51`'s composed term of the arguments (named: it is used 2 times). -/
def res_main_v51 (V0 : Valuation τ sig (Elt F)) : (Proc.devRef .tc main_v51 : DevRef τ sig).ty.Contents (Elt F) :=
  mulf (res_main_v31 V0) (res_main_v35 V0)

set_option maxRecDepth 8192 in
/-- `main_v59`'s composed term of the arguments (named: it is used 2 times). -/
def res_main_v59 (V0 : Valuation τ sig (Elt F)) : (Proc.devRef .tc main_v59 : DevRef τ sig).ty.Contents (Elt F) :=
  select (ori (cmpf .oeq (res_main_v35 V0) (broadcastInDim S2x1024x3072 ![] bcast_S_S2x1024x3072 (constant S_ .f32 0x00000000#32))) (cmpf .olt (res_main_v51 V0) (res_main_v47 V0))) (select (cmpi .eq (res_main_v26 V0) (broadcastInDim S2x1024x3072 ![] bcast_S_S2x1024x3072 (constantI S_ 32 0#32))) (broadcastInDim S2x1024x3072 ![] bcast_S_S2x1024x3072 (constantI S_ 32 1#32)) (broadcastInDim S2x1024x3072 ![] bcast_S_S2x1024x3072 (constantI S_ 32 0#32))) (select (cmpf .olt (res_main_v51 V0) (addf (res_main_v47 V0) (select (cmpi .sle (res_main_v26 V0) (broadcastInDim S2x1024x3072 ![] bcast_S_S2x1024x3072 (constantI S_ 32 1#32))) (res_main_v12 V0) (res_main_v11 V0)))) (select (cmpi .sle (res_main_v26 V0) (broadcastInDim S2x1024x3072 ![] bcast_S_S2x1024x3072 (constantI S_ 32 1#32))) (broadcastInDim S2x1024x3072 ![] bcast_S_S2x1024x3072 (constantI S_ 32 2#32)) (broadcastInDim S2x1024x3072 ![] bcast_S_S2x1024x3072 (constantI S_ 32 1#32))) (select (cmpi .sle (res_main_v26 V0) (broadcastInDim S2x1024x3072 ![] bcast_S_S2x1024x3072 (constantI S_ 32 2#32))) (broadcastInDim S2x1024x3072 ![] bcast_S_S2x1024x3072 (constantI S_ 32 3#32)) (broadcastInDim S2x1024x3072 ![] bcast_S_S2x1024x3072 (constantI S_ 32 2#32))))

set_option maxRecDepth 8192 in
/-- `main_v65`'s composed term of the arguments (named: it is used 4 times). -/
def res_main_v65 (V0 : Valuation τ sig (Elt F)) : (Proc.devRef .tc main_v65 : DevRef τ sig).ty.Contents (Elt F) :=
  mulf (res_main_v16 V0) (broadcastInDim S2x1024x3072 ![] bcast_S_S2x1024x3072 (constant S_ .f32 0x3F000000#32))

set_option maxRecDepth 8192 in
/-- `main_v66`'s composed term of the arguments (named: it is used 4 times). -/
def res_main_v66 (V0 : Valuation τ sig (Elt F)) : (Proc.devRef .tc main_v66 : DevRef τ sig).ty.Contents (Elt F) :=
  mulf (res_main_v31 V0) (res_main_v65 V0)

set_option maxRecDepth 8192 in
/-- `main_v67`'s composed term of the arguments (named: it is used 3 times). -/
def res_main_v67 (V0 : Valuation τ sig (Elt F)) : (Proc.devRef .tc main_v67 : DevRef τ sig).ty.Contents (Elt F) :=
  addf (res_main_v66 V0) (res_main_v65 V0)

set_option maxRecDepth 8192 in
/-- `main_v77`'s composed term of the arguments (named: it is used 2 times). -/
def res_main_v77 (V0 : Valuation τ sig (Elt F)) : (Proc.devRef .tc main_v77 : DevRef τ sig).ty.Contents (Elt F) :=
  minsi (broadcastInDim S2x1024x3072 ![] bcast_S_S2x1024x3072 (constantI S_ 32 2#32)) (addi (addi (extui 32 (cmpf .ole (res_main_v10 V0) (res_main_v66 V0)) natLt_1_32) (extui 32 (cmpf .ole (res_main_v14 V0) (res_main_v66 V0)) natLt_1_32)) (extui 32 (cmpf .ole (res_main_v15 V0) (res_main_v66 V0)) natLt_1_32))

set_option maxRecDepth 8192 in
/-- `main_v91`'s composed term of the arguments (named: it is used 5 times). -/
def res_main_v91 (V0 : Valuation τ sig (Elt F)) : (Proc.devRef .tc main_v91 : DevRef τ sig).ty.Contents (Elt F) :=
  select (res_main_v34 V0) (minsi (res_main_v26 V0) (id (res_main_v59 V0))) (res_main_v77 V0)

set_option maxRecDepth 8192 in
/-- `main_v92`'s composed term of the arguments (named: it is used 5 times). -/
def res_main_v92 (V0 : Valuation τ sig (Elt F)) : (Proc.devRef .tc main_v92 : DevRef τ sig).ty.Contents (Elt F) :=
  select (res_main_v34 V0) (maxsi (res_main_v26 V0) (id (res_main_v59 V0))) (minsi (broadcastInDim S2x1024x3072 ![] bcast_S_S2x1024x3072 (constantI S_ 32 3#32)) (maxsi (addi (addi (extui 32 (cmpf .ole (res_main_v10 V0) (res_main_v67 V0)) natLt_1_32) (extui 32 (cmpf .ole (res_main_v14 V0) (res_main_v67 V0)) natLt_1_32)) (extui 32 (cmpf .ole (res_main_v15 V0) (res_main_v67 V0)) natLt_1_32)) (addi (res_main_v77 V0) (broadcastInDim S2x1024x3072 ![] bcast_S_S2x1024x3072 (constantI S_ 32 1#32)))))

set_option maxRecDepth 8192 in
/-- `main_v101`'s composed term of the arguments (named: it is used 2 times). -/
def res_main_v101 (V0 : Valuation τ sig (Elt F)) : (Proc.devRef .tc main_v101 : DevRef τ sig).ty.Contents (Elt F) :=
  select (cmpi .eq (res_main_v91 V0) (broadcastInDim S2x1024x3072 ![] bcast_S_S2x1024x3072 (constantI S_ 32 0#32))) (res_main_v3 V0) (select (cmpi .eq (res_main_v91 V0) (broadcastInDim S2x1024x3072 ![] bcast_S_S2x1024x3072 (constantI S_ 32 1#32))) (res_main_v5 V0) (select (cmpi .eq (res_main_v91 V0) (broadcastInDim S2x1024x3072 ![] bcast_S_S2x1024x3072 (constantI S_ 32 2#32))) (res_main_v7 V0) (res_main_v9 V0)))

set_option maxRecDepth 8192 in
/-- `main_v102`'s composed term of the arguments (named: it is used 2 times). -/
def res_main_v102 (V0 : Valuation τ sig (Elt F)) : (Proc.devRef .tc main_v102 : DevRef τ sig).ty.Contents (Elt F) :=
  Host.sign (res_main_v101 V0)

set_option maxRecDepth 8192 in
/-- `main_v110`'s composed term of the arguments (named: it is used 2 times). -/
def res_main_v110 (V0 : Valuation τ sig (Elt F)) : (Proc.devRef .tc main_v110 : DevRef τ sig).ty.Contents (Elt F) :=
  select (res_main_v34 V0) (select (cmpi .eq (res_main_v91 V0) (res_main_v26 V0)) (res_main_v101 V0) (select (cmpf .oeq (res_main_v35 V0) (broadcastInDim S2x1024x3072 ![] bcast_S_S2x1024x3072 (constant S_ .f32 0x00000000#32))) (broadcastInDim S2x1024x3072 ![] bcast_S_S2x1024x3072 (id (constant S_ .f32 0x00000000#32))) (mulf (res_main_v102 V0) (res_main_v35 V0)))) (mulf (res_main_v102 V0) (res_main_v65 V0))

set_option maxRecDepth 8192 in
/-- `main_v119`'s composed term of the arguments (named: it is used 2 times). -/
def res_main_v119 (V0 : Valuation τ sig (Elt F)) : (Proc.devRef .tc main_v119 : DevRef τ sig).ty.Contents (Elt F) :=
  select (cmpi .eq (res_main_v92 V0) (broadcastInDim S2x1024x3072 ![] bcast_S_S2x1024x3072 (constantI S_ 32 0#32))) (res_main_v3 V0) (select (cmpi .eq (res_main_v92 V0) (broadcastInDim S2x1024x3072 ![] bcast_S_S2x1024x3072 (constantI S_ 32 1#32))) (res_main_v5 V0) (select (cmpi .eq (res_main_v92 V0) (broadcastInDim S2x1024x3072 ![] bcast_S_S2x1024x3072 (constantI S_ 32 2#32))) (res_main_v7 V0) (res_main_v9 V0)))

set_option maxRecDepth 8192 in
/-- `main_v120`'s composed term of the arguments (named: it is used 2 times). -/
def res_main_v120 (V0 : Valuation τ sig (Elt F)) : (Proc.devRef .tc main_v120 : DevRef τ sig).ty.Contents (Elt F) :=
  Host.sign (res_main_v119 V0)

set_option maxRecDepth 8192 in
/-- `main_v128`'s composed term of the arguments (named: it is used 2 times). -/
def res_main_v128 (V0 : Valuation τ sig (Elt F)) : (Proc.devRef .tc main_v128 : DevRef τ sig).ty.Contents (Elt F) :=
  select (res_main_v34 V0) (select (cmpi .eq (res_main_v92 V0) (res_main_v26 V0)) (res_main_v119 V0) (select (cmpf .oeq (res_main_v35 V0) (broadcastInDim S2x1024x3072 ![] bcast_S_S2x1024x3072 (constant S_ .f32 0x00000000#32))) (broadcastInDim S2x1024x3072 ![] bcast_S_S2x1024x3072 (id (constant S_ .f32 0x00000000#32))) (mulf (res_main_v120 V0) (res_main_v35 V0)))) (mulf (res_main_v120 V0) (res_main_v65 V0))

set_option maxRecDepth 8192 in
/-- `main_v135`'s composed term of the arguments (named: it is used 2 times). -/
def res_main_v135 (V0 : Valuation τ sig (Elt F)) : (Proc.devRef .tc main_v135 : DevRef τ sig).ty.Contents (Elt F) :=
  mulf (Host.reduce FloatOps.maximumf (shapeCast _ (maximumf (Host.absf (res_main_v110 V0)) (Host.absf (res_main_v128 V0))) shapeCasts_S2x1024x3072_S2x1024x96x32) (constant S_ .f32 0xFF800000#32) reducesTo_S2x1024x96x32_S2x1024x96_d3 h_S_) (broadcastInDim S2x1024x96 ![] bcast_S_S2x1024x96 (constant S_ .f32 0x37924925#32))

set_option maxRecDepth 8192 in
/-- `main_v145`'s composed term of the arguments (named: it is used 2 times). -/
def res_main_v145 (V0 : Valuation τ sig (Elt F)) : (Proc.devRef .tc main_v145 : DevRef τ sig).ty.Contents (Elt F) :=
  select (cmpf .olt (res_main_v135 V0) (broadcastInDim S2x1024x96 ![] bcast_S_S2x1024x96 (constant S_ .f32 0x00800000#32))) (broadcastInDim S2x1024x96 ![] bcast_S_S2x1024x96 (id (constant S_ .f32 0x00000000#32))) (addf (Host.floor (Host.divf (Host.log (res_main_v135 V0)) (Host.log (broadcastInDim S2x1024x96 ![] bcast_S_S2x1024x96 (constant S_ .f32 0x40000000#32))))) (broadcastInDim S2x1024x96 ![] bcast_S_S2x1024x96 (constant S_ .f32 0x3F800000#32)))

set_option maxRecDepth 8192 in
/-- `main_v152`'s composed term of the arguments (named: it is used 2 times). -/
def res_main_v152 (V0 : Valuation τ sig (Elt F)) : (Proc.devRef .tc main_v152 : DevRef τ sig).ty.Contents (Elt F) :=
  shapeCast _ (broadcastInDim S2x1024x96x32 ![0, 1, 2] bcast_S2x1024x96_S2x1024x96x32_0_1_2 (Host.powf (broadcastInDim S2x1024x96 ![] bcast_S_S2x1024x96 (constant S_ .f32 0x40000000#32)) (Host.negf (res_main_v145 V0)))) shapeCasts_S2x1024x96x32_S2x1024x3072

set_option maxRecDepth 8192 in
/-- `main_v163`'s composed term of the arguments (named: it is used 2 times). -/
def res_main_v163 (V0 : Valuation τ sig (Elt F)) : (Proc.devRef .tc main_v163 : DevRef τ sig).ty.Contents (Elt F) :=
  ori (res_main_v91 V0) (Host.shli (res_main_v92 V0) (broadcastInDim S2x1024x3072 ![] bcast_S_S2x1024x3072 (constantI S_ 32 2#32)))

end Cert.Proof.ReferenceIdeal

end
-- ==== Proof.RI.Host.lean ====
/- What each of the reference's arrays holds after its host operations: the terms of RI/Ops.lean, window by window. -/
module

public import proofs.«01_k».proof.Proof.RI.Ops

@[expose] public section

set_option Elab.async false

noncomputable section

namespace Cert.Proof.ReferenceIdeal

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_c, main_c_0, main_call0_v0, main_call0_v1, main_v23, main_c_1, main_call1_v0]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_v3 (V0 : Valuation τ sig (Elt F)) : val0_1 V0 (no_index (Proc.devRef .tc main_v3)) = res_main_v3 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v7 (V0 : Valuation τ sig (Elt F)) : val0_1 V0 (no_index (Proc.devRef .tc main_v7)) = res_main_v7 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v9 (V0 : Valuation τ sig (Elt F)) : val0_1 V0 (no_index (Proc.devRef .tc main_v9)) = res_main_v9 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v10 (V0 : Valuation τ sig (Elt F)) : val0_1 V0 (no_index (Proc.devRef .tc main_v10)) = res_main_v10 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v11 (V0 : Valuation τ sig (Elt F)) : val0_1 V0 (no_index (Proc.devRef .tc main_v11)) = res_main_v11 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v12 (V0 : Valuation τ sig (Elt F)) : val0_1 V0 (no_index (Proc.devRef .tc main_v12)) = res_main_v12 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v14 (V0 : Valuation τ sig (Elt F)) : val0_1 V0 (no_index (Proc.devRef .tc main_v14)) = res_main_v14 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v15 (V0 : Valuation τ sig (Elt F)) : val0_1 V0 (no_index (Proc.devRef .tc main_v15)) = res_main_v15 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v16 (V0 : Valuation τ sig (Elt F)) : val0_1 V0 (no_index (Proc.devRef .tc main_v16)) = res_main_v16 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v19 (V0 : Valuation τ sig (Elt F)) : val0_1 V0 (no_index (Proc.devRef .tc main_v19)) = res_main_v19 V0 := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v20 (V0 : Valuation τ sig (Elt F)) : val0_1 V0 (no_index (Proc.devRef .tc main_v20)) = cmpf .oeq (res_main_v10 V0) (res_main_v19 V0) := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v21 (V0 : Valuation τ sig (Elt F)) : val0_1 V0 (no_index (Proc.devRef .tc main_v21)) = cmpf .oeq (res_main_v11 V0) (res_main_v19 V0) := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_v23 (V0 : Valuation τ sig (Elt F)) : val0_1 V0 (no_index (Proc.devRef .tc main_v23)) = select (cmpf .oeq (res_main_v12 V0) (res_main_v19 V0)) (broadcastInDim S2x1024x3072 ![] bcast_S_S2x1024x3072 (constantI S_ 32 2#32)) (broadcastInDim S2x1024x3072 ![] bcast_S_S2x1024x3072 (constantI S_ 32 3#32)) := by
  unfold val0_1
  simp only [ops_part0_0, TRef.ternary, TRef.unary, TRef.toBuf, TRef.ofBuf, cast_eq]
  after_results_simp
  simp only [val0_main_arg0] <;> rfl
set_option maxRecDepth 8192 in
set_option maxHeartbeats 2000000 in
theorem val0_1_main_call1_v0 (V0 : Valuation τ sig (Elt F)) : val0_1 V0 (no_index (Proc.devRef .tc main_call1_v0)) = broadcastInDim S2x1024x3072 ![] bcast_S_S2x1024x3072 (constantI S_ 32 1#32) := by
  unfold val0_1
  simp only [ops_part0_0, TRef.ternary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v24, main_c_2, main_call2_v0, main_v25, main_v26, main_c_3, main_v27, main_v28, main_v29, main_cst, main_v30, main_v31, main_cst_4, main_v32, main_v33, main_v34, main_v35, main_c_5, main_v36, main_v37, main_c_6, main_c_7, main_call3_v0, main_call3_v1, main_v38, main_c_8, main_v39, main_v40, main_c_9, main_c_10]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_v3 (V0 : Valuation τ sig (Elt F)) : val0_2 V0 (no_index (Proc.devRef .tc main_v3)) = res_main_v3 V0 :=
  (val0_2_keep V0 main_v3 (by decide)).trans (val0_1_main_v3 V0)
theorem val0_2_main_v5 (V0 : Valuation τ sig (Elt F)) : val0_2 V0 (no_index (Proc.devRef .tc main_v5)) = res_main_v5 V0 :=
  (val0_2_keep V0 main_v5 (by decide)).trans (val0_1_main_v5 V0)
theorem val0_2_main_v7 (V0 : Valuation τ sig (Elt F)) : val0_2 V0 (no_index (Proc.devRef .tc main_v7)) = res_main_v7 V0 :=
  (val0_2_keep V0 main_v7 (by decide)).trans (val0_1_main_v7 V0)
theorem val0_2_main_v9 (V0 : Valuation τ sig (Elt F)) : val0_2 V0 (no_index (Proc.devRef .tc main_v9)) = res_main_v9 V0 :=
  (val0_2_keep V0 main_v9 (by decide)).trans (val0_1_main_v9 V0)
theorem val0_2_main_v10 (V0 : Valuation τ sig (Elt F)) : val0_2 V0 (no_index (Proc.devRef .tc main_v10)) = res_main_v10 V0 :=
  (val0_2_keep V0 main_v10 (by decide)).trans (val0_1_main_v10 V0)
theorem val0_2_main_v11 (V0 : Valuation τ sig (Elt F)) : val0_2 V0 (no_index (Proc.devRef .tc main_v11)) = res_main_v11 V0 :=
  (val0_2_keep V0 main_v11 (by decide)).trans (val0_1_main_v11 V0)
theorem val0_2_main_v12 (V0 : Valuation τ sig (Elt F)) : val0_2 V0 (no_index (Proc.devRef .tc main_v12)) = res_main_v12 V0 :=
  (val0_2_keep V0 main_v12 (by decide)).trans (val0_1_main_v12 V0)
theorem val0_2_main_v14 (V0 : Valuation τ sig (Elt F)) : val0_2 V0 (no_index (Proc.devRef .tc main_v14)) = res_main_v14 V0 :=
  (val0_2_keep V0 main_v14 (by decide)).trans (val0_1_main_v14 V0)
theorem val0_2_main_v15 (V0 : Valuation τ sig (Elt F)) : val0_2 V0 (no_index (Proc.devRef .tc main_v15)) = res_main_v15 V0 :=
  (val0_2_keep V0 main_v15 (by decide)).trans (val0_1_main_v15 V0)
theorem val0_2_main_v16 (V0 : Valuation τ sig (Elt F)) : val0_2 V0 (no_index (Proc.devRef .tc main_v16)) = res_main_v16 V0 :=
  (val0_2_keep V0 main_v16 (by decide)).trans (val0_1_main_v16 V0)
set_option maxRecDepth 8192 in
set_option maxHeartbeats 2000000 in
theorem val0_2_main_v26 (V0 : Valuation τ sig (Elt F)) : val0_2 V0 (no_index (Proc.devRef .tc main_v26)) = res_main_v26 V0 := by
  unfold val0_2
  simp only [ops_part0_1, TRef.ternary, TRef.unary, TRef.toBuf, TRef.ofBuf, cast_eq]
  after_results_simp
  simp only [val0_1_main_v23, val0_1_main_call1_v0, val0_1_main_v21, val0_1_main_v20] <;> rfl
set_option maxRecDepth 8192 in
set_option maxHeartbeats 2000000 in
theorem val0_2_main_v31 (V0 : Valuation τ sig (Elt F)) : val0_2 V0 (no_index (Proc.devRef .tc main_v31)) = res_main_v31 V0 := by
  unfold val0_2
  simp only [ops_part0_1, TRef.ternary, TRef.unary, TRef.toBuf, TRef.ofBuf, cast_eq]
  after_results_simp
  simp only [val0_1_main_arg1] <;> rfl
set_option maxRecDepth 8192 in
set_option maxHeartbeats 2000000 in
theorem val0_2_main_v34 (V0 : Valuation τ sig (Elt F)) : val0_2 V0 (no_index (Proc.devRef .tc main_v34)) = res_main_v34 V0 := by
  unfold val0_2
  simp only [ops_part0_1, TRef.ternary, TRef.unary, TRef.toBuf, TRef.ofBuf, cast_eq]
  after_results_simp
  simp only [val0_1_main_v16, val0_1_main_v19] <;> rfl
set_option maxRecDepth 8192 in
set_option maxHeartbeats 2000000 in
theorem val0_2_main_v35 (V0 : Valuation τ sig (Elt F)) : val0_2 V0 (no_index (Proc.devRef .tc main_v35)) = res_main_v35 V0 := by
  unfold val0_2
  simp only [ops_part0_1, TRef.ternary, TRef.unary, TRef.toBuf, TRef.ofBuf, cast_eq]
  after_results_simp
  simp only [val0_1_main_v19, val0_1_main_v16] <;> rfl
set_option maxRecDepth 8192 in
set_option maxHeartbeats 2000000 in
theorem val0_2_main_v38 (V0 : Valuation τ sig (Elt F)) : val0_2 V0 (no_index (Proc.devRef .tc main_v38)) = select (cmpi .eq (res_main_v26 V0) (broadcastInDim S2x1024x3072 ![] bcast_S_S2x1024x3072 (constantI S_ 32 0#32))) (broadcastInDim S2x1024x3072 ![] bcast_S_S2x1024x3072 (constantI S_ 32 1#32)) (broadcastInDim S2x1024x3072 ![] bcast_S_S2x1024x3072 (constantI S_ 32 0#32)) := by
  unfold val0_2
  simp only [ops_part0_1, TRef.ternary, TRef.unary, TRef.toBuf, TRef.ofBuf, cast_eq]
  after_results_simp
  simp only [val0_1_main_v23, val0_1_main_call1_v0, val0_1_main_v21, val0_1_main_v20] <;> rfl
set_option maxRecDepth 8192 in
set_option maxHeartbeats 2000000 in
theorem val0_2_main_v40 (V0 : Valuation τ sig (Elt F)) : val0_2 V0 (no_index (Proc.devRef .tc main_v40)) = cmpi .sle (res_main_v26 V0) (broadcastInDim S2x1024x3072 ![] bcast_S_S2x1024x3072 (constantI S_ 32 1#32)) := by
  unfold val0_2
  simp only [ops_part0_1, TRef.ternary, TRef.unary, TRef.toBuf, TRef.ofBuf, cast_eq]
  after_results_simp
  simp only [val0_1_main_v23, val0_1_main_call1_v0, val0_1_main_v21, val0_1_main_v20] <;> rfl
set_option maxRecDepth 8192 in
set_option maxHeartbeats 2000000 in
theorem val0_2_main_c_9 (V0 : Valuation τ sig (Elt F)) : val0_2 V0 (no_index (Proc.devRef .tc main_c_9)) = constantI S_ 32 2#32 := by
  unfold val0_2
  simp only [ops_part0_1, TRef.ternary, TRef.unary, TRef.toBuf, TRef.ofBuf, cast_eq]
  after_results_simp
  all_goals rfl
set_option maxRecDepth 8192 in
set_option maxHeartbeats 2000000 in
theorem val0_2_main_c_10 (V0 : Valuation τ sig (Elt F)) : val0_2 V0 (no_index (Proc.devRef .tc main_c_10)) = constantI S_ 32 1#32 := by
  unfold val0_2
  simp only [ops_part0_1, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call4_v0, main_call4_v1, main_v41, main_c_11, main_v42, main_v43, main_c_12, main_c_13]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_v3 (V0 : Valuation τ sig (Elt F)) : val1 V0 (no_index (Proc.devRef .tc main_v3)) = res_main_v3 V0 :=
  (val1_keep V0 main_v3 (by decide)).trans (val0_2_main_v3 V0)
theorem val1_main_v5 (V0 : Valuation τ sig (Elt F)) : val1 V0 (no_index (Proc.devRef .tc main_v5)) = res_main_v5 V0 :=
  (val1_keep V0 main_v5 (by decide)).trans (val0_2_main_v5 V0)
theorem val1_main_v7 (V0 : Valuation τ sig (Elt F)) : val1 V0 (no_index (Proc.devRef .tc main_v7)) = res_main_v7 V0 :=
  (val1_keep V0 main_v7 (by decide)).trans (val0_2_main_v7 V0)
theorem val1_main_v9 (V0 : Valuation τ sig (Elt F)) : val1 V0 (no_index (Proc.devRef .tc main_v9)) = res_main_v9 V0 :=
  (val1_keep V0 main_v9 (by decide)).trans (val0_2_main_v9 V0)
theorem val1_main_v10 (V0 : Valuation τ sig (Elt F)) : val1 V0 (no_index (Proc.devRef .tc main_v10)) = res_main_v10 V0 :=
  (val1_keep V0 main_v10 (by decide)).trans (val0_2_main_v10 V0)
theorem val1_main_v11 (V0 : Valuation τ sig (Elt F)) : val1 V0 (no_index (Proc.devRef .tc main_v11)) = res_main_v11 V0 :=
  (val1_keep V0 main_v11 (by decide)).trans (val0_2_main_v11 V0)
theorem val1_main_v12 (V0 : Valuation τ sig (Elt F)) : val1 V0 (no_index (Proc.devRef .tc main_v12)) = res_main_v12 V0 :=
  (val1_keep V0 main_v12 (by decide)).trans (val0_2_main_v12 V0)
theorem val1_main_v14 (V0 : Valuation τ sig (Elt F)) : val1 V0 (no_index (Proc.devRef .tc main_v14)) = res_main_v14 V0 :=
  (val1_keep V0 main_v14 (by decide)).trans (val0_2_main_v14 V0)
theorem val1_main_v15 (V0 : Valuation τ sig (Elt F)) : val1 V0 (no_index (Proc.devRef .tc main_v15)) = res_main_v15 V0 :=
  (val1_keep V0 main_v15 (by decide)).trans (val0_2_main_v15 V0)
theorem val1_main_v16 (V0 : Valuation τ sig (Elt F)) : val1 V0 (no_index (Proc.devRef .tc main_v16)) = res_main_v16 V0 :=
  (val1_keep V0 main_v16 (by decide)).trans (val0_2_main_v16 V0)
theorem val1_main_v26 (V0 : Valuation τ sig (Elt F)) : val1 V0 (no_index (Proc.devRef .tc main_v26)) = res_main_v26 V0 :=
  (val1_keep V0 main_v26 (by decide)).trans (val0_2_main_v26 V0)
theorem val1_main_v31 (V0 : Valuation τ sig (Elt F)) : val1 V0 (no_index (Proc.devRef .tc main_v31)) = res_main_v31 V0 :=
  (val1_keep V0 main_v31 (by decide)).trans (val0_2_main_v31 V0)
theorem val1_main_v34 (V0 : Valuation τ sig (Elt F)) : val1 V0 (no_index (Proc.devRef .tc main_v34)) = res_main_v34 V0 :=
  (val1_keep V0 main_v34 (by decide)).trans (val0_2_main_v34 V0)
theorem val1_main_v35 (V0 : Valuation τ sig (Elt F)) : val1 V0 (no_index (Proc.devRef .tc main_v35)) = res_main_v35 V0 :=
  (val1_keep V0 main_v35 (by decide)).trans (val0_2_main_v35 V0)
theorem val1_main_v38 (V0 : Valuation τ sig (Elt F)) : val1 V0 (no_index (Proc.devRef .tc main_v38)) = select (cmpi .eq (res_main_v26 V0) (broadcastInDim S2x1024x3072 ![] bcast_S_S2x1024x3072 (constantI S_ 32 0#32))) (broadcastInDim S2x1024x3072 ![] bcast_S_S2x1024x3072 (constantI S_ 32 1#32)) (broadcastInDim S2x1024x3072 ![] bcast_S_S2x1024x3072 (constantI S_ 32 0#32)) :=
  (val1_keep V0 main_v38 (by decide)).trans (val0_2_main_v38 V0)
set_option maxRecDepth 8192 in
theorem val1_main_v41 (V0 : Valuation τ sig (Elt F)) : val1 V0 (no_index (Proc.devRef .tc main_v41)) = select (cmpi .sle (res_main_v26 V0) (broadcastInDim S2x1024x3072 ![] bcast_S_S2x1024x3072 (constantI S_ 32 1#32))) (broadcastInDim S2x1024x3072 ![] bcast_S_S2x1024x3072 (constantI S_ 32 2#32)) (broadcastInDim S2x1024x3072 ![] bcast_S_S2x1024x3072 (constantI S_ 32 1#32)) := by
  unfold val1
  simp only [ops_part0_2, TRef.ternary, TRef.unary, TRef.toBuf, TRef.ofBuf, cast_eq]
  after_results_simp
  simp only [val0_2_main_c_10, val0_2_main_c_9, val0_2_main_v40] <;> rfl
set_option maxRecDepth 8192 in
theorem val1_main_v43 (V0 : Valuation τ sig (Elt F)) : val1 V0 (no_index (Proc.devRef .tc main_v43)) = cmpi .sle (res_main_v26 V0) (broadcastInDim S2x1024x3072 ![] bcast_S_S2x1024x3072 (constantI S_ 32 2#32)) := by
  unfold val1
  simp only [ops_part0_2, TRef.ternary, TRef.unary, TRef.toBuf, TRef.ofBuf, cast_eq]
  after_results_simp
  simp only [val0_2_main_v26] <;> rfl
set_option maxRecDepth 8192 in
theorem val1_main_c_12 (V0 : Valuation τ sig (Elt F)) : val1 V0 (no_index (Proc.devRef .tc main_c_12)) = constantI S_ 32 3#32 := by
  unfold val1
  simp only [ops_part0_2, TRef.ternary, TRef.unary, TRef.toBuf, TRef.ofBuf, cast_eq]
  after_results_simp
  all_goals rfl
set_option maxRecDepth 8192 in
theorem val1_main_c_13 (V0 : Valuation τ sig (Elt F)) : val1 V0 (no_index (Proc.devRef .tc main_c_13)) = constantI S_ 32 2#32 := by
  unfold val1
  simp only [ops_part0_2, TRef.ternary, TRef.unary, TRef.toBuf, TRef.ofBuf, cast_eq]
  after_results_simp
  all_goals rfl

/-- The device's buffer contents after @main's first 98 operations. -/
def val1_1 (V0 : Valuation τ sig (Elt F)) : Valuation τ sig (Elt F) := after ops_part1_0 (val1 V0)
/-- The buffers that window `ops_part1_0`'s operations write. -/
abbrev ops_part1_0_W : List (Ref sig .tc) := [main_call5_v0, main_call5_v1, main_v44, main_c_14, main_v45, main_v46, main_v47, main_c_15, main_v48, main_v49, main_v50, main_v51, main_v52, main_cst_16, main_v53, main_v54, main_v55, main_v56, main_v57, main_v58, main_v59, main_v60, main_v61, main_v62, main_v63, main_cst_17, main_v64, main_v65, main_v66, main_v67]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_v3 (V0 : Valuation τ sig (Elt F)) : val1_1 V0 (no_index (Proc.devRef .tc main_v3)) = res_main_v3 V0 :=
  (val1_1_keep V0 main_v3 (by decide)).trans (val1_main_v3 V0)
theorem val1_1_main_v5 (V0 : Valuation τ sig (Elt F)) : val1_1 V0 (no_index (Proc.devRef .tc main_v5)) = res_main_v5 V0 :=
  (val1_1_keep V0 main_v5 (by decide)).trans (val1_main_v5 V0)
theorem val1_1_main_v7 (V0 : Valuation τ sig (Elt F)) : val1_1 V0 (no_index (Proc.devRef .tc main_v7)) = res_main_v7 V0 :=
  (val1_1_keep V0 main_v7 (by decide)).trans (val1_main_v7 V0)
theorem val1_1_main_v9 (V0 : Valuation τ sig (Elt F)) : val1_1 V0 (no_index (Proc.devRef .tc main_v9)) = res_main_v9 V0 :=
  (val1_1_keep V0 main_v9 (by decide)).trans (val1_main_v9 V0)
theorem val1_1_main_v10 (V0 : Valuation τ sig (Elt F)) : val1_1 V0 (no_index (Proc.devRef .tc main_v10)) = res_main_v10 V0 :=
  (val1_1_keep V0 main_v10 (by decide)).trans (val1_main_v10 V0)
theorem val1_1_main_v14 (V0 : Valuation τ sig (Elt F)) : val1_1 V0 (no_index (Proc.devRef .tc main_v14)) = res_main_v14 V0 :=
  (val1_1_keep V0 main_v14 (by decide)).trans (val1_main_v14 V0)
theorem val1_1_main_v15 (V0 : Valuation τ sig (Elt F)) : val1_1 V0 (no_index (Proc.devRef .tc main_v15)) = res_main_v15 V0 :=
  (val1_1_keep V0 main_v15 (by decide)).trans (val1_main_v15 V0)
theorem val1_1_main_v26 (V0 : Valuation τ sig (Elt F)) : val1_1 V0 (no_index (Proc.devRef .tc main_v26)) = res_main_v26 V0 :=
  (val1_1_keep V0 main_v26 (by decide)).trans (val1_main_v26 V0)
theorem val1_1_main_v34 (V0 : Valuation τ sig (Elt F)) : val1_1 V0 (no_index (Proc.devRef .tc main_v34)) = res_main_v34 V0 :=
  (val1_1_keep V0 main_v34 (by decide)).trans (val1_main_v34 V0)
theorem val1_1_main_v35 (V0 : Valuation τ sig (Elt F)) : val1_1 V0 (no_index (Proc.devRef .tc main_v35)) = res_main_v35 V0 :=
  (val1_1_keep V0 main_v35 (by decide)).trans (val1_main_v35 V0)
set_option maxRecDepth 8192 in
set_option maxHeartbeats 2000000 in
theorem val1_1_main_v61 (V0 : Valuation τ sig (Elt F)) : val1_1 V0 (no_index (Proc.devRef .tc main_v61)) = minsi (res_main_v26 V0) (id (res_main_v59 V0)) := by
  unfold val1_1
  simp only [ops_part1_0, TRef.ternary, TRef.unary, TRef.toBuf, TRef.ofBuf, cast_eq]
  after_results_simp
  simp only [val1_main_c_13, val1_main_c_12, val1_main_v43, val1_main_v41, val1_main_v11, val1_main_v12, val1_main_v10, val1_main_v35, val1_main_v31, val1_main_v38, val1_main_v26] <;> rfl
set_option maxRecDepth 8192 in
set_option maxHeartbeats 2000000 in
theorem val1_1_main_v63 (V0 : Valuation τ sig (Elt F)) : val1_1 V0 (no_index (Proc.devRef .tc main_v63)) = maxsi (res_main_v26 V0) (id (res_main_v59 V0)) := by
  unfold val1_1
  simp only [ops_part1_0, TRef.ternary, TRef.unary, TRef.toBuf, TRef.ofBuf, cast_eq]
  after_results_simp
  simp only [val1_main_c_13, val1_main_c_12, val1_main_v43, val1_main_v41, val1_main_v11, val1_main_v12, val1_main_v10, val1_main_v35, val1_main_v31, val1_main_v38, val1_main_v26] <;> rfl
set_option maxRecDepth 8192 in
set_option maxHeartbeats 2000000 in
theorem val1_1_main_v65 (V0 : Valuation τ sig (Elt F)) : val1_1 V0 (no_index (Proc.devRef .tc main_v65)) = res_main_v65 V0 := by
  unfold val1_1
  simp only [ops_part1_0, TRef.ternary, TRef.unary, TRef.toBuf, TRef.ofBuf, cast_eq]
  after_results_simp
  simp only [val1_main_v16] <;> rfl
set_option maxRecDepth 8192 in
set_option maxHeartbeats 2000000 in
theorem val1_1_main_v66 (V0 : Valuation τ sig (Elt F)) : val1_1 V0 (no_index (Proc.devRef .tc main_v66)) = res_main_v66 V0 := by
  unfold val1_1
  simp only [ops_part1_0, TRef.ternary, TRef.unary, TRef.toBuf, TRef.ofBuf, cast_eq]
  after_results_simp
  simp only [val1_main_v16, val1_main_v31] <;> rfl
set_option maxRecDepth 8192 in
set_option maxHeartbeats 2000000 in
theorem val1_1_main_v67 (V0 : Valuation τ sig (Elt F)) : val1_1 V0 (no_index (Proc.devRef .tc main_v67)) = res_main_v67 V0 := by
  unfold val1_1
  simp only [ops_part1_0, TRef.ternary, TRef.unary, TRef.toBuf, TRef.ofBuf, cast_eq]
  after_results_simp
  simp only [val1_main_v16, val1_main_v31] <;> rfl

/-- The device's buffer contents after @main's first 128 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v68, main_v69, main_v70, main_v71, main_v72, main_v73, main_v74, main_v75, main_c_18, main_v76, main_v77, main_v78, main_v79, main_v80, main_v81, main_v82, main_v83, main_v84, main_v85, main_c_19, main_v86, main_v87, main_v88, main_c_20, main_v89, main_v90, main_v91, main_v92, main_c_21, main_v93]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_v3 (V0 : Valuation τ sig (Elt F)) : val1_2 V0 (no_index (Proc.devRef .tc main_v3)) = res_main_v3 V0 :=
  (val1_2_keep V0 main_v3 (by decide)).trans (val1_1_main_v3 V0)
theorem val1_2_main_v5 (V0 : Valuation τ sig (Elt F)) : val1_2 V0 (no_index (Proc.devRef .tc main_v5)) = res_main_v5 V0 :=
  (val1_2_keep V0 main_v5 (by decide)).trans (val1_1_main_v5 V0)
theorem val1_2_main_v7 (V0 : Valuation τ sig (Elt F)) : val1_2 V0 (no_index (Proc.devRef .tc main_v7)) = res_main_v7 V0 :=
  (val1_2_keep V0 main_v7 (by decide)).trans (val1_1_main_v7 V0)
theorem val1_2_main_v9 (V0 : Valuation τ sig (Elt F)) : val1_2 V0 (no_index (Proc.devRef .tc main_v9)) = res_main_v9 V0 :=
  (val1_2_keep V0 main_v9 (by decide)).trans (val1_1_main_v9 V0)
theorem val1_2_main_v26 (V0 : Valuation τ sig (Elt F)) : val1_2 V0 (no_index (Proc.devRef .tc main_v26)) = res_main_v26 V0 :=
  (val1_2_keep V0 main_v26 (by decide)).trans (val1_1_main_v26 V0)
theorem val1_2_main_v34 (V0 : Valuation τ sig (Elt F)) : val1_2 V0 (no_index (Proc.devRef .tc main_v34)) = res_main_v34 V0 :=
  (val1_2_keep V0 main_v34 (by decide)).trans (val1_1_main_v34 V0)
theorem val1_2_main_v35 (V0 : Valuation τ sig (Elt F)) : val1_2 V0 (no_index (Proc.devRef .tc main_v35)) = res_main_v35 V0 :=
  (val1_2_keep V0 main_v35 (by decide)).trans (val1_1_main_v35 V0)
theorem val1_2_main_v65 (V0 : Valuation τ sig (Elt F)) : val1_2 V0 (no_index (Proc.devRef .tc main_v65)) = res_main_v65 V0 :=
  (val1_2_keep V0 main_v65 (by decide)).trans (val1_1_main_v65 V0)
set_option maxRecDepth 8192 in
set_option maxHeartbeats 2000000 in
theorem val1_2_main_v91 (V0 : Valuation τ sig (Elt F)) : val1_2 V0 (no_index (Proc.devRef .tc main_v91)) = res_main_v91 V0 := by
  unfold val1_2
  simp only [ops_part1_1, TRef.ternary, TRef.toBuf, TRef.ofBuf, cast_eq]
  after_results_simp
  simp only [val1_1_main_v66, val1_1_main_v15, val1_1_main_v14, val1_1_main_v10, val1_1_main_v61, val1_1_main_v34] <;> rfl
set_option maxRecDepth 8192 in
set_option maxHeartbeats 2000000 in
theorem val1_2_main_v92 (V0 : Valuation τ sig (Elt F)) : val1_2 V0 (no_index (Proc.devRef .tc main_v92)) = res_main_v92 V0 := by
  unfold val1_2
  simp only [ops_part1_1, TRef.ternary, TRef.toBuf, TRef.ofBuf, cast_eq]
  after_results_simp
  simp only [val1_1_main_v66, val1_1_main_v15, val1_1_main_v14, val1_1_main_v10, val1_1_main_v67, val1_1_main_v63, val1_1_main_v34] <;> rfl
set_option maxRecDepth 8192 in
set_option maxHeartbeats 2000000 in
theorem val1_2_main_v93 (V0 : Valuation τ sig (Elt F)) : val1_2 V0 (no_index (Proc.devRef .tc main_v93)) = broadcastInDim S2x1024x3072 ![] bcast_S_S2x1024x3072 (constantI S_ 32 0#32) := by
  unfold val1_2
  simp only [ops_part1_1, TRef.ternary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v94, main_c_22]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_v3 (V0 : Valuation τ sig (Elt F)) : val2 V0 (no_index (Proc.devRef .tc main_v3)) = res_main_v3 V0 :=
  (val2_keep V0 main_v3 (by decide)).trans (val1_2_main_v3 V0)
theorem val2_main_v5 (V0 : Valuation τ sig (Elt F)) : val2 V0 (no_index (Proc.devRef .tc main_v5)) = res_main_v5 V0 :=
  (val2_keep V0 main_v5 (by decide)).trans (val1_2_main_v5 V0)
theorem val2_main_v7 (V0 : Valuation τ sig (Elt F)) : val2 V0 (no_index (Proc.devRef .tc main_v7)) = res_main_v7 V0 :=
  (val2_keep V0 main_v7 (by decide)).trans (val1_2_main_v7 V0)
theorem val2_main_v9 (V0 : Valuation τ sig (Elt F)) : val2 V0 (no_index (Proc.devRef .tc main_v9)) = res_main_v9 V0 :=
  (val2_keep V0 main_v9 (by decide)).trans (val1_2_main_v9 V0)
theorem val2_main_v26 (V0 : Valuation τ sig (Elt F)) : val2 V0 (no_index (Proc.devRef .tc main_v26)) = res_main_v26 V0 :=
  (val2_keep V0 main_v26 (by decide)).trans (val1_2_main_v26 V0)
theorem val2_main_v34 (V0 : Valuation τ sig (Elt F)) : val2 V0 (no_index (Proc.devRef .tc main_v34)) = res_main_v34 V0 :=
  (val2_keep V0 main_v34 (by decide)).trans (val1_2_main_v34 V0)
theorem val2_main_v35 (V0 : Valuation τ sig (Elt F)) : val2 V0 (no_index (Proc.devRef .tc main_v35)) = res_main_v35 V0 :=
  (val2_keep V0 main_v35 (by decide)).trans (val1_2_main_v35 V0)
theorem val2_main_v65 (V0 : Valuation τ sig (Elt F)) : val2 V0 (no_index (Proc.devRef .tc main_v65)) = res_main_v65 V0 :=
  (val2_keep V0 main_v65 (by decide)).trans (val1_2_main_v65 V0)
theorem val2_main_v91 (V0 : Valuation τ sig (Elt F)) : val2 V0 (no_index (Proc.devRef .tc main_v91)) = res_main_v91 V0 :=
  (val2_keep V0 main_v91 (by decide)).trans (val1_2_main_v91 V0)
theorem val2_main_v92 (V0 : Valuation τ sig (Elt F)) : val2 V0 (no_index (Proc.devRef .tc main_v92)) = res_main_v92 V0 :=
  (val2_keep V0 main_v92 (by decide)).trans (val1_2_main_v92 V0)
set_option maxRecDepth 8192 in
theorem val2_main_v94 (V0 : Valuation τ sig (Elt F)) : val2 V0 (no_index (Proc.devRef .tc main_v94)) = cmpi .eq (res_main_v91 V0) (broadcastInDim S2x1024x3072 ![] bcast_S_S2x1024x3072 (constantI S_ 32 0#32)) := by
  unfold val2
  simp only [ops_part1_2]
  after_results_simp
  simp only [val1_2_main_v93, val1_2_main_v91] <;> rfl
set_option maxRecDepth 8192 in
theorem val2_main_c_22 (V0 : Valuation τ sig (Elt F)) : val2 V0 (no_index (Proc.devRef .tc main_c_22)) = constantI S_ 32 1#32 := by
  unfold val2
  simp only [ops_part1_2]
  after_results_simp
  all_goals rfl

/-- The device's buffer contents after @main's first 160 operations. -/
def val2_1 (V0 : Valuation τ sig (Elt F)) : Valuation τ sig (Elt F) := after ops_part2_0 (val2 V0)
/-- The buffers that window `ops_part2_0`'s operations write. -/
abbrev ops_part2_0_W : List (Ref sig .tc) := [main_v95, main_v96, main_c_23, main_v97, main_v98, main_v99, main_v100, main_v101, main_v102, main_v103, main_cst_24, main_v104, main_v105, main_v106, main_cst_25, main_call15_v0, main_call15_v1, main_v107, main_v108, main_v109, main_v110, main_c_26, main_v111, main_v112, main_c_27, main_v113, main_v114, main_c_28, main_v115, main_v116]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_v3 (V0 : Valuation τ sig (Elt F)) : val2_1 V0 (no_index (Proc.devRef .tc main_v3)) = res_main_v3 V0 :=
  (val2_1_keep V0 main_v3 (by decide)).trans (val2_main_v3 V0)
theorem val2_1_main_v5 (V0 : Valuation τ sig (Elt F)) : val2_1 V0 (no_index (Proc.devRef .tc main_v5)) = res_main_v5 V0 :=
  (val2_1_keep V0 main_v5 (by decide)).trans (val2_main_v5 V0)
theorem val2_1_main_v7 (V0 : Valuation τ sig (Elt F)) : val2_1 V0 (no_index (Proc.devRef .tc main_v7)) = res_main_v7 V0 :=
  (val2_1_keep V0 main_v7 (by decide)).trans (val2_main_v7 V0)
theorem val2_1_main_v9 (V0 : Valuation τ sig (Elt F)) : val2_1 V0 (no_index (Proc.devRef .tc main_v9)) = res_main_v9 V0 :=
  (val2_1_keep V0 main_v9 (by decide)).trans (val2_main_v9 V0)
theorem val2_1_main_v26 (V0 : Valuation τ sig (Elt F)) : val2_1 V0 (no_index (Proc.devRef .tc main_v26)) = res_main_v26 V0 :=
  (val2_1_keep V0 main_v26 (by decide)).trans (val2_main_v26 V0)
theorem val2_1_main_v34 (V0 : Valuation τ sig (Elt F)) : val2_1 V0 (no_index (Proc.devRef .tc main_v34)) = res_main_v34 V0 :=
  (val2_1_keep V0 main_v34 (by decide)).trans (val2_main_v34 V0)
theorem val2_1_main_v35 (V0 : Valuation τ sig (Elt F)) : val2_1 V0 (no_index (Proc.devRef .tc main_v35)) = res_main_v35 V0 :=
  (val2_1_keep V0 main_v35 (by decide)).trans (val2_main_v35 V0)
theorem val2_1_main_v65 (V0 : Valuation τ sig (Elt F)) : val2_1 V0 (no_index (Proc.devRef .tc main_v65)) = res_main_v65 V0 :=
  (val2_1_keep V0 main_v65 (by decide)).trans (val2_main_v65 V0)
theorem val2_1_main_v91 (V0 : Valuation τ sig (Elt F)) : val2_1 V0 (no_index (Proc.devRef .tc main_v91)) = res_main_v91 V0 :=
  (val2_1_keep V0 main_v91 (by decide)).trans (val2_main_v91 V0)
theorem val2_1_main_v92 (V0 : Valuation τ sig (Elt F)) : val2_1 V0 (no_index (Proc.devRef .tc main_v92)) = res_main_v92 V0 :=
  (val2_1_keep V0 main_v92 (by decide)).trans (val2_main_v92 V0)
set_option maxRecDepth 8192 in
set_option maxHeartbeats 2000000 in
theorem val2_1_main_v110 (V0 : Valuation τ sig (Elt F)) : val2_1 V0 (no_index (Proc.devRef .tc main_v110)) = res_main_v110 V0 := by
  unfold val2_1
  simp only [ops_part2_0, TRef.ternary, TRef.unary, TRef.toBuf, TRef.ofBuf, cast_eq]
  after_results_simp
  simp only [val2_main_v65, val2_main_v9, val2_main_v7, val2_main_v91, val2_main_v5, val2_main_c_22, val2_main_v3, val2_main_v94, val2_main_v35, val2_main_v26, val2_main_v34] <;> rfl
set_option maxRecDepth 8192 in
set_option maxHeartbeats 2000000 in
theorem val2_1_main_v112 (V0 : Valuation τ sig (Elt F)) : val2_1 V0 (no_index (Proc.devRef .tc main_v112)) = cmpi .eq (res_main_v92 V0) (broadcastInDim S2x1024x3072 ![] bcast_S_S2x1024x3072 (constantI S_ 32 0#32)) := by
  unfold val2_1
  simp only [ops_part2_0, TRef.ternary, TRef.unary, TRef.toBuf, TRef.ofBuf, cast_eq]
  after_results_simp
  simp only [val2_main_v92] <;> rfl
set_option maxRecDepth 8192 in
set_option maxHeartbeats 2000000 in
theorem val2_1_main_v114 (V0 : Valuation τ sig (Elt F)) : val2_1 V0 (no_index (Proc.devRef .tc main_v114)) = cmpi .eq (res_main_v92 V0) (broadcastInDim S2x1024x3072 ![] bcast_S_S2x1024x3072 (constantI S_ 32 1#32)) := by
  unfold val2_1
  simp only [ops_part2_0, TRef.ternary, TRef.unary, TRef.toBuf, TRef.ofBuf, cast_eq]
  after_results_simp
  simp only [val2_main_v92] <;> rfl
set_option maxRecDepth 8192 in
set_option maxHeartbeats 2000000 in
theorem val2_1_main_v116 (V0 : Valuation τ sig (Elt F)) : val2_1 V0 (no_index (Proc.devRef .tc main_v116)) = cmpi .eq (res_main_v92 V0) (broadcastInDim S2x1024x3072 ![] bcast_S_S2x1024x3072 (constantI S_ 32 2#32)) := by
  unfold val2_1
  simp only [ops_part2_0, TRef.ternary, TRef.unary, TRef.toBuf, TRef.ofBuf, cast_eq]
  after_results_simp
  simp only [val2_main_v92] <;> rfl

/-- The device's buffer contents after @main's first 190 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v117, main_v118, main_v119, main_v120, main_v121, main_cst_29, main_v122, main_v123, main_v124, main_cst_30, main_call21_v0, main_call21_v1, main_v125, main_v126, main_v127, main_v128, main_v129, main_v130, main_v131, main_v132, main_cst_31, main_v133, main_cst_32, main_v134, main_v135, main_v136, main_cst_33, main_v137, main_v138, main_v139]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_v91 (V0 : Valuation τ sig (Elt F)) : val2_2 V0 (no_index (Proc.devRef .tc main_v91)) = res_main_v91 V0 :=
  (val2_2_keep V0 main_v91 (by decide)).trans (val2_1_main_v91 V0)
theorem val2_2_main_v92 (V0 : Valuation τ sig (Elt F)) : val2_2 V0 (no_index (Proc.devRef .tc main_v92)) = res_main_v92 V0 :=
  (val2_2_keep V0 main_v92 (by decide)).trans (val2_1_main_v92 V0)
theorem val2_2_main_v110 (V0 : Valuation τ sig (Elt F)) : val2_2 V0 (no_index (Proc.devRef .tc main_v110)) = res_main_v110 V0 :=
  (val2_2_keep V0 main_v110 (by decide)).trans (val2_1_main_v110 V0)
set_option maxRecDepth 8192 in
set_option maxHeartbeats 2000000 in
theorem val2_2_main_v128 (V0 : Valuation τ sig (Elt F)) : val2_2 V0 (no_index (Proc.devRef .tc main_v128)) = res_main_v128 V0 := by
  unfold val2_2
  simp only [ops_part2_1, TRef.ternary, TRef.unary, TRef.toBuf, TRef.ofBuf, cast_eq]
  after_results_simp
  simp only [val2_1_main_v65, val2_1_main_v9, val2_1_main_v7, val2_1_main_v116, val2_1_main_v5, val2_1_main_v114, val2_1_main_v3, val2_1_main_v112, val2_1_main_v35, val2_1_main_v26, val2_1_main_v92, val2_1_main_v34] <;> rfl
set_option maxRecDepth 8192 in
set_option maxHeartbeats 2000000 in
theorem val2_2_main_v135 (V0 : Valuation τ sig (Elt F)) : val2_2 V0 (no_index (Proc.devRef .tc main_v135)) = res_main_v135 V0 := by
  unfold val2_2
  simp only [ops_part2_1, TRef.ternary, TRef.unary, TRef.toBuf, TRef.ofBuf, cast_eq]
  after_results_simp
  simp only [val2_1_main_v65, val2_1_main_v9, val2_1_main_v7, val2_1_main_v116, val2_1_main_v5, val2_1_main_v114, val2_1_main_v3, val2_1_main_v112, val2_1_main_v35, val2_1_main_v26, val2_1_main_v92, val2_1_main_v34, val2_1_main_v110] <;> rfl
set_option maxRecDepth 8192 in
set_option maxHeartbeats 2000000 in
theorem val2_2_main_v139 (V0 : Valuation τ sig (Elt F)) : val2_2 V0 (no_index (Proc.devRef .tc main_v139)) = Host.divf (Host.log (res_main_v135 V0)) (Host.log (broadcastInDim S2x1024x96 ![] bcast_S_S2x1024x96 (constant S_ .f32 0x40000000#32))) := by
  unfold val2_2
  simp only [ops_part2_1, TRef.ternary, TRef.unary, TRef.toBuf, TRef.ofBuf, cast_eq]
  after_results_simp
  simp only [val2_1_main_v65, val2_1_main_v9, val2_1_main_v7, val2_1_main_v116, val2_1_main_v5, val2_1_main_v114, val2_1_main_v3, val2_1_main_v112, val2_1_main_v35, val2_1_main_v26, val2_1_main_v92, val2_1_main_v34, val2_1_main_v110] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v140, main_cst_34, main_v141, main_v142]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_v91 (V0 : Valuation τ sig (Elt F)) : val3 V0 (no_index (Proc.devRef .tc main_v91)) = res_main_v91 V0 :=
  (val3_keep V0 main_v91 (by decide)).trans (val2_2_main_v91 V0)
theorem val3_main_v92 (V0 : Valuation τ sig (Elt F)) : val3 V0 (no_index (Proc.devRef .tc main_v92)) = res_main_v92 V0 :=
  (val3_keep V0 main_v92 (by decide)).trans (val2_2_main_v92 V0)
theorem val3_main_v110 (V0 : Valuation τ sig (Elt F)) : val3 V0 (no_index (Proc.devRef .tc main_v110)) = res_main_v110 V0 :=
  (val3_keep V0 main_v110 (by decide)).trans (val2_2_main_v110 V0)
theorem val3_main_v128 (V0 : Valuation τ sig (Elt F)) : val3 V0 (no_index (Proc.devRef .tc main_v128)) = res_main_v128 V0 :=
  (val3_keep V0 main_v128 (by decide)).trans (val2_2_main_v128 V0)
theorem val3_main_v135 (V0 : Valuation τ sig (Elt F)) : val3 V0 (no_index (Proc.devRef .tc main_v135)) = res_main_v135 V0 :=
  (val3_keep V0 main_v135 (by decide)).trans (val2_2_main_v135 V0)
set_option maxRecDepth 8192 in
theorem val3_main_v142 (V0 : Valuation τ sig (Elt F)) : val3 V0 (no_index (Proc.devRef .tc main_v142)) = addf (Host.floor (Host.divf (Host.log (res_main_v135 V0)) (Host.log (broadcastInDim S2x1024x96 ![] bcast_S_S2x1024x96 (constant S_ .f32 0x40000000#32))))) (broadcastInDim S2x1024x96 ![] bcast_S_S2x1024x96 (constant S_ .f32 0x3F800000#32)) := by
  unfold val3
  simp only [ops_part2_2]
  after_results_simp
  simp only [val2_2_main_v139] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_cst_35, main_v143, main_v144, main_cst_36, main_call24_v0, main_call24_v1, main_v145, main_cst_37, main_v146, main_v147, main_cst_38, main_v148, main_v149, main_v150, main_v151, main_v152, main_v153, main_cst_39, main_cst_40, main_call25_v0, main_call25_v1, main_call25_v2, main_call25_v3, main_call25_v4, main_v154, main_v155, main_cst_41, main_cst_42, main_call26_v0, main_call26_v1, main_call26_v2, main_call26_v3, main_call26_v4, main_v156, main_v157, main_v158, main_v159, main_v160, main_c_43, main_v161, main_v162, main_v163, main_v164, main_v165, main_c_44, main_v166, main_v167, main_v168, main_v169, main_v170, main_v171]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
set_option maxRecDepth 8192 in
set_option maxHeartbeats 2000000 in
theorem val4_main_v160 (V0 : Valuation τ sig (Elt F)) : val4 V0 (no_index (Proc.devRef .tc main_v160)) = shapeCast _ (concatenate S2x1024x3072x2 3 [⟨S2x1024x3072x1, (broadcastInDim S2x1024x3072x1 ![0, 1, 2] bcast_S2x1024x3072_S2x1024x3072x1_0_1_2 (minimumf (broadcastInDim S2x1024x3072 ![] bcast_S_S2x1024x3072 (id (constant S_ .f32 0x47600000#32))) (maximumf (broadcastInDim S2x1024x3072 ![] bcast_S_S2x1024x3072 (id (constant S_ .f32 0xC7600000#32))) (mulf (res_main_v110 V0) (res_main_v152 V0)))))⟩, ⟨S2x1024x3072x1, (broadcastInDim S2x1024x3072x1 ![0, 1, 2] bcast_S2x1024x3072_S2x1024x3072x1_0_1_2 (minimumf (broadcastInDim S2x1024x3072 ![] bcast_S_S2x1024x3072 (id (constant S_ .f32 0x47600000#32))) (maximumf (broadcastInDim S2x1024x3072 ![] bcast_S_S2x1024x3072 (id (constant S_ .f32 0xC7600000#32))) (mulf (res_main_v128 V0) (res_main_v152 V0)))))⟩] concatenates_S2x1024x3072x1_S2x1024x3072x1_S2x1024x3072x2_d3) shapeCasts_S2x1024x3072x2_S2048x6144 := by
  unfold val4
  simp only [ops_part3, TRef.binary, TRef.ternary, TRef.unary, TRef.toBuf, TRef.ofBuf, cast_eq]
  after_results_simp
  simp only [val3_main_v142, val3_main_v135, val3_main_v128, val3_main_v110] <;> rfl
set_option maxRecDepth 8192 in
set_option maxHeartbeats 2000000 in
theorem val4_main_v170 (V0 : Valuation τ sig (Elt F)) : val4 V0 (no_index (Proc.devRef .tc main_v170)) = shapeCast _ (trunci 8 (ori (Host.slice S2x1024x1536 ![0, 0, 0] ![1, 1, 2] (res_main_v163 V0) slicesBy_S2x1024x3072_S2x1024x1536_0s1_0s1_0s2) (Host.shli (Host.slice S2x1024x1536 ![0, 0, 1] ![1, 1, 2] (res_main_v163 V0) slicesBy_S2x1024x3072_S2x1024x1536_0s1_0s1_1s2) (broadcastInDim S2x1024x1536 ![] bcast_S_S2x1024x1536 (constantI S_ 32 4#32)))) natLt_8_32) shapeCasts_S2x1024x1536_S2048x1536 := by
  unfold val4
  simp only [ops_part3, TRef.binary, TRef.ternary, TRef.unary, TRef.toBuf, TRef.ofBuf, cast_eq]
  after_results_simp
  simp only [val3_main_v92, val3_main_v91] <;> rfl
set_option maxRecDepth 8192 in
set_option maxHeartbeats 2000000 in
theorem val4_main_v171 (V0 : Valuation τ sig (Elt F)) : val4 V0 (no_index (Proc.devRef .tc main_v171)) = shapeCast _ (Host.powf (broadcastInDim S2x1024x96 ![] bcast_S_S2x1024x96 (constant S_ .f32 0x40000000#32)) (res_main_v145 V0)) shapeCasts_S2x1024x96_S2048x96 := by
  unfold val4
  simp only [ops_part3, TRef.binary, TRef.ternary, TRef.unary, TRef.toBuf, TRef.ofBuf, cast_eq]
  after_results_simp
  simp only [val3_main_v142, val3_main_v135] <;> rfl

theorem after_ops (V0 : Valuation τ sig (Elt F)) : after ops V0 = val4 V0 := by
  simp only [ops, ops_part0, ops_part1, ops_part2, after_append]
  rfl

end Cert.Proof.ReferenceIdeal

end
-- ==== Proof.RI.Entry.lean ====
/- The reference's results as the run leaves them: two by the host operations, the codes by the region, which casts its whole
   array of unrounded codes. -/
module

public import proofs.«01_k».proof.Proof.RI.Host
public import proofs.«01_k».proof.Proof.Gen.ReferenceIdeal.Value

@[expose] public section

set_option maxRecDepth 16384
set_option maxHeartbeats 4000000

noncomputable section

namespace Cert.Proof.ReferenceIdeal

open Cert.ReferenceIdeal Cert.ReferenceIdeal.Gen
open Idealize.ShloMosaic Idealize.ShloMosaic.TcCoe Idealize.ShloMosaic.StableHlo
open Idealize.ShloMosaic.Pipeline (Dat Cfg Window)

variable {F : FTy → Type} [FloatOps F]
variable (m : (ℓ : Loc nD τ sig) → Buf (Elt F) ℓ) (c : Dev nD)

/-- A core's buffers as launched. -/
abbrev launched : Valuation τ sig (Elt F) := fun b => m (c, b)

/-- The host operations before the region, as one list. -/
theorem ops_eq : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46] : List (HloOp τ sig (Elt F))) = ops := rfl

/-- A buffer as the region finds it. -/
theorem entry (b : Ref sig .tc) : V m c b = val4 (launched m c) (Proc.devRef .tc b) := by
  show StableHlo.after _ _ _ = _
  rw [ops_eq, after_ops]

theorem idx0 : ∀ t : Fin grid0.N, win0_0.index t (0 : Fin 2) = 0 ∧ win0_0.index t (1 : Fin 2) = 0 := by decide +kernel
theorem idx1 : ∀ t : Fin grid0.N, win0_1.index t (0 : Fin 2) = 0 ∧ win0_1.index t (1 : Fin 2) = 0 := by decide +kernel

theorem flush1 : ∀ t : Fin grid0.N, win0_1.flush t = true := by decide +kernel

/-- The region's one block of the unrounded codes is the whole array. -/
theorem iblk0_at (t : Fin cfg0.N) (y : S2048x6144.Idx) : iblk m c 0 t y = V m c main_v160 y := by
  show V m c main_v160 (((cfg0.win 0).blk t).view.emb y) = _
  refine congrArg (V m c main_v160) (funext fun a => Fin.ext ?_)
  obtain ⟨e0, e1⟩ := idx0 t
  match a with
  | ⟨0, _⟩ => show win0_0.index t (0 : Fin 2) * 2048 + 1 * (y 0).val = (y 0).val; omega
  | ⟨1, _⟩ => show win0_0.index t (1 : Fin 2) * 6144 + 1 * (y 1).val = (y 1).val; omega

/-- The codes the region leaves. -/
theorem codes_at (y : S2048x6144.Idx) :
    (dats m 0 c).arrAt 1 cfg0.N y = FloatOps.truncf .fp8e5m2 bitsLt_fp8e5m2_f32 (V m c main_v160 y) := by
  have hN : 0 < cfg0.N := by decide
  have hf : (cfg0.win 1).flush ⟨0, hN⟩ = true := flush1 ⟨0, hN⟩
  have h := congrFun (Value.blocks1 m c ⟨0, hN⟩ hf) y
  rw [Value.flushed1] at h
  have e : ((cfg0.win 1).blk ⟨0, hN⟩).view.read (Elt F) ((dats m 0 c).arrAt 1 cfg0.N) y = (dats m 0 c).arrAt 1 cfg0.N y := by
    show (dats m 0 c).arrAt 1 cfg0.N (((cfg0.win 1).blk ⟨0, hN⟩).view.emb y) = _
    refine congrArg ((dats m 0 c).arrAt 1 cfg0.N) (funext fun a => Fin.ext ?_)
    obtain ⟨e0, e1⟩ := idx1 ⟨0, hN⟩
    match a with
    | ⟨0, _⟩ => show win0_1.index ⟨0, hN⟩ (0 : Fin 2) * 2048 + 1 * (y 0).val = (y 0).val; omega
    | ⟨1, _⟩ => show win0_1.index ⟨0, hN⟩ (1 : Fin 2) * 6144 + 1 * (y 1).val = (y 1).val; omega
  refine e.symm.trans (h.trans ?_)
  show out0_1 (iblk m c 0 ⟨0, hN⟩) y = _
  unfold out0_1
  refine (Value.canon1_eq _ y).trans ?_
  refine congrArg (FloatOps.truncf .fp8e5m2 bitsLt_fp8e5m2_f32) ?_
  show iblk m c 0 ⟨0, hN⟩ (r0_0.idx (Value.ix1_0 y)) = _
  refine Eq.trans (congrArg (iblk m c 0 ⟨0, hN⟩) (funext fun a => Fin.ext ?_)) (iblk0_at m c ⟨0, hN⟩ y)
  match a with
  | ⟨0, _⟩ => show 0 + 1 * (y 0).val = (y 0).val; omega
  | ⟨1, _⟩ => show 0 + 1 * (y 1).val = (y 1).val; omega

end Cert.Proof.ReferenceIdeal

end
-- ==== Proof.RI.Group.lean ====
/- The reference's elementwise values, a group at a time.

   Up to a block's maximum the reference's operations are elementwise over the groups: each value is a scalar function of the
   group's four gradients (their magnitudes) and its random word. -/
module

public import proofs.«01_k».proof.Proof.RI.Host
public import Idealize.ShloMosaic.Lib.VecWindow
public import Idealize.ShloMosaic.Lib.ValueIdxCore
public import Idealize.ShloMosaic.Lib.Pipeline.Value

@[expose] public section

set_option maxRecDepth 16384
set_option maxHeartbeats 4000000

noncomputable section

namespace Cert.Proof.ReferenceIdeal

open Cert.ReferenceIdeal Cert.ReferenceIdeal.Gen
open Idealize.ShloMosaic Idealize.ShloMosaic.TcCoe Idealize.ShloMosaic.StableHlo

variable {F : FTy → Type} [FloatOps F]

/-- The four magnitudes' sum. -/
def tot (s0 s1 s2 s3 : F .f32) : F .f32 := FloatOps.addf (FloatOps.addf (FloatOps.addf s0 s1) s2) s3
/-- The largest magnitude. -/
def mx (s0 s1 s2 s3 : F .f32) : F .f32 := FloatOps.maximumf (FloatOps.maximumf s0 s1) (FloatOps.maximumf s2 s3)
/-- The first position of the largest magnitude `m`. -/
def jmOf (s0 s1 s2 m : F .f32) : BitVec 32 :=
  Scalar.select (FloatOps.cmpf .oeq s0 m) 0#32 (Scalar.select (FloatOps.cmpf .oeq s1 m) 1#32 (Scalar.select (FloatOps.cmpf .oeq s2 m) 2#32 3#32))
/-- The random fraction. -/
def rU (w : BitVec 32) : F .f32 := FloatOps.mulf (FloatOps.uitofp .f32 (IntOp.shrui .host w 8#32)) (FloatOps.ofBits .f32 0x33800000#32)
/-- The largest magnitude is at least half the sum. -/
def caseOf (m t : F .f32) : BitVec 1 := FloatOps.cmpf .oge (FloatOps.mulf (FloatOps.ofBits .f32 0x40000000#32) m) t
/-- The first of the other three magnitudes. -/
def so0 (s0 s1 : F .f32) (jm : BitVec 32) : F .f32 := Scalar.select (IntOp.cmpi .eq jm 0#32) s1 s0
/-- The second of the other three. -/
def so1 (s1 s2 : F .f32) (jm : BitVec 32) : F .f32 := Scalar.select (IntOp.cmpi .sle jm 1#32) s2 s1
/-- The position kept beside `jm`, from the comparisons. -/
def secondOf (jm : BitVec 32) (rz l0 l1 : BitVec 1) : BitVec 32 :=
  Scalar.select (IntOp.ori rz l0) (Scalar.select (IntOp.cmpi .eq jm 0#32) 1#32 0#32)
    (Scalar.select l1 (Scalar.select (IntOp.cmpi .sle jm 1#32) 2#32 1#32) (Scalar.select (IntOp.cmpi .sle jm 2#32) 3#32 2#32))
/-- The position kept beside `jm`: rest `r`, threshold `t`. -/
def secondC (s0 s1 s2 r t : F .f32) (jm : BitVec 32) : BitVec 32 :=
  secondOf jm (FloatOps.cmpf .oeq r (FloatOps.ofBits .f32 0x00000000#32)) (FloatOps.cmpf .olt t (so0 s0 s1 jm))
    (FloatOps.cmpf .olt t (FloatOps.addf (so0 s0 s1 jm) (so1 s1 s2 jm)))
/-- How many of three comparisons hold. -/
def countOf (a1 a2 a3 : BitVec 1) : BitVec 32 := IntOp.addi (IntOp.addi (BitVec.setWidth 32 a1) (BitVec.setWidth 32 a2)) (BitVec.setWidth 32 a3)
/-- How many of the three partial sums are at most `t`. -/
def past (s0 s1 s2 t : F .f32) : BitVec 32 :=
  countOf (FloatOps.cmpf .ole s0 t) (FloatOps.cmpf .ole (FloatOps.addf s0 s1) t) (FloatOps.cmpf .ole (FloatOps.addf (FloatOps.addf s0 s1) s2) t)
/-- The first systematic draw. -/
def firstN (s0 s1 s2 t1 : F .f32) : BitVec 32 := IntOp.minsi 2#32 (past s0 s1 s2 t1)
/-- The second systematic draw, after the first. -/
def secondN (s0 s1 s2 t1 t2 : F .f32) : BitVec 32 :=
  IntOp.minsi 3#32 (IntOp.maxsi (past s0 s1 s2 t2) (IntOp.addi (firstN s0 s1 s2 t1) 1#32))
/-- Half the sum. -/
def half (t : F .f32) : F .f32 := FloatOps.mulf t (FloatOps.ofBits .f32 0x3F000000#32)
/-- The rest beside the largest. -/
def rest (t m : F .f32) : F .f32 := FloatOps.subf t m
/-- The lower kept position. -/
def loOf (s0 s1 s2 s3 u : F .f32) : BitVec 32 :=
  Scalar.select (caseOf (mx s0 s1 s2 s3) (tot s0 s1 s2 s3))
    (IntOp.minsi (jmOf s0 s1 s2 (mx s0 s1 s2 s3)) (secondC s0 s1 s2 (rest (tot s0 s1 s2 s3) (mx s0 s1 s2 s3))
      (FloatOps.mulf u (rest (tot s0 s1 s2 s3) (mx s0 s1 s2 s3))) (jmOf s0 s1 s2 (mx s0 s1 s2 s3))))
    (firstN s0 s1 s2 (FloatOps.mulf u (half (tot s0 s1 s2 s3))))
/-- The higher kept position. -/
def hiOf (s0 s1 s2 s3 u : F .f32) : BitVec 32 :=
  Scalar.select (caseOf (mx s0 s1 s2 s3) (tot s0 s1 s2 s3))
    (IntOp.maxsi (jmOf s0 s1 s2 (mx s0 s1 s2 s3)) (secondC s0 s1 s2 (rest (tot s0 s1 s2 s3) (mx s0 s1 s2 s3))
      (FloatOps.mulf u (rest (tot s0 s1 s2 s3) (mx s0 s1 s2 s3))) (jmOf s0 s1 s2 (mx s0 s1 s2 s3))))
    (secondN s0 s1 s2 (FloatOps.mulf u (half (tot s0 s1 s2 s3)))
      (FloatOps.addf (FloatOps.mulf u (half (tot s0 s1 s2 s3))) (half (tot s0 s1 s2 s3))))
/-- The gradient at a position. -/
def pickOf (a0 a1 a2 a3 : F .f32) (p : BitVec 32) : F .f32 :=
  Scalar.select (IntOp.cmpi .eq p 0#32) a0 (Scalar.select (IntOp.cmpi .eq p 1#32) a1 (Scalar.select (IntOp.cmpi .eq p 2#32) a2 a3))
/-- The value kept at a position: the gradient itself at the largest, the gradient's sign with the other magnitude elsewhere. -/
def keptOf (cc : BitVec 1) (p jm : BitVec 32) (ap r hf : F .f32) : F .f32 :=
  Scalar.select cc
    (Scalar.select (IntOp.cmpi .eq p jm) ap (Scalar.select (FloatOps.cmpf .oeq r (FloatOps.ofBits .f32 0x00000000#32)) (FloatOps.ofBits .f32 0x00000000#32)
      (FloatOps.mulf (FloatOps.hostUnary .sign ap) r)))
    (FloatOps.mulf (FloatOps.hostUnary .sign ap) hf)

/-- A gradient's magnitude. -/
def mag (a : F .f32) : F .f32 := FloatOps.hostAbsf a
/-- The lower kept position of a group. -/
def gLo (a0 a1 a2 a3 : F .f32) (w : BitVec 32) : BitVec 32 := loOf (mag a0) (mag a1) (mag a2) (mag a3) (rU w)
/-- The higher kept position of a group. -/
def gHi (a0 a1 a2 a3 : F .f32) (w : BitVec 32) : BitVec 32 := hiOf (mag a0) (mag a1) (mag a2) (mag a3) (rU w)
/-- The value kept at position `p` of a group. -/
def gKept (a0 a1 a2 a3 : F .f32) (p : BitVec 32) : F .f32 :=
  keptOf (caseOf (mx (mag a0) (mag a1) (mag a2) (mag a3)) (tot (mag a0) (mag a1) (mag a2) (mag a3))) p
    (jmOf (mag a0) (mag a1) (mag a2) (mx (mag a0) (mag a1) (mag a2) (mag a3))) (pickOf a0 a1 a2 a3 p)
    (rest (tot (mag a0) (mag a1) (mag a2) (mag a3)) (mx (mag a0) (mag a1) (mag a2) (mag a3)))
    (half (tot (mag a0) (mag a1) (mag a2) (mag a3)))

variable (V0 : Valuation τ sig (Elt F))

/-- The lower kept positions. -/
theorem lo_at (i : S2x1024x3072.Idx) :
    res_main_v91 V0 i = gLo (res_main_v3 V0 i) (res_main_v5 V0 i) (res_main_v7 V0 i) (res_main_v9 V0 i) (V0 (Proc.devRef .tc main_arg1) i) := rfl
/-- The higher kept positions. -/
theorem hi_at (i : S2x1024x3072.Idx) :
    res_main_v92 V0 i = gHi (res_main_v3 V0 i) (res_main_v5 V0 i) (res_main_v7 V0 i) (res_main_v9 V0 i) (V0 (Proc.devRef .tc main_arg1) i) := rfl
/-- The values kept at the lower positions. -/
theorem kvLo_at (i : S2x1024x3072.Idx) :
    res_main_v110 V0 i = gKept (res_main_v3 V0 i) (res_main_v5 V0 i) (res_main_v7 V0 i) (res_main_v9 V0 i) (res_main_v91 V0 i) := rfl
/-- The values kept at the higher positions. -/
theorem kvHi_at (i : S2x1024x3072.Idx) :
    res_main_v128 V0 i = gKept (res_main_v3 V0 i) (res_main_v5 V0 i) (res_main_v7 V0 i) (res_main_v9 V0 i) (res_main_v92 V0 i) := rfl

/-- The four gradients of a group, from the argument. -/
theorem a_at (k : Fin 4) (v : S2x1024x3072.Idx → F .f32)
    (hv : ∃ (off : Fin 4 → ℕ) (h : S2x1024x3072x4.Slices off S2x1024x3072x1), off = ![0, 0, 0, k.val] ∧
      v = shapeCast S2x1024x3072 (extractStridedSlice S2x1024x3072x1 off (res_main_v1 V0) h) shapeCasts_S2x1024x3072x1_S2x1024x3072)
    (b : Fin 2) (s : Fin 1024) (q : Fin 3072) :
    v (ValueIdx.ix3 b s q) = FloatOps.extf .f32 bitsLt_bf16_f32 (V0 (Proc.devRef .tc main_arg0) (ValueIdx.ix3 b s (⟨4 * q.val + k.val, by omega⟩ : Fin 12288))) := by
  obtain ⟨off, h, rfl, rfl⟩ := hv
  refine (shapeCast_apply (s := S2x1024x3072x1) (t := S2x1024x3072) _ _ _ (ValueIdx.ix4 b s q (0 : Fin 1)) ?_).trans ?_
  · rw [Shape.rowMajor_val_three, Shape.rowMajor_val_four]
    show ((b.val * 1024 + s.val) * 3072 + q.val) * 1 + 0 = (b.val * 1024 + s.val) * 3072 + q.val
    omega
  refine (extractStridedSlice_apply _ _ _ _ (ValueIdx.ix4 b s q k) ?_).trans ?_
  · intro a
    match a with
    | ⟨0, _⟩ => show b.val = 0 + b.val; omega
    | ⟨1, _⟩ => show s.val = 0 + s.val; omega
    | ⟨2, _⟩ => show q.val = 0 + q.val; omega
    | ⟨3, _⟩ => show k.val = k.val + 0; omega
  refine (shapeCast_apply (s := S2x1024x12288) (t := S2x1024x3072x4) _ _ _ (ValueIdx.ix3 b s (⟨4 * q.val + k.val, by omega⟩ : Fin 12288)) ?_).trans rfl
  rw [Shape.rowMajor_val_three, Shape.rowMajor_val_four]
  show (b.val * 1024 + s.val) * 12288 + (4 * q.val + k.val) = ((b.val * 1024 + s.val) * 3072 + q.val) * 4 + k.val
  omega

end Cert.Proof.ReferenceIdeal

end
-- ==== Proof.Eq.Sel.lean ====
/- Which two positions a group keeps.

   Over the reals both programs draw the same two positions. The larger kept magnitude is `B`, the smaller `S`, and the random
   threshold `t` lies in `[0, S)`. The kernel compares partial sums with `t` and with `t + B`; the reference sorts the largest
   position and the drawn one, or draws twice. -/
module

public import proofs.«01_k».proof.Proof.RI.Group
public import Idealize.ShloMosaic.PureOps.Ideal.Laws

@[expose] public section

set_option maxHeartbeats 4000000

noncomputable section

namespace Cert.Proof.Eq

open Idealize.ShloMosaic
open Cert.Proof.ReferenceIdeal

theorem cmp_ole_true {a b : ℝ} (h : a ≤ b) : FloatOps.cmpf (F := Ideal) (φ := .f32) .ole (a : EReal) (b : EReal) = 1#1 := by
  show BitVec.ofBool (decide ((a : EReal) ≤ b)) = 1#1
  rw [decide_eq_true (EReal.coe_le_coe_iff.mpr h)]; rfl
theorem cmp_ole_false {a b : ℝ} (h : b < a) : FloatOps.cmpf (F := Ideal) (φ := .f32) .ole (a : EReal) (b : EReal) = 0#1 := by
  show BitVec.ofBool (decide ((a : EReal) ≤ b)) = 0#1
  rw [decide_eq_false (not_le.mpr (EReal.coe_lt_coe_iff.mpr h))]; rfl
theorem cmp_oge_true {a b : ℝ} (h : b ≤ a) : FloatOps.cmpf (F := Ideal) (φ := .f32) .oge (a : EReal) (b : EReal) = 1#1 := by
  show BitVec.ofBool (decide ((b : EReal) ≤ a)) = 1#1
  rw [decide_eq_true (EReal.coe_le_coe_iff.mpr h)]; rfl
theorem cmp_oge_false {a b : ℝ} (h : a < b) : FloatOps.cmpf (F := Ideal) (φ := .f32) .oge (a : EReal) (b : EReal) = 0#1 := by
  show BitVec.ofBool (decide ((b : EReal) ≤ a)) = 0#1
  rw [decide_eq_false (not_le.mpr (EReal.coe_lt_coe_iff.mpr h))]; rfl
theorem cmp_olt_true {a b : ℝ} (h : a < b) : FloatOps.cmpf (F := Ideal) (φ := .f32) .olt (a : EReal) (b : EReal) = 1#1 := by
  show BitVec.ofBool (decide ((a : EReal) < b)) = 1#1
  rw [decide_eq_true (EReal.coe_lt_coe_iff.mpr h)]; rfl
theorem cmp_olt_false {a b : ℝ} (h : b ≤ a) : FloatOps.cmpf (F := Ideal) (φ := .f32) .olt (a : EReal) (b : EReal) = 0#1 := by
  show BitVec.ofBool (decide ((a : EReal) < b)) = 0#1
  rw [decide_eq_false (not_lt.mpr (EReal.coe_le_coe_iff.mpr h))]; rfl
theorem cmp_ogt_true {a b : ℝ} (h : b < a) : FloatOps.cmpf (F := Ideal) (φ := .f32) .ogt (a : EReal) (b : EReal) = 1#1 := by
  show BitVec.ofBool (decide ((b : EReal) < a)) = 1#1
  rw [decide_eq_true (EReal.coe_lt_coe_iff.mpr h)]; rfl
theorem cmp_ogt_false {a b : ℝ} (h : a ≤ b) : FloatOps.cmpf (F := Ideal) (φ := .f32) .ogt (a : EReal) (b : EReal) = 0#1 := by
  show BitVec.ofBool (decide ((b : EReal) < a)) = 0#1
  rw [decide_eq_false (not_lt.mpr (EReal.coe_le_coe_iff.mpr h))]; rfl
theorem cmp_oeq_true {a b : ℝ} (h : a = b) : FloatOps.cmpf (F := Ideal) (φ := .f32) .oeq (a : EReal) (b : EReal) = 1#1 := by
  show BitVec.ofBool (decide ((a : EReal) = b)) = 1#1
  rw [decide_eq_true (EReal.coe_eq_coe_iff.mpr h)]; rfl
theorem cmp_oeq_false {a b : ℝ} (h : a ≠ b) : FloatOps.cmpf (F := Ideal) (φ := .f32) .oeq (a : EReal) (b : EReal) = 0#1 := by
  show BitVec.ofBool (decide ((a : EReal) = b)) = 0#1
  rw [decide_eq_false (fun e => h (EReal.coe_eq_coe_iff.mp e))]; rfl

/-- The magnitude at a position. -/
def at4 (s0 s1 s2 s3 : ℝ) (p : ℕ) : ℝ := if p = 0 then s0 else if p = 1 then s1 else if p = 2 then s2 else s3

/-- The kernel's comparisons are those of the positions `lo < hi`; `J` is the largest position where `C` holds. -/
structure Sel (C : Prop) (s0 s1 s2 s3 B S t : ℝ) (lo hi J : ℕ) : Prop where
  f1 : (s0 ≤ t ∧ 0 < S) ↔ 1 ≤ lo
  f2 : (s0 + s1 ≤ t ∧ 0 < S) ↔ 2 ≤ lo
  g2 : (((s0 + s1 ≤ t + B ∧ 0 < B) ∧ ((s0 ≤ t ∧ 0 < S) ∨ s1 < B)) ∧ ((s1 ≤ t ∧ 0 < S) ∨ s0 < B)) ↔ 2 ≤ hi
  g3 : (((s0 + s1 + s2 ≤ t + B ∧ 0 < B) ∧ 2 ≤ hi) ∧ (2 ≤ lo ∨ s2 < B)) ↔ 3 ≤ hi
  lo2 : lo ≤ 2
  hi1 : 1 ≤ hi
  hi3 : hi ≤ 3
  J3 : J ≤ 3
  SB : S ≤ B
  val : (C ∧ J = lo ∧ J ≠ hi ∧ B = at4 s0 s1 s2 s3 lo ∧ (0 < S → 0 < at4 s0 s1 s2 s3 hi))
    ∨ (C ∧ J = hi ∧ J ≠ lo ∧ B = at4 s0 s1 s2 s3 hi ∧ at4 s0 s1 s2 s3 lo < B ∧ (0 < S → 0 < at4 s0 s1 s2 s3 lo))
    ∨ (¬C ∧ S = B ∧ 0 < at4 s0 s1 s2 s3 lo ∧ at4 s0 s1 s2 s3 lo < B ∧ 0 < at4 s0 s1 s2 s3 hi)

/-- The largest magnitude is at position 0. -/
theorem sel_C0 (s0 s1 s2 s3 M r t : ℝ) (p0 : 0 ≤ s0) (p1 : 0 ≤ s1) (p2 : 0 ≤ s2) (p3 : 0 ≤ s3) (e0 : s0 = M)
    (m0 : s0 ≤ M) (m1 : s1 ≤ M) (m2 : s2 ≤ M) (m3 : s3 ≤ M)
    (hr : r = s0 + s1 + s2 + s3 - M) (hC : r ≤ M) (t0 : 0 ≤ t) (ht : t < r ∨ (r = 0 ∧ t = 0)) (C : Prop) (c : C) :
    ∃ lo hi : ℕ, Sel C s0 s1 s2 s3 M r t lo hi 0 ∧ jmOf (F := Ideal) (s0 : EReal) (s1 : EReal) (s2 : EReal) (M : EReal) = 0#32
      ∧ IntOp.minsi 0#32 (secondC (F := Ideal) (s0 : EReal) (s1 : EReal) (s2 : EReal) (r : EReal) (t : EReal) 0#32) = BitVec.ofNat 32 lo
      ∧ IntOp.maxsi 0#32 (secondC (F := Ideal) (s0 : EReal) (s1 : EReal) (s2 : EReal) (r : EReal) (t : EReal) 0#32) = BitVec.ofNat 32 hi := by
  have hj : jmOf (F := Ideal) (s0 : EReal) (s1 : EReal) (s2 : EReal) (M : EReal) = 0#32 := by
    unfold jmOf
    rw [cmp_oeq_true e0]
    rfl
  have hz : FloatOps.ofBits (F := Ideal) .f32 0x00000000#32 = ((0 : ℝ) : EReal) := Ideal.ofBits_zero_f32
  have ha : ∀ a b : ℝ, FloatOps.addf (F := Ideal) (φ := .f32) (a : EReal) (b : EReal) = ((a + b : ℝ) : EReal) := fun a b => (EReal.coe_add a b).symm
  have hs : secondC (F := Ideal) (s0 : EReal) (s1 : EReal) (s2 : EReal) (r : EReal) (t : EReal) 0#32
      = secondOf 0#32 (FloatOps.cmpf (F := Ideal) (φ := .f32) .oeq (r : EReal) ((0 : ℝ) : EReal)) (FloatOps.cmpf (F := Ideal) (φ := .f32) .olt (t : EReal) (s1 : EReal))
        (FloatOps.cmpf (F := Ideal) (φ := .f32) .olt (t : EReal) ((s1 + s2 : ℝ) : EReal)) := by
    rw [← hz, ← ha]
    rfl
  rw [hs]
  rcases ht with ht | ⟨hr0, ht0⟩
  · have hrz : r ≠ 0 := by intro h; linarith
    rcases lt_or_ge t s1 with l0 | l0
    · refine ⟨0, 1, {
      f1 := iff_of_false (fun h => by obtain ⟨h, h'⟩ := h; linarith) (by norm_num)
      f2 := iff_of_false (fun h => by obtain ⟨h, h'⟩ := h; linarith) (by norm_num)
      g2 := iff_of_false (fun h => by obtain ⟨⟨⟨h1, h2⟩, h3⟩, h4⟩ := h; rcases h3 with ⟨h3, h3'⟩ | h3 <;> rcases h4 with ⟨h4, h4'⟩ | h4 <;> linarith) (by norm_num)
      g3 := iff_of_false (fun h => by have := h.1.2; omega) (by norm_num)
      lo2 := by norm_num
      hi1 := by norm_num
      hi3 := by norm_num
      J3 := by norm_num
      SB := by linarith
      val := Or.inl ⟨c, rfl, by norm_num, by norm_num [at4]; linarith, fun hS => by norm_num [at4]; linarith⟩ }, hj, ?_, ?_⟩ <;>
      · rw [cmp_oeq_false hrz, cmp_olt_true l0, cmp_olt_true (a := t) (b := s1 + s2) (by linarith)]; rfl
    rcases lt_or_ge t (s1 + s2) with l1 | l1
    · refine ⟨0, 2, {
      f1 := iff_of_false (fun h => by obtain ⟨h, h'⟩ := h; linarith) (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_false (fun h => by obtain ⟨⟨⟨h1, h2⟩, -⟩, h4⟩ := h; rcases h4 with h4 | h4 <;> first | linarith | omega) (by norm_num)
      lo2 := by norm_num
      hi1 := by norm_num
      hi3 := by norm_num
      J3 := by norm_num
      SB := by linarith
      val := Or.inl ⟨c, rfl, by norm_num, by norm_num [at4]; linarith, fun hS => by norm_num [at4]; linarith⟩ }, hj, ?_, ?_⟩ <;>
      · rw [cmp_oeq_false hrz, cmp_olt_false l0, cmp_olt_true l1]; rfl
    · refine ⟨0, 3, {
      f1 := iff_of_false (fun h => by obtain ⟨h, h'⟩ := h; linarith) (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_true ⟨⟨⟨by linarith, by linarith⟩, by norm_num⟩, Or.inr (by linarith)⟩ (by norm_num)
      lo2 := by norm_num
      hi1 := by norm_num
      hi3 := by norm_num
      J3 := by norm_num
      SB := by linarith
      val := Or.inl ⟨c, rfl, by norm_num, by norm_num [at4]; linarith, fun hS => by norm_num [at4]; linarith⟩ }, hj, ?_, ?_⟩ <;>
      · rw [cmp_oeq_false hrz, cmp_olt_false l0, cmp_olt_false l1]; rfl
  · have hb : ∀ b c : BitVec 1, IntOp.ori 1#1 b = 1#1 := by decide
    have z1 : s1 = 0 := by linarith
    have z2 : s2 = 0 := by linarith
    have z3 : s3 = 0 := by linarith
    have hsec : ∀ b c : BitVec 1, secondOf 0#32 1#1 b c = 1#32 := by decide
    refine ⟨0, 1, {
      f1 := iff_of_false (fun h => by obtain ⟨h, h'⟩ := h; linarith) (by norm_num)
      f2 := iff_of_false (fun h => by obtain ⟨h, h'⟩ := h; linarith) (by norm_num)
      g2 := iff_of_false (fun h => by obtain ⟨⟨⟨h1, h2⟩, h3⟩, h4⟩ := h; rcases h3 with ⟨h3, h3'⟩ | h3 <;> rcases h4 with ⟨h4, h4'⟩ | h4 <;> linarith) (by norm_num)
      g3 := iff_of_false (fun h => by have := h.1.2; omega) (by norm_num)
      lo2 := by norm_num
      hi1 := by norm_num
      hi3 := by norm_num
      J3 := by norm_num
      SB := by linarith
      val := Or.inl ⟨c, rfl, by norm_num, by norm_num [at4]; linarith, fun hS => by norm_num [at4]; linarith⟩ }, hj, ?_, ?_⟩ <;>
      · rw [cmp_oeq_true hr0, hsec]; rfl

/-- The largest magnitude is at position 1. -/
theorem sel_C1 (s0 s1 s2 s3 M r t : ℝ) (p0 : 0 ≤ s0) (p1 : 0 ≤ s1) (p2 : 0 ≤ s2) (p3 : 0 ≤ s3) (n0 : s0 < M) (e1 : s1 = M)
    (m0 : s0 ≤ M) (m1 : s1 ≤ M) (m2 : s2 ≤ M) (m3 : s3 ≤ M)
    (hr : r = s0 + s1 + s2 + s3 - M) (hC : r ≤ M) (t0 : 0 ≤ t) (ht : t < r ∨ (r = 0 ∧ t = 0)) (C : Prop) (c : C) :
    ∃ lo hi : ℕ, Sel C s0 s1 s2 s3 M r t lo hi 1 ∧ jmOf (F := Ideal) (s0 : EReal) (s1 : EReal) (s2 : EReal) (M : EReal) = 1#32
      ∧ IntOp.minsi 1#32 (secondC (F := Ideal) (s0 : EReal) (s1 : EReal) (s2 : EReal) (r : EReal) (t : EReal) 1#32) = BitVec.ofNat 32 lo
      ∧ IntOp.maxsi 1#32 (secondC (F := Ideal) (s0 : EReal) (s1 : EReal) (s2 : EReal) (r : EReal) (t : EReal) 1#32) = BitVec.ofNat 32 hi := by
  have hj : jmOf (F := Ideal) (s0 : EReal) (s1 : EReal) (s2 : EReal) (M : EReal) = 1#32 := by
    unfold jmOf
    rw [cmp_oeq_false (ne_of_lt n0), cmp_oeq_true e1]
    rfl
  have hz : FloatOps.ofBits (F := Ideal) .f32 0x00000000#32 = ((0 : ℝ) : EReal) := Ideal.ofBits_zero_f32
  have ha : ∀ a b : ℝ, FloatOps.addf (F := Ideal) (φ := .f32) (a : EReal) (b : EReal) = ((a + b : ℝ) : EReal) := fun a b => (EReal.coe_add a b).symm
  have hs : secondC (F := Ideal) (s0 : EReal) (s1 : EReal) (s2 : EReal) (r : EReal) (t : EReal) 1#32
      = secondOf 1#32 (FloatOps.cmpf (F := Ideal) (φ := .f32) .oeq (r : EReal) ((0 : ℝ) : EReal)) (FloatOps.cmpf (F := Ideal) (φ := .f32) .olt (t : EReal) (s0 : EReal))
        (FloatOps.cmpf (F := Ideal) (φ := .f32) .olt (t : EReal) ((s0 + s2 : ℝ) : EReal)) := by
    rw [← hz, ← ha]
    rfl
  rw [hs]
  rcases ht with ht | ⟨hr0, ht0⟩
  · have hrz : r ≠ 0 := by intro h; linarith
    rcases lt_or_ge t s0 with l0 | l0
    · refine ⟨0, 1, {
      f1 := iff_of_false (fun h => by obtain ⟨h, h'⟩ := h; linarith) (by norm_num)
      f2 := iff_of_false (fun h => by obtain ⟨h, h'⟩ := h; linarith) (by norm_num)
      g2 := iff_of_false (fun h => by obtain ⟨⟨⟨h1, h2⟩, h3⟩, h4⟩ := h; rcases h3 with ⟨h3, h3'⟩ | h3 <;> rcases h4 with ⟨h4, h4'⟩ | h4 <;> linarith) (by norm_num)
      g3 := iff_of_false (fun h => by have := h.1.2; omega) (by norm_num)
      lo2 := by norm_num
      hi1 := by norm_num
      hi3 := by norm_num
      J3 := by norm_num
      SB := by linarith
      val := Or.inr (Or.inl ⟨c, rfl, by norm_num, by norm_num [at4]; linarith, by norm_num [at4]; linarith, fun hS => by norm_num [at4]; linarith⟩) }, hj, ?_, ?_⟩ <;>
      · rw [cmp_oeq_false hrz, cmp_olt_true l0, cmp_olt_true (a := t) (b := s0 + s2) (by linarith)]; rfl
    rcases lt_or_ge t (s0 + s2) with l1 | l1
    · refine ⟨1, 2, {
      f1 := iff_of_true ⟨by linarith, by linarith⟩ (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_false (fun h => by obtain ⟨⟨⟨h1, h2⟩, -⟩, h4⟩ := h; rcases h4 with h4 | h4 <;> first | linarith | omega) (by norm_num)
      lo2 := by norm_num
      hi1 := by norm_num
      hi3 := by norm_num
      J3 := by norm_num
      SB := by linarith
      val := Or.inl ⟨c, rfl, by norm_num, by norm_num [at4]; linarith, fun hS => by norm_num [at4]; linarith⟩ }, hj, ?_, ?_⟩ <;>
      · rw [cmp_oeq_false hrz, cmp_olt_false l0, cmp_olt_true l1]; rfl
    · refine ⟨1, 3, {
      f1 := iff_of_true ⟨by linarith, by linarith⟩ (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_true ⟨⟨⟨by linarith, by linarith⟩, by norm_num⟩, Or.inr (by linarith)⟩ (by norm_num)
      lo2 := by norm_num
      hi1 := by norm_num
      hi3 := by norm_num
      J3 := by norm_num
      SB := by linarith
      val := Or.inl ⟨c, rfl, by norm_num, by norm_num [at4]; linarith, fun hS => by norm_num [at4]; linarith⟩ }, hj, ?_, ?_⟩ <;>
      · rw [cmp_oeq_false hrz, cmp_olt_false l0, cmp_olt_false l1]; rfl
  · have hb : ∀ b c : BitVec 1, IntOp.ori 1#1 b = 1#1 := by decide
    have z0 : s0 = 0 := by linarith
    have z2 : s2 = 0 := by linarith
    have z3 : s3 = 0 := by linarith
    have hsec : ∀ b c : BitVec 1, secondOf 1#32 1#1 b c = 0#32 := by decide
    refine ⟨0, 1, {
      f1 := iff_of_false (fun h => by obtain ⟨h, h'⟩ := h; linarith) (by norm_num)
      f2 := iff_of_false (fun h => by obtain ⟨h, h'⟩ := h; linarith) (by norm_num)
      g2 := iff_of_false (fun h => by obtain ⟨⟨⟨h1, h2⟩, h3⟩, h4⟩ := h; rcases h3 with ⟨h3, h3'⟩ | h3 <;> rcases h4 with ⟨h4, h4'⟩ | h4 <;> linarith) (by norm_num)
      g3 := iff_of_false (fun h => by have := h.1.2; omega) (by norm_num)
      lo2 := by norm_num
      hi1 := by norm_num
      hi3 := by norm_num
      J3 := by norm_num
      SB := by linarith
      val := Or.inr (Or.inl ⟨c, rfl, by norm_num, by norm_num [at4]; linarith, by norm_num [at4]; linarith, fun hS => by norm_num [at4]; linarith⟩) }, hj, ?_, ?_⟩ <;>
      · rw [cmp_oeq_true hr0, hsec]; rfl

/-- The largest magnitude is at position 2. -/
theorem sel_C2 (s0 s1 s2 s3 M r t : ℝ) (p0 : 0 ≤ s0) (p1 : 0 ≤ s1) (p2 : 0 ≤ s2) (p3 : 0 ≤ s3) (n0 : s0 < M) (n1 : s1 < M) (e2 : s2 = M)
    (m0 : s0 ≤ M) (m1 : s1 ≤ M) (m2 : s2 ≤ M) (m3 : s3 ≤ M)
    (hr : r = s0 + s1 + s2 + s3 - M) (hC : r ≤ M) (t0 : 0 ≤ t) (ht : t < r ∨ (r = 0 ∧ t = 0)) (C : Prop) (c : C) :
    ∃ lo hi : ℕ, Sel C s0 s1 s2 s3 M r t lo hi 2 ∧ jmOf (F := Ideal) (s0 : EReal) (s1 : EReal) (s2 : EReal) (M : EReal) = 2#32
      ∧ IntOp.minsi 2#32 (secondC (F := Ideal) (s0 : EReal) (s1 : EReal) (s2 : EReal) (r : EReal) (t : EReal) 2#32) = BitVec.ofNat 32 lo
      ∧ IntOp.maxsi 2#32 (secondC (F := Ideal) (s0 : EReal) (s1 : EReal) (s2 : EReal) (r : EReal) (t : EReal) 2#32) = BitVec.ofNat 32 hi := by
  have hj : jmOf (F := Ideal) (s0 : EReal) (s1 : EReal) (s2 : EReal) (M : EReal) = 2#32 := by
    unfold jmOf
    rw [cmp_oeq_false (ne_of_lt n0), cmp_oeq_false (ne_of_lt n1), cmp_oeq_true e2]
    rfl
  have hz : FloatOps.ofBits (F := Ideal) .f32 0x00000000#32 = ((0 : ℝ) : EReal) := Ideal.ofBits_zero_f32
  have ha : ∀ a b : ℝ, FloatOps.addf (F := Ideal) (φ := .f32) (a : EReal) (b : EReal) = ((a + b : ℝ) : EReal) := fun a b => (EReal.coe_add a b).symm
  have hs : secondC (F := Ideal) (s0 : EReal) (s1 : EReal) (s2 : EReal) (r : EReal) (t : EReal) 2#32
      = secondOf 2#32 (FloatOps.cmpf (F := Ideal) (φ := .f32) .oeq (r : EReal) ((0 : ℝ) : EReal)) (FloatOps.cmpf (F := Ideal) (φ := .f32) .olt (t : EReal) (s0 : EReal))
        (FloatOps.cmpf (F := Ideal) (φ := .f32) .olt (t : EReal) ((s0 + s1 : ℝ) : EReal)) := by
    rw [← hz, ← ha]
    rfl
  rw [hs]
  rcases ht with ht | ⟨hr0, ht0⟩
  · have hrz : r ≠ 0 := by intro h; linarith
    rcases lt_or_ge t s0 with l0 | l0
    · refine ⟨0, 2, {
      f1 := iff_of_false (fun h => by obtain ⟨h, h'⟩ := h; linarith) (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_false (fun h => by obtain ⟨⟨⟨h1, h2⟩, -⟩, h4⟩ := h; rcases h4 with h4 | h4 <;> first | linarith | omega) (by norm_num)
      lo2 := by norm_num
      hi1 := by norm_num
      hi3 := by norm_num
      J3 := by norm_num
      SB := by linarith
      val := Or.inr (Or.inl ⟨c, rfl, by norm_num, by norm_num [at4]; linarith, by norm_num [at4]; linarith, fun hS => by norm_num [at4]; linarith⟩) }, hj, ?_, ?_⟩ <;>
      · rw [cmp_oeq_false hrz, cmp_olt_true l0, cmp_olt_true (a := t) (b := s0 + s1) (by linarith)]; rfl
    rcases lt_or_ge t (s0 + s1) with l1 | l1
    · refine ⟨1, 2, {
      f1 := iff_of_true ⟨by linarith, by linarith⟩ (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_false (fun h => by obtain ⟨⟨⟨h1, h2⟩, -⟩, h4⟩ := h; rcases h4 with h4 | h4 <;> first | linarith | omega) (by norm_num)
      lo2 := by norm_num
      hi1 := by norm_num
      hi3 := by norm_num
      J3 := by norm_num
      SB := by linarith
      val := Or.inr (Or.inl ⟨c, rfl, by norm_num, by norm_num [at4]; linarith, by norm_num [at4]; linarith, fun hS => by norm_num [at4]; linarith⟩) }, hj, ?_, ?_⟩ <;>
      · rw [cmp_oeq_false hrz, cmp_olt_false l0, cmp_olt_true l1]; rfl
    · refine ⟨2, 3, {
      f1 := iff_of_true ⟨by linarith, by linarith⟩ (by norm_num)
      f2 := iff_of_true ⟨by linarith, by linarith⟩ (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_true ⟨⟨⟨by linarith, by linarith⟩, by norm_num⟩, Or.inl (by norm_num)⟩ (by norm_num)
      lo2 := by norm_num
      hi1 := by norm_num
      hi3 := by norm_num
      J3 := by norm_num
      SB := by linarith
      val := Or.inl ⟨c, rfl, by norm_num, by norm_num [at4]; linarith, fun hS => by norm_num [at4]; linarith⟩ }, hj, ?_, ?_⟩ <;>
      · rw [cmp_oeq_false hrz, cmp_olt_false l0, cmp_olt_false l1]; rfl
  · have hb : ∀ b c : BitVec 1, IntOp.ori 1#1 b = 1#1 := by decide
    have z0 : s0 = 0 := by linarith
    have z1 : s1 = 0 := by linarith
    have z3 : s3 = 0 := by linarith
    have hsec : ∀ b c : BitVec 1, secondOf 2#32 1#1 b c = 0#32 := by decide
    refine ⟨0, 2, {
      f1 := iff_of_false (fun h => by obtain ⟨h, h'⟩ := h; linarith) (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_false (fun h => by obtain ⟨⟨⟨h1, h2⟩, -⟩, h4⟩ := h; rcases h4 with h4 | h4 <;> first | linarith | omega) (by norm_num)
      lo2 := by norm_num
      hi1 := by norm_num
      hi3 := by norm_num
      J3 := by norm_num
      SB := by linarith
      val := Or.inr (Or.inl ⟨c, rfl, by norm_num, by norm_num [at4]; linarith, by norm_num [at4]; linarith, fun hS => by norm_num [at4]; linarith⟩) }, hj, ?_, ?_⟩ <;>
      · rw [cmp_oeq_true hr0, hsec]; rfl

/-- The largest magnitude is at position 3. -/
theorem sel_C3 (s0 s1 s2 s3 M r t : ℝ) (p0 : 0 ≤ s0) (p1 : 0 ≤ s1) (p2 : 0 ≤ s2) (p3 : 0 ≤ s3) (n0 : s0 < M) (n1 : s1 < M) (n2 : s2 < M) (e3 : s3 = M)
    (m0 : s0 ≤ M) (m1 : s1 ≤ M) (m2 : s2 ≤ M) (m3 : s3 ≤ M)
    (hr : r = s0 + s1 + s2 + s3 - M) (hC : r ≤ M) (t0 : 0 ≤ t) (ht : t < r ∨ (r = 0 ∧ t = 0)) (C : Prop) (c : C) :
    ∃ lo hi : ℕ, Sel C s0 s1 s2 s3 M r t lo hi 3 ∧ jmOf (F := Ideal) (s0 : EReal) (s1 : EReal) (s2 : EReal) (M : EReal) = 3#32
      ∧ IntOp.minsi 3#32 (secondC (F := Ideal) (s0 : EReal) (s1 : EReal) (s2 : EReal) (r : EReal) (t : EReal) 3#32) = BitVec.ofNat 32 lo
      ∧ IntOp.maxsi 3#32 (secondC (F := Ideal) (s0 : EReal) (s1 : EReal) (s2 : EReal) (r : EReal) (t : EReal) 3#32) = BitVec.ofNat 32 hi := by
  have hj : jmOf (F := Ideal) (s0 : EReal) (s1 : EReal) (s2 : EReal) (M : EReal) = 3#32 := by
    unfold jmOf
    rw [cmp_oeq_false (ne_of_lt n0), cmp_oeq_false (ne_of_lt n1), cmp_oeq_false (ne_of_lt n2)]
    rfl
  have hz : FloatOps.ofBits (F := Ideal) .f32 0x00000000#32 = ((0 : ℝ) : EReal) := Ideal.ofBits_zero_f32
  have ha : ∀ a b : ℝ, FloatOps.addf (F := Ideal) (φ := .f32) (a : EReal) (b : EReal) = ((a + b : ℝ) : EReal) := fun a b => (EReal.coe_add a b).symm
  have hs : secondC (F := Ideal) (s0 : EReal) (s1 : EReal) (s2 : EReal) (r : EReal) (t : EReal) 3#32
      = secondOf 3#32 (FloatOps.cmpf (F := Ideal) (φ := .f32) .oeq (r : EReal) ((0 : ℝ) : EReal)) (FloatOps.cmpf (F := Ideal) (φ := .f32) .olt (t : EReal) (s0 : EReal))
        (FloatOps.cmpf (F := Ideal) (φ := .f32) .olt (t : EReal) ((s0 + s1 : ℝ) : EReal)) := by
    rw [← hz, ← ha]
    rfl
  rw [hs]
  rcases ht with ht | ⟨hr0, ht0⟩
  · have hrz : r ≠ 0 := by intro h; linarith
    rcases lt_or_ge t s0 with l0 | l0
    · refine ⟨0, 3, {
      f1 := iff_of_false (fun h => by obtain ⟨h, h'⟩ := h; linarith) (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_true ⟨⟨⟨by linarith, by linarith⟩, by norm_num⟩, Or.inr (by linarith)⟩ (by norm_num)
      lo2 := by norm_num
      hi1 := by norm_num
      hi3 := by norm_num
      J3 := by norm_num
      SB := by linarith
      val := Or.inr (Or.inl ⟨c, rfl, by norm_num, by norm_num [at4]; linarith, by norm_num [at4]; linarith, fun hS => by norm_num [at4]; linarith⟩) }, hj, ?_, ?_⟩ <;>
      · rw [cmp_oeq_false hrz, cmp_olt_true l0, cmp_olt_true (a := t) (b := s0 + s1) (by linarith)]; rfl
    rcases lt_or_ge t (s0 + s1) with l1 | l1
    · refine ⟨1, 3, {
      f1 := iff_of_true ⟨by linarith, by linarith⟩ (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_true ⟨⟨⟨by linarith, by linarith⟩, by norm_num⟩, Or.inr (by linarith)⟩ (by norm_num)
      lo2 := by norm_num
      hi1 := by norm_num
      hi3 := by norm_num
      J3 := by norm_num
      SB := by linarith
      val := Or.inr (Or.inl ⟨c, rfl, by norm_num, by norm_num [at4]; linarith, by norm_num [at4]; linarith, fun hS => by norm_num [at4]; linarith⟩) }, hj, ?_, ?_⟩ <;>
      · rw [cmp_oeq_false hrz, cmp_olt_false l0, cmp_olt_true l1]; rfl
    · refine ⟨2, 3, {
      f1 := iff_of_true ⟨by linarith, by linarith⟩ (by norm_num)
      f2 := iff_of_true ⟨by linarith, by linarith⟩ (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_true ⟨⟨⟨by linarith, by linarith⟩, by norm_num⟩, Or.inl (by norm_num)⟩ (by norm_num)
      lo2 := by norm_num
      hi1 := by norm_num
      hi3 := by norm_num
      J3 := by norm_num
      SB := by linarith
      val := Or.inr (Or.inl ⟨c, rfl, by norm_num, by norm_num [at4]; linarith, by norm_num [at4]; linarith, fun hS => by norm_num [at4]; linarith⟩) }, hj, ?_, ?_⟩ <;>
      · rw [cmp_oeq_false hrz, cmp_olt_false l0, cmp_olt_false l1]; rfl
  · have hb : ∀ b c : BitVec 1, IntOp.ori 1#1 b = 1#1 := by decide
    have z0 : s0 = 0 := by linarith
    have z1 : s1 = 0 := by linarith
    have z2 : s2 = 0 := by linarith
    have hsec : ∀ b c : BitVec 1, secondOf 3#32 1#1 b c = 0#32 := by decide
    refine ⟨0, 3, {
      f1 := iff_of_false (fun h => by obtain ⟨h, h'⟩ := h; linarith) (by norm_num)
      f2 := iff_of_false (fun h => by obtain ⟨h, h'⟩ := h; linarith) (by norm_num)
      g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
      g3 := iff_of_true ⟨⟨⟨by linarith, by linarith⟩, by norm_num⟩, Or.inr (by linarith)⟩ (by norm_num)
      lo2 := by norm_num
      hi1 := by norm_num
      hi3 := by norm_num
      J3 := by norm_num
      SB := by linarith
      val := Or.inr (Or.inl ⟨c, rfl, by norm_num, by norm_num [at4]; linarith, by norm_num [at4]; linarith, fun hS => by norm_num [at4]; linarith⟩) }, hj, ?_, ?_⟩ <;>
      · rw [cmp_oeq_true hr0, hsec]; rfl

/-- No magnitude reaches half the sum. -/
theorem sel_N (s0 s1 s2 s3 h t : ℝ) (p0 : 0 ≤ s0) (p1 : 0 ≤ s1) (p2 : 0 ≤ s2) (p3 : 0 ≤ s3)
    (m0 : s0 < h) (m1 : s1 < h) (m2 : s2 < h) (m3 : s3 < h)
    (hh : s0 + s1 + s2 + s3 = 2 * h) (t0 : 0 ≤ t) (ht : t < h) (C : Prop) (c : ¬C) :
    ∃ lo hi : ℕ, Sel C s0 s1 s2 s3 h h t lo hi 0
      ∧ firstN (F := Ideal) (s0 : EReal) (s1 : EReal) (s2 : EReal) (t : EReal) = BitVec.ofNat 32 lo
      ∧ secondN (F := Ideal) (s0 : EReal) (s1 : EReal) (s2 : EReal) (t : EReal) ((t + h : ℝ) : EReal) = BitVec.ofNat 32 hi := by
  have ha : ∀ a b : ℝ, FloatOps.addf (F := Ideal) (φ := .f32) (a : EReal) (b : EReal) = ((a + b : ℝ) : EReal) := fun a b => (EReal.coe_add a b).symm
  have hp : ∀ t : ℝ, past (F := Ideal) (s0 : EReal) (s1 : EReal) (s2 : EReal) (t : EReal)
      = countOf (FloatOps.cmpf (F := Ideal) (φ := .f32) .ole (s0 : EReal) (t : EReal)) (FloatOps.cmpf (F := Ideal) (φ := .f32) .ole ((s0 + s1 : ℝ) : EReal) (t : EReal))
        (FloatOps.cmpf (F := Ideal) (φ := .f32) .ole ((s0 + s1 + s2 : ℝ) : EReal) (t : EReal)) := by
    intro t
    rw [← ha, ← ha]
    rfl
  have hd1 : FloatOps.cmpf (F := Ideal) (φ := .f32) .ole (s0 : EReal) ((t + h : ℝ) : EReal) = 1#1 := cmp_ole_true (by linarith)
  have ha3 : FloatOps.cmpf (F := Ideal) (φ := .f32) .ole ((s0 + s1 + s2 : ℝ) : EReal) (t : EReal) = 0#1 := cmp_ole_false (by linarith)
  unfold secondN firstN
  rw [hp, hp, hd1, ha3]
  rcases le_or_gt s0 t with a1 | a1
  · rcases le_or_gt (s0 + s1) t with a2 | a2
    · have d2 : s0 + s1 ≤ t + h := by linarith
      have d3 : s0 + s1 + s2 ≤ t + h := by linarith
      have q1 := cmp_ole_true a1
      have q2 := cmp_ole_true a2
      have q3 := cmp_ole_true d2
      have q4 := cmp_ole_true d3
      rw [q1, q2, q3, q4]
      exact ⟨2, 3, {
        f1 := iff_of_true ⟨by linarith, by linarith⟩ (by norm_num)
        f2 := iff_of_true ⟨by linarith, by linarith⟩ (by norm_num)
        g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
        g3 := iff_of_true ⟨⟨⟨by linarith, by linarith⟩, by norm_num⟩, Or.inl (by norm_num)⟩ (by norm_num)
        lo2 := by norm_num
        hi1 := by norm_num
        hi3 := by norm_num
        J3 := by norm_num
        SB := by linarith
        val := Or.inr (Or.inr ⟨c, rfl, by norm_num [at4]; linarith, by norm_num [at4]; linarith, by norm_num [at4]; linarith⟩) }, rfl, rfl⟩
    · have d2 : s0 + s1 ≤ t + h := by linarith
      rcases le_or_gt (s0 + s1 + s2) (t + h) with d3 | d3
      · have q1 := cmp_ole_true a1
        have q2 := cmp_ole_false a2
        have q3 := cmp_ole_true d2
        have q4 := cmp_ole_true d3
        rw [q1, q2, q3, q4]
        exact ⟨1, 3, {
          f1 := iff_of_true ⟨by linarith, by linarith⟩ (by norm_num)
          f2 := iff_of_false (fun h => by obtain ⟨h, h'⟩ := h; linarith) (by norm_num)
          g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
          g3 := iff_of_true ⟨⟨⟨by linarith, by linarith⟩, by norm_num⟩, Or.inr (by linarith)⟩ (by norm_num)
          lo2 := by norm_num
          hi1 := by norm_num
          hi3 := by norm_num
          J3 := by norm_num
          SB := by linarith
          val := Or.inr (Or.inr ⟨c, rfl, by norm_num [at4]; linarith, by norm_num [at4]; linarith, by norm_num [at4]; linarith⟩) }, rfl, rfl⟩
      · have q1 := cmp_ole_true a1
        have q2 := cmp_ole_false a2
        have q3 := cmp_ole_true d2
        have q4 := cmp_ole_false d3
        rw [q1, q2, q3, q4]
        exact ⟨1, 2, {
          f1 := iff_of_true ⟨by linarith, by linarith⟩ (by norm_num)
          f2 := iff_of_false (fun h => by obtain ⟨h, h'⟩ := h; linarith) (by norm_num)
          g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
          g3 := iff_of_false (fun h => by obtain ⟨⟨⟨h1, h2⟩, -⟩, h4⟩ := h; rcases h4 with h4 | h4 <;> first | linarith | omega) (by norm_num)
          lo2 := by norm_num
          hi1 := by norm_num
          hi3 := by norm_num
          J3 := by norm_num
          SB := by linarith
          val := Or.inr (Or.inr ⟨c, rfl, by norm_num [at4]; linarith, by norm_num [at4]; linarith, by norm_num [at4]; linarith⟩) }, rfl, rfl⟩
  · have a2 : t < s0 + s1 := by linarith
    rcases le_or_gt (s0 + s1) (t + h) with d2 | d2
    · rcases le_or_gt (s0 + s1 + s2) (t + h) with d3 | d3
      · have q1 := cmp_ole_false a1
        have q2 := cmp_ole_false a2
        have q3 := cmp_ole_true d2
        have q4 := cmp_ole_true d3
        rw [q1, q2, q3, q4]
        exact ⟨0, 3, {
          f1 := iff_of_false (fun h => by obtain ⟨h, h'⟩ := h; linarith) (by norm_num)
          f2 := iff_of_false (fun h => by obtain ⟨h, h'⟩ := h; linarith) (by norm_num)
          g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
          g3 := iff_of_true ⟨⟨⟨by linarith, by linarith⟩, by norm_num⟩, Or.inr (by linarith)⟩ (by norm_num)
          lo2 := by norm_num
          hi1 := by norm_num
          hi3 := by norm_num
          J3 := by norm_num
          SB := by linarith
          val := Or.inr (Or.inr ⟨c, rfl, by norm_num [at4]; linarith, by norm_num [at4]; linarith, by norm_num [at4]; linarith⟩) }, rfl, rfl⟩
      · have q1 := cmp_ole_false a1
        have q2 := cmp_ole_false a2
        have q3 := cmp_ole_true d2
        have q4 := cmp_ole_false d3
        rw [q1, q2, q3, q4]
        exact ⟨0, 2, {
          f1 := iff_of_false (fun h => by obtain ⟨h, h'⟩ := h; linarith) (by norm_num)
          f2 := iff_of_false (fun h => by obtain ⟨h, h'⟩ := h; linarith) (by norm_num)
          g2 := iff_of_true ⟨⟨⟨by linarith, by linarith⟩, (by first | exact Or.inl ⟨by linarith, by linarith⟩ | exact Or.inr (by linarith))⟩, (by first | exact Or.inl ⟨by linarith, by linarith⟩ | exact Or.inr (by linarith))⟩ (by norm_num)
          g3 := iff_of_false (fun h => by obtain ⟨⟨⟨h1, h2⟩, -⟩, h4⟩ := h; rcases h4 with h4 | h4 <;> first | linarith | omega) (by norm_num)
          lo2 := by norm_num
          hi1 := by norm_num
          hi3 := by norm_num
          J3 := by norm_num
          SB := by linarith
          val := Or.inr (Or.inr ⟨c, rfl, by norm_num [at4]; linarith, by norm_num [at4]; linarith, by norm_num [at4]; linarith⟩) }, rfl, rfl⟩
    · have d3 : t + h < s0 + s1 + s2 := by linarith
      have q1 := cmp_ole_false a1
      have q2 := cmp_ole_false a2
      have q3 := cmp_ole_false d2
      have q4 := cmp_ole_false d3
      rw [q1, q2, q3, q4]
      exact ⟨0, 1, {
        f1 := iff_of_false (fun h => by obtain ⟨h, h'⟩ := h; linarith) (by norm_num)
        f2 := iff_of_false (fun h => by obtain ⟨h, h'⟩ := h; linarith) (by norm_num)
        g2 := iff_of_false (fun h => by obtain ⟨⟨⟨h1, h2⟩, h3⟩, h4⟩ := h; rcases h3 with ⟨h3, h3'⟩ | h3 <;> rcases h4 with ⟨h4, h4'⟩ | h4 <;> linarith) (by norm_num)
        g3 := iff_of_false (fun h => by have := h.1.2; omega) (by norm_num)
        lo2 := by norm_num
        hi1 := by norm_num
        hi3 := by norm_num
        J3 := by norm_num
        SB := by linarith
        val := Or.inr (Or.inr ⟨c, rfl, by norm_num [at4]; linarith, by norm_num [at4]; linarith, by norm_num [at4]; linarith⟩) }, rfl, rfl⟩

end Cert.Proof.Eq

end
-- ==== Proof.Eq.Group.lean ====
/- One group in both programs.

   For four finite gradients and any random word the kernel and the reference keep the same two positions, and the kept values
   agree: each is the sign of the gradient at its position with one of two magnitudes, the larger of which is `B`. -/
module

public import proofs.«01_k».proof.Proof.Eq.Sel
public import proofs.«01_k».proof.Proof.KI.Select

@[expose] public section

set_option maxHeartbeats 4000000

noncomputable section

namespace Cert.Proof.Eq

open Idealize.ShloMosaic
open Cert.Proof.ReferenceIdeal Cert.Proof.KernelIdeal

open Classical in
/-- A proposition as a bit. -/
def bitP (P : Prop) : BitVec 1 := if P then 1#1 else 0#1

theorem bitP_true {P : Prop} (h : P) : bitP P = 1#1 := if_pos h
theorem bitP_false {P : Prop} (h : ¬P) : bitP P = 0#1 := if_neg h
theorem bitP_and (P Q : Prop) : IntOp.andi (bitP P) (bitP Q) = bitP (P ∧ Q) := by
  by_cases hP : P <;> by_cases hQ : Q <;> simp [bitP, hP, hQ, IntOp.andi]
theorem bitP_or (P Q : Prop) : IntOp.ori (bitP P) (bitP Q) = bitP (P ∨ Q) := by
  by_cases hP : P <;> by_cases hQ : Q <;> simp [bitP, hP, hQ, IntOp.ori]
open Classical in
theorem select_bitP {α : Type} (P : Prop) (a b : α) : Scalar.select (bitP P) a b = if P then a else b := by
  by_cases hP : P
  · rw [bitP_true hP, if_pos hP]; rfl
  · rw [bitP_false hP, if_neg hP]; rfl
theorem select_true {α : Type} (a b : α) : Scalar.select 1#1 a b = a := if_pos rfl
theorem select_false {α : Type} (a b : α) : Scalar.select 0#1 a b = b := if_neg (by decide)
theorem cmp_ole (a b : ℝ) : FloatOps.cmpf (F := Ideal) (φ := .f32) .ole (a : EReal) (b : EReal) = bitP (a ≤ b) := by
  by_cases h : a ≤ b
  · rw [cmp_ole_true h, bitP_true h]
  · rw [cmp_ole_false (not_le.mp h), bitP_false h]
theorem cmp_oge (a b : ℝ) : FloatOps.cmpf (F := Ideal) (φ := .f32) .oge (a : EReal) (b : EReal) = bitP (b ≤ a) := by
  by_cases h : b ≤ a
  · rw [cmp_oge_true h, bitP_true h]
  · rw [cmp_oge_false (not_le.mp h), bitP_false h]
theorem cmp_olt (a b : ℝ) : FloatOps.cmpf (F := Ideal) (φ := .f32) .olt (a : EReal) (b : EReal) = bitP (a < b) := by
  by_cases h : a < b
  · rw [cmp_olt_true h, bitP_true h]
  · rw [cmp_olt_false (not_lt.mp h), bitP_false h]
theorem cmp_ogt (a b : ℝ) : FloatOps.cmpf (F := Ideal) (φ := .f32) .ogt (a : EReal) (b : EReal) = bitP (b < a) := by
  by_cases h : b < a
  · rw [cmp_ogt_true h, bitP_true h]
  · rw [cmp_ogt_false (not_lt.mp h), bitP_false h]
theorem cmp_oeq (a b : ℝ) : FloatOps.cmpf (F := Ideal) (φ := .f32) .oeq (a : EReal) (b : EReal) = bitP (a = b) := by
  by_cases h : a = b
  · rw [cmp_oeq_true h, bitP_true h]
  · rw [cmp_oeq_false h, bitP_false h]

theorem add_r (a b : ℝ) : FloatOps.addf (F := Ideal) (φ := .f32) (a : EReal) (b : EReal) = ((a + b : ℝ) : EReal) := (EReal.coe_add a b).symm
theorem sub_r (a b : ℝ) : FloatOps.subf (F := Ideal) (φ := .f32) (a : EReal) (b : EReal) = ((a - b : ℝ) : EReal) := (EReal.coe_sub a b).symm
theorem mul_r (a b : ℝ) : FloatOps.mulf (F := Ideal) (φ := .f32) (a : EReal) (b : EReal) = ((a * b : ℝ) : EReal) := (EReal.coe_mul a b).symm
theorem coe_max (a b : ℝ) : max (a : EReal) (b : EReal) = ((max a b : ℝ) : EReal) := (EReal.coe_strictMono.monotone.map_max (a := a) (b := b)).symm
theorem coe_min (a b : ℝ) : min (a : EReal) (b : EReal) = ((min a b : ℝ) : EReal) := (EReal.coe_strictMono.monotone.map_min (a := a) (b := b)).symm
theorem max_r (a b : ℝ) : FloatOps.maximumf (F := Ideal) (φ := .f32) (a : EReal) (b : EReal) = ((max a b : ℝ) : EReal) := coe_max a b
theorem min_r (a b : ℝ) : FloatOps.minimumf (F := Ideal) (φ := .f32) (a : EReal) (b : EReal) = ((min a b : ℝ) : EReal) := coe_min a b
theorem abs_r (a : ℝ) : FloatOps.absf (F := Ideal) (φ := .f32) (a : EReal) = ((|a| : ℝ) : EReal) := by
  show max (a : EReal) (-(a : EReal)) = _
  rw [← EReal.coe_neg, coe_max, ← abs_eq_max_neg]
theorem mag_r (a : ℝ) : mag (F := Ideal) (a : EReal) = ((|a| : ℝ) : EReal) := abs_r a
theorem zero_r : FloatOps.ofBits (F := Ideal) .f32 0x00000000#32 = ((0 : ℝ) : EReal) := Ideal.ofBits_zero_f32
theorem half_r : FloatOps.ofBits (F := Ideal) .f32 0x3F000000#32 = ((1 / 2 : ℝ) : EReal) := by
  show Ideal.ofBits .f32 0x3F000000#32 = _
  simp [Ideal.ofBits, Ideal.ieee, -EReal.coe_mul]; norm_num
theorem two_r : FloatOps.ofBits (F := Ideal) .f32 0x40000000#32 = ((2 : ℝ) : EReal) := by
  show Ideal.ofBits .f32 0x40000000#32 = _
  simp [Ideal.ofBits, Ideal.ieee, -EReal.coe_mul]; norm_num
theorem ulp_r : FloatOps.ofBits (F := Ideal) .f32 0x33800000#32 = ((1 / 16777216 : ℝ) : EReal) := by
  show Ideal.ofBits .f32 0x33800000#32 = _
  simp [Ideal.ofBits, Ideal.ieee, -EReal.coe_mul]; norm_num

/-- The random fraction of a word: its upper 24 bits over `2^24`. -/
def frac (w : BitVec 32) : ℝ := ((w >>> 8).toNat : ℝ) * (1 / 16777216)

theorem shr_lt (w : BitVec 32) : (w >>> 8).toNat < 16777216 := by
  rw [BitVec.toNat_ushiftRight, Nat.shiftRight_eq_div_pow]
  have := w.isLt
  omega
theorem frac_nonneg (w : BitVec 32) : 0 ≤ frac w := by unfold frac; positivity
theorem frac_lt (w : BitVec 32) : frac w < 1 := by
  unfold frac
  have h : ((w >>> 8).toNat : ℝ) < 16777216 := by exact_mod_cast shr_lt w
  linarith
/-- The reference's random fraction. -/
theorem rU_r (w : BitVec 32) : rU (F := Ideal) w = ((frac w : ℝ) : EReal) := by
  unfold rU frac
  rw [ulp_r]
  exact mul_r _ _
/-- The kernel's random fraction. -/
theorem kU_r (w : BitVec 32) : FloatOps.mulf (F := Ideal) (φ := .f32) (FloatOps.sitofp .f32 (IntOp.shrui .vector w 8#32)) (FloatOps.ofBits .f32 0x33800000#32) = ((frac w : ℝ) : EReal) := by
  unfold frac
  rw [ulp_r]
  have h : (IntOp.shrui .vector w 8#32).toInt = ((w >>> 8).toNat : ℤ) := by
    show (w >>> 8).toInt = _
    rw [BitVec.toInt_eq_toNat_of_lt]
    have := shr_lt w
    omega
  show (((IntOp.shrui .vector w 8#32).toInt : ℝ) : EReal) * ((1 / 16777216 : ℝ) : EReal) = _
  rw [h, ← EReal.coe_mul]
  norm_cast

/-- The largest of four. -/
abbrev mxR (s0 s1 s2 s3 : ℝ) : ℝ := max (max s0 s1) (max s2 s3)
/-- The larger kept magnitude. -/
abbrev bigR (s0 s1 s2 s3 : ℝ) : ℝ := max (mxR s0 s1 s2 s3) ((s0 + s1 + s2 + s3) * (1 / 2))
/-- The smaller kept magnitude. -/
abbrev smallR (s0 s1 s2 s3 : ℝ) : ℝ := s0 + s1 + s2 + s3 - bigR s0 s1 s2 s3

theorem mx_r (s0 s1 s2 s3 : ℝ) : mx (F := Ideal) (s0 : EReal) (s1 : EReal) (s2 : EReal) (s3 : EReal) = ((mxR s0 s1 s2 s3 : ℝ) : EReal) := by
  unfold mx; rw [max_r, max_r, max_r]
theorem tot_r (s0 s1 s2 s3 : ℝ) : tot (F := Ideal) (s0 : EReal) (s1 : EReal) (s2 : EReal) (s3 : EReal) = ((s0 + s1 + s2 + s3 : ℝ) : EReal) := by
  unfold tot; rw [add_r, add_r, add_r]
theorem rest_r (t m : ℝ) : rest (F := Ideal) (t : EReal) (m : EReal) = ((t - m : ℝ) : EReal) := sub_r t m
theorem halfOf_r (t : ℝ) : half (F := Ideal) (t : EReal) = ((t * (1 / 2) : ℝ) : EReal) := by unfold half; rw [half_r, mul_r]
theorem caseOf_r (m t : ℝ) : caseOf (F := Ideal) (m : EReal) (t : EReal) = bitP (t ≤ 2 * m) := by unfold caseOf; rw [two_r, mul_r, cmp_oge]

/-- Both programs' positions, by the real comparisons. -/
theorem positions (s0 s1 s2 s3 u : ℝ) (p0 : 0 ≤ s0) (p1 : 0 ≤ s1) (p2 : 0 ≤ s2) (p3 : 0 ≤ s3) (u0 : 0 ≤ u) (u1 : u < 1) :
    ∃ lo hi J : ℕ, Sel (s0 + s1 + s2 + s3 ≤ 2 * mxR s0 s1 s2 s3) s0 s1 s2 s3 (bigR s0 s1 s2 s3) (smallR s0 s1 s2 s3) (u * smallR s0 s1 s2 s3) lo hi J
      ∧ (s0 + s1 + s2 + s3 ≤ 2 * mxR s0 s1 s2 s3 → jmOf (F := Ideal) (s0 : EReal) (s1 : EReal) (s2 : EReal) ((mxR s0 s1 s2 s3 : ℝ) : EReal) = BitVec.ofNat 32 J)
      ∧ loOf (F := Ideal) (s0 : EReal) (s1 : EReal) (s2 : EReal) (s3 : EReal) (u : EReal) = BitVec.ofNat 32 lo
      ∧ hiOf (F := Ideal) (s0 : EReal) (s1 : EReal) (s2 : EReal) (s3 : EReal) (u : EReal) = BitVec.ofNat 32 hi := by
  unfold loOf hiOf
  rw [mx_r, tot_r, rest_r, halfOf_r, caseOf_r, mul_r, mul_r, add_r]
  have m0 : s0 ≤ mxR s0 s1 s2 s3 := le_trans (le_max_left _ _) (le_max_left _ _)
  have m1 : s1 ≤ mxR s0 s1 s2 s3 := le_trans (le_max_right _ _) (le_max_left _ _)
  have m2 : s2 ≤ mxR s0 s1 s2 s3 := le_trans (le_max_left _ _) (le_max_right _ _)
  have m3 : s3 ≤ mxR s0 s1 s2 s3 := le_trans (le_max_right _ _) (le_max_right _ _)
  have hm : s0 = mxR s0 s1 s2 s3 ∨ s1 = mxR s0 s1 s2 s3 ∨ s2 = mxR s0 s1 s2 s3 ∨ s3 = mxR s0 s1 s2 s3 := by
    rcases max_choice (max s0 s1) (max s2 s3) with h | h
    · rcases max_choice s0 s1 with h' | h'
      · exact Or.inl (by show s0 = max _ _; rw [h, h'])
      · exact Or.inr (Or.inl (by show s1 = max _ _; rw [h, h']))
    · rcases max_choice s2 s3 with h' | h'
      · exact Or.inr (Or.inr (Or.inl (by show s2 = max _ _; rw [h, h'])))
      · exact Or.inr (Or.inr (Or.inr (by show s3 = max _ _; rw [h, h'])))
  by_cases hC : s0 + s1 + s2 + s3 ≤ 2 * mxR s0 s1 s2 s3
  · have hB : bigR s0 s1 s2 s3 = mxR s0 s1 s2 s3 := max_eq_left (by linarith)
    unfold smallR
    rw [hB, bitP_true hC]
    revert m0 m1 m2 m3 hm hC
    clear hB
    generalize mxR s0 s1 s2 s3 = M
    intro m0 m1 m2 m3 hm hC
    have hr0 : 0 ≤ s0 + s1 + s2 + s3 - M := by
      rcases hm with h | h | h | h <;> linarith
    have ht0 : 0 ≤ u * (s0 + s1 + s2 + s3 - M) := mul_nonneg u0 hr0
    have ht : u * (s0 + s1 + s2 + s3 - M) < s0 + s1 + s2 + s3 - M ∨ (s0 + s1 + s2 + s3 - M = 0 ∧ u * (s0 + s1 + s2 + s3 - M) = 0) := by
      rcases eq_or_lt_of_le hr0 with h | h
      · right; rw [← h]; simp
      · left; nlinarith
    have fin : (∃ (lo hi J : ℕ), Sel (s0 + s1 + s2 + s3 ≤ 2 * M) s0 s1 s2 s3 M (s0 + s1 + s2 + s3 - M) (u * (s0 + s1 + s2 + s3 - M)) lo hi J ∧ jmOf (F := Ideal) (s0 : EReal) (s1 : EReal) (s2 : EReal) (M : EReal) = BitVec.ofNat 32 J
      ∧ IntOp.minsi (BitVec.ofNat 32 J) (secondC (F := Ideal) (s0 : EReal) (s1 : EReal) (s2 : EReal) ((s0 + s1 + s2 + s3 - M : ℝ) : EReal) ((u * (s0 + s1 + s2 + s3 - M) : ℝ) : EReal) (BitVec.ofNat 32 J)) = BitVec.ofNat 32 lo
      ∧ IntOp.maxsi (BitVec.ofNat 32 J) (secondC (F := Ideal) (s0 : EReal) (s1 : EReal) (s2 : EReal) ((s0 + s1 + s2 + s3 - M : ℝ) : EReal) ((u * (s0 + s1 + s2 + s3 - M) : ℝ) : EReal) (BitVec.ofNat 32 J)) = BitVec.ofNat 32 hi) := by
      by_cases e0 : s0 = M
      · obtain ⟨lo, hi, h⟩ := sel_C0 s0 s1 s2 s3 M _ _ p0 p1 p2 p3 e0 m0 m1 m2 m3 rfl (by linarith) ht0 ht _ hC
        exact ⟨lo, hi, 0, h⟩
      have n0 := lt_of_le_of_ne m0 e0
      by_cases e1 : s1 = M
      · obtain ⟨lo, hi, h⟩ := sel_C1 s0 s1 s2 s3 M _ _ p0 p1 p2 p3 n0 e1 m0 m1 m2 m3 rfl (by linarith) ht0 ht _ hC
        exact ⟨lo, hi, 1, h⟩
      have n1 := lt_of_le_of_ne m1 e1
      by_cases e2 : s2 = M
      · obtain ⟨lo, hi, h⟩ := sel_C2 s0 s1 s2 s3 M _ _ p0 p1 p2 p3 n0 n1 e2 m0 m1 m2 m3 rfl (by linarith) ht0 ht _ hC
        exact ⟨lo, hi, 2, h⟩
      have n2 := lt_of_le_of_ne m2 e2
      have e3 : s3 = M := by
        rcases hm with h | h | h | h
        · exact absurd h e0
        · exact absurd h e1
        · exact absurd h e2
        · exact h
      obtain ⟨lo, hi, h⟩ := sel_C3 s0 s1 s2 s3 M _ _ p0 p1 p2 p3 n0 n1 n2 e3 m0 m1 m2 m3 rfl (by linarith) ht0 ht _ hC
      exact ⟨lo, hi, 3, h⟩
    obtain ⟨lo, hi, J, h1, h2, h3, h4⟩ := fin
    exact ⟨lo, hi, J, h1, fun _ => h2, (select_true _ _).trans (by rw [h2]; exact h3), (select_true _ _).trans (by rw [h2]; exact h4)⟩
  · have hB : bigR s0 s1 s2 s3 = (s0 + s1 + s2 + s3) * (1 / 2) := max_eq_right (by linarith)
    have hS : smallR s0 s1 s2 s3 = (s0 + s1 + s2 + s3) * (1 / 2) := by unfold smallR; rw [hB]; ring
    rw [hS, hB, bitP_false hC]
    have hpos : 0 < (s0 + s1 + s2 + s3) * (1 / 2) := by linarith
    obtain ⟨lo, hi, h1, h2, h3⟩ := sel_N s0 s1 s2 s3 ((s0 + s1 + s2 + s3) * (1 / 2)) (u * ((s0 + s1 + s2 + s3) * (1 / 2))) p0 p1 p2 p3
      (by linarith) (by linarith) (by linarith) (by linarith) (by ring) (mul_nonneg u0 hpos.le) (by nlinarith) _ hC
    exact ⟨lo, hi, 0, h1, fun h => absurd h hC, (select_false _ _).trans h2, (select_false _ _).trans h3⟩

variable (x0 x1 x2 x3 : ℝ) (w : BitVec 32)

theorem sNeg_r (x : ℝ) : sNeg (F := Ideal) (x : EReal) = ((-|x| : ℝ) : EReal) := by
  unfold sNeg; rw [abs_r, zero_r, sub_r, zero_sub]
theorem sC2_r : sC2 (F := Ideal) (x0 : EReal) (x1 : EReal) = ((-(|x0| + |x1|) : ℝ) : EReal) := by
  unfold sC2; rw [sNeg_r, sNeg_r, add_r]; congr 1; ring
theorem sC3_r : sC3 (F := Ideal) (x0 : EReal) (x1 : EReal) (x2 : EReal) = ((-(|x0| + |x1| + |x2|) : ℝ) : EReal) := by
  unfold sC3; rw [sC2_r, sNeg_r, add_r]; congr 1; ring
theorem sTot_r : sTot (F := Ideal) (x0 : EReal) (x1 : EReal) (x2 : EReal) (x3 : EReal) = ((-(|x0| + |x1| + |x2| + |x3|) : ℝ) : EReal) := by
  unfold sTot; rw [sC3_r, sNeg_r, add_r]; congr 1; ring
theorem sBig_r : sBig (F := Ideal) (x0 : EReal) (x1 : EReal) (x2 : EReal) (x3 : EReal) = ((-bigR |x0| |x1| |x2| |x3| : ℝ) : EReal) := by
  unfold sBig
  rw [sTot_r, sNeg_r, sNeg_r, sNeg_r, sNeg_r, half_r, mul_r, min_r, min_r, min_r, min_r]
  congr 1
  rw [min_neg_neg, min_neg_neg, min_neg_neg, neg_mul, min_neg_neg]
theorem sSmall_r : sSmall (F := Ideal) (x0 : EReal) (x1 : EReal) (x2 : EReal) (x3 : EReal) = ((-smallR |x0| |x1| |x2| |x3| : ℝ) : EReal) := by
  unfold sSmall
  rw [sTot_r, sBig_r, sub_r]
  congr 1; unfold smallR; ring
theorem sT1_r : sT1 (F := Ideal) (x0 : EReal) (x1 : EReal) (x2 : EReal) (x3 : EReal) w = ((-(frac w * smallR |x0| |x1| |x2| |x3|) : ℝ) : EReal) := by
  unfold sT1
  rw [kU_r, sSmall_r, mul_r]
  congr 1; ring
theorem sT2_r : sT2 (F := Ideal) (x0 : EReal) (x1 : EReal) (x2 : EReal) (x3 : EReal) w
    = ((-(frac w * smallR |x0| |x1| |x2| |x3| + bigR |x0| |x1| |x2| |x3|) : ℝ) : EReal) := by
  unfold sT2
  rw [sT1_r, sBig_r, add_r]
  congr 1; ring
theorem sLe_r (x t v : ℝ) : sLe (F := Ideal) ((-x : ℝ) : EReal) ((-t : ℝ) : EReal) ((-v : ℝ) : EReal) = bitP (x ≤ t ∧ 0 < v) := by
  unfold sLe
  rw [zero_r, cmp_oge, cmp_olt, bitP_and]
  congr 1
  rw [neg_le_neg_iff, neg_lt_zero]

/-- A gradient's sign with a magnitude. -/
def sg (p v : ℝ) : ℝ := if p < 0 then -v else v

theorem sg_abs (p : ℝ) : sg p |p| = p := by
  unfold sg
  split_ifs with h
  · rw [abs_of_neg h, neg_neg]
  · rw [abs_of_nonneg (not_lt.mp h)]
theorem sign_mul (p v : ℝ) (h : p ≠ 0 ∨ v = 0) : FloatOps.mulf (F := Ideal) (φ := .f32) (FloatOps.hostUnary (F := Ideal) (φ := .f32) .sign (p : EReal)) (v : EReal) = ((sg p v : ℝ) : EReal) := by
  have e : FloatOps.hostUnary (F := Ideal) (φ := .f32) .sign (p : EReal) = (((SignType.sign p : SignType) : ℝ) : EReal) := rfl
  rw [e, mul_r]
  congr 1
  unfold sg
  rcases lt_trichotomy p 0 with hp | hp | hp
  · rw [if_pos hp, sign_neg hp]; simp
  · rcases h with h | h
    · exact absurd hp h
    · rw [h]; simp
  · rw [if_neg (not_lt.mpr hp.le), sign_pos hp]; simp
theorem abs_sg (p v : ℝ) (hv : 0 ≤ v) : |sg p v| = v := by
  unfold sg
  split_ifs
  · rw [abs_neg, abs_of_nonneg hv]
  · exact abs_of_nonneg hv

theorem at4_abs (p : ℕ) : at4 |x0| |x1| |x2| |x3| p = |at4 x0 x1 x2 x3 p| := by
  unfold at4; split_ifs <;> rfl

/-- The reference's gradient at a position. -/
theorem pick_r (p : ℕ) (hp : p ≤ 3) : pickOf (F := Ideal) (x0 : EReal) (x1 : EReal) (x2 : EReal) (x3 : EReal) (BitVec.ofNat 32 p) = ((at4 x0 x1 x2 x3 p : ℝ) : EReal) := by
  interval_cases p <;> rfl

theorem eq_pos (p q : ℕ) (hp : p ≤ 3) (hq : q ≤ 3) : IntOp.cmpi .eq (BitVec.ofNat 32 p) (BitVec.ofNat 32 q) = bitP (p = q) := by
  interval_cases p <;> interval_cases q <;> simp [bitP, IntOp.cmpi]

open Classical in
/-- One group in both programs. -/
theorem group_eq : ∃ plo phi vlo vhi : ℝ,
    sPlo (F := Ideal) (x0 : EReal) (x1 : EReal) (x2 : EReal) (x3 : EReal) w = (plo : EReal)
    ∧ sPhi (F := Ideal) (x0 : EReal) (x1 : EReal) (x2 : EReal) (x3 : EReal) w = (phi : EReal)
    ∧ sMlo (F := Ideal) (x0 : EReal) (x1 : EReal) (x2 : EReal) (x3 : EReal) w = ((-vlo : ℝ) : EReal)
    ∧ sMhi (F := Ideal) (x0 : EReal) (x1 : EReal) (x2 : EReal) (x3 : EReal) w = ((-vhi : ℝ) : EReal)
    ∧ 0 ≤ vlo ∧ 0 ≤ vhi
    ∧ sBig (F := Ideal) (x0 : EReal) (x1 : EReal) (x2 : EReal) (x3 : EReal) = ((-(max vlo vhi) : ℝ) : EReal)
    ∧ gKept (F := Ideal) (x0 : EReal) (x1 : EReal) (x2 : EReal) (x3 : EReal) (gLo (F := Ideal) (x0 : EReal) (x1 : EReal) (x2 : EReal) (x3 : EReal) w) = ((sg plo vlo : ℝ) : EReal)
    ∧ gKept (F := Ideal) (x0 : EReal) (x1 : EReal) (x2 : EReal) (x3 : EReal) (gHi (F := Ideal) (x0 : EReal) (x1 : EReal) (x2 : EReal) (x3 : EReal) w) = ((sg phi vhi : ℝ) : EReal)
    ∧ sField (F := Ideal) (x0 : EReal) (x1 : EReal) (x2 : EReal) (x3 : EReal) w
      = (gLo (F := Ideal) (x0 : EReal) (x1 : EReal) (x2 : EReal) (x3 : EReal) w ||| gHi (F := Ideal) (x0 : EReal) (x1 : EReal) (x2 : EReal) (x3 : EReal) w <<< 2).setWidth 8 := by
  obtain ⟨lo, hi, J, sel, hj, hlo, hhi⟩ := positions |x0| |x1| |x2| |x3| (frac w) (abs_nonneg _) (abs_nonneg _) (abs_nonneg _) (abs_nonneg _) (frac_nonneg w) (frac_lt w)
  have eF1 : sF1 (F := Ideal) (x0 : EReal) (x1 : EReal) (x2 : EReal) (x3 : EReal) w = bitP (1 ≤ lo) := by
    unfold sF1; rw [sNeg_r, sT1_r, sSmall_r, sLe_r]; exact congrArg bitP (propext sel.f1)
  have eF2 : sF2 (F := Ideal) (x0 : EReal) (x1 : EReal) (x2 : EReal) (x3 : EReal) w = bitP (2 ≤ lo) := by
    unfold sF2; rw [sC2_r, sT1_r, sSmall_r, sLe_r]; exact congrArg bitP (propext sel.f2)
  have eG2 : sG2 (F := Ideal) (x0 : EReal) (x1 : EReal) (x2 : EReal) (x3 : EReal) w = bitP (2 ≤ hi) := by
    unfold sG2 sF1
    rw [sC2_r, sT1_r, sT2_r, sSmall_r, sBig_r, sNeg_r, sNeg_r, sLe_r, sLe_r, sLe_r, cmp_ogt, cmp_ogt, bitP_or, bitP_or, bitP_and, bitP_and, neg_lt_neg_iff, neg_lt_neg_iff]
    exact congrArg bitP (propext sel.g2)
  have eG3 : sG3 (F := Ideal) (x0 : EReal) (x1 : EReal) (x2 : EReal) (x3 : EReal) w = bitP (3 ≤ hi) := by
    unfold sG3
    rw [eG2, eF2, sC3_r, sT2_r, sBig_r, sNeg_r, sLe_r, cmp_ogt, bitP_or, bitP_and, bitP_and, neg_lt_neg_iff]
    exact congrArg bitP (propext sel.g3)
  have l2 := sel.lo2
  have h1 := sel.hi1
  have h3 := sel.hi3
  have ePlo : sPlo (F := Ideal) (x0 : EReal) (x1 : EReal) (x2 : EReal) (x3 : EReal) w = ((at4 x0 x1 x2 x3 lo : ℝ) : EReal) := by
    unfold sPlo
    rw [eF1, eF2, select_bitP, select_bitP]
    clear hlo eF1 eF2 sel
    interval_cases lo <;> simp [at4]
  have ePhi : sPhi (F := Ideal) (x0 : EReal) (x1 : EReal) (x2 : EReal) (x3 : EReal) w = ((at4 x0 x1 x2 x3 hi : ℝ) : EReal) := by
    unfold sPhi
    rw [eG2, eG3, select_bitP, select_bitP]
    clear hhi eG2 eG3 sel
    interval_cases hi <;> simp [at4]
  have eHz : sHz (F := Ideal) (x0 : EReal) (x1 : EReal) (x2 : EReal) (x3 : EReal) w = bitP (3 ≤ hi ∧ x3 = 0) := by
    unfold sHz; rw [eG3, zero_r, cmp_oeq, bitP_and]
  have eLm : sLm (F := Ideal) (x0 : EReal) (x1 : EReal) (x2 : EReal) (x3 : EReal) w = bitP (bigR |x0| |x1| |x2| |x3| ≤ |at4 x0 x1 x2 x3 lo| ∨ (3 ≤ hi ∧ x3 = 0)) := by
    unfold sLm; rw [eHz, ePlo, sNeg_r, sBig_r, cmp_ole, bitP_or, neg_le_neg_iff]
  have eSm : sSm' (F := Ideal) (x0 : EReal) (x1 : EReal) (x2 : EReal) (x3 : EReal) w
      = ((-(if (3 ≤ hi ∧ x3 = 0) ∨ (2 ≤ lo ∧ x2 = 0) then 0 else smallR |x0| |x1| |x2| |x3|) : ℝ) : EReal) := by
    unfold sSm'
    rw [eHz, eF2, zero_r, cmp_oeq, sSmall_r, bitP_and, bitP_or, select_bitP]
    split_ifs
    · rw [neg_zero]
    · rfl
  have gl : gLo (F := Ideal) (x0 : EReal) (x1 : EReal) (x2 : EReal) (x3 : EReal) w = BitVec.ofNat 32 lo := by
    unfold gLo; rw [mag_r, mag_r, mag_r, mag_r, rU_r]; exact hlo
  have gh : gHi (F := Ideal) (x0 : EReal) (x1 : EReal) (x2 : EReal) (x3 : EReal) w = BitVec.ofNat 32 hi := by
    unfold gHi; rw [mag_r, mag_r, mag_r, mag_r, rU_r]; exact hhi
  have field : sField (F := Ideal) (x0 : EReal) (x1 : EReal) (x2 : EReal) (x3 : EReal) w = (BitVec.ofNat 32 lo ||| BitVec.ofNat 32 hi <<< 2).setWidth 8 := by
    unfold sField
    rw [eF1, eF2, eG2, eG3, select_bitP, select_bitP, select_bitP, select_bitP]
    clear hlo hhi eF1 eF2 eG2 eG3 sel ePlo ePhi eHz eLm eSm gl gh
    interval_cases lo <;> interval_cases hi <;> simp <;> decide
  have kept : ∀ p : ℕ, p ≤ 3 → gKept (F := Ideal) (x0 : EReal) (x1 : EReal) (x2 : EReal) (x3 : EReal) (BitVec.ofNat 32 p)
      = keptOf (F := Ideal) (bitP (|x0| + |x1| + |x2| + |x3| ≤ 2 * mxR |x0| |x1| |x2| |x3|)) (BitVec.ofNat 32 p)
        (jmOf (F := Ideal) ((|x0| : ℝ) : EReal) ((|x1| : ℝ) : EReal) ((|x2| : ℝ) : EReal) ((mxR |x0| |x1| |x2| |x3| : ℝ) : EReal)) ((at4 x0 x1 x2 x3 p : ℝ) : EReal)
        ((|x0| + |x1| + |x2| + |x3| - mxR |x0| |x1| |x2| |x3| : ℝ) : EReal) (((|x0| + |x1| + |x2| + |x3|) * (1 / 2) : ℝ) : EReal) := by
    intro p hp
    unfold gKept
    rw [mag_r, mag_r, mag_r, mag_r, mx_r, tot_r, caseOf_r, rest_r, halfOf_r, pick_r _ _ _ _ p hp]
  rw [gl, gh, kept lo (by omega), kept hi h3, ePlo, ePhi, field, sBig_r]
  unfold sMlo sMhi
  rw [eLm, sBig_r, eSm, select_bitP, select_bitP]
  have hat : ∀ p, at4 |x0| |x1| |x2| |x3| p = |at4 x0 x1 x2 x3 p| := at4_abs x0 x1 x2 x3
  have hB0 : 0 ≤ bigR |x0| |x1| |x2| |x3| := le_trans (abs_nonneg x0) (le_trans (le_trans (le_max_left _ _) (le_max_left _ _)) (le_max_left _ _))
  have hS0 : 0 ≤ smallR |x0| |x1| |x2| |x3| := by
    have a0 := abs_nonneg x0
    have a1 := abs_nonneg x1
    have a2 := abs_nonneg x2
    have a3 := abs_nonneg x3
    have : bigR |x0| |x1| |x2| |x3| ≤ |x0| + |x1| + |x2| + |x3| :=
      max_le (max_le (max_le (by linarith) (by linarith)) (max_le (by linarith) (by linarith))) (by linarith)
    show 0 ≤ _ - _
    linarith
  have hSB := sel.SB
  have three : 3 ≤ hi ∧ x3 = 0 → at4 x0 x1 x2 x3 hi = 0 := by
    rintro ⟨h, h0⟩
    have : hi = 3 := by omega
    rw [this, h0]; simp [at4]
  have two : 2 ≤ lo ∧ x2 = 0 → at4 x0 x1 x2 x3 lo = 0 := by
    rintro ⟨h, h0⟩
    have : lo = 2 := by omega
    rw [this, h0]; simp [at4]
  have hval := sel.val
  have J3 := sel.J3
  rw [hat, hat] at hval
  -- the smaller magnitude, where the position it stands at holds no zero or it is zero itself
  have small : ∀ p : ℝ, (0 < smallR |x0| |x1| |x2| |x3| → 0 < |p|) → p ≠ 0 ∨ smallR |x0| |x1| |x2| |x3| = 0 := by
    intro p h
    rcases eq_or_lt_of_le hS0 with e | e
    · exact Or.inr e.symm
    · exact Or.inl (abs_pos.mp (h e))
  rcases hval with ⟨hC, hJ, hJ', hB, hpos⟩ | ⟨hC, hJ, hJ', hB, hlt, hpos⟩ | ⟨hC, hS, hp1, hlt, hp2⟩
  · -- the larger at the lower position
    have hm : mxR |x0| |x1| |x2| |x3| = bigR |x0| |x1| |x2| |x3| := (max_eq_left (by linarith)).symm
    have hsm : (if (3 ≤ hi ∧ x3 = 0) ∨ (2 ≤ lo ∧ x2 = 0) then 0 else smallR |x0| |x1| |x2| |x3|) = smallR |x0| |x1| |x2| |x3| := by
      split_ifs with h
      · rcases eq_or_lt_of_le hS0 with e | e
        · exact e
        · exfalso
          rcases h with h | h
          · have := hpos e; rw [three h, abs_zero] at this; exact lt_irrefl _ this
          · rw [two h, abs_zero] at hB; linarith
      · rfl
    rw [if_pos (Or.inl hB.le), if_pos (Or.inl hB.le), hsm]
    refine ⟨_, _, bigR |x0| |x1| |x2| |x3|, smallR |x0| |x1| |x2| |x3|, rfl, rfl, rfl, rfl, hB0, hS0, by rw [max_eq_left hSB], ?_, ?_, rfl⟩
    · unfold keptOf
      rw [bitP_true hC, hj hC, eq_pos lo J (by omega) J3, bitP_true hJ.symm]
      show ((at4 x0 x1 x2 x3 lo : ℝ) : EReal) = _
      rw [hB, sg_abs]
    · unfold keptOf
      rw [bitP_true hC, hj hC, eq_pos hi J h3 J3, bitP_false (fun h => hJ' h.symm), zero_r, cmp_oeq, hm]
      rw [select_bitP, sign_mul _ _ (small _ hpos)]
      show (if smallR |x0| |x1| |x2| |x3| = 0 then ((0 : ℝ) : EReal) else _) = _
      split_ifs with h
      · rw [h]; unfold sg; simp
      · rfl
  · -- the larger at the higher position
    have hm : mxR |x0| |x1| |x2| |x3| = bigR |x0| |x1| |x2| |x3| := (max_eq_left (by linarith)).symm
    have hnz : ¬(3 ≤ hi ∧ x3 = 0) := by
      intro h
      rw [three h, abs_zero] at hB
      have := abs_nonneg (at4 x0 x1 x2 x3 lo)
      linarith
    have hsm : (if (3 ≤ hi ∧ x3 = 0) ∨ (2 ≤ lo ∧ x2 = 0) then 0 else smallR |x0| |x1| |x2| |x3|) = smallR |x0| |x1| |x2| |x3| := by
      split_ifs with h
      · rcases eq_or_lt_of_le hS0 with e | e
        · exact e
        · exfalso
          rcases h with h | h
          · exact hnz h
          · have := hpos e; rw [two h, abs_zero] at this; exact lt_irrefl _ this
      · rfl
    have hn : ¬(bigR |x0| |x1| |x2| |x3| ≤ |at4 x0 x1 x2 x3 lo| ∨ (3 ≤ hi ∧ x3 = 0)) := by
      rintro (h | h)
      · linarith
      · exact hnz h
    rw [if_neg hn, if_neg hn, hsm]
    refine ⟨_, _, smallR |x0| |x1| |x2| |x3|, bigR |x0| |x1| |x2| |x3|, rfl, rfl, rfl, rfl, hS0, hB0, by rw [max_eq_right hSB], ?_, ?_, rfl⟩
    · unfold keptOf
      rw [bitP_true hC, hj hC, eq_pos lo J (by omega) J3, bitP_false (fun h => hJ' h.symm), zero_r, cmp_oeq, hm]
      rw [select_bitP, sign_mul _ _ (small _ hpos)]
      show (if smallR |x0| |x1| |x2| |x3| = 0 then ((0 : ℝ) : EReal) else _) = _
      split_ifs with h
      · rw [h]; unfold sg; simp
      · rfl
    · unfold keptOf
      rw [bitP_true hC, hj hC, eq_pos hi J h3 J3, bitP_true hJ.symm]
      show ((at4 x0 x1 x2 x3 hi : ℝ) : EReal) = _
      rw [hB, sg_abs]
  · -- two halves
    have hh : (|x0| + |x1| + |x2| + |x3|) * (1 / 2) = bigR |x0| |x1| |x2| |x3| := (max_eq_right (by linarith)).symm
    have hnz : ¬(3 ≤ hi ∧ x3 = 0) := by
      intro h
      rw [three h, abs_zero] at hp2
      exact lt_irrefl _ hp2
    have hsm : (if (3 ≤ hi ∧ x3 = 0) ∨ (2 ≤ lo ∧ x2 = 0) then 0 else smallR |x0| |x1| |x2| |x3|) = bigR |x0| |x1| |x2| |x3| := by
      rw [if_neg, hS]
      rintro (h | h)
      · exact hnz h
      · rw [two h, abs_zero] at hp1; exact lt_irrefl _ hp1
    have hn : ¬(bigR |x0| |x1| |x2| |x3| ≤ |at4 x0 x1 x2 x3 lo| ∨ (3 ≤ hi ∧ x3 = 0)) := by
      rintro (h | h)
      · linarith
      · exact hnz h
    rw [if_neg hn, if_neg hn, hsm]
    refine ⟨_, _, bigR |x0| |x1| |x2| |x3|, bigR |x0| |x1| |x2| |x3|, rfl, rfl, rfl, rfl, hB0, hB0, by rw [max_self], ?_, ?_, rfl⟩
    · unfold keptOf
      rw [bitP_false hC, hh]
      exact sign_mul _ _ (Or.inl (abs_pos.mp hp1))
    · unfold keptOf
      rw [bitP_false hC, hh]
      exact sign_mul _ _ (Or.inl (abs_pos.mp hp2))

end Cert.Proof.Eq

end
-- ==== Proof.RI.Values.lean ====
/- The reference's results over the extended reals, a row at a time. -/
module

public import proofs.«01_k».proof.Proof.RI.Group
public import Idealize.ShloMosaic.Lib.KernelVsHost
public import Idealize.ShloMosaic.Lib.Pointwise.ShapeOpsCore
public import Idealize.ShloMosaic.PureOps.Ideal.Laws

@[expose] public section

set_option maxRecDepth 16384
set_option maxHeartbeats 1000000

noncomputable section

namespace Cert.Proof.ReferenceIdeal

open Cert.ReferenceIdeal Cert.ReferenceIdeal.Gen
open Idealize.ShloMosaic Idealize.ShloMosaic.TcCoe Idealize.ShloMosaic.StableHlo

section
variable {F : FTy → Type} [FloatOps F]

/-- The exponent of a scaled maximum. -/
def refE (y : F .f32) : F .f32 :=
  Scalar.select (FloatOps.cmpf .olt y (FloatOps.ofBits .f32 0x00800000#32)) (FloatOps.ofBits .f32 0x00000000#32)
    (FloatOps.addf (FloatOps.hostUnary .floor (FloatOps.hostDivf (FloatOps.hostUnary .log y)
        (FloatOps.hostUnary .log (FloatOps.ofBits .f32 0x40000000#32)))) (FloatOps.ofBits .f32 0x3F800000#32))
/-- Two to a power. -/
def pow2 (e : F .f32) : F .f32 := FloatOps.hostPowf (FloatOps.ofBits .f32 0x40000000#32) e
/-- A kept value scaled and clipped. -/
def clip (v i : F .f32) : F .f32 :=
  FloatOps.minimumf (FloatOps.ofBits .f32 0x47600000#32) (FloatOps.maximumf (FloatOps.ofBits .f32 0xC7600000#32) (FloatOps.mulf v i))

variable (V0 : Valuation τ sig (Elt F)) (b : Fin 2) (s : Fin 1024)

/-- The larger magnitude kept in each group, a block's groups beside each other. -/
def blockMag : S2x1024x96x32.Idx → F .f32 :=
  shapeCast _ (maximumf (Host.absf (res_main_v110 V0)) (Host.absf (res_main_v128 V0)) : S2x1024x3072.Idx → F .f32) shapeCasts_S2x1024x3072_S2x1024x96x32
theorem y_gen (j : S2x1024x96.Idx) : res_main_v135 V0 j
    = FloatOps.mulf (Host.reduce FloatOps.maximumf (blockMag V0) (constant S_ .f32 0xFF800000#32) reducesTo_S2x1024x96x32_S2x1024x96_d3 h_S_ j) (FloatOps.ofBits .f32 0x37924925#32) := rfl
theorem blockMag_at (B : Fin 96) (l : Fin 32) : blockMag V0 (ValueIdx.ix4 b s B l)
    = FloatOps.maximumf (mag (res_main_v110 V0 (ValueIdx.ix3 b s (⟨32 * B.val + l.val, by omega⟩ : Fin 3072)))) (mag (res_main_v128 V0 (ValueIdx.ix3 b s (⟨32 * B.val + l.val, by omega⟩ : Fin 3072)))) := by
  refine (shapeCast_apply (s := S2x1024x3072) (t := S2x1024x96x32) _ _ _ (ValueIdx.ix3 b s (⟨32 * B.val + l.val, by omega⟩ : Fin 3072)) ?_).trans rfl
  rw [Shape.rowMajor_val_three, Shape.rowMajor_val_four]
  show (b.val * 1024 + s.val) * 3072 + (32 * B.val + l.val) = ((b.val * 1024 + s.val) * 96 + B.val) * 32 + l.val
  omega
theorem e_gen (j : S2x1024x96.Idx) : res_main_v145 V0 j = refE (res_main_v135 V0 j) := rfl
theorem inv_gen (Q : Fin 3072) : res_main_v152 V0 (ValueIdx.ix3 b s Q) = pow2 (FloatOps.hostNegf (res_main_v145 V0 (ValueIdx.ix3 b s (⟨Q.val / 32, by omega⟩ : Fin 96)))) := by
  unfold res_main_v152
  refine (shapeCast_apply (s := S2x1024x96x32) (t := S2x1024x3072) _ _ _ (ValueIdx.ix4 b s (⟨Q.val / 32, by omega⟩ : Fin 96) (⟨Q.val % 32, by omega⟩ : Fin 32)) ?_).trans ?_
  · rw [Shape.rowMajor_val_three, Shape.rowMajor_val_four]
    show ((b.val * 1024 + s.val) * 96 + Q.val / 32) * 32 + Q.val % 32 = (b.val * 1024 + s.val) * 3072 + Q.val
    omega
  refine (broadcastInDim_apply _ _ _ _ (ValueIdx.ix3 b s (⟨Q.val / 32, by omega⟩ : Fin 96)) ?_).trans rfl
  intro a
  match a with
  | ⟨0, _⟩ => rfl
  | ⟨1, _⟩ => rfl
  | ⟨2, _⟩ => rfl
theorem scale_gen (j : S2x1024x96.Idx) :
    Host.powf (broadcastInDim S2x1024x96 ![] bcast_S_S2x1024x96 (constant S_ .f32 0x40000000#32)) (res_main_v145 V0) j = pow2 (res_main_v145 V0 j) := rfl
end

/-- The lower position of group `Q` of a row. -/
def posLo (g : Fin 12288 → EReal) (w : Fin 3072 → BitVec 32) (Q : Fin 3072) : BitVec 32 :=
  gLo (F := Ideal) (g ⟨4 * Q.val + 0, by omega⟩) (g ⟨4 * Q.val + 1, by omega⟩) (g ⟨4 * Q.val + 2, by omega⟩) (g ⟨4 * Q.val + 3, by omega⟩) (w Q)
/-- The higher position. -/
def posHi (g : Fin 12288 → EReal) (w : Fin 3072 → BitVec 32) (Q : Fin 3072) : BitVec 32 :=
  gHi (F := Ideal) (g ⟨4 * Q.val + 0, by omega⟩) (g ⟨4 * Q.val + 1, by omega⟩) (g ⟨4 * Q.val + 2, by omega⟩) (g ⟨4 * Q.val + 3, by omega⟩) (w Q)
/-- The value kept at position `p` of group `Q`. -/
def keptAt (g : Fin 12288 → EReal) (Q : Fin 3072) (p : BitVec 32) : EReal :=
  gKept (F := Ideal) (g ⟨4 * Q.val + 0, by omega⟩) (g ⟨4 * Q.val + 1, by omega⟩) (g ⟨4 * Q.val + 2, by omega⟩) (g ⟨4 * Q.val + 3, by omega⟩) p
/-- The larger magnitude kept in group `Q`. -/
def topMag (g : Fin 12288 → EReal) (w : Fin 3072 → BitVec 32) (Q : Fin 3072) : EReal :=
  FloatOps.maximumf (F := Ideal) (φ := .f32) (mag (F := Ideal) (keptAt g Q (posLo g w Q))) (mag (F := Ideal) (keptAt g Q (posHi g w Q)))
/-- The scaled maximum of block `B`. -/
def refY (g : Fin 12288 → EReal) (w : Fin 3072 → BitVec 32) (B : Fin 96) : EReal :=
  FloatOps.mulf (F := Ideal) (φ := .f32) ((Finset.univ : Finset (Fin 32)).fold (FloatOps.maximumf (F := Ideal) (φ := .f32)) (FloatOps.ofBits (F := Ideal) .f32 0xFF800000#32)
    (fun l => topMag g w ⟨32 * B.val + l.val, by omega⟩)) (FloatOps.ofBits (F := Ideal) .f32 0x37924925#32)
/-- The inverse scale of block `B`. -/
def refInv (g : Fin 12288 → EReal) (w : Fin 3072 → BitVec 32) (B : Fin 96) : EReal := pow2 (F := Ideal) (FloatOps.hostNegf (F := Ideal) (φ := .f32) (refE (F := Ideal) (refY g w B)))
/-- The scale of block `B`. -/
def refScale (g : Fin 12288 → EReal) (w : Fin 3072 → BitVec 32) (B : Fin 96) : EReal := pow2 (F := Ideal) (refE (F := Ideal) (refY g w B))
/-- The code of column `q`. -/
def refCode (g : Fin 12288 → EReal) (w : Fin 3072 → BitVec 32) (q : Fin 6144) : EReal :=
  if q.val % 2 = 0 then clip (F := Ideal) (keptAt g ⟨q.val / 2, by omega⟩ (posLo g w ⟨q.val / 2, by omega⟩)) (refInv g w ⟨q.val / 2 / 32, by omega⟩)
  else clip (F := Ideal) (keptAt g ⟨q.val / 2, by omega⟩ (posHi g w ⟨q.val / 2, by omega⟩)) (refInv g w ⟨q.val / 2 / 32, by omega⟩)
/-- The two positions of group `Q` packed. -/
def refField (g : Fin 12288 → EReal) (w : Fin 3072 → BitVec 32) (Q : Fin 3072) : BitVec 32 := IntOp.ori (posLo g w Q) (IntOp.shli .host (posHi g w Q) 2#32)
/-- The packed positions of column `j`. -/
def refMeta (g : Fin 12288 → EReal) (w : Fin 3072 → BitVec 32) (j : Fin 1536) : BitVec 8 :=
  (IntOp.ori (refField g w ⟨2 * j.val, by omega⟩) (IntOp.shli .host (refField g w ⟨2 * j.val + 1, by omega⟩) 4#32)).truncate 8

variable (V0 : Valuation τ sig (Elt Ideal)) (b : Fin 2) (s : Fin 1024)

/-- A row of the gradients. -/
abbrev gOf : Fin 12288 → EReal := fun q => V0 (Proc.devRef .tc main_arg0) (ValueIdx.ix3 b s q)
/-- A row of the random words. -/
abbrev wOf : Fin 3072 → BitVec 32 := fun q => V0 (Proc.devRef .tc main_arg1) (ValueIdx.ix3 b s q)

theorem a0_at (Q : Fin 3072) : res_main_v3 V0 (ValueIdx.ix3 b s Q) = gOf V0 b s ⟨4 * Q.val + 0, by omega⟩ := a_at V0 0 (res_main_v3 V0) ⟨_, _, rfl, rfl⟩ b s Q
theorem a1_at (Q : Fin 3072) : res_main_v5 V0 (ValueIdx.ix3 b s Q) = gOf V0 b s ⟨4 * Q.val + 1, by omega⟩ := a_at V0 1 (res_main_v5 V0) ⟨_, _, rfl, rfl⟩ b s Q
theorem a2_at (Q : Fin 3072) : res_main_v7 V0 (ValueIdx.ix3 b s Q) = gOf V0 b s ⟨4 * Q.val + 2, by omega⟩ := a_at V0 2 (res_main_v7 V0) ⟨_, _, rfl, rfl⟩ b s Q
theorem a3_at (Q : Fin 3072) : res_main_v9 V0 (ValueIdx.ix3 b s Q) = gOf V0 b s ⟨4 * Q.val + 3, by omega⟩ := a_at V0 3 (res_main_v9 V0) ⟨_, _, rfl, rfl⟩ b s Q

theorem posLo_at (Q : Fin 3072) : res_main_v91 V0 (ValueIdx.ix3 b s Q) = posLo (gOf V0 b s) (wOf V0 b s) Q := by
  rw [lo_at, a0_at, a1_at, a2_at, a3_at]; rfl
theorem posHi_at (Q : Fin 3072) : res_main_v92 V0 (ValueIdx.ix3 b s Q) = posHi (gOf V0 b s) (wOf V0 b s) Q := by
  rw [hi_at, a0_at, a1_at, a2_at, a3_at]; rfl
theorem keptLo_at (Q : Fin 3072) : res_main_v110 V0 (ValueIdx.ix3 b s Q) = keptAt (gOf V0 b s) Q (posLo (gOf V0 b s) (wOf V0 b s) Q) := by
  rw [kvLo_at, posLo_at, a0_at, a1_at, a2_at, a3_at]; rfl
theorem keptHi_at (Q : Fin 3072) : res_main_v128 V0 (ValueIdx.ix3 b s Q) = keptAt (gOf V0 b s) Q (posHi (gOf V0 b s) (wOf V0 b s) Q) := by
  rw [kvHi_at, posHi_at, a0_at, a1_at, a2_at, a3_at]; rfl

theorem reduces_block : S2x1024x96x32.Reduces [3] S2x1024x96 := by decide

theorem lift_block (B : Fin 96) (l : Fin 32) : reduces_block.lift (ValueIdx.ix3 b s B) l = ValueIdx.ix4 b s B l := by
  funext a
  match a with
  | ⟨0, _⟩ => rfl
  | ⟨1, _⟩ => rfl
  | ⟨2, _⟩ => rfl
  | ⟨3, _⟩ => rfl

/-- A maximum over a block. -/
theorem max_block (X : S2x1024x96x32.Idx → EReal) (B : Fin 96) :
    Host.reduce (FloatOps.maximumf (F := Ideal) (φ := .f32)) X (constant (F := Ideal) S_ .f32 0xFF800000#32) reducesTo_S2x1024x96x32_S2x1024x96_d3 h_S_ (ValueIdx.ix3 b s B)
      = (Finset.univ : Finset (Fin 32)).fold (FloatOps.maximumf (F := Ideal) (φ := .f32)) (FloatOps.ofBits (F := Ideal) .f32 0xFF800000#32) (fun l => X (ValueIdx.ix4 b s B l)) := by
  refine (congrFun (hostReduce_maximumf_eq_multiReduction (F := Ideal) (φ := .f32) X _ reducesTo_S2x1024x96x32_S2x1024x96_d3 h_S_ reduces_block (by decide) rfl) _).trans ?_
  refine (multiReduction_maximumf_eq_fold (F := Ideal) (φ := .f32) X _ reduces_block _ _ _).trans ?_
  refine (reduces_block.fold_filter_drop_single _ _ _ _).trans ?_
  exact congrArg (fun h => (Finset.univ : Finset (Fin 32)).fold (FloatOps.maximumf (F := Ideal) (φ := .f32)) (FloatOps.ofBits (F := Ideal) .f32 0xFF800000#32) h)
    (funext fun l => congrArg X (lift_block b s B l))

/-- The scaled maxima. -/
theorem y_at (B : Fin 96) : res_main_v135 V0 (ValueIdx.ix3 b s B) = refY (gOf V0 b s) (wOf V0 b s) B := by
  unfold refY
  rw [y_gen, max_block]
  have h : (fun l => blockMag V0 (ValueIdx.ix4 b s B l)) = fun l : Fin 32 => topMag (gOf V0 b s) (wOf V0 b s) ⟨32 * B.val + l.val, by omega⟩ := by
    funext l
    rw [blockMag_at, keptLo_at, keptHi_at]
    rfl
  rw [h]

/-- The exponents. -/
theorem e_at (B : Fin 96) : res_main_v145 V0 (ValueIdx.ix3 b s B) = refE (F := Ideal) (refY (gOf V0 b s) (wOf V0 b s) B) := by
  rw [e_gen, y_at]

/-- The inverse scales, one to each group. -/
theorem inv_at (Q : Fin 3072) : res_main_v152 V0 (ValueIdx.ix3 b s Q) = refInv (gOf V0 b s) (wOf V0 b s) ⟨Q.val / 32, by omega⟩ := by
  rw [inv_gen, e_at]; rfl

/-- The unrounded codes. -/
theorem codes_val (P : Fin 2048) (q : Fin 6144) : val4 V0 (Proc.devRef .tc main_v160) (ValueIdx.ix2 P q)
    = refCode (gOf V0 ⟨P.val / 1024, by omega⟩ ⟨P.val % 1024, by omega⟩) (wOf V0 ⟨P.val / 1024, by omega⟩ ⟨P.val % 1024, by omega⟩) q := by
  rw [val4_main_v160]
  refine (shapeCast_apply (s := S2x1024x3072x2) (t := S2048x6144) _ _ _ (ValueIdx.ix4 (⟨P.val / 1024, by omega⟩ : Fin 2) (⟨P.val % 1024, by omega⟩ : Fin 1024) (⟨q.val / 2, by omega⟩ : Fin 3072) (⟨q.val % 2, by omega⟩ : Fin 2)) ?_).trans ?_
  · rw [Shape.rowMajor_val_two, Shape.rowMajor_val_four]
    show ((P.val / 1024 * 1024 + P.val % 1024) * 3072 + q.val / 2) * 2 + q.val % 2 = P.val * 6144 + q.val
    omega
  unfold refCode
  split_ifs with h
  · refine (concatenate_pair_apply_left (s₁ := S2x1024x3072x1) (s₂ := S2x1024x3072x1) (t := S2x1024x3072x2) 3 _ _ _ _ rfl (ValueIdx.ix4 (⟨P.val / 1024, by omega⟩ : Fin 2) (⟨P.val % 1024, by omega⟩ : Fin 1024) (⟨q.val / 2, by omega⟩ : Fin 3072) (0 : Fin 1)) ?_).trans ?_
    · intro a
      match a with
      | ⟨0, _⟩ => rfl
      | ⟨1, _⟩ => rfl
      | ⟨2, _⟩ => rfl
      | ⟨3, _⟩ => exact h.symm
    refine (broadcastInDim_apply _ _ _ _ (ValueIdx.ix3 (⟨P.val / 1024, by omega⟩ : Fin 2) (⟨P.val % 1024, by omega⟩ : Fin 1024) (⟨q.val / 2, by omega⟩ : Fin 3072)) ?_).trans ?_
    · intro a
      match a with
      | ⟨0, _⟩ => rfl
      | ⟨1, _⟩ => rfl
      | ⟨2, _⟩ => rfl
    show clip (F := Ideal) (res_main_v110 V0 (ValueIdx.ix3 _ _ _)) (res_main_v152 V0 (ValueIdx.ix3 _ _ _)) = _
    rw [keptLo_at, inv_at]
  · refine (concatenate_pair_apply_right (s₁ := S2x1024x3072x1) (s₂ := S2x1024x3072x1) (t := S2x1024x3072x2) 3 _ _ _ _ rfl rfl (ValueIdx.ix4 (⟨P.val / 1024, by omega⟩ : Fin 2) (⟨P.val % 1024, by omega⟩ : Fin 1024) (⟨q.val / 2, by omega⟩ : Fin 3072) (0 : Fin 1)) ?_ ?_).trans ?_
    · intro a ha
      match a with
      | ⟨0, _⟩ => rfl
      | ⟨1, _⟩ => rfl
      | ⟨2, _⟩ => rfl
      | ⟨3, _⟩ => exact absurd rfl ha
    · show 0 + 1 = q.val % 2
      omega
    refine (broadcastInDim_apply _ _ _ _ (ValueIdx.ix3 (⟨P.val / 1024, by omega⟩ : Fin 2) (⟨P.val % 1024, by omega⟩ : Fin 1024) (⟨q.val / 2, by omega⟩ : Fin 3072)) ?_).trans ?_
    · intro a
      match a with
      | ⟨0, _⟩ => rfl
      | ⟨1, _⟩ => rfl
      | ⟨2, _⟩ => rfl
    show clip (F := Ideal) (res_main_v128 V0 (ValueIdx.ix3 _ _ _)) (res_main_v152 V0 (ValueIdx.ix3 _ _ _)) = _
    rw [keptHi_at, inv_at]

/-- The scales. -/
theorem scales_val (P : Fin 2048) (B : Fin 96) : val4 V0 (Proc.devRef .tc main_v171) (ValueIdx.ix2 P B)
    = refScale (gOf V0 ⟨P.val / 1024, by omega⟩ ⟨P.val % 1024, by omega⟩) (wOf V0 ⟨P.val / 1024, by omega⟩ ⟨P.val % 1024, by omega⟩) B := by
  rw [val4_main_v171]
  refine (shapeCast_apply (s := S2x1024x96) (t := S2048x96) _ _ _ (ValueIdx.ix3 (⟨P.val / 1024, by omega⟩ : Fin 2) (⟨P.val % 1024, by omega⟩ : Fin 1024) B) ?_).trans ?_
  · rw [Shape.rowMajor_val_two, Shape.rowMajor_val_three]
    show (P.val / 1024 * 1024 + P.val % 1024) * 96 + B.val = P.val * 96 + B.val
    omega
  rw [scale_gen, e_at]; rfl

theorem field_at (Q : Fin 3072) : res_main_v163 V0 (ValueIdx.ix3 b s Q) = refField (gOf V0 b s) (wOf V0 b s) Q := by
  unfold refField
  rw [← posLo_at, ← posHi_at]; rfl

/-- The packed positions. -/
theorem meta_val (P : Fin 2048) (j : Fin 1536) : val4 V0 (Proc.devRef .tc main_v170) (ValueIdx.ix2 P j)
    = refMeta (gOf V0 ⟨P.val / 1024, by omega⟩ ⟨P.val % 1024, by omega⟩) (wOf V0 ⟨P.val / 1024, by omega⟩ ⟨P.val % 1024, by omega⟩) j := by
  rw [val4_main_v170]
  refine (shapeCast_apply (s := S2x1024x1536) (t := S2048x1536) _ _ _ (ValueIdx.ix3 (⟨P.val / 1024, by omega⟩ : Fin 2) (⟨P.val % 1024, by omega⟩ : Fin 1024) j) ?_).trans ?_
  · rw [Shape.rowMajor_val_two, Shape.rowMajor_val_three]
    show (P.val / 1024 * 1024 + P.val % 1024) * 1536 + j.val = P.val * 1536 + j.val
    omega
  have h0 : Host.slice S2x1024x1536 ![0, 0, 0] ![1, 1, 2] (res_main_v163 V0) slicesBy_S2x1024x3072_S2x1024x1536_0s1_0s1_0s2 (ValueIdx.ix3 (⟨P.val / 1024, by omega⟩ : Fin 2) (⟨P.val % 1024, by omega⟩ : Fin 1024) j)
      = refField (gOf V0 ⟨P.val / 1024, by omega⟩ ⟨P.val % 1024, by omega⟩) (wOf V0 ⟨P.val / 1024, by omega⟩ ⟨P.val % 1024, by omega⟩) ⟨2 * j.val, by omega⟩ := by
    rw [← field_at]
    refine congrArg (res_main_v163 V0) (funext fun a => Fin.ext ?_)
    match a with
    | ⟨0, _⟩ => show 0 + 1 * (P.val / 1024) = P.val / 1024; omega
    | ⟨1, _⟩ => show 0 + 1 * (P.val % 1024) = P.val % 1024; omega
    | ⟨2, _⟩ => show 0 + 2 * j.val = 2 * j.val; omega
  have h1 : Host.slice S2x1024x1536 ![0, 0, 1] ![1, 1, 2] (res_main_v163 V0) slicesBy_S2x1024x3072_S2x1024x1536_0s1_0s1_1s2 (ValueIdx.ix3 (⟨P.val / 1024, by omega⟩ : Fin 2) (⟨P.val % 1024, by omega⟩ : Fin 1024) j)
      = refField (gOf V0 ⟨P.val / 1024, by omega⟩ ⟨P.val % 1024, by omega⟩) (wOf V0 ⟨P.val / 1024, by omega⟩ ⟨P.val % 1024, by omega⟩) ⟨2 * j.val + 1, by omega⟩ := by
    rw [← field_at]
    refine congrArg (res_main_v163 V0) (funext fun a => Fin.ext ?_)
    match a with
    | ⟨0, _⟩ => show 0 + 1 * (P.val / 1024) = P.val / 1024; omega
    | ⟨1, _⟩ => show 0 + 1 * (P.val % 1024) = P.val % 1024; omega
    | ⟨2, _⟩ => show 1 + 2 * j.val = 2 * j.val + 1; omega
  unfold refMeta
  rw [← h0, ← h1]; rfl

end Cert.Proof.ReferenceIdeal

end
-- ==== Proof.Eq.Scale.lean ====
/- One scale in both programs.

   The kernel searches the exponent field of a block's scaled maximum `y` among the powers of two; the reference rounds the
   base-two logarithm of `y` down. Both give the same power of two, its exponent one above the exponent found, and one where
   `y` is below the smallest normal value. -/
module

public import proofs.«01_k».proof.Proof.Eq.Group
public import proofs.«01_k».proof.Proof.KI.Rows
public import proofs.«01_k».proof.Proof.RI.Values

@[expose] public section

set_option maxHeartbeats 4000000

noncomputable section

namespace Cert.Proof.Eq

open Idealize.ShloMosaic
open Cert.Proof.ReferenceIdeal Cert.Proof.KernelIdeal

/-- The three fields of an exponent's word. -/
theorem field_parts : ∀ n : Fin 255, ((IntOp.shli .vector (BitVec.ofNat 32 n.val) 23#32).extractLsb' 23 8).toNat = n.val
    ∧ ((IntOp.shli .vector (BitVec.ofNat 32 n.val) 23#32).extractLsb' 0 23).toNat = 0
    ∧ ((IntOp.shli .vector (BitVec.ofNat 32 n.val) 23#32).extractLsb' (8 + 23) 1 == 1#1) = false := by
  decide +kernel
/-- A normal word of no fraction. -/
theorem ieee_pow (b : BitVec 32) (n : ℕ) (h1 : 1 ≤ n) (h2 : n ≤ 254) (hex : (b.extractLsb' 23 8).toNat = n) (hfr : (b.extractLsb' 0 23).toNat = 0)
    (hsg : (b.extractLsb' (8 + 23) 1 == 1#1) = false) : Ideal.ieee 8 23 b = (((2 : ℝ) ^ ((n : ℤ) - 127) : ℝ) : EReal) := by
  unfold Ideal.ieee
  simp only [hex, hfr, hsg]
  rw [if_neg (by omega), if_neg (by omega)]
  refine congrArg _ ?_
  have h23 : ((2 ^ 23 + 0 : ℕ) : ℝ) = (2 : ℝ) ^ (23 : ℤ) := by norm_num
  rw [h23]
  simp only [Bool.false_eq_true, if_false, one_mul]
  rw [← zpow_add₀ (by norm_num : (2 : ℝ) ≠ 0)]
  refine congrArg _ ?_
  norm_num
theorem ofBits_ieee (b : BitVec 32) : FloatOps.ofBits (F := Ideal) .f32 b = Ideal.ieee 8 23 b := rfl
/-- The value an exponent field denotes. -/
theorem field_r (n : ℕ) (h1 : 1 ≤ n) (h2 : n ≤ 254) :
    FloatOps.ofBits (F := Ideal) .f32 (IntOp.shli .vector (BitVec.ofNat 32 n) 23#32) = (((2 : ℝ) ^ ((n : ℤ) - 127) : ℝ) : EReal) := by
  obtain ⟨e1, e2, e3⟩ := field_parts ⟨n, by omega⟩
  rw [ofBits_ieee]
  exact ieee_pow _ n h1 h2 e1 e2 e3
theorem field_top : FloatOps.ofBits (F := Ideal) .f32 (IntOp.shli .vector (BitVec.ofNat 32 255) 23#32) = (⊤ : EReal) := by
  show Ideal.ofBits .f32 0x7F800000#32 = _
  simp [Ideal.ofBits, Ideal.ieee, -EReal.coe_mul]

/-- The base-two logarithm rounded down. -/
def flog (y : ℝ) : ℤ := ⌊Real.log y / Real.log 2⌋

open Classical in
/-- The exponent field of a nonnegative real, zero below the smallest normal value. -/
def expo (y : ℝ) : ℕ := if y = 0 then 0 else (flog y + 127).toNat

theorem two_zpow_le (y : ℝ) (h : 0 < y) (k : ℤ) : (2 : ℝ) ^ k ≤ y ↔ k ≤ flog y := by
  have l2 : 0 < Real.log 2 := Real.log_pos (by norm_num)
  unfold flog
  rw [Int.le_floor, le_div_iff₀ l2, ← Real.log_zpow, Real.log_le_log_iff (by positivity) h]

theorem expo_le (y : ℝ) (h0 : 0 ≤ y) (h1 : y < (2 : ℝ) ^ (115 : ℤ)) : expo y ≤ 241 := by
  unfold expo
  split_ifs with hz
  · omega
  · have h : 0 < y := lt_of_le_of_ne h0 (Ne.symm hz)
    have := (two_zpow_le y h 115).not.mp (not_le.mpr h1)
    omega

/-- A positive exponent field's power of two is at most `y` exactly up to `y`'s own. -/
theorem le_expo (y : ℝ) (h0 : 0 ≤ y) (n : ℕ) (h1 : 1 ≤ n) : (2 : ℝ) ^ ((n : ℤ) - 127) ≤ y ↔ n ≤ expo y := by
  unfold expo
  split_ifs with hz
  · have hp : (0 : ℝ) < (2 : ℝ) ^ ((n : ℤ) - 127) := by positivity
    rw [hz]
    constructor
    · intro h'; linarith
    · intro h'; omega
  · have h : 0 < y := lt_of_le_of_ne h0 (Ne.symm hz)
    rw [two_zpow_le y h]
    omega

open Classical in
/-- One step of the search. -/
theorem step_r (y : ℝ) (h0 : 0 ≤ y) (h1 : y < (2 : ℝ) ^ (115 : ℤ)) (c ex : ℕ) (hc : 1 ≤ c) (h : ex + c ≤ 255) :
    sStep (F := Ideal) (y : EReal) (BitVec.ofNat 32 c) (BitVec.ofNat 32 ex) = BitVec.ofNat 32 (if ex + c ≤ expo y then ex + c else ex) := by
  have ea : IntOp.addi (BitVec.ofNat 32 ex) (BitVec.ofNat 32 c) = BitVec.ofNat 32 (ex + c) := (BitVec.ofNat_add ex c).symm
  have hx := expo_le y h0 h1
  unfold sStep
  rw [ea]
  rcases Nat.lt_or_ge (ex + c) 255 with hlt | hge
  · rw [field_r _ (by omega) (by omega), cmp_oge, select_bitP, le_expo y h0 _ (by omega)]
    split_ifs <;> rfl
  · have e : ex + c = 255 := by omega
    rw [e, field_top, if_neg (by omega)]
    have : FloatOps.cmpf (F := Ideal) (φ := .f32) .oge (y : EReal) (⊤ : EReal) = 0#1 := by
      show BitVec.ofBool (decide ((⊤ : EReal) ≤ (y : EReal))) = _
      rw [decide_eq_false (not_le.mpr (EReal.coe_lt_top y))]; rfl
    rw [this]
    exact select_false _ _

theorem ite_floor (N k m : ℕ) (hm : m = 2 * k) (hk : 0 < k) : (if (N - N % m) + k ≤ N then (N - N % m) + k else N - N % m) = N - N % k := by
  subst hm
  have e : N % (2 * k) = N % k + k * (N / k % 2) := by rw [Nat.mul_comm, Nat.mod_mul]
  have hlt := Nat.mod_lt N hk
  have hle := Nat.mod_le N (2 * k)
  rcases Nat.mod_two_eq_zero_or_one (N / k) with h | h
  · rw [h, Nat.mul_zero, Nat.add_zero] at e
    rw [e, if_neg (by omega)]
  · rw [h, Nat.mul_one] at e
    rw [e, if_pos (by omega)]
    omega

/-- The search finds the exponent field. -/
theorem ex_r (y : ℝ) (h0 : 0 ≤ y) (h1 : y < (2 : ℝ) ^ (115 : ℤ)) : sEx (F := Ideal) (y : EReal) = BitVec.ofNat 32 (expo y) := by
  have hx := expo_le y h0 h1
  have st : ∀ k m : ℕ, m = 2 * k → 0 < k → m ∣ 256 → sStep (F := Ideal) (y : EReal) (BitVec.ofNat 32 k) (BitVec.ofNat 32 (expo y - expo y % m)) = BitVec.ofNat 32 (expo y - expo y % k) := by
    intro k m hm hk hd
    have hb : expo y - expo y % m + k ≤ 255 := by
      obtain ⟨q, hq⟩ := hd
      have := Nat.div_add_mod (expo y) m
      have h2 : expo y / m < q := by
        rw [Nat.div_lt_iff_lt_mul (by omega)]
        rw [Nat.mul_comm] at hq; omega
      have h3 : m * (expo y / m) + m ≤ m * q := by
        rw [← Nat.mul_succ]; exact Nat.mul_le_mul_left m h2
      omega
    rw [step_r y h0 h1 k _ hk hb]
    congr 1
    exact ite_floor (expo y) k m hm hk
  have s0 : (0#32 : BitVec 32) = BitVec.ofNat 32 (expo y - expo y % 256) := by
    rw [Nat.mod_eq_of_lt (by omega), Nat.sub_self]
  unfold sEx
  rw [s0, st 128 256 rfl (by norm_num) (by norm_num), st 64 128 rfl (by norm_num) (by norm_num), st 32 64 rfl (by norm_num) (by norm_num),
    st 16 32 rfl (by norm_num) (by norm_num), st 8 16 rfl (by norm_num) (by norm_num), st 4 8 rfl (by norm_num) (by norm_num),
    st 2 4 rfl (by norm_num) (by norm_num), st 1 2 rfl (by norm_num) (by norm_num), Nat.mod_one, Nat.sub_zero]

open Classical in
/-- The scale's exponent. -/
def sexp (y : ℝ) : ℤ := if expo y = 0 then 0 else (expo y : ℤ) - 126

open Classical in
theorem isz (N : ℕ) (h : N ≤ 255) : IntOp.cmpi .eq (BitVec.ofNat 32 N) 0#32 = bitP (N = 0) := by
  by_cases h0 : N = 0
  · rw [h0, bitP_true rfl]; rfl
  · rw [bitP_false h0]
    show BitVec.ofBool (BitVec.ofNat 32 N == 0#32) = 0#1
    have : (BitVec.ofNat 32 N == 0#32) = false := by
      apply beq_false_of_ne
      intro e
      have := congrArg BitVec.toNat e
      simp only [BitVec.toNat_ofNat] at this
      omega
    rw [this]; rfl

/-- The kernel's scale. -/
theorem scale_r (y : ℝ) (h0 : 0 ≤ y) (h1 : y < (2 : ℝ) ^ (115 : ℤ)) : sScale (F := Ideal) (y : EReal) = (((2 : ℝ) ^ sexp y : ℝ) : EReal) := by
  have hx := expo_le y h0 h1
  unfold sScale sexp
  rw [ex_r y h0 h1, isz _ (by omega), select_bitP]
  split_ifs with h
  · refine (field_r 127 (by norm_num) (by norm_num)).trans ?_
    norm_num
  · have e : IntOp.addi (BitVec.ofNat 32 (expo y)) 1#32 = BitVec.ofNat 32 (expo y + 1) := (BitVec.ofNat_add (expo y) 1).symm
    rw [e, field_r _ (by omega) (by omega)]
    congr 2
    push_cast
    ring

/-- The kernel's inverse scale. -/
theorem inv_r (y : ℝ) (h0 : 0 ≤ y) (h1 : y < (2 : ℝ) ^ (115 : ℤ)) : sInv (F := Ideal) (y : EReal) = (((2 : ℝ) ^ (-sexp y) : ℝ) : EReal) := by
  have hx := expo_le y h0 h1
  unfold sInv sexp
  rw [ex_r y h0 h1, isz _ (by omega), select_bitP]
  split_ifs with h
  · refine (field_r 127 (by norm_num) (by norm_num)).trans ?_
    norm_num
  · have e : IntOp.subi 253#32 (BitVec.ofNat 32 (expo y)) = BitVec.ofNat 32 (253 - expo y) := by
      show 253#32 - BitVec.ofNat 32 (expo y) = _
      apply BitVec.eq_of_toNat_eq
      simp only [BitVec.toNat_sub, BitVec.toNat_ofNat]
      omega
    rw [e, field_r _ (by omega) (by omega)]
    congr 2
    push_cast [Nat.cast_sub (by omega : expo y ≤ 253)]
    ring

theorem min_normal_r : FloatOps.ofBits (F := Ideal) .f32 0x00800000#32 = (((2 : ℝ) ^ ((1 : ℕ) - 127 : ℤ) : ℝ) : EReal) := field_r 1 (by norm_num) (by norm_num)

/-- The reference's exponent of a scaled maximum. -/
theorem refE_r (y : ℝ) (h0 : 0 ≤ y) : refE (F := Ideal) (y : EReal) = ((sexp y : ℝ) : EReal) := by
  unfold refE
  rw [min_normal_r, cmp_olt, select_bitP]
  have hle := le_expo y h0 1 le_rfl
  unfold sexp
  split_ifs with h1 h2 h2
  · rw [zero_r]; norm_num
  · exfalso
    exact absurd (hle.mpr (by omega)) (not_le.mpr h1)
  · exfalso
    have := hle.mp (not_lt.mp h1)
    omega
  · have hy : 0 < y := lt_of_lt_of_le (by positivity) (not_lt.mp h1)
    have e1 : FloatOps.hostUnary (F := Ideal) (φ := .f32) .log (y : EReal) = ((Real.log y : ℝ) : EReal) := by
      show Ideal.log (y : EReal) = _
      exact if_neg (not_le.mpr hy)
    have e2 : FloatOps.hostUnary (F := Ideal) (φ := .f32) .log ((2 : ℝ) : EReal) = ((Real.log 2 : ℝ) : EReal) := by
      show Ideal.log ((2 : ℝ) : EReal) = _
      exact if_neg (by norm_num)
    have l2 : Real.log 2 ≠ 0 := (Real.log_pos (by norm_num)).ne'
    have e3 : FloatOps.hostDivf (F := Ideal) (φ := .f32) ((Real.log y : ℝ) : EReal) ((Real.log 2 : ℝ) : EReal) = ((Real.log y / Real.log 2 : ℝ) : EReal) := by
      show Ideal.div _ _ = _
      unfold Ideal.div
      rw [if_neg (by exact_mod_cast l2), ← EReal.coe_inv, ← EReal.coe_mul, div_eq_mul_inv]
    have e4 : FloatOps.hostUnary (F := Ideal) (φ := .f32) .floor ((Real.log y / Real.log 2 : ℝ) : EReal) = (((⌊Real.log y / Real.log 2⌋ : ℤ) : ℝ) : EReal) := rfl
    have e5 : ⌊Real.log y / Real.log 2⌋ = flog y := rfl
    have e6 : FloatOps.ofBits (F := Ideal) .f32 0x3F800000#32 = ((1 : ℝ) : EReal) := (Ideal.ofBits_one_f32).trans EReal.coe_one.symm
    rw [two_r, e1, e2, e3, e4, e5, e6, add_r]
    congr 1
    have hz : y ≠ 0 := hy.ne'
    have : (expo y : ℤ) = flog y + 127 := by
      unfold expo at h2 ⊢
      rw [if_neg hz] at h2 ⊢
      omega
    rw [this]
    push_cast
    ring

/-- The reference's power of two. -/
theorem pow_r (k : ℤ) : pow2 (F := Ideal) ((k : ℝ) : EReal) = (((2 : ℝ) ^ k : ℝ) : EReal) := by
  unfold pow2
  rw [two_r]
  show ((Real.rpow 2 (k : ℝ) : ℝ) : EReal) = _
  congr 1
  exact Real.rpow_intCast 2 k

theorem clip_r : FloatOps.ofBits (F := Ideal) .f32 0x47600000#32 = ((57344 : ℝ) : EReal) := by
  show Ideal.ofBits .f32 0x47600000#32 = _
  simp [Ideal.ofBits, Ideal.ieee, -EReal.coe_mul]; norm_num
theorem nclip_r : FloatOps.ofBits (F := Ideal) .f32 0xC7600000#32 = ((-57344 : ℝ) : EReal) := by
  show Ideal.ofBits .f32 0xC7600000#32 = _
  simp [Ideal.ofBits, Ideal.ieee, -EReal.coe_mul]; norm_num

/-- A code in both programs: the kernel clips the scaled magnitude and attaches the sign, the reference clips the scaled value. -/
theorem quant_r (p v i : ℝ) (hv : 0 ≤ v) (hi : 0 ≤ i) :
    sQuant (F := Ideal) ((-v : ℝ) : EReal) (p : EReal) (i : EReal)
      = clip (F := Ideal) ((sg p v : ℝ) : EReal) (i : EReal) := by
  have hm : 0 ≤ v * i := mul_nonneg hv hi
  unfold sQuant clip
  rw [clip_r, nclip_r, zero_r, mul_r, max_r, sub_r, cmp_olt, select_bitP, mul_r, max_r, min_r]
  unfold sg
  split_ifs with h
  · congr 1
    rw [max_comm, min_eq_right]
    exact max_le (by norm_num) (by linarith)
  · congr 1
    rw [max_eq_right (by linarith : (-57344 : ℝ) ≤ v * i), zero_sub, neg_mul, ← neg_neg (57344 : ℝ), ← min_neg_neg, neg_neg, neg_neg, neg_neg, min_comm]

/-- A block's largest magnitude in both programs. -/
theorem fold_r (b : Fin 32 → ℝ) (b0 : ∀ l, 0 ≤ b l) (r : Fin 32 → EReal) (hr : ∀ l, r l = ((b l : ℝ) : EReal)) :
    ∃ M : ℝ, 0 ≤ M ∧ (∃ l, M = b l)
      ∧ FloatOps.subf (F := Ideal) (φ := .f32) (FloatOps.ofBits (F := Ideal) .f32 0x00000000#32)
          ((Finset.univ : Finset (Fin 32)).fold (FloatOps.minimumf (F := Ideal) (φ := .f32)) (FloatOps.ofBits (F := Ideal) .f32 0x7F800000#32)
            (fun l => ((-b l : ℝ) : EReal))) = (M : EReal)
      ∧ (Finset.univ : Finset (Fin 32)).fold (FloatOps.maximumf (F := Ideal) (φ := .f32)) (FloatOps.ofBits (F := Ideal) .f32 0xFF800000#32) r = (M : EReal) := by
  have htop : FloatOps.ofBits (F := Ideal) .f32 0x7F800000#32 = (⊤ : EReal) := by
    show Ideal.ofBits .f32 0x7F800000#32 = _
    simp [Ideal.ofBits, Ideal.ieee, -EReal.coe_mul]
  have hbot : FloatOps.ofBits (F := Ideal) .f32 0xFF800000#32 = (⊥ : EReal) := by
    show Ideal.ofBits .f32 0xFF800000#32 = _
    simp [Ideal.ofBits, Ideal.ieee, -EReal.coe_mul]
  rw [htop, hbot]
  have key : ∀ s : Finset (Fin 32), s.Nonempty → ∃ M : ℝ, (∃ l, M = b l)
      ∧ s.fold (FloatOps.minimumf (F := Ideal) (φ := .f32)) (⊤ : EReal) (fun l => ((-b l : ℝ) : EReal)) = ((-M : ℝ) : EReal)
      ∧ s.fold (FloatOps.maximumf (F := Ideal) (φ := .f32)) (⊥ : EReal) r = (M : EReal) := by
    intro s hs
    induction hs using Finset.Nonempty.cons_induction with
    | singleton a =>
      refine ⟨b a, ⟨a, rfl⟩, ?_, ?_⟩
      · rw [Finset.fold_singleton]; exact min_eq_left le_top
      · rw [Finset.fold_singleton, hr]; exact max_eq_left bot_le
    | cons a s ha hs ih =>
      obtain ⟨M, ⟨l, hl⟩, h1, h2⟩ := ih
      refine ⟨max (b a) M, ?_, ?_, ?_⟩
      · rcases max_choice (b a) M with h | h
        · exact ⟨a, h⟩
        · exact ⟨l, h.trans hl⟩
      · rw [Finset.fold_cons, h1, min_r, min_neg_neg]
      · rw [Finset.fold_cons, h2, hr, max_r]
  obtain ⟨M, ⟨l, hl⟩, h1, h2⟩ := key Finset.univ ⟨0, Finset.mem_univ _⟩
  refine ⟨M, by rw [hl]; exact b0 l, ⟨l, hl⟩, ?_, h2⟩
  rw [h1, zero_r, sub_r]
  congr 1
  ring

end Cert.Proof.Eq

end
-- ==== Proof.Eq.Rows.lean ====
/- A row in both programs: the same codes, scales and packed positions, for a row of finite gradients. -/
module

public import proofs.«01_k».proof.Proof.Eq.Scale

@[expose] public section

set_option maxHeartbeats 1000000

noncomputable section

namespace Cert.Proof.Eq

open Idealize.ShloMosaic
open Cert.Proof.ReferenceIdeal Cert.Proof.KernelIdeal

variable (g : Fin 12288 → EReal) (w : Fin 3072 → BitVec 32)

/-- A row of finite gradients. -/
def Finite : Prop := ∀ q, ∃ x : ℝ, |x| ≤ (2 : ℝ) ^ (128 : ℤ) ∧ g q = (x : EReal)

/-- The numbers of one group in both programs. -/
structure Group (Q : Fin 3072) (plo phi vlo vhi : ℝ) : Prop where
  kplo : grp g w (sPlo (F := Ideal)) Q = (plo : EReal)
  kphi : grp g w (sPhi (F := Ideal)) Q = (phi : EReal)
  kvlo : grp g w (sMlo (F := Ideal)) Q = ((-vlo : ℝ) : EReal)
  kvhi : grp g w (sMhi (F := Ideal)) Q = ((-vhi : ℝ) : EReal)
  lo0 : 0 ≤ vlo
  hi0 : 0 ≤ vhi
  big : bigRow g Q = ((-(max vlo vhi) : ℝ) : EReal)
  bound : max vlo vhi ≤ (2 : ℝ) ^ (130 : ℤ)
  rlo : keptAt g Q (posLo g w Q) = ((sg plo vlo : ℝ) : EReal)
  rhi : keptAt g Q (posHi g w Q) = ((sg phi vhi : ℝ) : EReal)
  field : grp g w (sField (F := Ideal)) Q = (posLo g w Q ||| posHi g w Q <<< 2).setWidth 8

variable {g}

theorem group_row (hg : Finite g) (Q : Fin 3072) : ∃ plo phi vlo vhi : ℝ, Group g w Q plo phi vlo vhi := by
  obtain ⟨x0, b0, e0⟩ := hg ⟨4 * Q.val + 0, by omega⟩
  obtain ⟨x1, b1, e1⟩ := hg ⟨4 * Q.val + 1, by omega⟩
  obtain ⟨x2, b2, e2⟩ := hg ⟨4 * Q.val + 2, by omega⟩
  obtain ⟨x3, b3, e3⟩ := hg ⟨4 * Q.val + 3, by omega⟩
  obtain ⟨plo, phi, vlo, vhi, h1, h2, h3, h4, h5, h6, h7, h8, h9, h10⟩ := group_eq x0 x1 x2 x3 (w Q)
  have hb : max vlo vhi ≤ (2 : ℝ) ^ (130 : ℤ) := by
    have h := h7.symm.trans (sBig_r x0 x1 x2 x3)
    have h' : -(max vlo vhi) = -bigR |x0| |x1| |x2| |x3| := EReal.coe_eq_coe_iff.mp h
    have a0 := abs_nonneg x0
    have a1 := abs_nonneg x1
    have a2 := abs_nonneg x2
    have a3 := abs_nonneg x3
    have hB : bigR |x0| |x1| |x2| |x3| ≤ |x0| + |x1| + |x2| + |x3| :=
      max_le (max_le (max_le (by linarith) (by linarith)) (max_le (by linarith) (by linarith))) (by linarith)
    have e : (2 : ℝ) ^ (130 : ℤ) = 4 * (2 : ℝ) ^ (128 : ℤ) := by
      rw [show (130 : ℤ) = 2 + 128 from rfl, zpow_add₀ (by norm_num : (2 : ℝ) ≠ 0)]
      norm_num
    rw [e]
    linarith
  refine ⟨plo, phi, vlo, vhi, ?_, ?_, ?_, ?_, h5, h6, ?_, hb, ?_, ?_, ?_⟩
  · unfold grp; rw [e0, e1, e2, e3]; exact h1
  · unfold grp; rw [e0, e1, e2, e3]; exact h2
  · unfold grp; rw [e0, e1, e2, e3]; exact h3
  · unfold grp; rw [e0, e1, e2, e3]; exact h4
  · unfold bigRow; rw [e0, e1, e2, e3]; exact h7
  · unfold keptAt posLo; rw [e0, e1, e2, e3]; exact h8
  · unfold keptAt posHi; rw [e0, e1, e2, e3]; exact h9
  · unfold grp posLo posHi; rw [e0, e1, e2, e3]; exact h10

theorem inv57344 : ∃ c : ℝ, 0 ≤ c ∧ c < (2 : ℝ) ^ (-15 : ℤ) ∧ FloatOps.ofBits (F := Ideal) .f32 0x37924925#32 = (c : EReal) := by
  refine ⟨9586981 / 549755813888, by norm_num, by norm_num, ?_⟩
  show Ideal.ofBits .f32 0x37924925#32 = _
  simp [Ideal.ofBits, Ideal.ieee, -EReal.coe_mul]; norm_num

/-- A block's scaled maximum is one finite number in both programs. -/
theorem y_row (hg : Finite g) (B : Fin 96) : ∃ y : ℝ, 0 ≤ y ∧ y < (2 : ℝ) ^ (115 : ℤ) ∧ yRow g B = (y : EReal) ∧ refY g w B = (y : EReal) := by
  choose plo phi vlo vhi hG using group_row w hg
  obtain ⟨c, c0, c1, hc⟩ := inv57344
  obtain ⟨M, M0, ⟨l, hl⟩, h1, h2⟩ := fold_r (fun l : Fin 32 => max (vlo ⟨32 * B.val + l.val, by omega⟩) (vhi ⟨32 * B.val + l.val, by omega⟩))
    (fun l => le_trans (hG _).lo0 (le_max_left _ _)) (fun l => topMag g w ⟨32 * B.val + l.val, by omega⟩)
    (fun l => by unfold topMag; rw [(hG _).rlo, (hG _).rhi, mag_r, mag_r, abs_sg _ _ (hG _).lo0, abs_sg _ _ (hG _).hi0, max_r])
  have hM : M ≤ (2 : ℝ) ^ (130 : ℤ) := hl ▸ (hG _).bound
  refine ⟨M * c, mul_nonneg M0 c0, ?_, ?_, ?_⟩
  · have e : (2 : ℝ) ^ (115 : ℤ) = (2 : ℝ) ^ (130 : ℤ) * (2 : ℝ) ^ (-15 : ℤ) := by
      rw [← zpow_add₀ (by norm_num : (2 : ℝ) ≠ 0)]; norm_num
    rw [e]
    calc M * c ≤ (2 : ℝ) ^ (130 : ℤ) * c := mul_le_mul_of_nonneg_right hM c0
      _ < _ := mul_lt_mul_of_pos_left c1 (by positivity)
  · unfold yRow
    have e : (fun l : Fin 32 => bigRow g ⟨32 * B.val + l.val, by omega⟩)
        = fun l : Fin 32 => ((-(max (vlo ⟨32 * B.val + l.val, by omega⟩) (vhi ⟨32 * B.val + l.val, by omega⟩)) : ℝ) : EReal) := funext fun l => (hG _).big
    rw [e, h1, hc, mul_r]
  · unfold refY
    rw [h2, hc, mul_r]

/-- The scales agree. -/
theorem scale_row (hg : Finite g) (B : Fin 96) : scaleRow g B = refScale g w B := by
  obtain ⟨y, y0, y1, hk, hr⟩ := y_row w hg B
  unfold scaleRow refScale
  rw [hk, hr, scale_r y y0 y1, refE_r y y0, pow_r]

/-- The inverse scales agree. -/
theorem inv_row (hg : Finite g) (B : Fin 96) : ∃ i : ℝ, 0 ≤ i ∧ sInv (F := Ideal) (yRow g B) = (i : EReal) ∧ refInv g w B = (i : EReal) := by
  obtain ⟨y, y0, y1, hk, hr⟩ := y_row w hg B
  refine ⟨(2 : ℝ) ^ (-sexp y), by positivity, ?_, ?_⟩
  · rw [hk, inv_r y y0 y1]
  · unfold refInv
    rw [hr, refE_r y y0]
    have e : FloatOps.hostNegf (F := Ideal) (φ := .f32) ((sexp y : ℝ) : EReal) = (((-sexp y : ℤ) : ℝ) : EReal) := by
      show -((sexp y : ℝ) : EReal) = _
      rw [← EReal.coe_neg]
      push_cast
      rfl
    rw [e, pow_r]

/-- The codes agree. -/
theorem code_row (hg : Finite g) (q : Fin 6144) : codeRow g w q = refCode g w q := by
  obtain ⟨plo, phi, vlo, vhi, hG⟩ := group_row w hg ⟨q.val / 2, by omega⟩
  obtain ⟨i, i0, hk, hr⟩ := inv_row w hg ⟨q.val / 2 / 32, by omega⟩
  unfold codeRow refCode
  rw [hr, hG.rlo, hG.rhi]
  split_ifs with h
  · unfold codeLo
    rw [hG.kvlo, hG.kplo]
    exact (congrArg _ hk).trans (quant_r plo vlo i hG.lo0 i0)
  · unfold codeHi
    rw [hG.kvhi, hG.kphi]
    exact (congrArg _ hk).trans (quant_r phi vhi i hG.hi0 i0)

theorem shl_host (a : BitVec 32) (k : ℕ) (hk : k < 32) : IntOp.shli .host a (BitVec.ofNat 32 k) = a <<< k := by
  have e : (BitVec.ofNat 32 k).toNat = k := by rw [BitVec.toNat_ofNat]; exact Nat.mod_eq_of_lt (by omega)
  unfold IntOp.shli
  rw [if_pos (by rw [e]; exact hk)]
  show a <<< (BitVec.ofNat 32 k).toNat = _
  rw [e]

theorem pack8 (a b : BitVec 32) : (a ||| b <<< 4).setWidth 8 = a.setWidth 8 ||| (b.setWidth 8) <<< 4 := by
  apply BitVec.eq_of_getLsbD_eq
  intro i hi
  have h32 : i < 32 := by omega
  simp only [BitVec.getLsbD_setWidth, BitVec.getLsbD_or, BitVec.getLsbD_shiftLeft]
  have h4 : i - 4 < 8 := by omega
  simp [hi, h32, h4]

/-- The packed positions agree. -/
theorem meta_row (hg : Finite g) (j : Fin 1536) : metaRow g w j = refMeta g w j := by
  obtain ⟨_, _, _, _, h0⟩ := group_row w hg ⟨2 * j.val, by omega⟩
  obtain ⟨_, _, _, _, h1⟩ := group_row w hg ⟨2 * j.val + 1, by omega⟩
  unfold metaRow refMeta refField
  rw [h0.field, h1.field]
  have e2 : ∀ a : BitVec 32, IntOp.shli .host a 2#32 = a <<< 2 := fun a => shl_host a 2 (by norm_num)
  have e4 : ∀ a : BitVec 32, IntOp.shli .host a 4#32 = a <<< 4 := fun a => shl_host a 4 (by norm_num)
  rw [e2, e2, e4]
  exact (pack8 _ _).symm

end Cert.Proof.Eq

end
-- ==== Proof.Eq.Arrays.lean ====
/- The three results in both programs: equal arrays for equal arguments whose gradients are finite. -/
module

public import proofs.«01_k».proof.Proof.Eq.Rows
public import proofs.«01_k».proof.Proof.KI.Arrays
public import proofs.«01_k».proof.Proof.RI.Entry
public import proofs.«01_k».proof.Pre_finite

@[expose] public section

set_option maxHeartbeats 1000000

noncomputable section

namespace Cert.Proof.Eq

open Idealize.ShloMosaic Idealize.ShloMosaic.TcCoe
open Cert.Proof.ReferenceIdeal Cert.Proof.KernelIdeal

variable (g : Cert.KernelIdeal.S2x1024x12288.Idx → EReal) (w : Cert.KernelIdeal.S2x1024x3072.Idx → BitVec 32)

theorem bf16_max : FloatOps.ofBits (F := Ideal) .f32 0x7F7F0000#32 = (((255 : ℝ) * (2 : ℝ) ^ (120 : ℤ) : ℝ) : EReal) := by
  show Ideal.ofBits .f32 0x7F7F0000#32 = _
  simp [Ideal.ofBits, Ideal.ieee, -EReal.coe_mul]; norm_num

/-- The precondition makes every gradient a real number below `2^128` in magnitude. -/
theorem finite_of_pre [Cert.Pre_finite.Facts] (h : Cert.Pre_finite.fn (F := Ideal) g w = fun _ => 1#1) (P : Fin 2048) : Finite (rowG g P) := by
  intro q
  have hi := congrFun h (ValueIdx.ix3 (⟨P.val / 1024, by omega⟩ : Fin 2) (⟨P.val % 1024, by omega⟩ : Fin 1024) q)
  revert hi
  show FloatOps.cmpf (F := Ideal) (φ := .f32) .ole (mag (F := Ideal) (rowG g P q)) (FloatOps.ofBits (F := Ideal) .f32 0x7F7F0000#32) = 1#1 → _
  generalize rowG g P q = z
  rw [bf16_max]
  intro hi
  have hle : max z (-z) ≤ (((255 : ℝ) * (2 : ℝ) ^ (120 : ℤ) : ℝ) : EReal) := by
    by_contra hn
    have : FloatOps.cmpf (F := Ideal) (φ := .f32) .ole (mag (F := Ideal) z) (((255 : ℝ) * (2 : ℝ) ^ (120 : ℤ) : ℝ) : EReal) = 0#1 := by
      exact congrArg BitVec.ofBool (decide_eq_false hn)
    rw [this] at hi
    exact absurd hi (by decide)
  induction z using EReal.rec with
  | bot => exact absurd (le_trans (le_max_right _ _) hle) (by rw [EReal.neg_bot]; exact not_le.mpr (EReal.coe_lt_top _))
  | top => exact absurd (le_trans (le_max_left _ _) hle) (not_le.mpr (EReal.coe_lt_top _))
  | coe x =>
    refine ⟨x, ?_, rfl⟩
    rw [← EReal.coe_neg, coe_max, EReal.coe_le_coe_iff, ← abs_eq_max_neg] at hle
    refine hle.trans ?_
    rw [show (128 : ℤ) = 8 + 120 from rfl, zpow_add₀ (by norm_num : (2 : ℝ) ≠ 0)]
    exact mul_le_mul_of_nonneg_right (by norm_num) (by positivity)

variable (m : (ℓ : Loc Cert.ReferenceIdeal.nD Cert.ReferenceIdeal.τ Cert.ReferenceIdeal.sig) → Buf (Elt Ideal) ℓ) (c : Dev Cert.ReferenceIdeal.nD)
variable (hg : m ((c : Thread Cert.ReferenceIdeal.nD Cert.ReferenceIdeal.τ).loc Cert.ReferenceIdeal.main_arg0) = g)
variable (hw : m ((c : Thread Cert.ReferenceIdeal.nD Cert.ReferenceIdeal.τ).loc Cert.ReferenceIdeal.main_arg1) = w)
variable (hf : ∀ P, Finite (rowG g P))

include hg in
theorem row_g (P : Fin 2048) : gOf (launched m c) ⟨P.val / 1024, by omega⟩ ⟨P.val % 1024, by omega⟩ = rowG g P := by
  rw [← hg]
include hw in
theorem row_w (P : Fin 2048) : wOf (launched m c) ⟨P.val / 1024, by omega⟩ ⟨P.val % 1024, by omega⟩ = rowW w P := by
  rw [← hw]

include hg hw hf in
theorem code_pt (P : Fin 2048) (q : Fin 6144) :
    refCode (gOf (launched m c) ⟨P.val / 1024, by omega⟩ ⟨P.val % 1024, by omega⟩) (wOf (launched m c) ⟨P.val / 1024, by omega⟩ ⟨P.val % 1024, by omega⟩) q
      = codeRow (rowG g P) (rowW w P) q := by
  rw [row_g g m c hg, row_w w m c hw, code_row _ (hf P)]
include hg hw hf in
theorem scale_pt (P : Fin 2048) (B : Fin 96) :
    refScale (gOf (launched m c) ⟨P.val / 1024, by omega⟩ ⟨P.val % 1024, by omega⟩) (wOf (launched m c) ⟨P.val / 1024, by omega⟩ ⟨P.val % 1024, by omega⟩) B
      = scaleRow (rowG g P) B := by
  rw [row_g g m c hg, row_w w m c hw, scale_row _ (hf P)]
include hg hw hf in
theorem meta_pt (P : Fin 2048) (j : Fin 1536) :
    refMeta (gOf (launched m c) ⟨P.val / 1024, by omega⟩ ⟨P.val % 1024, by omega⟩) (wOf (launched m c) ⟨P.val / 1024, by omega⟩ ⟨P.val % 1024, by omega⟩) j
      = metaRow (rowG g P) (rowW w P) j := by
  rw [row_g g m c hg, row_w w m c hw, meta_row _ (hf P)]

include hg hw hf in
/-- The codes: the reference's first result is the kernel's. -/
theorem codes_arr : (Cert.ReferenceIdeal.Gen.dats m 0 c).arrAt 1 Cert.ReferenceIdeal.cfg0.N = codesArr g w := by
  funext i
  refine (codes_at m c i).trans ?_
  rw [entry]
  rw [ValueIdx.eq_ix2 i]
  exact (codes_val (launched m c) (i 0) (i 1)).trans (code_pt g w m c hg hw hf (i 0) (i 1))

include hg hw hf in
/-- The scales. -/
theorem scales_arr : Cert.ReferenceIdeal.Gen.V m c Cert.ReferenceIdeal.main_v171 = scalesArr g := by
  funext i
  rw [entry, ValueIdx.eq_ix2 i]
  exact (scales_val (launched m c) (i 0) (i 1)).trans (scale_pt g w m c hg hw hf (i 0) (i 1))

include hg hw hf in
/-- The packed positions. -/
theorem meta_arr : Cert.ReferenceIdeal.Gen.V m c Cert.ReferenceIdeal.main_v170 = metaArr g w := by
  funext i
  rw [entry, ValueIdx.eq_ix2 i]
  exact (meta_val (launched m c) (i 0) (i 1)).trans (meta_pt g w m c hg hw hf (i 0) (i 1))

end Cert.Proof.Eq

end
-- ==== Proof.lean ====
/- The claims, assembled: the kernel, its idealization and the reference each run to the end, leave their arguments as
   they were and every semaphore counter at zero; the idealization rewrites nothing; and over the extended reals the kernel
   and the reference leave the same codes, scales and packed positions, for finite gradients. -/
module

public import proofs.«01_k».proof.Proof.Gen.ReferenceIdeal.Value
public import proofs.«01_k».proof.Proof.Gen.Pre_finite
public import proofs.«01_k».proof.Defs
public import proofs.«01_k».proof.Proof.KB.Frame
public import proofs.«01_k».proof.Proof.KI.Frame
public import proofs.«01_k».proof.Proof.KI.Arrays
public import proofs.«01_k».proof.Proof.RI.Entry
public import proofs.«01_k».proof.Proof.Eq.Arrays
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

set_option maxHeartbeats 1000000

noncomputable section

namespace Cert.Proof

open Idealize.ShloMosaic Idealize.ShloMosaic.TcCoe Idealize.SL.Sem

/-- The kernel's run over the extended reals, its three results named. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2_0) = KernelIdeal.codesArr (m ((c : Thread Cert.KernelIdeal.nD Cert.KernelIdeal.τ).loc Cert.KernelIdeal.main_arg0)) (m ((c : Thread Cert.KernelIdeal.nD Cert.KernelIdeal.τ).loc Cert.KernelIdeal.main_arg1))
      ∧ r.2.mem ((c.tc : Thread Cert.KernelIdeal.nD Cert.KernelIdeal.τ).loc Cert.KernelIdeal.main_v2_1) = KernelIdeal.scalesArr (m ((c : Thread Cert.KernelIdeal.nD Cert.KernelIdeal.τ).loc Cert.KernelIdeal.main_arg0))
      ∧ r.2.mem ((c.tc : Thread Cert.KernelIdeal.nD Cert.KernelIdeal.τ).loc Cert.KernelIdeal.main_v2_2) = KernelIdeal.metaArr (m ((c : Thread Cert.KernelIdeal.nD Cert.KernelIdeal.τ).loc Cert.KernelIdeal.main_arg0)) (m ((c : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun r h c =>
    ⟨((h c).1 2).trans (KernelIdeal.final2 m c), ((h c).1 3).trans (KernelIdeal.final3 m c), ((h c).1 4).trans (KernelIdeal.final4 m c),
      ((h c).2 Cert.KernelIdeal.main_arg0 (Pipeline.mem_restRefs_of Cert.KernelIdeal.main_arg0 (by decide) (by decide))).trans (Cert.KernelIdeal.Gen.V_main_arg0 m c),
      ((h c).2 Cert.KernelIdeal.main_arg1 (Pipeline.mem_restRefs_of Cert.KernelIdeal.main_arg1 (by decide) (by decide))).trans (Cert.KernelIdeal.Gen.V_main_arg1 m c)⟩)
    (KernelIdeal.run_main m ρ)

/-- The reference's run over the extended reals, its results the same functions of finite gradients and random words. -/
theorem reference_run (g : Dev Cert.ReferenceIdeal.nD → Cert.KernelIdeal.S2x1024x12288.Idx → EReal) (w : Dev Cert.ReferenceIdeal.nD → Cert.KernelIdeal.S2x1024x3072.Idx → BitVec 32)
    (m : (ℓ : Loc Cert.ReferenceIdeal.nD Cert.ReferenceIdeal.τ Cert.ReferenceIdeal.sig) → Buf (Elt Ideal) ℓ) (ρ : Dev Cert.ReferenceIdeal.nD → PrngReg)
    (hg : ∀ c : Dev Cert.ReferenceIdeal.nD, m ((c : Thread Cert.ReferenceIdeal.nD Cert.ReferenceIdeal.τ).loc Cert.ReferenceIdeal.main_arg0) = g c)
    (hw : ∀ c : Dev Cert.ReferenceIdeal.nD, m ((c : Thread Cert.ReferenceIdeal.nD Cert.ReferenceIdeal.τ).loc Cert.ReferenceIdeal.main_arg1) = w c)
    (hf : ∀ c P, Eq.Finite (KernelIdeal.rowG (g c) P)) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v172) = KernelIdeal.codesArr (g c) (w c)
      ∧ r.2.mem ((c.tc : Thread Cert.ReferenceIdeal.nD Cert.ReferenceIdeal.τ).loc Cert.ReferenceIdeal.main_v171) = KernelIdeal.scalesArr (g c)
      ∧ r.2.mem ((c.tc : Thread Cert.ReferenceIdeal.nD Cert.ReferenceIdeal.τ).loc Cert.ReferenceIdeal.main_v170) = KernelIdeal.metaArr (g c) (w c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun r h c =>
    ⟨(Cert.ReferenceIdeal.Value.post1 m r h c).trans (Eq.codes_arr (g c) (w c) m c (hg c) (hw c) (hf c)),
      ((h c).2 Cert.ReferenceIdeal.main_v171 (Pipeline.mem_restRefs_of Cert.ReferenceIdeal.main_v171 (by decide) (by decide))).trans (Eq.scales_arr (g c) (w c) m c (hg c) (hw c) (hf c)),
      ((h c).2 Cert.ReferenceIdeal.main_v170 (Pipeline.mem_restRefs_of Cert.ReferenceIdeal.main_v170 (by decide) (by decide))).trans (Eq.meta_arr (g c) (w c) m c (hg c) (hw c) (hf c)),
      Cert.ReferenceIdeal.Value.kept_main_arg0 m r h c, Cert.ReferenceIdeal.Value.kept_main_arg1 m r h c⟩)
    (Cert.ReferenceIdeal.Gen.run_main m ρ)

/-- The two programs leave equal results from equal arguments whose gradients are finite. -/
theorem algebraic : algebraic_KernelIdeal_ReferenceIdeal_pre_finite (hKernelIdeal := Cert.KernelIdeal.Gen.facts) (hReferenceIdeal := Cert.ReferenceIdeal.Gen.facts)
    (hPre_finite := Cert.Pre_finite.Gen.facts) := by
  intro m ρ m' ρ' hpre heq
  exact ⟨_, _, _, kernel_run m ρ, reference_run (fun c => m ((c : Thread Cert.KernelIdeal.nD Cert.KernelIdeal.τ).loc Cert.KernelIdeal.main_arg0)) (fun c => m ((c : Thread Cert.KernelIdeal.nD Cert.KernelIdeal.τ).loc Cert.KernelIdeal.main_arg1)) m' ρ'
    (fun c => (heq c).1) (fun c => (heq c).2) (fun c P => Eq.finite_of_pre _ _ (hpre c) P)⟩

/-- All the claims together. -/
theorem claim : Cert.Claim := ⟨Cert.Kernel.Gen.facts, Cert.KernelIdeal.Gen.facts, Cert.ReferenceIdeal.Gen.facts, Cert.Pre_finite.Gen.facts,
  fun m ρ _ => Cert.Proof.Kernel.frame m ρ,
  fun m ρ _ => Cert.Proof.KernelIdeal.frame m ρ,
  fun m ρ _ => Cert.Proof.KernelIdeal.frame m ρ,
  fun m ρ _ => Cert.ReferenceIdeal.Gen.frame m ρ,
  fun m ρ _ => Cert.ReferenceIdeal.Gen.frame m ρ,
  trivial,
  algebraic⟩

end Cert.Proof

end
